-- ==== Defs.lean ====
def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_scores_finite [hPre_scores_finite : Cert.Pre_scores_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_scores_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_scores_finite [hPre_scores_finite : Cert.Pre_scores_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_scores_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_PlainKernel (m : (ℓ : Loc Cert.PlainKernel.nD Cert.PlainKernel.τ Cert.PlainKernel.sig) → Buf (Elt Bits) ℓ) : Prop :=
  True

def Pre_PlainKernelIdeal (m : (ℓ : Loc Cert.PlainKernelIdeal.nD Cert.PlainKernelIdeal.τ Cert.PlainKernelIdeal.sig) → Buf (Elt Ideal) ℓ) : Prop :=
  True

def Pre_PlainReferenceIdeal (m : (ℓ : Loc Cert.PlainReferenceIdeal.nD Cert.PlainReferenceIdeal.τ Cert.PlainReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_RouterKernel (m : (ℓ : Loc Cert.RouterKernel.nD Cert.RouterKernel.τ Cert.RouterKernel.sig) → Buf (Elt Bits) ℓ) : Prop :=
  True

def Pre_RouterKernelIdeal (m : (ℓ : Loc Cert.RouterKernelIdeal.nD Cert.RouterKernelIdeal.τ Cert.RouterKernelIdeal.sig) → Buf (Elt Ideal) ℓ) : Prop :=
  True

def Pre_RouterReferenceIdeal (m : (ℓ : Loc Cert.RouterReferenceIdeal.nD Cert.RouterReferenceIdeal.τ Cert.RouterReferenceIdeal.sig) → Buf (Elt Ideal) ℓ) : Prop :=
  True

def Pre_PromptKernel (m : (ℓ : Loc Cert.PromptKernel.nD Cert.PromptKernel.τ Cert.PromptKernel.sig) → Buf (Elt Bits) ℓ) : Prop :=
  True

def Pre_PromptKernelIdeal (m : (ℓ : Loc Cert.PromptKernelIdeal.nD Cert.PromptKernelIdeal.τ Cert.PromptKernelIdeal.sig) → Buf (Elt Ideal) ℓ) : Prop :=
  True

def Pre_PromptReferenceIdeal (m : (ℓ : Loc Cert.PromptReferenceIdeal.nD Cert.PromptReferenceIdeal.τ Cert.PromptReferenceIdeal.sig) → Buf (Elt Ideal) ℓ) : Prop :=
  True

def Pre_SampleKernel (m : (ℓ : Loc Cert.SampleKernel.nD Cert.SampleKernel.τ Cert.SampleKernel.sig) → Buf (Elt Bits) ℓ) : Prop :=
  True

def Pre_SampleKernelIdeal (m : (ℓ : Loc Cert.SampleKernelIdeal.nD Cert.SampleKernelIdeal.τ Cert.SampleKernelIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_ShortKernel (m : (ℓ : Loc Cert.ShortKernel.nD Cert.ShortKernel.τ Cert.ShortKernel.sig) → Buf (Elt Bits) ℓ) : Prop :=
  True

def Pre_ShortKernelIdeal (m : (ℓ : Loc Cert.ShortKernelIdeal.nD Cert.ShortKernelIdeal.τ Cert.ShortKernelIdeal.sig) → Buf (Elt Ideal) ℓ) : Prop :=
  True

def Pre_ShortReferenceIdeal (m : (ℓ : Loc Cert.ShortReferenceIdeal.nD Cert.ShortReferenceIdeal.τ Cert.ShortReferenceIdeal.sig) → Buf (Elt Ideal) ℓ) : Prop :=
  True

def Pre_FilterKernel (m : (ℓ : Loc Cert.FilterKernel.nD Cert.FilterKernel.τ Cert.FilterKernel.sig) → Buf (Elt Bits) ℓ) : Prop :=
  True

def Pre_FilterKernelIdeal (m : (ℓ : Loc Cert.FilterKernelIdeal.nD Cert.FilterKernelIdeal.τ Cert.FilterKernelIdeal.sig) → Buf (Elt Ideal) ℓ) : Prop :=
  True

def Pre_FilterReferenceIdeal (m : (ℓ : Loc Cert.FilterReferenceIdeal.nD Cert.FilterReferenceIdeal.τ Cert.FilterReferenceIdeal.sig) → Buf (Elt Ideal) ℓ) : Prop :=
  True

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4)
      ∧ r.2.mem ((c.tc : Thread Cert.AttnKernel.nD Cert.AttnKernel.τ).loc Cert.AttnKernel.main_arg5) = m ((c.tc : Thread Cert.AttnKernel.nD Cert.AttnKernel.τ).loc Cert.AttnKernel.main_arg5)
      ∧ r.2.mem ((c.tc : Thread Cert.AttnKernel.nD Cert.AttnKernel.τ).loc Cert.AttnKernel.main_arg6) = m ((c.tc : Thread Cert.AttnKernel.nD Cert.AttnKernel.τ).loc Cert.AttnKernel.main_arg6)
      ∧ r.2.mem ((c.tc : Thread Cert.AttnKernel.nD Cert.AttnKernel.τ).loc Cert.AttnKernel.main_arg7) = m ((c.tc : Thread Cert.AttnKernel.nD Cert.AttnKernel.τ).loc Cert.AttnKernel.main_arg7))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
      ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6)
      ∧ r.2.mem ((c.tc : Thread Cert.AttnKernelIdeal.nD Cert.AttnKernelIdeal.τ).loc Cert.AttnKernelIdeal.main_arg7) = m ((c.tc : Thread Cert.AttnKernelIdeal.nD Cert.AttnKernelIdeal.τ).loc Cert.AttnKernelIdeal.main_arg7))
      ∧ r.2.sem = fun _ => 0)

def quiescent_AttnKernelIdeal_pre_scores_finite [hAttnKernelIdeal : Cert.AttnKernelIdeal.Facts] [hPre_scores_finite : Cert.Pre_scores_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_scores_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
      ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6)
      ∧ r.2.mem ((c.tc : Thread Cert.AttnKernelIdeal.nD Cert.AttnKernelIdeal.τ).loc Cert.AttnKernelIdeal.main_arg7) = m ((c.tc : Thread Cert.AttnKernelIdeal.nD Cert.AttnKernelIdeal.τ).loc Cert.AttnKernelIdeal.main_arg7))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7))
      ∧ r.2.sem = fun _ => 0)

def quiescent_AttnReferenceIdeal_pre_scores_finite [hAttnReferenceIdeal : Cert.AttnReferenceIdeal.Facts] [hPre_scores_finite : Cert.Pre_scores_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_scores_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2)
      ∧ r.2.mem ((c.tc : Thread Cert.QkvKernel.nD Cert.QkvKernel.τ).loc Cert.QkvKernel.main_arg3) = m ((c.tc : Thread Cert.QkvKernel.nD Cert.QkvKernel.τ).loc Cert.QkvKernel.main_arg3)
      ∧ r.2.mem ((c.tc : Thread Cert.QkvKernel.nD Cert.QkvKernel.τ).loc Cert.QkvKernel.main_arg4) = m ((c.tc : Thread Cert.QkvKernel.nD Cert.QkvKernel.τ).loc Cert.QkvKernel.main_arg4)
      ∧ r.2.mem ((c.tc : Thread Cert.QkvKernel.nD Cert.QkvKernel.τ).loc Cert.QkvKernel.main_arg5) = m ((c.tc : Thread Cert.QkvKernel.nD Cert.QkvKernel.τ).loc Cert.QkvKernel.main_arg5))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
      ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
      ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2)
      ∧ r.2.mem ((c.tc : Thread Cert.GluKernel.nD Cert.GluKernel.τ).loc Cert.GluKernel.main_arg3) = m ((c.tc : Thread Cert.GluKernel.nD Cert.GluKernel.τ).loc Cert.GluKernel.main_arg3)
      ∧ r.2.mem ((c.tc : Thread Cert.GluKernel.nD Cert.GluKernel.τ).loc Cert.GluKernel.main_arg4) = m ((c.tc : Thread Cert.GluKernel.nD Cert.GluKernel.τ).loc Cert.GluKernel.main_arg4))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
      ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4))
      ∧ r.2.sem = fun _ => 0)

def quiescent_PlainKernel [hPlainKernel : Cert.PlainKernel.Facts] : Prop :=
  ∀ (m : (ℓ : Loc Cert.PlainKernel.nD Cert.PlainKernel.τ Cert.PlainKernel.sig) → Buf (Elt Bits) ℓ) (g : Dev Cert.PlainKernel.nD → PrngReg), Pre_PlainKernel m →
    θ_run (Cert.PlainKernel.defs (F := Bits)) (onTc (τ := Cert.PlainKernel.τ) (Cert.PlainKernel.main (F := Bits))) ⟨m, fun _ => 0, g⟩ (fun r => (∀ c : Dev Cert.PlainKernel.nD,
      r.2.mem ((c.tc : Thread Cert.PlainKernel.nD Cert.PlainKernel.τ).loc Cert.PlainKernel.main_arg0) = m ((c.tc : Thread Cert.PlainKernel.nD Cert.PlainKernel.τ).loc Cert.PlainKernel.main_arg0)
      ∧ r.2.mem ((c.tc : Thread Cert.PlainKernel.nD Cert.PlainKernel.τ).loc Cert.PlainKernel.main_arg1) = m ((c.tc : Thread Cert.PlainKernel.nD Cert.PlainKernel.τ).loc Cert.PlainKernel.main_arg1)
      ∧ r.2.mem ((c.tc : Thread Cert.PlainKernel.nD Cert.PlainKernel.τ).loc Cert.PlainKernel.main_arg2) = m ((c.tc : Thread Cert.PlainKernel.nD Cert.PlainKernel.τ).loc Cert.PlainKernel.main_arg2)
      ∧ r.2.mem ((c.tc : Thread Cert.PlainKernel.nD Cert.PlainKernel.τ).loc Cert.PlainKernel.main_arg3) = m ((c.tc : Thread Cert.PlainKernel.nD Cert.PlainKernel.τ).loc Cert.PlainKernel.main_arg3)
      ∧ r.2.mem ((c.tc : Thread Cert.PlainKernel.nD Cert.PlainKernel.τ).loc Cert.PlainKernel.main_arg4) = m ((c.tc : Thread Cert.PlainKernel.nD Cert.PlainKernel.τ).loc Cert.PlainKernel.main_arg4))
      ∧ r.2.sem = fun _ => 0)

def quiescent_PlainKernelIdeal [hPlainKernelIdeal : Cert.PlainKernelIdeal.Facts] : Prop :=
  ∀ (m : (ℓ : Loc Cert.PlainKernelIdeal.nD Cert.PlainKernelIdeal.τ Cert.PlainKernelIdeal.sig) → Buf (Elt Ideal) ℓ) (g : Dev Cert.PlainKernelIdeal.nD → PrngReg), Pre_PlainKernelIdeal m →
    θ_run (Cert.PlainKernelIdeal.defs (F := Ideal)) (onTc (τ := Cert.PlainKernelIdeal.τ) (Cert.PlainKernelIdeal.main (F := Ideal))) ⟨m, fun _ => 0, g⟩ (fun r => (∀ c : Dev Cert.PlainKernelIdeal.nD,
      r.2.mem ((c.tc : Thread Cert.PlainKernelIdeal.nD Cert.PlainKernelIdeal.τ).loc Cert.PlainKernelIdeal.main_arg0) = m ((c.tc : Thread Cert.PlainKernelIdeal.nD Cert.PlainKernelIdeal.τ).loc Cert.PlainKernelIdeal.main_arg0)
      ∧ r.2.mem ((c.tc : Thread Cert.PlainKernelIdeal.nD Cert.PlainKernelIdeal.τ).loc Cert.PlainKernelIdeal.main_arg1) = m ((c.tc : Thread Cert.PlainKernelIdeal.nD Cert.PlainKernelIdeal.τ).loc Cert.PlainKernelIdeal.main_arg1)
      ∧ r.2.mem ((c.tc : Thread Cert.PlainKernelIdeal.nD Cert.PlainKernelIdeal.τ).loc Cert.PlainKernelIdeal.main_arg2) = m ((c.tc : Thread Cert.PlainKernelIdeal.nD Cert.PlainKernelIdeal.τ).loc Cert.PlainKernelIdeal.main_arg2)
      ∧ r.2.mem ((c.tc : Thread Cert.PlainKernelIdeal.nD Cert.PlainKernelIdeal.τ).loc Cert.PlainKernelIdeal.main_arg3) = m ((c.tc : Thread Cert.PlainKernelIdeal.nD Cert.PlainKernelIdeal.τ).loc Cert.PlainKernelIdeal.main_arg3)
      ∧ r.2.mem ((c.tc : Thread Cert.PlainKernelIdeal.nD Cert.PlainKernelIdeal.τ).loc Cert.PlainKernelIdeal.main_arg4) = m ((c.tc : Thread Cert.PlainKernelIdeal.nD Cert.PlainKernelIdeal.τ).loc Cert.PlainKernelIdeal.main_arg4))
      ∧ r.2.sem = fun _ => 0)

def quiescent_PlainReferenceIdeal [hPlainReferenceIdeal : Cert.PlainReferenceIdeal.Facts] : Prop :=
  ∀ (m : (ℓ : Loc Cert.PlainReferenceIdeal.nD Cert.PlainReferenceIdeal.τ Cert.PlainReferenceIdeal.sig) → Buf (Elt Ideal) ℓ) (g : Dev Cert.PlainReferenceIdeal.nD → PrngReg), Pre_PlainReferenceIdeal m →
    θ_run (Cert.PlainReferenceIdeal.defs (F := Ideal)) (onTc (τ := Cert.PlainReferenceIdeal.τ) (Cert.PlainReferenceIdeal.main (F := Ideal))) ⟨m, fun _ => 0, g⟩ (fun r => (∀ c : Dev Cert.PlainReferenceIdeal.nD,
      r.2.mem ((c.tc : Thread Cert.PlainReferenceIdeal.nD Cert.PlainReferenceIdeal.τ).loc Cert.PlainReferenceIdeal.main_arg0) = m ((c.tc : Thread Cert.PlainReferenceIdeal.nD Cert.PlainReferenceIdeal.τ).loc Cert.PlainReferenceIdeal.main_arg0)
      ∧ r.2.mem ((c.tc : Thread Cert.PlainReferenceIdeal.nD Cert.PlainReferenceIdeal.τ).loc Cert.PlainReferenceIdeal.main_arg1) = m ((c.tc : Thread Cert.PlainReferenceIdeal.nD Cert.PlainReferenceIdeal.τ).loc Cert.PlainReferenceIdeal.main_arg1)
      ∧ r.2.mem ((c.tc : Thread Cert.PlainReferenceIdeal.nD Cert.PlainReferenceIdeal.τ).loc Cert.PlainReferenceIdeal.main_arg2) = m ((c.tc : Thread Cert.PlainReferenceIdeal.nD Cert.PlainReferenceIdeal.τ).loc Cert.PlainReferenceIdeal.main_arg2)
      ∧ r.2.mem ((c.tc : Thread Cert.PlainReferenceIdeal.nD Cert.PlainReferenceIdeal.τ).loc Cert.PlainReferenceIdeal.main_arg3) = m ((c.tc : Thread Cert.PlainReferenceIdeal.nD Cert.PlainReferenceIdeal.τ).loc Cert.PlainReferenceIdeal.main_arg3)
      ∧ r.2.mem ((c.tc : Thread Cert.PlainReferenceIdeal.nD Cert.PlainReferenceIdeal.τ).loc Cert.PlainReferenceIdeal.main_arg4) = m ((c.tc : Thread Cert.PlainReferenceIdeal.nD Cert.PlainReferenceIdeal.τ).loc Cert.PlainReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_RouterKernel [hRouterKernel : Cert.RouterKernel.Facts] : Prop :=
  ∀ (m : (ℓ : Loc Cert.RouterKernel.nD Cert.RouterKernel.τ Cert.RouterKernel.sig) → Buf (Elt Bits) ℓ) (g : Dev Cert.RouterKernel.nD → PrngReg), Pre_RouterKernel m →
    θ_run (Cert.RouterKernel.defs (F := Bits)) (onTc (τ := Cert.RouterKernel.τ) (Cert.RouterKernel.main (F := Bits))) ⟨m, fun _ => 0, g⟩ (fun r => (∀ c : Dev Cert.RouterKernel.nD,
      r.2.mem ((c.tc : Thread Cert.RouterKernel.nD Cert.RouterKernel.τ).loc Cert.RouterKernel.main_arg0) = m ((c.tc : Thread Cert.RouterKernel.nD Cert.RouterKernel.τ).loc Cert.RouterKernel.main_arg0)
      ∧ r.2.mem ((c.tc : Thread Cert.RouterKernel.nD Cert.RouterKernel.τ).loc Cert.RouterKernel.main_arg1) = m ((c.tc : Thread Cert.RouterKernel.nD Cert.RouterKernel.τ).loc Cert.RouterKernel.main_arg1)
      ∧ r.2.mem ((c.tc : Thread Cert.RouterKernel.nD Cert.RouterKernel.τ).loc Cert.RouterKernel.main_arg2) = m ((c.tc : Thread Cert.RouterKernel.nD Cert.RouterKernel.τ).loc Cert.RouterKernel.main_arg2)
      ∧ r.2.mem ((c.tc : Thread Cert.RouterKernel.nD Cert.RouterKernel.τ).loc Cert.RouterKernel.main_arg3) = m ((c.tc : Thread Cert.RouterKernel.nD Cert.RouterKernel.τ).loc Cert.RouterKernel.main_arg3))
      ∧ r.2.sem = fun _ => 0)

def quiescent_RouterKernelIdeal [hRouterKernelIdeal : Cert.RouterKernelIdeal.Facts] : Prop :=
  ∀ (m : (ℓ : Loc Cert.RouterKernelIdeal.nD Cert.RouterKernelIdeal.τ Cert.RouterKernelIdeal.sig) → Buf (Elt Ideal) ℓ) (g : Dev Cert.RouterKernelIdeal.nD → PrngReg), Pre_RouterKernelIdeal m →
    θ_run (Cert.RouterKernelIdeal.defs (F := Ideal)) (onTc (τ := Cert.RouterKernelIdeal.τ) (Cert.RouterKernelIdeal.main (F := Ideal))) ⟨m, fun _ => 0, g⟩ (fun r => (∀ c : Dev Cert.RouterKernelIdeal.nD,
      r.2.mem ((c.tc : Thread Cert.RouterKernelIdeal.nD Cert.RouterKernelIdeal.τ).loc Cert.RouterKernelIdeal.main_arg0) = m ((c.tc : Thread Cert.RouterKernelIdeal.nD Cert.RouterKernelIdeal.τ).loc Cert.RouterKernelIdeal.main_arg0)
      ∧ r.2.mem ((c.tc : Thread Cert.RouterKernelIdeal.nD Cert.RouterKernelIdeal.τ).loc Cert.RouterKernelIdeal.main_arg1) = m ((c.tc : Thread Cert.RouterKernelIdeal.nD Cert.RouterKernelIdeal.τ).loc Cert.RouterKernelIdeal.main_arg1)
      ∧ r.2.mem ((c.tc : Thread Cert.RouterKernelIdeal.nD Cert.RouterKernelIdeal.τ).loc Cert.RouterKernelIdeal.main_arg2) = m ((c.tc : Thread Cert.RouterKernelIdeal.nD Cert.RouterKernelIdeal.τ).loc Cert.RouterKernelIdeal.main_arg2)
      ∧ r.2.mem ((c.tc : Thread Cert.RouterKernelIdeal.nD Cert.RouterKernelIdeal.τ).loc Cert.RouterKernelIdeal.main_arg3) = m ((c.tc : Thread Cert.RouterKernelIdeal.nD Cert.RouterKernelIdeal.τ).loc Cert.RouterKernelIdeal.main_arg3))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3))
      ∧ r.2.sem = fun _ => 0)

def quiescent_PromptKernel [hPromptKernel : Cert.PromptKernel.Facts] : Prop :=
  ∀ (m : (ℓ : Loc Cert.PromptKernel.nD Cert.PromptKernel.τ Cert.PromptKernel.sig) → Buf (Elt Bits) ℓ) (g : Dev Cert.PromptKernel.nD → PrngReg), Pre_PromptKernel m →
    θ_run (Cert.PromptKernel.defs (F := Bits)) (onTc (τ := Cert.PromptKernel.τ) (Cert.PromptKernel.main (F := Bits))) ⟨m, fun _ => 0, g⟩ (fun r => (∀ c : Dev Cert.PromptKernel.nD,
      r.2.mem ((c.tc : Thread Cert.PromptKernel.nD Cert.PromptKernel.τ).loc Cert.PromptKernel.main_arg0) = m ((c.tc : Thread Cert.PromptKernel.nD Cert.PromptKernel.τ).loc Cert.PromptKernel.main_arg0)
      ∧ r.2.mem ((c.tc : Thread Cert.PromptKernel.nD Cert.PromptKernel.τ).loc Cert.PromptKernel.main_arg1) = m ((c.tc : Thread Cert.PromptKernel.nD Cert.PromptKernel.τ).loc Cert.PromptKernel.main_arg1)
      ∧ r.2.mem ((c.tc : Thread Cert.PromptKernel.nD Cert.PromptKernel.τ).loc Cert.PromptKernel.main_arg2) = m ((c.tc : Thread Cert.PromptKernel.nD Cert.PromptKernel.τ).loc Cert.PromptKernel.main_arg2)
      ∧ r.2.mem ((c.tc : Thread Cert.PromptKernel.nD Cert.PromptKernel.τ).loc Cert.PromptKernel.main_arg3) = m ((c.tc : Thread Cert.PromptKernel.nD Cert.PromptKernel.τ).loc Cert.PromptKernel.main_arg3)
      ∧ r.2.mem ((c.tc : Thread Cert.PromptKernel.nD Cert.PromptKernel.τ).loc Cert.PromptKernel.main_arg4) = m ((c.tc : Thread Cert.PromptKernel.nD Cert.PromptKernel.τ).loc Cert.PromptKernel.main_arg4))
      ∧ r.2.sem = fun _ => 0)

def quiescent_PromptKernelIdeal [hPromptKernelIdeal : Cert.PromptKernelIdeal.Facts] : Prop :=
  ∀ (m : (ℓ : Loc Cert.PromptKernelIdeal.nD Cert.PromptKernelIdeal.τ Cert.PromptKernelIdeal.sig) → Buf (Elt Ideal) ℓ) (g : Dev Cert.PromptKernelIdeal.nD → PrngReg), Pre_PromptKernelIdeal m →
    θ_run (Cert.PromptKernelIdeal.defs (F := Ideal)) (onTc (τ := Cert.PromptKernelIdeal.τ) (Cert.PromptKernelIdeal.main (F := Ideal))) ⟨m, fun _ => 0, g⟩ (fun r => (∀ c : Dev Cert.PromptKernelIdeal.nD,
      r.2.mem ((c.tc : Thread Cert.PromptKernelIdeal.nD Cert.PromptKernelIdeal.τ).loc Cert.PromptKernelIdeal.main_arg0) = m ((c.tc : Thread Cert.PromptKernelIdeal.nD Cert.PromptKernelIdeal.τ).loc Cert.PromptKernelIdeal.main_arg0)
      ∧ r.2.mem ((c.tc : Thread Cert.PromptKernelIdeal.nD Cert.PromptKernelIdeal.τ).loc Cert.PromptKernelIdeal.main_arg1) = m ((c.tc : Thread Cert.PromptKernelIdeal.nD Cert.PromptKernelIdeal.τ).loc Cert.PromptKernelIdeal.main_arg1)
      ∧ r.2.mem ((c.tc : Thread Cert.PromptKernelIdeal.nD Cert.PromptKernelIdeal.τ).loc Cert.PromptKernelIdeal.main_arg2) = m ((c.tc : Thread Cert.PromptKernelIdeal.nD Cert.PromptKernelIdeal.τ).loc Cert.PromptKernelIdeal.main_arg2)
      ∧ r.2.mem ((c.tc : Thread Cert.PromptKernelIdeal.nD Cert.PromptKernelIdeal.τ).loc Cert.PromptKernelIdeal.main_arg3) = m ((c.tc : Thread Cert.PromptKernelIdeal.nD Cert.PromptKernelIdeal.τ).loc Cert.PromptKernelIdeal.main_arg3)
      ∧ r.2.mem ((c.tc : Thread Cert.PromptKernelIdeal.nD Cert.PromptKernelIdeal.τ).loc Cert.PromptKernelIdeal.main_arg4) = m ((c.tc : Thread Cert.PromptKernelIdeal.nD Cert.PromptKernelIdeal.τ).loc Cert.PromptKernelIdeal.main_arg4))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4))
      ∧ r.2.sem = fun _ => 0)

def quiescent_SampleKernel [hSampleKernel : Cert.SampleKernel.Facts] : Prop :=
  ∀ (m : (ℓ : Loc Cert.SampleKernel.nD Cert.SampleKernel.τ Cert.SampleKernel.sig) → Buf (Elt Bits) ℓ) (g : Dev Cert.SampleKernel.nD → PrngReg), Pre_SampleKernel m →
    θ_run (Cert.SampleKernel.defs (F := Bits)) (onTc (τ := Cert.SampleKernel.τ) (Cert.SampleKernel.main (F := Bits))) ⟨m, fun _ => 0, g⟩ (fun r => (∀ c : Dev Cert.SampleKernel.nD,
      r.2.mem ((c.tc : Thread Cert.SampleKernel.nD Cert.SampleKernel.τ).loc Cert.SampleKernel.main_arg0) = m ((c.tc : Thread Cert.SampleKernel.nD Cert.SampleKernel.τ).loc Cert.SampleKernel.main_arg0)
      ∧ r.2.mem ((c.tc : Thread Cert.SampleKernel.nD Cert.SampleKernel.τ).loc Cert.SampleKernel.main_arg1) = m ((c.tc : Thread Cert.SampleKernel.nD Cert.SampleKernel.τ).loc Cert.SampleKernel.main_arg1)
      ∧ r.2.mem ((c.tc : Thread Cert.SampleKernel.nD Cert.SampleKernel.τ).loc Cert.SampleKernel.main_arg2) = m ((c.tc : Thread Cert.SampleKernel.nD Cert.SampleKernel.τ).loc Cert.SampleKernel.main_arg2)
      ∧ r.2.mem ((c.tc : Thread Cert.SampleKernel.nD Cert.SampleKernel.τ).loc Cert.SampleKernel.main_arg3) = m ((c.tc : Thread Cert.SampleKernel.nD Cert.SampleKernel.τ).loc Cert.SampleKernel.main_arg3)
      ∧ r.2.mem ((c.tc : Thread Cert.SampleKernel.nD Cert.SampleKernel.τ).loc Cert.SampleKernel.main_arg4) = m ((c.tc : Thread Cert.SampleKernel.nD Cert.SampleKernel.τ).loc Cert.SampleKernel.main_arg4))
      ∧ r.2.sem = fun _ => 0)

def quiescent_SampleKernelIdeal [hSampleKernelIdeal : Cert.SampleKernelIdeal.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg), Pre_SampleKernelIdeal m →
    θ_run (Cert.SampleKernelIdeal.defs (F := Ideal)) (onTc (τ := Cert.SampleKernelIdeal.τ) (Cert.SampleKernelIdeal.main (F := Ideal))) ⟨m, fun _ => 0, g⟩ (fun r => (∀ c : Dev Cert.SampleKernelIdeal.nD,
      r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
      ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
      ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
      ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
      ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3)
      ∧ r.2.mem ((c.tc : Thread Cert.ConvKernel.nD Cert.ConvKernel.τ).loc Cert.ConvKernel.main_arg4) = m ((c.tc : Thread Cert.ConvKernel.nD Cert.ConvKernel.τ).loc Cert.ConvKernel.main_arg4)
      ∧ r.2.mem ((c.tc : Thread Cert.ConvKernel.nD Cert.ConvKernel.τ).loc Cert.ConvKernel.main_arg5) = m ((c.tc : Thread Cert.ConvKernel.nD Cert.ConvKernel.τ).loc Cert.ConvKernel.main_arg5)
      ∧ r.2.mem ((c.tc : Thread Cert.ConvKernel.nD Cert.ConvKernel.τ).loc Cert.ConvKernel.main_arg6) = m ((c.tc : Thread Cert.ConvKernel.nD Cert.ConvKernel.τ).loc Cert.ConvKernel.main_arg6)
      ∧ r.2.mem ((c.tc : Thread Cert.ConvKernel.nD Cert.ConvKernel.τ).loc Cert.ConvKernel.main_arg7) = m ((c.tc : Thread Cert.ConvKernel.nD Cert.ConvKernel.τ).loc Cert.ConvKernel.main_arg7)
      ∧ r.2.mem ((c.tc : Thread Cert.ConvKernel.nD Cert.ConvKernel.τ).loc Cert.ConvKernel.main_arg8) = m ((c.tc : Thread Cert.ConvKernel.nD Cert.ConvKernel.τ).loc Cert.ConvKernel.main_arg8))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
      ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
      ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6)
      ∧ r.2.mem ((c.tc : Thread Cert.ConvKernelIdeal.nD Cert.ConvKernelIdeal.τ).loc Cert.ConvKernelIdeal.main_arg7) = m ((c.tc : Thread Cert.ConvKernelIdeal.nD Cert.ConvKernelIdeal.τ).loc Cert.ConvKernelIdeal.main_arg7)
      ∧ r.2.mem ((c.tc : Thread Cert.ConvKernelIdeal.nD Cert.ConvKernelIdeal.τ).loc Cert.ConvKernelIdeal.main_arg8) = m ((c.tc : Thread Cert.ConvKernelIdeal.nD Cert.ConvKernelIdeal.τ).loc Cert.ConvKernelIdeal.main_arg8))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6)
      ∧ r.2.mem ((c.tc : Thread Cert.ConvReferenceIdeal.nD Cert.ConvReferenceIdeal.τ).loc Cert.ConvReferenceIdeal.main_arg7) = m ((c.tc : Thread Cert.ConvReferenceIdeal.nD Cert.ConvReferenceIdeal.τ).loc Cert.ConvReferenceIdeal.main_arg7)
      ∧ r.2.mem ((c.tc : Thread Cert.ConvReferenceIdeal.nD Cert.ConvReferenceIdeal.τ).loc Cert.ConvReferenceIdeal.main_arg8) = m ((c.tc : Thread Cert.ConvReferenceIdeal.nD Cert.ConvReferenceIdeal.τ).loc Cert.ConvReferenceIdeal.main_arg8))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_ShortKernel [hShortKernel : Cert.ShortKernel.Facts] : Prop :=
  ∀ (m : (ℓ : Loc Cert.ShortKernel.nD Cert.ShortKernel.τ Cert.ShortKernel.sig) → Buf (Elt Bits) ℓ) (g : Dev Cert.ShortKernel.nD → PrngReg), Pre_ShortKernel m →
    θ_run (Cert.ShortKernel.defs (F := Bits)) (onTc (τ := Cert.ShortKernel.τ) (Cert.ShortKernel.main (F := Bits))) ⟨m, fun _ => 0, g⟩ (fun r => (∀ c : Dev Cert.ShortKernel.nD,
      r.2.mem ((c.tc : Thread Cert.ShortKernel.nD Cert.ShortKernel.τ).loc Cert.ShortKernel.main_arg0) = m ((c.tc : Thread Cert.ShortKernel.nD Cert.ShortKernel.τ).loc Cert.ShortKernel.main_arg0)
      ∧ r.2.mem ((c.tc : Thread Cert.ShortKernel.nD Cert.ShortKernel.τ).loc Cert.ShortKernel.main_arg1) = m ((c.tc : Thread Cert.ShortKernel.nD Cert.ShortKernel.τ).loc Cert.ShortKernel.main_arg1)
      ∧ r.2.mem ((c.tc : Thread Cert.ShortKernel.nD Cert.ShortKernel.τ).loc Cert.ShortKernel.main_arg2) = m ((c.tc : Thread Cert.ShortKernel.nD Cert.ShortKernel.τ).loc Cert.ShortKernel.main_arg2))
      ∧ r.2.sem = fun _ => 0)

def quiescent_ShortKernelIdeal [hShortKernelIdeal : Cert.ShortKernelIdeal.Facts] : Prop :=
  ∀ (m : (ℓ : Loc Cert.ShortKernelIdeal.nD Cert.ShortKernelIdeal.τ Cert.ShortKernelIdeal.sig) → Buf (Elt Ideal) ℓ) (g : Dev Cert.ShortKernelIdeal.nD → PrngReg), Pre_ShortKernelIdeal m →
    θ_run (Cert.ShortKernelIdeal.defs (F := Ideal)) (onTc (τ := Cert.ShortKernelIdeal.τ) (Cert.ShortKernelIdeal.main (F := Ideal))) ⟨m, fun _ => 0, g⟩ (fun r => (∀ c : Dev Cert.ShortKernelIdeal.nD,
      r.2.mem ((c.tc : Thread Cert.ShortKernelIdeal.nD Cert.ShortKernelIdeal.τ).loc Cert.ShortKernelIdeal.main_arg0) = m ((c.tc : Thread Cert.ShortKernelIdeal.nD Cert.ShortKernelIdeal.τ).loc Cert.ShortKernelIdeal.main_arg0)
      ∧ r.2.mem ((c.tc : Thread Cert.ShortKernelIdeal.nD Cert.ShortKernelIdeal.τ).loc Cert.ShortKernelIdeal.main_arg1) = m ((c.tc : Thread Cert.ShortKernelIdeal.nD Cert.ShortKernelIdeal.τ).loc Cert.ShortKernelIdeal.main_arg1)
      ∧ r.2.mem ((c.tc : Thread Cert.ShortKernelIdeal.nD Cert.ShortKernelIdeal.τ).loc Cert.ShortKernelIdeal.main_arg2) = m ((c.tc : Thread Cert.ShortKernelIdeal.nD Cert.ShortKernelIdeal.τ).loc Cert.ShortKernelIdeal.main_arg2))
      ∧ r.2.sem = fun _ => 0)

def quiescent_ShortReferenceIdeal [hShortReferenceIdeal : Cert.ShortReferenceIdeal.Facts] : Prop :=
  ∀ (m : (ℓ : Loc Cert.ShortReferenceIdeal.nD Cert.ShortReferenceIdeal.τ Cert.ShortReferenceIdeal.sig) → Buf (Elt Ideal) ℓ) (g : Dev Cert.ShortReferenceIdeal.nD → PrngReg), Pre_ShortReferenceIdeal m →
    θ_run (Cert.ShortReferenceIdeal.defs (F := Ideal)) (onTc (τ := Cert.ShortReferenceIdeal.τ) (Cert.ShortReferenceIdeal.main (F := Ideal))) ⟨m, fun _ => 0, g⟩ (fun r => (∀ c : Dev Cert.ShortReferenceIdeal.nD,
      r.2.mem ((c.tc : Thread Cert.ShortReferenceIdeal.nD Cert.ShortReferenceIdeal.τ).loc Cert.ShortReferenceIdeal.main_arg0) = m ((c.tc : Thread Cert.ShortReferenceIdeal.nD Cert.ShortReferenceIdeal.τ).loc Cert.ShortReferenceIdeal.main_arg0)
      ∧ r.2.mem ((c.tc : Thread Cert.ShortReferenceIdeal.nD Cert.ShortReferenceIdeal.τ).loc Cert.ShortReferenceIdeal.main_arg1) = m ((c.tc : Thread Cert.ShortReferenceIdeal.nD Cert.ShortReferenceIdeal.τ).loc Cert.ShortReferenceIdeal.main_arg1)
      ∧ r.2.mem ((c.tc : Thread Cert.ShortReferenceIdeal.nD Cert.ShortReferenceIdeal.τ).loc Cert.ShortReferenceIdeal.main_arg2) = m ((c.tc : Thread Cert.ShortReferenceIdeal.nD Cert.ShortReferenceIdeal.τ).loc Cert.ShortReferenceIdeal.main_arg2))
      ∧ r.2.sem = fun _ => 0)

def quiescent_FilterKernel [hFilterKernel : Cert.FilterKernel.Facts] : Prop :=
  ∀ (m : (ℓ : Loc Cert.FilterKernel.nD Cert.FilterKernel.τ Cert.FilterKernel.sig) → Buf (Elt Bits) ℓ) (g : Dev Cert.FilterKernel.nD → PrngReg), Pre_FilterKernel m →
    θ_run (Cert.FilterKernel.defs (F := Bits)) (onTc (τ := Cert.FilterKernel.τ) (Cert.FilterKernel.main (F := Bits))) ⟨m, fun _ => 0, g⟩ (fun r => (∀ c : Dev Cert.FilterKernel.nD,
      r.2.mem ((c.tc : Thread Cert.FilterKernel.nD Cert.FilterKernel.τ).loc Cert.FilterKernel.main_arg0) = m ((c.tc : Thread Cert.FilterKernel.nD Cert.FilterKernel.τ).loc Cert.FilterKernel.main_arg0)
      ∧ r.2.mem ((c.tc : Thread Cert.FilterKernel.nD Cert.FilterKernel.τ).loc Cert.FilterKernel.main_arg1) = m ((c.tc : Thread Cert.FilterKernel.nD Cert.FilterKernel.τ).loc Cert.FilterKernel.main_arg1)
      ∧ r.2.mem ((c.tc : Thread Cert.FilterKernel.nD Cert.FilterKernel.τ).loc Cert.FilterKernel.main_arg2) = m ((c.tc : Thread Cert.FilterKernel.nD Cert.FilterKernel.τ).loc Cert.FilterKernel.main_arg2)
      ∧ r.2.mem ((c.tc : Thread Cert.FilterKernel.nD Cert.FilterKernel.τ).loc Cert.FilterKernel.main_arg3) = m ((c.tc : Thread Cert.FilterKernel.nD Cert.FilterKernel.τ).loc Cert.FilterKernel.main_arg3)
      ∧ r.2.mem ((c.tc : Thread Cert.FilterKernel.nD Cert.FilterKernel.τ).loc Cert.FilterKernel.main_arg4) = m ((c.tc : Thread Cert.FilterKernel.nD Cert.FilterKernel.τ).loc Cert.FilterKernel.main_arg4)
      ∧ r.2.mem ((c.tc : Thread Cert.FilterKernel.nD Cert.FilterKernel.τ).loc Cert.FilterKernel.main_arg5) = m ((c.tc : Thread Cert.FilterKernel.nD Cert.FilterKernel.τ).loc Cert.FilterKernel.main_arg5)
      ∧ r.2.mem ((c.tc : Thread Cert.FilterKernel.nD Cert.FilterKernel.τ).loc Cert.FilterKernel.main_arg6) = m ((c.tc : Thread Cert.FilterKernel.nD Cert.FilterKernel.τ).loc Cert.FilterKernel.main_arg6)
      ∧ r.2.mem ((c.tc : Thread Cert.FilterKernel.nD Cert.FilterKernel.τ).loc Cert.FilterKernel.main_arg7) = m ((c.tc : Thread Cert.FilterKernel.nD Cert.FilterKernel.τ).loc Cert.FilterKernel.main_arg7)
      ∧ r.2.mem ((c.tc : Thread Cert.FilterKernel.nD Cert.FilterKernel.τ).loc Cert.FilterKernel.main_arg8) = m ((c.tc : Thread Cert.FilterKernel.nD Cert.FilterKernel.τ).loc Cert.FilterKernel.main_arg8))
      ∧ r.2.sem = fun _ => 0)

def quiescent_FilterKernelIdeal [hFilterKernelIdeal : Cert.FilterKernelIdeal.Facts] : Prop :=
  ∀ (m : (ℓ : Loc Cert.FilterKernelIdeal.nD Cert.FilterKernelIdeal.τ Cert.FilterKernelIdeal.sig) → Buf (Elt Ideal) ℓ) (g : Dev Cert.FilterKernelIdeal.nD → PrngReg), Pre_FilterKernelIdeal m →
    θ_run (Cert.FilterKernelIdeal.defs (F := Ideal)) (onTc (τ := Cert.FilterKernelIdeal.τ) (Cert.FilterKernelIdeal.main (F := Ideal))) ⟨m, fun _ => 0, g⟩ (fun r => (∀ c : Dev Cert.FilterKernelIdeal.nD,
      r.2.mem ((c.tc : Thread Cert.FilterKernelIdeal.nD Cert.FilterKernelIdeal.τ).loc Cert.FilterKernelIdeal.main_arg0) = m ((c.tc : Thread Cert.FilterKernelIdeal.nD Cert.FilterKernelIdeal.τ).loc Cert.FilterKernelIdeal.main_arg0)
      ∧ r.2.mem ((c.tc : Thread Cert.FilterKernelIdeal.nD Cert.FilterKernelIdeal.τ).loc Cert.FilterKernelIdeal.main_arg1) = m ((c.tc : Thread Cert.FilterKernelIdeal.nD Cert.FilterKernelIdeal.τ).loc Cert.FilterKernelIdeal.main_arg1)
      ∧ r.2.mem ((c.tc : Thread Cert.FilterKernelIdeal.nD Cert.FilterKernelIdeal.τ).loc Cert.FilterKernelIdeal.main_arg2) = m ((c.tc : Thread Cert.FilterKernelIdeal.nD Cert.FilterKernelIdeal.τ).loc Cert.FilterKernelIdeal.main_arg2)
      ∧ r.2.mem ((c.tc : Thread Cert.FilterKernelIdeal.nD Cert.FilterKernelIdeal.τ).loc Cert.FilterKernelIdeal.main_arg3) = m ((c.tc : Thread Cert.FilterKernelIdeal.nD Cert.FilterKernelIdeal.τ).loc Cert.FilterKernelIdeal.main_arg3)
      ∧ r.2.mem ((c.tc : Thread Cert.FilterKernelIdeal.nD Cert.FilterKernelIdeal.τ).loc Cert.FilterKernelIdeal.main_arg4) = m ((c.tc : Thread Cert.FilterKernelIdeal.nD Cert.FilterKernelIdeal.τ).loc Cert.FilterKernelIdeal.main_arg4)
      ∧ r.2.mem ((c.tc : Thread Cert.FilterKernelIdeal.nD Cert.FilterKernelIdeal.τ).loc Cert.FilterKernelIdeal.main_arg5) = m ((c.tc : Thread Cert.FilterKernelIdeal.nD Cert.FilterKernelIdeal.τ).loc Cert.FilterKernelIdeal.main_arg5)
      ∧ r.2.mem ((c.tc : Thread Cert.FilterKernelIdeal.nD Cert.FilterKernelIdeal.τ).loc Cert.FilterKernelIdeal.main_arg6) = m ((c.tc : Thread Cert.FilterKernelIdeal.nD Cert.FilterKernelIdeal.τ).loc Cert.FilterKernelIdeal.main_arg6)
      ∧ r.2.mem ((c.tc : Thread Cert.FilterKernelIdeal.nD Cert.FilterKernelIdeal.τ).loc Cert.FilterKernelIdeal.main_arg7) = m ((c.tc : Thread Cert.FilterKernelIdeal.nD Cert.FilterKernelIdeal.τ).loc Cert.FilterKernelIdeal.main_arg7)
      ∧ r.2.mem ((c.tc : Thread Cert.FilterKernelIdeal.nD Cert.FilterKernelIdeal.τ).loc Cert.FilterKernelIdeal.main_arg8) = m ((c.tc : Thread Cert.FilterKernelIdeal.nD Cert.FilterKernelIdeal.τ).loc Cert.FilterKernelIdeal.main_arg8))
      ∧ r.2.sem = fun _ => 0)

def quiescent_FilterReferenceIdeal [hFilterReferenceIdeal : Cert.FilterReferenceIdeal.Facts] : Prop :=
  ∀ (m : (ℓ : Loc Cert.FilterReferenceIdeal.nD Cert.FilterReferenceIdeal.τ Cert.FilterReferenceIdeal.sig) → Buf (Elt Ideal) ℓ) (g : Dev Cert.FilterReferenceIdeal.nD → PrngReg), Pre_FilterReferenceIdeal m →
    θ_run (Cert.FilterReferenceIdeal.defs (F := Ideal)) (onTc (τ := Cert.FilterReferenceIdeal.τ) (Cert.FilterReferenceIdeal.main (F := Ideal))) ⟨m, fun _ => 0, g⟩ (fun r => (∀ c : Dev Cert.FilterReferenceIdeal.nD,
      r.2.mem ((c.tc : Thread Cert.FilterReferenceIdeal.nD Cert.FilterReferenceIdeal.τ).loc Cert.FilterReferenceIdeal.main_arg0) = m ((c.tc : Thread Cert.FilterReferenceIdeal.nD Cert.FilterReferenceIdeal.τ).loc Cert.FilterReferenceIdeal.main_arg0)
      ∧ r.2.mem ((c.tc : Thread Cert.FilterReferenceIdeal.nD Cert.FilterReferenceIdeal.τ).loc Cert.FilterReferenceIdeal.main_arg1) = m ((c.tc : Thread Cert.FilterReferenceIdeal.nD Cert.FilterReferenceIdeal.τ).loc Cert.FilterReferenceIdeal.main_arg1)
      ∧ r.2.mem ((c.tc : Thread Cert.FilterReferenceIdeal.nD Cert.FilterReferenceIdeal.τ).loc Cert.FilterReferenceIdeal.main_arg2) = m ((c.tc : Thread Cert.FilterReferenceIdeal.nD Cert.FilterReferenceIdeal.τ).loc Cert.FilterReferenceIdeal.main_arg2)
      ∧ r.2.mem ((c.tc : Thread Cert.FilterReferenceIdeal.nD Cert.FilterReferenceIdeal.τ).loc Cert.FilterReferenceIdeal.main_arg3) = m ((c.tc : Thread Cert.FilterReferenceIdeal.nD Cert.FilterReferenceIdeal.τ).loc Cert.FilterReferenceIdeal.main_arg3)
      ∧ r.2.mem ((c.tc : Thread Cert.FilterReferenceIdeal.nD Cert.FilterReferenceIdeal.τ).loc Cert.FilterReferenceIdeal.main_arg4) = m ((c.tc : Thread Cert.FilterReferenceIdeal.nD Cert.FilterReferenceIdeal.τ).loc Cert.FilterReferenceIdeal.main_arg4)
      ∧ r.2.mem ((c.tc : Thread Cert.FilterReferenceIdeal.nD Cert.FilterReferenceIdeal.τ).loc Cert.FilterReferenceIdeal.main_arg5) = m ((c.tc : Thread Cert.FilterReferenceIdeal.nD Cert.FilterReferenceIdeal.τ).loc Cert.FilterReferenceIdeal.main_arg5)
      ∧ r.2.mem ((c.tc : Thread Cert.FilterReferenceIdeal.nD Cert.FilterReferenceIdeal.τ).loc Cert.FilterReferenceIdeal.main_arg6) = m ((c.tc : Thread Cert.FilterReferenceIdeal.nD Cert.FilterReferenceIdeal.τ).loc Cert.FilterReferenceIdeal.main_arg6)
      ∧ r.2.mem ((c.tc : Thread Cert.FilterReferenceIdeal.nD Cert.FilterReferenceIdeal.τ).loc Cert.FilterReferenceIdeal.main_arg7) = m ((c.tc : Thread Cert.FilterReferenceIdeal.nD Cert.FilterReferenceIdeal.τ).loc Cert.FilterReferenceIdeal.main_arg7)
      ∧ r.2.mem ((c.tc : Thread Cert.FilterReferenceIdeal.nD Cert.FilterReferenceIdeal.τ).loc Cert.FilterReferenceIdeal.main_arg8) = m ((c.tc : Thread Cert.FilterReferenceIdeal.nD Cert.FilterReferenceIdeal.τ).loc Cert.FilterReferenceIdeal.main_arg8))
      ∧ r.2.sem = fun _ => 0)

def preserves_AttnKernel_AttnKernelIdeal : Prop :=
  True

def algebraic_AttnKernelIdeal_AttnReferenceIdeal_pre_scores_finite [hAttnKernelIdeal : Cert.AttnKernelIdeal.Facts] [hAttnReferenceIdeal : Cert.AttnReferenceIdeal.Facts] [hPre_scores_finite : Cert.Pre_scores_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_scores_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)
      ∧ m' ((c.tc : Thread Cert.AttnReferenceIdeal.nD Cert.AttnReferenceIdeal.τ).loc Cert.AttnReferenceIdeal.main_arg5) = m ((c.tc : Thread Cert.AttnKernelIdeal.nD Cert.AttnKernelIdeal.τ).loc Cert.AttnKernelIdeal.main_arg5)
      ∧ m' ((c.tc : Thread Cert.AttnReferenceIdeal.nD Cert.AttnReferenceIdeal.τ).loc Cert.AttnReferenceIdeal.main_arg6) = m ((c.tc : Thread Cert.AttnKernelIdeal.nD Cert.AttnKernelIdeal.τ).loc Cert.AttnKernelIdeal.main_arg6)
      ∧ m' ((c.tc : Thread Cert.AttnReferenceIdeal.nD Cert.AttnReferenceIdeal.τ).loc Cert.AttnReferenceIdeal.main_arg7) = m ((c.tc : Thread Cert.AttnKernelIdeal.nD Cert.AttnKernelIdeal.τ).loc Cert.AttnKernelIdeal.main_arg7)) →
    ∃ (v0 : (c : Dev Cert.AttnKernelIdeal.nD) → Buf (Elt Ideal) ((c.tc : Thread Cert.AttnKernelIdeal.nD Cert.AttnKernelIdeal.τ).loc Cert.AttnKernelIdeal.main_v12)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v12) = v0 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
          ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
          ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6)
          ∧ r.2.mem ((c.tc : Thread Cert.AttnKernelIdeal.nD Cert.AttnKernelIdeal.τ).loc Cert.AttnKernelIdeal.main_arg7) = m ((c.tc : Thread Cert.AttnKernelIdeal.nD Cert.AttnKernelIdeal.τ).loc Cert.AttnKernelIdeal.main_arg7))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v35) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6)
          ∧ r.2.mem ((c.tc : Thread Cert.AttnReferenceIdeal.nD Cert.AttnReferenceIdeal.τ).loc Cert.AttnReferenceIdeal.main_arg7) = m' ((c.tc : Thread Cert.AttnReferenceIdeal.nD Cert.AttnReferenceIdeal.τ).loc Cert.AttnReferenceIdeal.main_arg7))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v0_0)) (v1 : (c : Dev Cert.FfnKernelIdeal.nD) → Buf (Elt Ideal) ((c.tc : Thread Cert.FfnKernelIdeal.nD Cert.FfnKernelIdeal.τ).loc Cert.FfnKernelIdeal.main_v0_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v0_0) = v0 c
          ∧ r.2.mem ((c.tc : Thread Cert.FfnKernelIdeal.nD Cert.FfnKernelIdeal.τ).loc Cert.FfnKernelIdeal.main_v0_1) = v1 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v11) = v0 c
          ∧ r.2.mem ((c.tc : Thread Cert.FfnReferenceIdeal.nD Cert.FfnReferenceIdeal.τ).loc Cert.FfnReferenceIdeal.main_v23) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)
      ∧ m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)
      ∧ m' ((c.tc : Thread Cert.QkvReferenceIdeal.nD Cert.QkvReferenceIdeal.τ).loc Cert.QkvReferenceIdeal.main_arg4) = m ((c.tc : Thread Cert.QkvKernelIdeal.nD Cert.QkvKernelIdeal.τ).loc Cert.QkvKernelIdeal.main_arg4)
      ∧ m' ((c.tc : Thread Cert.QkvReferenceIdeal.nD Cert.QkvReferenceIdeal.τ).loc Cert.QkvReferenceIdeal.main_arg5) = m ((c.tc : Thread Cert.QkvKernelIdeal.nD Cert.QkvKernelIdeal.τ).loc Cert.QkvKernelIdeal.main_arg5)) →
    ∃ (v0 : (c : Dev Cert.QkvKernelIdeal.nD) → Buf (Elt Ideal) ((c.tc : Thread Cert.QkvKernelIdeal.nD Cert.QkvKernelIdeal.τ).loc Cert.QkvKernelIdeal.main_v5_0)) (v1 : (c : Dev Cert.QkvKernelIdeal.nD) → Buf (Elt Ideal) ((c.tc : Thread Cert.QkvKernelIdeal.nD Cert.QkvKernelIdeal.τ).loc Cert.QkvKernelIdeal.main_v6)) (v2 : (c : Dev Cert.QkvKernelIdeal.nD) → Buf (Elt Ideal) ((c.tc : Thread Cert.QkvKernelIdeal.nD Cert.QkvKernelIdeal.τ).loc Cert.QkvKernelIdeal.main_v7)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v5_0) = v0 c
          ∧ r.2.mem ((c.tc : Thread Cert.QkvKernelIdeal.nD Cert.QkvKernelIdeal.τ).loc Cert.QkvKernelIdeal.main_v6) = v1 c
          ∧ r.2.mem ((c.tc : Thread Cert.QkvKernelIdeal.nD Cert.QkvKernelIdeal.τ).loc Cert.QkvKernelIdeal.main_v7) = v2 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
          ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
          ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
          ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v60) = v0 c
          ∧ r.2.mem ((c.tc : Thread Cert.QkvReferenceIdeal.nD Cert.QkvReferenceIdeal.τ).loc Cert.QkvReferenceIdeal.main_v61) = v1 c
          ∧ r.2.mem ((c.tc : Thread Cert.QkvReferenceIdeal.nD Cert.QkvReferenceIdeal.τ).loc Cert.QkvReferenceIdeal.main_v62) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)
      ∧ m' ((c.tc : Thread Cert.GluReferenceIdeal.nD Cert.GluReferenceIdeal.τ).loc Cert.GluReferenceIdeal.main_arg3) = m ((c.tc : Thread Cert.GluKernelIdeal.nD Cert.GluKernelIdeal.τ).loc Cert.GluKernelIdeal.main_arg3)
      ∧ m' ((c.tc : Thread Cert.GluReferenceIdeal.nD Cert.GluReferenceIdeal.τ).loc Cert.GluReferenceIdeal.main_arg4) = m ((c.tc : Thread Cert.GluKernelIdeal.nD Cert.GluKernelIdeal.τ).loc Cert.GluKernelIdeal.main_arg4)) →
    ∃ (v0 : (c : Dev Cert.GluKernelIdeal.nD) → Buf (Elt Ideal) ((c.tc : Thread Cert.GluKernelIdeal.nD Cert.GluKernelIdeal.τ).loc Cert.GluKernelIdeal.main_v4)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v4) = v0 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
          ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
          ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v39) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4))

def preserves_PlainKernel_PlainKernelIdeal : Prop :=
  True

def algebraic_PlainKernelIdeal_PlainReferenceIdeal [hPlainKernelIdeal : Cert.PlainKernelIdeal.Facts] [hPlainReferenceIdeal : Cert.PlainReferenceIdeal.Facts] : Prop :=
  ∀ (m : (ℓ : Loc Cert.PlainKernelIdeal.nD Cert.PlainKernelIdeal.τ Cert.PlainKernelIdeal.sig) → Buf (Elt Ideal) ℓ) (g : Dev Cert.PlainKernelIdeal.nD → PrngReg)
    (m' : (ℓ : Loc Cert.PlainReferenceIdeal.nD Cert.PlainReferenceIdeal.τ Cert.PlainReferenceIdeal.sig) → Buf (Elt Ideal) ℓ) (g' : Dev Cert.PlainReferenceIdeal.nD → PrngReg), Pre_PlainKernelIdeal m →
    (∀ c : Dev Cert.PlainKernelIdeal.nD,
      m' ((c.tc : Thread Cert.PlainReferenceIdeal.nD Cert.PlainReferenceIdeal.τ).loc Cert.PlainReferenceIdeal.main_arg0) = m ((c.tc : Thread Cert.PlainKernelIdeal.nD Cert.PlainKernelIdeal.τ).loc Cert.PlainKernelIdeal.main_arg0)
      ∧ m' ((c.tc : Thread Cert.PlainReferenceIdeal.nD Cert.PlainReferenceIdeal.τ).loc Cert.PlainReferenceIdeal.main_arg1) = m ((c.tc : Thread Cert.PlainKernelIdeal.nD Cert.PlainKernelIdeal.τ).loc Cert.PlainKernelIdeal.main_arg1)
      ∧ m' ((c.tc : Thread Cert.PlainReferenceIdeal.nD Cert.PlainReferenceIdeal.τ).loc Cert.PlainReferenceIdeal.main_arg2) = m ((c.tc : Thread Cert.PlainKernelIdeal.nD Cert.PlainKernelIdeal.τ).loc Cert.PlainKernelIdeal.main_arg2)
      ∧ m' ((c.tc : Thread Cert.PlainReferenceIdeal.nD Cert.PlainReferenceIdeal.τ).loc Cert.PlainReferenceIdeal.main_arg3) = m ((c.tc : Thread Cert.PlainKernelIdeal.nD Cert.PlainKernelIdeal.τ).loc Cert.PlainKernelIdeal.main_arg3)
      ∧ m' ((c.tc : Thread Cert.PlainReferenceIdeal.nD Cert.PlainReferenceIdeal.τ).loc Cert.PlainReferenceIdeal.main_arg4) = m ((c.tc : Thread Cert.PlainKernelIdeal.nD Cert.PlainKernelIdeal.τ).loc Cert.PlainKernelIdeal.main_arg4)) →
    ∃ (v0 : (c : Dev Cert.PlainKernelIdeal.nD) → Buf (Elt Ideal) ((c.tc : Thread Cert.PlainKernelIdeal.nD Cert.PlainKernelIdeal.τ).loc Cert.PlainKernelIdeal.main_v4)),
      θ_run (Cert.PlainKernelIdeal.defs (F := Ideal)) (onTc (τ := Cert.PlainKernelIdeal.τ) (Cert.PlainKernelIdeal.main (F := Ideal))) ⟨m, fun _ => 0, g⟩ (fun r => ∀ c : Dev Cert.PlainKernelIdeal.nD,
          r.2.mem ((c.tc : Thread Cert.PlainKernelIdeal.nD Cert.PlainKernelIdeal.τ).loc Cert.PlainKernelIdeal.main_v4) = v0 c
          ∧ r.2.mem ((c.tc : Thread Cert.PlainKernelIdeal.nD Cert.PlainKernelIdeal.τ).loc Cert.PlainKernelIdeal.main_arg0) = m ((c.tc : Thread Cert.PlainKernelIdeal.nD Cert.PlainKernelIdeal.τ).loc Cert.PlainKernelIdeal.main_arg0)
          ∧ r.2.mem ((c.tc : Thread Cert.PlainKernelIdeal.nD Cert.PlainKernelIdeal.τ).loc Cert.PlainKernelIdeal.main_arg1) = m ((c.tc : Thread Cert.PlainKernelIdeal.nD Cert.PlainKernelIdeal.τ).loc Cert.PlainKernelIdeal.main_arg1)
          ∧ r.2.mem ((c.tc : Thread Cert.PlainKernelIdeal.nD Cert.PlainKernelIdeal.τ).loc Cert.PlainKernelIdeal.main_arg2) = m ((c.tc : Thread Cert.PlainKernelIdeal.nD Cert.PlainKernelIdeal.τ).loc Cert.PlainKernelIdeal.main_arg2)
          ∧ r.2.mem ((c.tc : Thread Cert.PlainKernelIdeal.nD Cert.PlainKernelIdeal.τ).loc Cert.PlainKernelIdeal.main_arg3) = m ((c.tc : Thread Cert.PlainKernelIdeal.nD Cert.PlainKernelIdeal.τ).loc Cert.PlainKernelIdeal.main_arg3)
          ∧ r.2.mem ((c.tc : Thread Cert.PlainKernelIdeal.nD Cert.PlainKernelIdeal.τ).loc Cert.PlainKernelIdeal.main_arg4) = m ((c.tc : Thread Cert.PlainKernelIdeal.nD Cert.PlainKernelIdeal.τ).loc Cert.PlainKernelIdeal.main_arg4))
      ∧ θ_run (Cert.PlainReferenceIdeal.defs (F := Ideal)) (onTc (τ := Cert.PlainReferenceIdeal.τ) (Cert.PlainReferenceIdeal.main (F := Ideal))) ⟨m', fun _ => 0, g'⟩ (fun r => ∀ c : Dev Cert.PlainReferenceIdeal.nD,
          r.2.mem ((c.tc : Thread Cert.PlainReferenceIdeal.nD Cert.PlainReferenceIdeal.τ).loc Cert.PlainReferenceIdeal.main_v30) = v0 c
          ∧ r.2.mem ((c.tc : Thread Cert.PlainReferenceIdeal.nD Cert.PlainReferenceIdeal.τ).loc Cert.PlainReferenceIdeal.main_arg0) = m' ((c.tc : Thread Cert.PlainReferenceIdeal.nD Cert.PlainReferenceIdeal.τ).loc Cert.PlainReferenceIdeal.main_arg0)
          ∧ r.2.mem ((c.tc : Thread Cert.PlainReferenceIdeal.nD Cert.PlainReferenceIdeal.τ).loc Cert.PlainReferenceIdeal.main_arg1) = m' ((c.tc : Thread Cert.PlainReferenceIdeal.nD Cert.PlainReferenceIdeal.τ).loc Cert.PlainReferenceIdeal.main_arg1)
          ∧ r.2.mem ((c.tc : Thread Cert.PlainReferenceIdeal.nD Cert.PlainReferenceIdeal.τ).loc Cert.PlainReferenceIdeal.main_arg2) = m' ((c.tc : Thread Cert.PlainReferenceIdeal.nD Cert.PlainReferenceIdeal.τ).loc Cert.PlainReferenceIdeal.main_arg2)
          ∧ r.2.mem ((c.tc : Thread Cert.PlainReferenceIdeal.nD Cert.PlainReferenceIdeal.τ).loc Cert.PlainReferenceIdeal.main_arg3) = m' ((c.tc : Thread Cert.PlainReferenceIdeal.nD Cert.PlainReferenceIdeal.τ).loc Cert.PlainReferenceIdeal.main_arg3)
          ∧ r.2.mem ((c.tc : Thread Cert.PlainReferenceIdeal.nD Cert.PlainReferenceIdeal.τ).loc Cert.PlainReferenceIdeal.main_arg4) = m' ((c.tc : Thread Cert.PlainReferenceIdeal.nD Cert.PlainReferenceIdeal.τ).loc Cert.PlainReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v13) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_RouterKernel_RouterKernelIdeal : Prop :=
  True

def algebraic_RouterKernelIdeal_RouterReferenceIdeal [hRouterKernelIdeal : Cert.RouterKernelIdeal.Facts] [hRouterReferenceIdeal : Cert.RouterReferenceIdeal.Facts] : Prop :=
  ∀ (m : (ℓ : Loc Cert.RouterKernelIdeal.nD Cert.RouterKernelIdeal.τ Cert.RouterKernelIdeal.sig) → Buf (Elt Ideal) ℓ) (g : Dev Cert.RouterKernelIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterKernelIdeal m →
    (∀ c : Dev Cert.RouterKernelIdeal.nD,
      m' ((c.tc : Thread Cert.RouterReferenceIdeal.nD Cert.RouterReferenceIdeal.τ).loc Cert.RouterReferenceIdeal.main_arg0) = m ((c.tc : Thread Cert.RouterKernelIdeal.nD Cert.RouterKernelIdeal.τ).loc Cert.RouterKernelIdeal.main_arg0)
      ∧ m' ((c.tc : Thread Cert.RouterReferenceIdeal.nD Cert.RouterReferenceIdeal.τ).loc Cert.RouterReferenceIdeal.main_arg1) = m ((c.tc : Thread Cert.RouterKernelIdeal.nD Cert.RouterKernelIdeal.τ).loc Cert.RouterKernelIdeal.main_arg1)
      ∧ m' ((c.tc : Thread Cert.RouterReferenceIdeal.nD Cert.RouterReferenceIdeal.τ).loc Cert.RouterReferenceIdeal.main_arg2) = m ((c.tc : Thread Cert.RouterKernelIdeal.nD Cert.RouterKernelIdeal.τ).loc Cert.RouterKernelIdeal.main_arg2)
      ∧ m' ((c.tc : Thread Cert.RouterReferenceIdeal.nD Cert.RouterReferenceIdeal.τ).loc Cert.RouterReferenceIdeal.main_arg3) = m ((c.tc : Thread Cert.RouterKernelIdeal.nD Cert.RouterKernelIdeal.τ).loc Cert.RouterKernelIdeal.main_arg3)) →
    ∃ (v0 : (c : Dev Cert.RouterKernelIdeal.nD) → Buf (Elt Ideal) ((c.tc : Thread Cert.RouterKernelIdeal.nD Cert.RouterKernelIdeal.τ).loc Cert.RouterKernelIdeal.main_v3_0)) (v1 : (c : Dev Cert.RouterKernelIdeal.nD) → Buf (Elt Ideal) ((c.tc : Thread Cert.RouterKernelIdeal.nD Cert.RouterKernelIdeal.τ).loc Cert.RouterKernelIdeal.main_v3_1)),
      θ_run (Cert.RouterKernelIdeal.defs (F := Ideal)) (onTc (τ := Cert.RouterKernelIdeal.τ) (Cert.RouterKernelIdeal.main (F := Ideal))) ⟨m, fun _ => 0, g⟩ (fun r => ∀ c : Dev Cert.RouterKernelIdeal.nD,
          r.2.mem ((c.tc : Thread Cert.RouterKernelIdeal.nD Cert.RouterKernelIdeal.τ).loc Cert.RouterKernelIdeal.main_v3_0) = v0 c
          ∧ r.2.mem ((c.tc : Thread Cert.RouterKernelIdeal.nD Cert.RouterKernelIdeal.τ).loc Cert.RouterKernelIdeal.main_v3_1) = v1 c
          ∧ r.2.mem ((c.tc : Thread Cert.RouterKernelIdeal.nD Cert.RouterKernelIdeal.τ).loc Cert.RouterKernelIdeal.main_arg0) = m ((c.tc : Thread Cert.RouterKernelIdeal.nD Cert.RouterKernelIdeal.τ).loc Cert.RouterKernelIdeal.main_arg0)
          ∧ r.2.mem ((c.tc : Thread Cert.RouterKernelIdeal.nD Cert.RouterKernelIdeal.τ).loc Cert.RouterKernelIdeal.main_arg1) = m ((c.tc : Thread Cert.RouterKernelIdeal.nD Cert.RouterKernelIdeal.τ).loc Cert.RouterKernelIdeal.main_arg1)
          ∧ r.2.mem ((c.tc : Thread Cert.RouterKernelIdeal.nD Cert.RouterKernelIdeal.τ).loc Cert.RouterKernelIdeal.main_arg2) = m ((c.tc : Thread Cert.RouterKernelIdeal.nD Cert.RouterKernelIdeal.τ).loc Cert.RouterKernelIdeal.main_arg2)
          ∧ r.2.mem ((c.tc : Thread Cert.RouterKernelIdeal.nD Cert.RouterKernelIdeal.τ).loc Cert.RouterKernelIdeal.main_arg3) = m ((c.tc : Thread Cert.RouterKernelIdeal.nD Cert.RouterKernelIdeal.τ).loc Cert.RouterKernelIdeal.main_arg3))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v39) = v0 c
          ∧ r.2.mem ((c.tc : Thread Cert.RouterReferenceIdeal.nD Cert.RouterReferenceIdeal.τ).loc Cert.RouterReferenceIdeal.main_v40) = v1 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2)
          ∧ r.2.mem ((c.tc : Thread Cert.RouterReferenceIdeal.nD Cert.RouterReferenceIdeal.τ).loc Cert.RouterReferenceIdeal.main_arg3) = m' ((c.tc : Thread Cert.RouterReferenceIdeal.nD Cert.RouterReferenceIdeal.τ).loc Cert.RouterReferenceIdeal.main_arg3))

def preserves_PromptKernel_PromptKernelIdeal : Prop :=
  True

def algebraic_PromptKernelIdeal_PromptReferenceIdeal [hPromptKernelIdeal : Cert.PromptKernelIdeal.Facts] [hPromptReferenceIdeal : Cert.PromptReferenceIdeal.Facts] : Prop :=
  ∀ (m : (ℓ : Loc Cert.PromptKernelIdeal.nD Cert.PromptKernelIdeal.τ Cert.PromptKernelIdeal.sig) → Buf (Elt Ideal) ℓ) (g : Dev Cert.PromptKernelIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptKernelIdeal m →
    (∀ c : Dev Cert.PromptKernelIdeal.nD,
      m' ((c.tc : Thread Cert.PromptReferenceIdeal.nD Cert.PromptReferenceIdeal.τ).loc Cert.PromptReferenceIdeal.main_arg0) = m ((c.tc : Thread Cert.PromptKernelIdeal.nD Cert.PromptKernelIdeal.τ).loc Cert.PromptKernelIdeal.main_arg0)
      ∧ m' ((c.tc : Thread Cert.PromptReferenceIdeal.nD Cert.PromptReferenceIdeal.τ).loc Cert.PromptReferenceIdeal.main_arg1) = m ((c.tc : Thread Cert.PromptKernelIdeal.nD Cert.PromptKernelIdeal.τ).loc Cert.PromptKernelIdeal.main_arg1)
      ∧ m' ((c.tc : Thread Cert.PromptReferenceIdeal.nD Cert.PromptReferenceIdeal.τ).loc Cert.PromptReferenceIdeal.main_arg2) = m ((c.tc : Thread Cert.PromptKernelIdeal.nD Cert.PromptKernelIdeal.τ).loc Cert.PromptKernelIdeal.main_arg2)
      ∧ m' ((c.tc : Thread Cert.PromptReferenceIdeal.nD Cert.PromptReferenceIdeal.τ).loc Cert.PromptReferenceIdeal.main_arg3) = m ((c.tc : Thread Cert.PromptKernelIdeal.nD Cert.PromptKernelIdeal.τ).loc Cert.PromptKernelIdeal.main_arg3)
      ∧ m' ((c.tc : Thread Cert.PromptReferenceIdeal.nD Cert.PromptReferenceIdeal.τ).loc Cert.PromptReferenceIdeal.main_arg4) = m ((c.tc : Thread Cert.PromptKernelIdeal.nD Cert.PromptKernelIdeal.τ).loc Cert.PromptKernelIdeal.main_arg4)) →
    ∃ (v0 : (c : Dev Cert.PromptKernelIdeal.nD) → Buf (Elt Ideal) ((c.tc : Thread Cert.PromptKernelIdeal.nD Cert.PromptKernelIdeal.τ).loc Cert.PromptKernelIdeal.main_v3)),
      θ_run (Cert.PromptKernelIdeal.defs (F := Ideal)) (onTc (τ := Cert.PromptKernelIdeal.τ) (Cert.PromptKernelIdeal.main (F := Ideal))) ⟨m, fun _ => 0, g⟩ (fun r => ∀ c : Dev Cert.PromptKernelIdeal.nD,
          r.2.mem ((c.tc : Thread Cert.PromptKernelIdeal.nD Cert.PromptKernelIdeal.τ).loc Cert.PromptKernelIdeal.main_v3) = v0 c
          ∧ r.2.mem ((c.tc : Thread Cert.PromptKernelIdeal.nD Cert.PromptKernelIdeal.τ).loc Cert.PromptKernelIdeal.main_arg0) = m ((c.tc : Thread Cert.PromptKernelIdeal.nD Cert.PromptKernelIdeal.τ).loc Cert.PromptKernelIdeal.main_arg0)
          ∧ r.2.mem ((c.tc : Thread Cert.PromptKernelIdeal.nD Cert.PromptKernelIdeal.τ).loc Cert.PromptKernelIdeal.main_arg1) = m ((c.tc : Thread Cert.PromptKernelIdeal.nD Cert.PromptKernelIdeal.τ).loc Cert.PromptKernelIdeal.main_arg1)
          ∧ r.2.mem ((c.tc : Thread Cert.PromptKernelIdeal.nD Cert.PromptKernelIdeal.τ).loc Cert.PromptKernelIdeal.main_arg2) = m ((c.tc : Thread Cert.PromptKernelIdeal.nD Cert.PromptKernelIdeal.τ).loc Cert.PromptKernelIdeal.main_arg2)
          ∧ r.2.mem ((c.tc : Thread Cert.PromptKernelIdeal.nD Cert.PromptKernelIdeal.τ).loc Cert.PromptKernelIdeal.main_arg3) = m ((c.tc : Thread Cert.PromptKernelIdeal.nD Cert.PromptKernelIdeal.τ).loc Cert.PromptKernelIdeal.main_arg3)
          ∧ r.2.mem ((c.tc : Thread Cert.PromptKernelIdeal.nD Cert.PromptKernelIdeal.τ).loc Cert.PromptKernelIdeal.main_arg4) = m ((c.tc : Thread Cert.PromptKernelIdeal.nD Cert.PromptKernelIdeal.τ).loc Cert.PromptKernelIdeal.main_arg4))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v41) = v0 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2)
          ∧ r.2.mem ((c.tc : Thread Cert.PromptReferenceIdeal.nD Cert.PromptReferenceIdeal.τ).loc Cert.PromptReferenceIdeal.main_arg3) = m' ((c.tc : Thread Cert.PromptReferenceIdeal.nD Cert.PromptReferenceIdeal.τ).loc Cert.PromptReferenceIdeal.main_arg3)
          ∧ r.2.mem ((c.tc : Thread Cert.PromptReferenceIdeal.nD Cert.PromptReferenceIdeal.τ).loc Cert.PromptReferenceIdeal.main_arg4) = m' ((c.tc : Thread Cert.PromptReferenceIdeal.nD Cert.PromptReferenceIdeal.τ).loc Cert.PromptReferenceIdeal.main_arg4))

def preserves_SampleKernel_SampleKernelIdeal : Prop :=
  True

def algebraic_SampleKernelIdeal_SampleReferenceIdeal [hSampleKernelIdeal : Cert.SampleKernelIdeal.Facts] [hSampleReferenceIdeal : Cert.SampleReferenceIdeal.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleKernelIdeal m →
    (∀ c : Dev Cert.SampleKernelIdeal.nD,
      m' ((c.tc : Thread Cert.SampleReferenceIdeal.nD Cert.SampleReferenceIdeal.τ).loc Cert.SampleReferenceIdeal.main_arg0) = m ((c.tc : Thread Cert.SampleKernelIdeal.nD Cert.SampleKernelIdeal.τ).loc Cert.SampleKernelIdeal.main_arg0)
      ∧ m' ((c.tc : Thread Cert.SampleReferenceIdeal.nD Cert.SampleReferenceIdeal.τ).loc Cert.SampleReferenceIdeal.main_arg1) = m ((c.tc : Thread Cert.SampleKernelIdeal.nD Cert.SampleKernelIdeal.τ).loc Cert.SampleKernelIdeal.main_arg1)
      ∧ m' ((c.tc : Thread Cert.SampleReferenceIdeal.nD Cert.SampleReferenceIdeal.τ).loc Cert.SampleReferenceIdeal.main_arg2) = m ((c.tc : Thread Cert.SampleKernelIdeal.nD Cert.SampleKernelIdeal.τ).loc Cert.SampleKernelIdeal.main_arg2)
      ∧ m' ((c.tc : Thread Cert.SampleReferenceIdeal.nD Cert.SampleReferenceIdeal.τ).loc Cert.SampleReferenceIdeal.main_arg3) = m ((c.tc : Thread Cert.SampleKernelIdeal.nD Cert.SampleKernelIdeal.τ).loc Cert.SampleKernelIdeal.main_arg3)
      ∧ m' ((c.tc : Thread Cert.SampleReferenceIdeal.nD Cert.SampleReferenceIdeal.τ).loc Cert.SampleReferenceIdeal.main_arg4) = m ((c.tc : Thread Cert.SampleKernelIdeal.nD Cert.SampleKernelIdeal.τ).loc Cert.SampleKernelIdeal.main_arg4)) →
    ∃ (v0 : (c : Dev Cert.SampleKernelIdeal.nD) → Buf (Elt Ideal) ((c.tc : Thread Cert.SampleKernelIdeal.nD Cert.SampleKernelIdeal.τ).loc Cert.SampleKernelIdeal.main_v3)),
      θ_run (Cert.SampleKernelIdeal.defs (F := Ideal)) (onTc (τ := Cert.SampleKernelIdeal.τ) (Cert.SampleKernelIdeal.main (F := Ideal))) ⟨m, fun _ => 0, g⟩ (fun r => ∀ c : Dev Cert.SampleKernelIdeal.nD,
          r.2.mem ((c.tc : Thread Cert.SampleKernelIdeal.nD Cert.SampleKernelIdeal.τ).loc Cert.SampleKernelIdeal.main_v3) = v0 c
          ∧ r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
          ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
          ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
          ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
          ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v41) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)
      ∧ m' ((c.tc : Thread Cert.ConvReferenceIdeal.nD Cert.ConvReferenceIdeal.τ).loc Cert.ConvReferenceIdeal.main_arg4) = m ((c.tc : Thread Cert.ConvKernelIdeal.nD Cert.ConvKernelIdeal.τ).loc Cert.ConvKernelIdeal.main_arg4)
      ∧ m' ((c.tc : Thread Cert.ConvReferenceIdeal.nD Cert.ConvReferenceIdeal.τ).loc Cert.ConvReferenceIdeal.main_arg5) = m ((c.tc : Thread Cert.ConvKernelIdeal.nD Cert.ConvKernelIdeal.τ).loc Cert.ConvKernelIdeal.main_arg5)
      ∧ m' ((c.tc : Thread Cert.ConvReferenceIdeal.nD Cert.ConvReferenceIdeal.τ).loc Cert.ConvReferenceIdeal.main_arg6) = m ((c.tc : Thread Cert.ConvKernelIdeal.nD Cert.ConvKernelIdeal.τ).loc Cert.ConvKernelIdeal.main_arg6)
      ∧ m' ((c.tc : Thread Cert.ConvReferenceIdeal.nD Cert.ConvReferenceIdeal.τ).loc Cert.ConvReferenceIdeal.main_arg7) = m ((c.tc : Thread Cert.ConvKernelIdeal.nD Cert.ConvKernelIdeal.τ).loc Cert.ConvKernelIdeal.main_arg7)
      ∧ m' ((c.tc : Thread Cert.ConvReferenceIdeal.nD Cert.ConvReferenceIdeal.τ).loc Cert.ConvReferenceIdeal.main_arg8) = m ((c.tc : Thread Cert.ConvKernelIdeal.nD Cert.ConvKernelIdeal.τ).loc Cert.ConvKernelIdeal.main_arg8)) →
    ∃ (v0 : (c : Dev Cert.ConvKernelIdeal.nD) → Buf (Elt Ideal) ((c.tc : Thread Cert.ConvKernelIdeal.nD Cert.ConvKernelIdeal.τ).loc Cert.ConvKernelIdeal.main_v6)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v6) = v0 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
          ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
          ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
          ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6)
          ∧ r.2.mem ((c.tc : Thread Cert.ConvKernelIdeal.nD Cert.ConvKernelIdeal.τ).loc Cert.ConvKernelIdeal.main_arg7) = m ((c.tc : Thread Cert.ConvKernelIdeal.nD Cert.ConvKernelIdeal.τ).loc Cert.ConvKernelIdeal.main_arg7)
          ∧ r.2.mem ((c.tc : Thread Cert.ConvKernelIdeal.nD Cert.ConvKernelIdeal.τ).loc Cert.ConvKernelIdeal.main_arg8) = m ((c.tc : Thread Cert.ConvKernelIdeal.nD Cert.ConvKernelIdeal.τ).loc Cert.ConvKernelIdeal.main_arg8))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v258) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6)
          ∧ r.2.mem ((c.tc : Thread Cert.ConvReferenceIdeal.nD Cert.ConvReferenceIdeal.τ).loc Cert.ConvReferenceIdeal.main_arg7) = m' ((c.tc : Thread Cert.ConvReferenceIdeal.nD Cert.ConvReferenceIdeal.τ).loc Cert.ConvReferenceIdeal.main_arg7)
          ∧ r.2.mem ((c.tc : Thread Cert.ConvReferenceIdeal.nD Cert.ConvReferenceIdeal.τ).loc Cert.ConvReferenceIdeal.main_arg8) = m' ((c.tc : Thread Cert.ConvReferenceIdeal.nD Cert.ConvReferenceIdeal.τ).loc Cert.ConvReferenceIdeal.main_arg8))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)) →
    ∃ (v0 : (c : Dev Cert.ModKernelIdeal.nD) → Buf (Elt Ideal) ((c.tc : Thread Cert.ModKernelIdeal.nD Cert.ModKernelIdeal.τ).loc Cert.ModKernelIdeal.main_v1)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v1) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v5) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def preserves_ShortKernel_ShortKernelIdeal : Prop :=
  True

def algebraic_ShortKernelIdeal_ShortReferenceIdeal [hShortKernelIdeal : Cert.ShortKernelIdeal.Facts] [hShortReferenceIdeal : Cert.ShortReferenceIdeal.Facts] : Prop :=
  ∀ (m : (ℓ : Loc Cert.ShortKernelIdeal.nD Cert.ShortKernelIdeal.τ Cert.ShortKernelIdeal.sig) → Buf (Elt Ideal) ℓ) (g : Dev Cert.ShortKernelIdeal.nD → PrngReg)
    (m' : (ℓ : Loc Cert.ShortReferenceIdeal.nD Cert.ShortReferenceIdeal.τ Cert.ShortReferenceIdeal.sig) → Buf (Elt Ideal) ℓ) (g' : Dev Cert.ShortReferenceIdeal.nD → PrngReg), Pre_ShortKernelIdeal m →
    (∀ c : Dev Cert.ShortKernelIdeal.nD,
      m' ((c.tc : Thread Cert.ShortReferenceIdeal.nD Cert.ShortReferenceIdeal.τ).loc Cert.ShortReferenceIdeal.main_arg0) = m ((c.tc : Thread Cert.ShortKernelIdeal.nD Cert.ShortKernelIdeal.τ).loc Cert.ShortKernelIdeal.main_arg0)
      ∧ m' ((c.tc : Thread Cert.ShortReferenceIdeal.nD Cert.ShortReferenceIdeal.τ).loc Cert.ShortReferenceIdeal.main_arg1) = m ((c.tc : Thread Cert.ShortKernelIdeal.nD Cert.ShortKernelIdeal.τ).loc Cert.ShortKernelIdeal.main_arg1)
      ∧ m' ((c.tc : Thread Cert.ShortReferenceIdeal.nD Cert.ShortReferenceIdeal.τ).loc Cert.ShortReferenceIdeal.main_arg2) = m ((c.tc : Thread Cert.ShortKernelIdeal.nD Cert.ShortKernelIdeal.τ).loc Cert.ShortKernelIdeal.main_arg2)) →
    ∃ (v0 : (c : Dev Cert.ShortKernelIdeal.nD) → Buf (Elt Ideal) ((c.tc : Thread Cert.ShortKernelIdeal.nD Cert.ShortKernelIdeal.τ).loc Cert.ShortKernelIdeal.main_v1_0)) (v1 : (c : Dev Cert.ShortKernelIdeal.nD) → Buf (Elt Ideal) ((c.tc : Thread Cert.ShortKernelIdeal.nD Cert.ShortKernelIdeal.τ).loc Cert.ShortKernelIdeal.main_v1_1)),
      θ_run (Cert.ShortKernelIdeal.defs (F := Ideal)) (onTc (τ := Cert.ShortKernelIdeal.τ) (Cert.ShortKernelIdeal.main (F := Ideal))) ⟨m, fun _ => 0, g⟩ (fun r => ∀ c : Dev Cert.ShortKernelIdeal.nD,
          r.2.mem ((c.tc : Thread Cert.ShortKernelIdeal.nD Cert.ShortKernelIdeal.τ).loc Cert.ShortKernelIdeal.main_v1_0) = v0 c
          ∧ r.2.mem ((c.tc : Thread Cert.ShortKernelIdeal.nD Cert.ShortKernelIdeal.τ).loc Cert.ShortKernelIdeal.main_v1_1) = v1 c
          ∧ r.2.mem ((c.tc : Thread Cert.ShortKernelIdeal.nD Cert.ShortKernelIdeal.τ).loc Cert.ShortKernelIdeal.main_arg0) = m ((c.tc : Thread Cert.ShortKernelIdeal.nD Cert.ShortKernelIdeal.τ).loc Cert.ShortKernelIdeal.main_arg0)
          ∧ r.2.mem ((c.tc : Thread Cert.ShortKernelIdeal.nD Cert.ShortKernelIdeal.τ).loc Cert.ShortKernelIdeal.main_arg1) = m ((c.tc : Thread Cert.ShortKernelIdeal.nD Cert.ShortKernelIdeal.τ).loc Cert.ShortKernelIdeal.main_arg1)
          ∧ r.2.mem ((c.tc : Thread Cert.ShortKernelIdeal.nD Cert.ShortKernelIdeal.τ).loc Cert.ShortKernelIdeal.main_arg2) = m ((c.tc : Thread Cert.ShortKernelIdeal.nD Cert.ShortKernelIdeal.τ).loc Cert.ShortKernelIdeal.main_arg2))
      ∧ θ_run (Cert.ShortReferenceIdeal.defs (F := Ideal)) (onTc (τ := Cert.ShortReferenceIdeal.τ) (Cert.ShortReferenceIdeal.main (F := Ideal))) ⟨m', fun _ => 0, g'⟩ (fun r => ∀ c : Dev Cert.ShortReferenceIdeal.nD,
          r.2.mem ((c.tc : Thread Cert.ShortReferenceIdeal.nD Cert.ShortReferenceIdeal.τ).loc Cert.ShortReferenceIdeal.main_v31) = v0 c
          ∧ r.2.mem ((c.tc : Thread Cert.ShortReferenceIdeal.nD Cert.ShortReferenceIdeal.τ).loc Cert.ShortReferenceIdeal.main_v32) = v1 c
          ∧ r.2.mem ((c.tc : Thread Cert.ShortReferenceIdeal.nD Cert.ShortReferenceIdeal.τ).loc Cert.ShortReferenceIdeal.main_arg0) = m' ((c.tc : Thread Cert.ShortReferenceIdeal.nD Cert.ShortReferenceIdeal.τ).loc Cert.ShortReferenceIdeal.main_arg0)
          ∧ r.2.mem ((c.tc : Thread Cert.ShortReferenceIdeal.nD Cert.ShortReferenceIdeal.τ).loc Cert.ShortReferenceIdeal.main_arg1) = m' ((c.tc : Thread Cert.ShortReferenceIdeal.nD Cert.ShortReferenceIdeal.τ).loc Cert.ShortReferenceIdeal.main_arg1)
          ∧ r.2.mem ((c.tc : Thread Cert.ShortReferenceIdeal.nD Cert.ShortReferenceIdeal.τ).loc Cert.ShortReferenceIdeal.main_arg2) = m' ((c.tc : Thread Cert.ShortReferenceIdeal.nD Cert.ShortReferenceIdeal.τ).loc Cert.ShortReferenceIdeal.main_arg2))

def preserves_FilterKernel_FilterKernelIdeal : Prop :=
  True

def algebraic_FilterKernelIdeal_FilterReferenceIdeal [hFilterKernelIdeal : Cert.FilterKernelIdeal.Facts] [hFilterReferenceIdeal : Cert.FilterReferenceIdeal.Facts] : Prop :=
  ∀ (m : (ℓ : Loc Cert.FilterKernelIdeal.nD Cert.FilterKernelIdeal.τ Cert.FilterKernelIdeal.sig) → Buf (Elt Ideal) ℓ) (g : Dev Cert.FilterKernelIdeal.nD → PrngReg)
    (m' : (ℓ : Loc Cert.FilterReferenceIdeal.nD Cert.FilterReferenceIdeal.τ Cert.FilterReferenceIdeal.sig) → Buf (Elt Ideal) ℓ) (g' : Dev Cert.FilterReferenceIdeal.nD → PrngReg), Pre_FilterKernelIdeal m →
    (∀ c : Dev Cert.FilterKernelIdeal.nD,
      m' ((c.tc : Thread Cert.FilterReferenceIdeal.nD Cert.FilterReferenceIdeal.τ).loc Cert.FilterReferenceIdeal.main_arg0) = m ((c.tc : Thread Cert.FilterKernelIdeal.nD Cert.FilterKernelIdeal.τ).loc Cert.FilterKernelIdeal.main_arg0)
      ∧ m' ((c.tc : Thread Cert.FilterReferenceIdeal.nD Cert.FilterReferenceIdeal.τ).loc Cert.FilterReferenceIdeal.main_arg1) = m ((c.tc : Thread Cert.FilterKernelIdeal.nD Cert.FilterKernelIdeal.τ).loc Cert.FilterKernelIdeal.main_arg1)
      ∧ m' ((c.tc : Thread Cert.FilterReferenceIdeal.nD Cert.FilterReferenceIdeal.τ).loc Cert.FilterReferenceIdeal.main_arg2) = m ((c.tc : Thread Cert.FilterKernelIdeal.nD Cert.FilterKernelIdeal.τ).loc Cert.FilterKernelIdeal.main_arg2)
      ∧ m' ((c.tc : Thread Cert.FilterReferenceIdeal.nD Cert.FilterReferenceIdeal.τ).loc Cert.FilterReferenceIdeal.main_arg3) = m ((c.tc : Thread Cert.FilterKernelIdeal.nD Cert.FilterKernelIdeal.τ).loc Cert.FilterKernelIdeal.main_arg3)
      ∧ m' ((c.tc : Thread Cert.FilterReferenceIdeal.nD Cert.FilterReferenceIdeal.τ).loc Cert.FilterReferenceIdeal.main_arg4) = m ((c.tc : Thread Cert.FilterKernelIdeal.nD Cert.FilterKernelIdeal.τ).loc Cert.FilterKernelIdeal.main_arg4)
      ∧ m' ((c.tc : Thread Cert.FilterReferenceIdeal.nD Cert.FilterReferenceIdeal.τ).loc Cert.FilterReferenceIdeal.main_arg5) = m ((c.tc : Thread Cert.FilterKernelIdeal.nD Cert.FilterKernelIdeal.τ).loc Cert.FilterKernelIdeal.main_arg5)
      ∧ m' ((c.tc : Thread Cert.FilterReferenceIdeal.nD Cert.FilterReferenceIdeal.τ).loc Cert.FilterReferenceIdeal.main_arg6) = m ((c.tc : Thread Cert.FilterKernelIdeal.nD Cert.FilterKernelIdeal.τ).loc Cert.FilterKernelIdeal.main_arg6)
      ∧ m' ((c.tc : Thread Cert.FilterReferenceIdeal.nD Cert.FilterReferenceIdeal.τ).loc Cert.FilterReferenceIdeal.main_arg7) = m ((c.tc : Thread Cert.FilterKernelIdeal.nD Cert.FilterKernelIdeal.τ).loc Cert.FilterKernelIdeal.main_arg7)
      ∧ m' ((c.tc : Thread Cert.FilterReferenceIdeal.nD Cert.FilterReferenceIdeal.τ).loc Cert.FilterReferenceIdeal.main_arg8) = m ((c.tc : Thread Cert.FilterKernelIdeal.nD Cert.FilterKernelIdeal.τ).loc Cert.FilterKernelIdeal.main_arg8)) →
    ∃ (v0 : (c : Dev Cert.FilterKernelIdeal.nD) → Buf (Elt Ideal) ((c.tc : Thread Cert.FilterKernelIdeal.nD Cert.FilterKernelIdeal.τ).loc Cert.FilterKernelIdeal.main_v12_0)) (v1 : (c : Dev Cert.FilterKernelIdeal.nD) → Buf (Elt Ideal) ((c.tc : Thread Cert.FilterKernelIdeal.nD Cert.FilterKernelIdeal.τ).loc Cert.FilterKernelIdeal.main_v12_1)) (v2 : (c : Dev Cert.FilterKernelIdeal.nD) → Buf (Elt Ideal) ((c.tc : Thread Cert.FilterKernelIdeal.nD Cert.FilterKernelIdeal.τ).loc Cert.FilterKernelIdeal.main_v12_2)),
      θ_run (Cert.FilterKernelIdeal.defs (F := Ideal)) (onTc (τ := Cert.FilterKernelIdeal.τ) (Cert.FilterKernelIdeal.main (F := Ideal))) ⟨m, fun _ => 0, g⟩ (fun r => ∀ c : Dev Cert.FilterKernelIdeal.nD,
          r.2.mem ((c.tc : Thread Cert.FilterKernelIdeal.nD Cert.FilterKernelIdeal.τ).loc Cert.FilterKernelIdeal.main_v12_0) = v0 c
          ∧ r.2.mem ((c.tc : Thread Cert.FilterKernelIdeal.nD Cert.FilterKernelIdeal.τ).loc Cert.FilterKernelIdeal.main_v12_1) = v1 c
          ∧ r.2.mem ((c.tc : Thread Cert.FilterKernelIdeal.nD Cert.FilterKernelIdeal.τ).loc Cert.FilterKernelIdeal.main_v12_2) = v2 c
          ∧ r.2.mem ((c.tc : Thread Cert.FilterKernelIdeal.nD Cert.FilterKernelIdeal.τ).loc Cert.FilterKernelIdeal.main_arg0) = m ((c.tc : Thread Cert.FilterKernelIdeal.nD Cert.FilterKernelIdeal.τ).loc Cert.FilterKernelIdeal.main_arg0)
          ∧ r.2.mem ((c.tc : Thread Cert.FilterKernelIdeal.nD Cert.FilterKernelIdeal.τ).loc Cert.FilterKernelIdeal.main_arg1) = m ((c.tc : Thread Cert.FilterKernelIdeal.nD Cert.FilterKernelIdeal.τ).loc Cert.FilterKernelIdeal.main_arg1)
          ∧ r.2.mem ((c.tc : Thread Cert.FilterKernelIdeal.nD Cert.FilterKernelIdeal.τ).loc Cert.FilterKernelIdeal.main_arg2) = m ((c.tc : Thread Cert.FilterKernelIdeal.nD Cert.FilterKernelIdeal.τ).loc Cert.FilterKernelIdeal.main_arg2)
          ∧ r.2.mem ((c.tc : Thread Cert.FilterKernelIdeal.nD Cert.FilterKernelIdeal.τ).loc Cert.FilterKernelIdeal.main_arg3) = m ((c.tc : Thread Cert.FilterKernelIdeal.nD Cert.FilterKernelIdeal.τ).loc Cert.FilterKernelIdeal.main_arg3)
          ∧ r.2.mem ((c.tc : Thread Cert.FilterKernelIdeal.nD Cert.FilterKernelIdeal.τ).loc Cert.FilterKernelIdeal.main_arg4) = m ((c.tc : Thread Cert.FilterKernelIdeal.nD Cert.FilterKernelIdeal.τ).loc Cert.FilterKernelIdeal.main_arg4)
          ∧ r.2.mem ((c.tc : Thread Cert.FilterKernelIdeal.nD Cert.FilterKernelIdeal.τ).loc Cert.FilterKernelIdeal.main_arg5) = m ((c.tc : Thread Cert.FilterKernelIdeal.nD Cert.FilterKernelIdeal.τ).loc Cert.FilterKernelIdeal.main_arg5)
          ∧ r.2.mem ((c.tc : Thread Cert.FilterKernelIdeal.nD Cert.FilterKernelIdeal.τ).loc Cert.FilterKernelIdeal.main_arg6) = m ((c.tc : Thread Cert.FilterKernelIdeal.nD Cert.FilterKernelIdeal.τ).loc Cert.FilterKernelIdeal.main_arg6)
          ∧ r.2.mem ((c.tc : Thread Cert.FilterKernelIdeal.nD Cert.FilterKernelIdeal.τ).loc Cert.FilterKernelIdeal.main_arg7) = m ((c.tc : Thread Cert.FilterKernelIdeal.nD Cert.FilterKernelIdeal.τ).loc Cert.FilterKernelIdeal.main_arg7)
          ∧ r.2.mem ((c.tc : Thread Cert.FilterKernelIdeal.nD Cert.FilterKernelIdeal.τ).loc Cert.FilterKernelIdeal.main_arg8) = m ((c.tc : Thread Cert.FilterKernelIdeal.nD Cert.FilterKernelIdeal.τ).loc Cert.FilterKernelIdeal.main_arg8))
      ∧ θ_run (Cert.FilterReferenceIdeal.defs (F := Ideal)) (onTc (τ := Cert.FilterReferenceIdeal.τ) (Cert.FilterReferenceIdeal.main (F := Ideal))) ⟨m', fun _ => 0, g'⟩ (fun r => ∀ c : Dev Cert.FilterReferenceIdeal.nD,
          r.2.mem ((c.tc : Thread Cert.FilterReferenceIdeal.nD Cert.FilterReferenceIdeal.τ).loc Cert.FilterReferenceIdeal.main_v27) = v0 c
          ∧ r.2.mem ((c.tc : Thread Cert.FilterReferenceIdeal.nD Cert.FilterReferenceIdeal.τ).loc Cert.FilterReferenceIdeal.main_v33) = v1 c
          ∧ r.2.mem ((c.tc : Thread Cert.FilterReferenceIdeal.nD Cert.FilterReferenceIdeal.τ).loc Cert.FilterReferenceIdeal.main_v39) = v2 c
          ∧ r.2.mem ((c.tc : Thread Cert.FilterReferenceIdeal.nD Cert.FilterReferenceIdeal.τ).loc Cert.FilterReferenceIdeal.main_arg0) = m' ((c.tc : Thread Cert.FilterReferenceIdeal.nD Cert.FilterReferenceIdeal.τ).loc Cert.FilterReferenceIdeal.main_arg0)
          ∧ r.2.mem ((c.tc : Thread Cert.FilterReferenceIdeal.nD Cert.FilterReferenceIdeal.τ).loc Cert.FilterReferenceIdeal.main_arg1) = m' ((c.tc : Thread Cert.FilterReferenceIdeal.nD Cert.FilterReferenceIdeal.τ).loc Cert.FilterReferenceIdeal.main_arg1)
          ∧ r.2.mem ((c.tc : Thread Cert.FilterReferenceIdeal.nD Cert.FilterReferenceIdeal.τ).loc Cert.FilterReferenceIdeal.main_arg2) = m' ((c.tc : Thread Cert.FilterReferenceIdeal.nD Cert.FilterReferenceIdeal.τ).loc Cert.FilterReferenceIdeal.main_arg2)
          ∧ r.2.mem ((c.tc : Thread Cert.FilterReferenceIdeal.nD Cert.FilterReferenceIdeal.τ).loc Cert.FilterReferenceIdeal.main_arg3) = m' ((c.tc : Thread Cert.FilterReferenceIdeal.nD Cert.FilterReferenceIdeal.τ).loc Cert.FilterReferenceIdeal.main_arg3)
          ∧ r.2.mem ((c.tc : Thread Cert.FilterReferenceIdeal.nD Cert.FilterReferenceIdeal.τ).loc Cert.FilterReferenceIdeal.main_arg4) = m' ((c.tc : Thread Cert.FilterReferenceIdeal.nD Cert.FilterReferenceIdeal.τ).loc Cert.FilterReferenceIdeal.main_arg4)
          ∧ r.2.mem ((c.tc : Thread Cert.FilterReferenceIdeal.nD Cert.FilterReferenceIdeal.τ).loc Cert.FilterReferenceIdeal.main_arg5) = m' ((c.tc : Thread Cert.FilterReferenceIdeal.nD Cert.FilterReferenceIdeal.τ).loc Cert.FilterReferenceIdeal.main_arg5)
          ∧ r.2.mem ((c.tc : Thread Cert.FilterReferenceIdeal.nD Cert.FilterReferenceIdeal.τ).loc Cert.FilterReferenceIdeal.main_arg6) = m' ((c.tc : Thread Cert.FilterReferenceIdeal.nD Cert.FilterReferenceIdeal.τ).loc Cert.FilterReferenceIdeal.main_arg6)
          ∧ r.2.mem ((c.tc : Thread Cert.FilterReferenceIdeal.nD Cert.FilterReferenceIdeal.τ).loc Cert.FilterReferenceIdeal.main_arg7) = m' ((c.tc : Thread Cert.FilterReferenceIdeal.nD Cert.FilterReferenceIdeal.τ).loc Cert.FilterReferenceIdeal.main_arg7)
          ∧ r.2.mem ((c.tc : Thread Cert.FilterReferenceIdeal.nD Cert.FilterReferenceIdeal.τ).loc Cert.FilterReferenceIdeal.main_arg8) = m' ((c.tc : Thread Cert.FilterReferenceIdeal.nD Cert.FilterReferenceIdeal.τ).loc Cert.FilterReferenceIdeal.main_arg8))

def Claim : Prop :=
  ∃ (hAttnKernel : Cert.AttnKernel.Facts) (hAttnKernelIdeal : Cert.AttnKernelIdeal.Facts) (hAttnReferenceIdeal : Cert.AttnReferenceIdeal.Facts) (hFfnKernel : Cert.FfnKernel.Facts) (hFfnKernelIdeal : Cert.FfnKernelIdeal.Facts) (hFfnReferenceIdeal : Cert.FfnReferenceIdeal.Facts) (hQkvKernel : Cert.QkvKernel.Facts) (hQkvKernelIdeal : Cert.QkvKernelIdeal.Facts) (hQkvReferenceIdeal : Cert.QkvReferenceIdeal.Facts) (hGluKernel : Cert.GluKernel.Facts) (hGluKernelIdeal : Cert.GluKernelIdeal.Facts) (hGluReferenceIdeal : Cert.GluReferenceIdeal.Facts) (hPlainKernel : Cert.PlainKernel.Facts) (hPlainKernelIdeal : Cert.PlainKernelIdeal.Facts) (hPlainReferenceIdeal : Cert.PlainReferenceIdeal.Facts) (hOutKernel : Cert.OutKernel.Facts) (hOutKernelIdeal : Cert.OutKernelIdeal.Facts) (hOutReferenceIdeal : Cert.OutReferenceIdeal.Facts) (hRouterKernel : Cert.RouterKernel.Facts) (hRouterKernelIdeal : Cert.RouterKernelIdeal.Facts) (hRouterReferenceIdeal : Cert.RouterReferenceIdeal.Facts) (hPromptKernel : Cert.PromptKernel.Facts) (hPromptKernelIdeal : Cert.PromptKernelIdeal.Facts) (hPromptReferenceIdeal : Cert.PromptReferenceIdeal.Facts) (hSampleKernel : Cert.SampleKernel.Facts) (hSampleKernelIdeal : Cert.SampleKernelIdeal.Facts) (hSampleReferenceIdeal : Cert.SampleReferenceIdeal.Facts) (hConvKernel : Cert.ConvKernel.Facts) (hConvKernelIdeal : Cert.ConvKernelIdeal.Facts) (hConvReferenceIdeal : Cert.ConvReferenceIdeal.Facts) (hModKernel : Cert.ModKernel.Facts) (hModKernelIdeal : Cert.ModKernelIdeal.Facts) (hModReferenceIdeal : Cert.ModReferenceIdeal.Facts) (hShortKernel : Cert.ShortKernel.Facts) (hShortKernelIdeal : Cert.ShortKernelIdeal.Facts) (hShortReferenceIdeal : Cert.ShortReferenceIdeal.Facts) (hFilterKernel : Cert.FilterKernel.Facts) (hFilterKernelIdeal : Cert.FilterKernelIdeal.Facts) (hFilterReferenceIdeal : Cert.FilterReferenceIdeal.Facts) (hPre_scores_finite : Cert.Pre_scores_finite.Facts),
    quiescent_AttnKernel (hAttnKernel := hAttnKernel)
    ∧ quiescent_AttnKernelIdeal (hAttnKernelIdeal := hAttnKernelIdeal)
    ∧ quiescent_AttnKernelIdeal_pre_scores_finite (hAttnKernelIdeal := hAttnKernelIdeal) (hPre_scores_finite := hPre_scores_finite)
    ∧ quiescent_AttnReferenceIdeal (hAttnReferenceIdeal := hAttnReferenceIdeal)
    ∧ quiescent_AttnReferenceIdeal_pre_scores_finite (hAttnReferenceIdeal := hAttnReferenceIdeal) (hPre_scores_finite := hPre_scores_finite)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_PlainKernel (hPlainKernel := hPlainKernel)
    ∧ quiescent_PlainKernelIdeal (hPlainKernelIdeal := hPlainKernelIdeal)
    ∧ quiescent_PlainReferenceIdeal (hPlainReferenceIdeal := hPlainReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_RouterKernel (hRouterKernel := hRouterKernel)
    ∧ quiescent_RouterKernelIdeal (hRouterKernelIdeal := hRouterKernelIdeal)
    ∧ quiescent_RouterReferenceIdeal (hRouterReferenceIdeal := hRouterReferenceIdeal)
    ∧ quiescent_PromptKernel (hPromptKernel := hPromptKernel)
    ∧ quiescent_PromptKernelIdeal (hPromptKernelIdeal := hPromptKernelIdeal)
    ∧ quiescent_PromptReferenceIdeal (hPromptReferenceIdeal := hPromptReferenceIdeal)
    ∧ quiescent_SampleKernel (hSampleKernel := hSampleKernel)
    ∧ quiescent_SampleKernelIdeal (hSampleKernelIdeal := hSampleKernelIdeal)
    ∧ quiescent_SampleReferenceIdeal (hSampleReferenceIdeal := hSampleReferenceIdeal)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_ModKernel (hModKernel := hModKernel)
    ∧ quiescent_ModKernelIdeal (hModKernelIdeal := hModKernelIdeal)
    ∧ quiescent_ModReferenceIdeal (hModReferenceIdeal := hModReferenceIdeal)
    ∧ quiescent_ShortKernel (hShortKernel := hShortKernel)
    ∧ quiescent_ShortKernelIdeal (hShortKernelIdeal := hShortKernelIdeal)
    ∧ quiescent_ShortReferenceIdeal (hShortReferenceIdeal := hShortReferenceIdeal)
    ∧ quiescent_FilterKernel (hFilterKernel := hFilterKernel)
    ∧ quiescent_FilterKernelIdeal (hFilterKernelIdeal := hFilterKernelIdeal)
    ∧ quiescent_FilterReferenceIdeal (hFilterReferenceIdeal := hFilterReferenceIdeal)
    ∧ preserves_AttnKernel_AttnKernelIdeal
    ∧ algebraic_AttnKernelIdeal_AttnReferenceIdeal_pre_scores_finite (hAttnKernelIdeal := hAttnKernelIdeal) (hAttnReferenceIdeal := hAttnReferenceIdeal) (hPre_scores_finite := hPre_scores_finite)
    ∧ preserves_FfnKernel_FfnKernelIdeal
    ∧ algebraic_FfnKernelIdeal_FfnReferenceIdeal (hFfnKernelIdeal := hFfnKernelIdeal) (hFfnReferenceIdeal := hFfnReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_GluKernel_GluKernelIdeal
    ∧ algebraic_GluKernelIdeal_GluReferenceIdeal (hGluKernelIdeal := hGluKernelIdeal) (hGluReferenceIdeal := hGluReferenceIdeal)
    ∧ preserves_PlainKernel_PlainKernelIdeal
    ∧ algebraic_PlainKernelIdeal_PlainReferenceIdeal (hPlainKernelIdeal := hPlainKernelIdeal) (hPlainReferenceIdeal := hPlainReferenceIdeal)
    ∧ preserves_OutKernel_OutKernelIdeal
    ∧ algebraic_OutKernelIdeal_OutReferenceIdeal (hOutKernelIdeal := hOutKernelIdeal) (hOutReferenceIdeal := hOutReferenceIdeal)
    ∧ preserves_RouterKernel_RouterKernelIdeal
    ∧ algebraic_RouterKernelIdeal_RouterReferenceIdeal (hRouterKernelIdeal := hRouterKernelIdeal) (hRouterReferenceIdeal := hRouterReferenceIdeal)
    ∧ preserves_PromptKernel_PromptKernelIdeal
    ∧ algebraic_PromptKernelIdeal_PromptReferenceIdeal (hPromptKernelIdeal := hPromptKernelIdeal) (hPromptReferenceIdeal := hPromptReferenceIdeal)
    ∧ preserves_SampleKernel_SampleKernelIdeal
    ∧ algebraic_SampleKernelIdeal_SampleReferenceIdeal (hSampleKernelIdeal := hSampleKernelIdeal) (hSampleReferenceIdeal := hSampleReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_ModKernel_ModKernelIdeal
    ∧ algebraic_ModKernelIdeal_ModReferenceIdeal (hModKernelIdeal := hModKernelIdeal) (hModReferenceIdeal := hModReferenceIdeal)
    ∧ preserves_ShortKernel_ShortKernelIdeal
    ∧ algebraic_ShortKernelIdeal_ShortReferenceIdeal (hShortKernelIdeal := hShortKernelIdeal) (hShortReferenceIdeal := hShortReferenceIdeal)
    ∧ preserves_FilterKernel_FilterKernelIdeal
    ∧ algebraic_FilterKernelIdeal_FilterReferenceIdeal (hFilterKernelIdeal := hFilterKernelIdeal) (hFilterReferenceIdeal := hFilterReferenceIdeal)
-- ==== Pre_scores_finite.lean ====
abbrev S8192x1024 : Shape := ⟨2, ![8192, 1024]⟩
abbrev S8192x256 : Shape := ⟨2, ![8192, 256]⟩
abbrev S4x1x512x2x128 : Shape := ⟨5, ![4, 1, 512, 2, 128]⟩
abbrev S1024x1024 : Shape := ⟨2, ![1024, 1024]⟩
abbrev S8x6144 : Shape := ⟨2, ![8, 6144]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S4x1x512x2x128 : S_.BroadcastsInDim S4x1x512x2x128 (![] : Fin 0 → Fin S4x1x512x2x128.rank)
  reducesTo_S4x1x512x2x128_S_d0_1_2_3_4 : S4x1x512x2x128.ReducesTo [0, 1, 2, 3, 4] S_

variable [Facts]

def fn {F : FTy → Type} [FloatOps F] (main_arg0 : FVec F S8192x1024 .bf16) (main_arg1 : FVec F S8192x256 .f32) (main_arg2 : FVec F S8192x256 .f32) (main_arg3 : FVec F S4x1x512x2x128 .f32) (main_arg4 : FVec F S4x1x512x2x128 .f32) (main_arg5 : FVec F S1024x1024 .f32) (main_arg6 : FVec F S8192x1024 .f32) (main_arg7 : FVec F S8x6144 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x256 .f32 := Host.absf main_arg1
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  let main_c_1 : IVec S_ 1 := constantI S_ 1 1#1
  let main_v8 : IVec S_ 1 := (fun x v => Host.reduce IntOp.andi x v reducesTo_S8192x256_S_d0_1 h_S_) main_v7 main_c_1
  let main_v9 : IVec S_ 1 := andi main_v4 main_v8
  let main_v10 : FVec F S4x1x512x2x128 .f32 := Host.absf main_arg3
  let main_cst_2 : FVec F S_ .f32 := constant S_ .f32 0x7F800000#32
  let main_v11 : FVec F S4x1x512x2x128 .f32 := broadcastInDim S4x1x512x2x128 ![] bcast_S_S4x1x512x2x128 main_cst_2
  let main_v12 : IVec S4x1x512x2x128 1 := cmpf .olt main_v10 main_v11
  let main_c_3 : IVec S_ 1 := constantI S_ 1 1#1
  let main_v13 : IVec S_ 1 := (fun x v => Host.reduce IntOp.andi x v reducesTo_S4x1x512x2x128_S_d0_1_2_3_4 h_S_) main_v12 main_c_3
  let main_v14 : IVec S_ 1 := andi main_v9 main_v13
  main_v14
-- ==== AttnKernel.lean ====
abbrev S8192x1024 : Shape := ⟨2, ![8192, 1024]⟩
abbrev S8192x256 : Shape := ⟨2, ![8192, 256]⟩
abbrev S4x1x512x2x128 : Shape := ⟨5, ![4, 1, 512, 2, 128]⟩
abbrev S1024x1024 : Shape := ⟨2, ![1024, 1024]⟩
abbrev S8x6144 : Shape := ⟨2, ![8, 6144]⟩
abbrev S48x1x1024 : Shape := ⟨3, ![48, 1, 1024]⟩
abbrev S4x512x2x128 : Shape := ⟨4, ![4, 512, 2, 128]⟩
abbrev S4x512x256 : Shape := ⟨3, ![4, 512, 256]⟩
abbrev S4x2048x256 : Shape := ⟨3, ![4, 2048, 256]⟩
abbrev S4x2560x256 : Shape := ⟨3, ![4, 2560, 256]⟩
abbrev S256x1024 : Shape := ⟨2, ![256, 1024]⟩
abbrev S1x2560x256 : Shape := ⟨3, ![1, 2560, 256]⟩
abbrev S1x1x1024 : Shape := ⟨3, ![1, 1, 1024]⟩
abbrev S256x128 : Shape := ⟨2, ![256, 128]⟩
abbrev S1x2560x128 : Shape := ⟨3, ![1, 2560, 128]⟩
abbrev S2560x128 : Shape := ⟨2, ![2560, 128]⟩
abbrev S256x2560 : Shape := ⟨2, ![256, 2560]⟩
abbrev S256 : Shape := ⟨1, ![256]⟩
abbrev S256x1 : Shape := ⟨2, ![256, 1]⟩
abbrev S1x1024 : Shape := ⟨2, ![1, 1024]⟩

abbrev nBuf : Space → Nat
  | .hbm => 21
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S8192x256, .f32⟩
  | .hbm, ⟨3, _⟩ => ⟨S4x1x512x2x128, .f32⟩
  | .hbm, ⟨4, _⟩ => ⟨S4x1x512x2x128, .f32⟩
  | .hbm, ⟨5, _⟩ => ⟨S1024x1024, .f32⟩
  | .hbm, ⟨6, _⟩ => ⟨S8192x1024, .f32⟩
  | .hbm, ⟨7, _⟩ => ⟨S8x6144, .f32⟩
  | .hbm, ⟨8, _⟩ => ⟨S48x1x1024, .f32⟩
  | .hbm, ⟨9, _⟩ => ⟨S1024x1024, .bf16⟩
  | .hbm, ⟨10, _⟩ => ⟨S4x512x2x128, .f32⟩
  | .hbm, ⟨11, _⟩ => ⟨S4x512x256, .f32⟩
  | .hbm, ⟨12, _⟩ => ⟨S4x512x2x128, .f32⟩
  | .hbm, ⟨13, _⟩ => ⟨S4x512x256, .f32⟩
  | .hbm, ⟨14, _⟩ => ⟨S4x2048x256, .f32⟩
  | .hbm, ⟨15, _⟩ => ⟨S4x2560x256, .f32⟩
  | .hbm, ⟨16, _⟩ => ⟨S4x2560x256, .bf16⟩
  | .hbm, ⟨17, _⟩ => ⟨S4x2048x256, .f32⟩
  | .hbm, ⟨18, _⟩ => ⟨S4x2560x256, .f32⟩
  | .hbm, ⟨19, _⟩ => ⟨S4x2560x256, .bf16⟩
  | .hbm, ⟨20, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S1x2560x256, .bf16⟩
  | .local _ .vmem, ⟨3, _⟩ => ⟨S1x2560x256, .bf16⟩
  | .local _ .vmem, ⟨4, _⟩ => ⟨S1x2560x256, .bf16⟩
  | .local _ .vmem, ⟨5, _⟩ => ⟨S1x2560x256, .bf16⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | .local _ .vmem, ⟨9, _⟩ => ⟨S1x1x1024, .f32⟩
  | .local _ .vmem, ⟨10, _⟩ => ⟨S1x1x1024, .f32⟩
  | .local _ .vmem, ⟨11, _⟩ => ⟨S256x1024, .f32⟩
  | .local _ .vmem, ⟨12, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c2_i32 : BitVec 32 := 2#32
  let v19 : BitVec 32 := Scalar.addi v18 c2_i32
  let c0_i32_5 : BitVec 32 := 0#32
  let c0_i32_6 : BitVec 32 := 0#32
  let c0_i32_7 : BitVec 32 := 0#32
  ![v19.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2560x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2560x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnReferenceIdeal.lean ====
abbrev S8192x1024 : Shape := ⟨2, ![8192, 1024]⟩
abbrev S8192x256 : Shape := ⟨2, ![8192, 256]⟩
abbrev S4x1x512x2x128 : Shape := ⟨5, ![4, 1, 512, 2, 128]⟩
abbrev S1024x1024 : Shape := ⟨2, ![1024, 1024]⟩
abbrev S8x6144 : Shape := ⟨2, ![8, 6144]⟩
abbrev S4x2048x2x4x128 : Shape := ⟨5, ![4, 2048, 2, 4, 128]⟩
abbrev S4x512x2x128 : Shape := ⟨4, ![4, 512, 2, 128]⟩
abbrev S4x2048x2x128 : Shape := ⟨4, ![4, 2048, 2, 128]⟩
abbrev S4x2560x2x128 : Shape := ⟨4, ![4, 2560, 2, 128]⟩
abbrev S4x2x2560x2048x4 : Shape := ⟨5, ![4, 2, 2560, 2048, 4]⟩
abbrev S4x2x4x2048x2560 : Shape := ⟨5, ![4, 2, 4, 2048, 2560]⟩
abbrev S_ : Shape := ⟨0, ![]⟩
abbrev S4x2x4x2048 : Shape := ⟨4, ![4, 2, 4, 2048]⟩
abbrev S4x2x4x2048x1 : Shape := ⟨5, ![4, 2, 4, 2048, 1]⟩
abbrev S4x2x128x4x2048 : Shape := ⟨5, ![4, 2, 128, 4, 2048]⟩
abbrev S4x6144 : Shape := ⟨2, ![4, 6144]⟩
abbrev S4x1x6x1024 : Shape := ⟨4, ![4, 1, 6, 1024]⟩
abbrev S4x2048x1024 : Shape := ⟨3, ![4, 2048, 1024]⟩
abbrev S4x1x1x1024 : Shape := ⟨4, ![4, 1, 1, 1024]⟩
abbrev S4x1x1024 : Shape := ⟨3, ![4, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S8192x256, .f32⟩
  | .hbm, ⟨3, _⟩ => ⟨S4x1x512x2x128, .f32⟩
  | .hbm, ⟨4, _⟩ => ⟨S4x1x512x2x128, .f32⟩
  | .hbm, ⟨5, _⟩ => ⟨S1024x1024, .f32⟩
  | .hbm, ⟨6, _⟩ => ⟨S8192x1024, .f32⟩
  | .hbm, ⟨7, _⟩ => ⟨S8x6144, .f32⟩
  | .hbm, ⟨8, _⟩ => ⟨S8192x1024, .f32⟩
  | .hbm, ⟨9, _⟩ => ⟨S4x2048x2x4x128, .f32⟩
  | .hbm, ⟨10, _⟩ => ⟨S4x512x2x128, .f32⟩
  | .hbm, ⟨11, _⟩ => ⟨S4x2048x2x128, .f32⟩
  | .hbm, ⟨12, _⟩ => ⟨S4x2560x2x128, .f32⟩
  | .hbm, ⟨13, _⟩ => ⟨S4x512x2x128, .f32⟩
  | .hbm, ⟨14, _⟩ => ⟨S4x2048x2x128, .f32⟩
  | .hbm, ⟨15, _⟩ => ⟨S4x2560x2x128, .f32⟩
  | .hbm, ⟨16, _⟩ => ⟨S4x2x2560x2048x4, .f32⟩
  | .hbm, ⟨17, _⟩ => ⟨S4x2x4x2048x2560, .f32⟩
  | .hbm, ⟨18, _⟩ => ⟨S_, .f32⟩
  | .hbm, ⟨19, _⟩ => ⟨S4x2x4x2048x2560, .f32⟩
  | .hbm, ⟨20, _⟩ => ⟨S4x2x4x2048x2560, .f32⟩
  | .hbm, ⟨21, _⟩ => ⟨S_, .f32⟩
  | .hbm, ⟨22, _⟩ => ⟨S4x2x4x2048, .f32⟩
  | .hbm, ⟨23, _⟩ => ⟨S_, .f32⟩
  | .hbm, ⟨24, _⟩ => ⟨S4x2x4x2048, .f32⟩
  | .hbm, ⟨25, _⟩ => ⟨S4x2x4x2048, .f32⟩
  | .hbm, ⟨26, _⟩ => ⟨S4x2x4x2048x1, .f32⟩
  | .hbm, ⟨27, _⟩ => ⟨S4x2x4x2048x2560, .f32⟩
  | .hbm, ⟨28, _⟩ => ⟨S4x2x4x2048x2560, .f32⟩
  | .hbm, ⟨29, _⟩ => ⟨S4x2x4x2048x2560, .f32⟩
  | .hbm, ⟨30, _⟩ => ⟨S_, .f32⟩
  | .hbm, ⟨31, _⟩ => ⟨S4x2x4x2048, .f32⟩
  | .hbm, ⟨32, _⟩ => ⟨S4x2x4x2048x1, .f32⟩
  | .hbm, ⟨33, _⟩ => ⟨S4x2x4x2048x2560, .f32⟩
  | .hbm, ⟨34, _⟩ => ⟨S4x2x4x2048x2560, .f32⟩
  | .hbm, ⟨35, _⟩ => ⟨S4x2x128x4x2048, .f32⟩
  | .hbm, ⟨36, _⟩ => ⟨S4x2048x2x4x128, .f32⟩
  | .hbm, ⟨37, _⟩ => ⟨S4x6144, .f32⟩
  | .hbm, ⟨38, _⟩ => ⟨S4x1x6x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x1x1x1024, .f32⟩
  | .hbm, ⟨43, _⟩ => ⟨S4x1x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== FfnKernel.lean ====
abbrev S16x1024x1024 : Shape := ⟨3, ![16, 1024, 1024]⟩
abbrev S16x1024x128 : Shape := ⟨3, ![16, 1024, 128]⟩
abbrev S1x1024x1024 : Shape := ⟨3, ![1, 1024, 1024]⟩
abbrev S1x1024x128 : Shape := ⟨3, ![1, 1024, 128]⟩
abbrev S1x1024x512 : Shape := ⟨3, ![1, 1024, 512]⟩
abbrev S1x512x1024 : Shape := ⟨3, ![1, 512, 1024]⟩
abbrev S2048x1024 : Shape := ⟨2, ![2048, 1024]⟩
abbrev S1024x512 : Shape := ⟨2, ![1024, 512]⟩
abbrev S512x1024 : Shape := ⟨2, ![512, 1024]⟩
abbrev S1024x1024 : Shape := ⟨2, ![1024, 1024]⟩
abbrev S1024x128 : Shape := ⟨2, ![1024, 128]⟩
abbrev S1024x1 : Shape := ⟨2, ![1024, 1]⟩

abbrev nBuf : Space → Nat
  | .hbm => 9
  | .vmem => 19
  | .smem => 0
  | _ => 0

abbrev bufTy : (tb : Table) → Fin (tcTables nBuf tb) → BufTy
  | .hbm, ⟨0, _⟩ => ⟨S16x1024x1024, .bf16⟩
  | .hbm, ⟨1, _⟩ => ⟨S16x1024x1024, .bf16⟩
  | .hbm, ⟨2, _⟩ => ⟨S16x1024x128, .f32⟩
  | .hbm, ⟨3, _⟩ => ⟨S16x1024x128, .f32⟩
  | .hbm, ⟨4, _⟩ => ⟨S16x1024x1024, .f32⟩
  | .hbm, ⟨5, _⟩ => ⟨S16x1024x1024, .f32⟩
  | .hbm, ⟨6, _⟩ => ⟨S16x1024x1024, .f32⟩
  | .hbm, ⟨7, _⟩ => ⟨S16x1024x1024, .bf16⟩
  | .hbm, ⟨8, _⟩ => ⟨S16x1024x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x512x1024, .f32⟩
  | .local _ .vmem, ⟨13, _⟩ => ⟨S1x512x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S2048x1024, .f32⟩
  | _, _ => ⟨S16x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v40 : BitVec 1 := Scalar.cmpi .eq arg1 c1_i32
  let v41 : BitVec 32 := Scalar.extui v40
  let c0_i32_27 : BitVec 32 := 0#32
  let v42 : BitVec 1 := Scalar.cmpi .ne v41 c0_i32_27
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnReferenceIdeal.lean ====
abbrev S16x1024x1024 : Shape := ⟨3, ![16, 1024, 1024]⟩
abbrev S16x1024x128 : Shape := ⟨3, ![16, 1024, 128]⟩
abbrev S16x1024x1 : Shape := ⟨3, ![16, 1024, 1]⟩
abbrev S16x1024 : Shape := ⟨2, ![16, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S16x1024x1024, .bf16⟩
  | .hbm, ⟨1, _⟩ => ⟨S16x1024x1024, .bf16⟩
  | .hbm, ⟨2, _⟩ => ⟨S16x1024x128, .f32⟩
  | .hbm, ⟨3, _⟩ => ⟨S16x1024x128, .f32⟩
  | .hbm, ⟨4, _⟩ => ⟨S16x1024x1024, .f32⟩
  | .hbm, ⟨5, _⟩ => ⟨S16x1024x1024, .f32⟩
  | .hbm, ⟨6, _⟩ => ⟨S16x1024x1024, .f32⟩
  | .hbm, ⟨7, _⟩ => ⟨S16x1024x1024, .f32⟩
  | .hbm, ⟨8, _⟩ => ⟨S16x1024x1, .f32⟩
  | .hbm, ⟨9, _⟩ => ⟨S16x1024, .f32⟩
  | .hbm, ⟨10, _⟩ => ⟨S16x1024x1024, .f32⟩
  | .hbm, ⟨11, _⟩ => ⟨S16x1024x1024, .f32⟩
  | .hbm, ⟨12, _⟩ => ⟨S16x1024x1024, .f32⟩
  | .hbm, ⟨13, _⟩ => ⟨S16x1024x1024, .f32⟩
  | .hbm, ⟨14, _⟩ => ⟨S_, .f32⟩
  | .hbm, ⟨15, _⟩ => ⟨S16x1024x1024, .f32⟩
  | .hbm, ⟨16, _⟩ => ⟨S16x1024x1024, .f32⟩
  | .hbm, ⟨17, _⟩ => ⟨S_, .f32⟩
  | .hbm, ⟨18, _⟩ => ⟨S16x1024x1024, .f32⟩
  | .hbm, ⟨19, _⟩ => ⟨S16x1024x1024, .f32⟩
  | .hbm, ⟨20, _⟩ => ⟨S16x1024x1024, .f32⟩
  | .hbm, ⟨21, _⟩ => ⟨S16x1024x1024, .f32⟩
  | .hbm, ⟨22, _⟩ => ⟨S16x1024x1024, .f32⟩
  | .hbm, ⟨23, _⟩ => ⟨S16x1024x1, .f32⟩
  | .hbm, ⟨24, _⟩ => ⟨S16x1024x1024, .f32⟩
  | .hbm, ⟨25, _⟩ => ⟨S16x1024x1024, .f32⟩
  | .hbm, ⟨26, _⟩ => ⟨S16x1024x1024, .bf16⟩
  | .hbm, ⟨27, _⟩ => ⟨S16x1024x1024, .f32⟩
  | .hbm, ⟨28, _⟩ => ⟨S16x1024x1, .f32⟩
  | .hbm, ⟨29, _⟩ => ⟨S16x1024, .f32⟩
  | .hbm, ⟨30, _⟩ => ⟨S16x1024x1024, .f32⟩
  | .hbm, ⟨31, _⟩ => ⟨S16x1024x1024, .f32⟩
  | .hbm, ⟨32, _⟩ => ⟨S16x1024x1024, .f32⟩
  | .hbm, ⟨33, _⟩ => ⟨S16x1024x1024, .f32⟩
  | .hbm, ⟨34, _⟩ => ⟨S_, .f32⟩
  | .hbm, ⟨35, _⟩ => ⟨S16x1024x1024, .f32⟩
  | .hbm, ⟨36, _⟩ => ⟨S16x1024x1024, .f32⟩
  | .hbm, ⟨37, _⟩ => ⟨S_, .f32⟩
  | .hbm, ⟨38, _⟩ => ⟨S16x1024x1024, .f32⟩
  | .hbm, ⟨39, _⟩ => ⟨S16x1024x1024, .f32⟩
  | .hbm, ⟨40, _⟩ => ⟨S16x1024x1024, .f32⟩
  | .hbm, ⟨41, _⟩ => ⟨S16x1024x1024, .f32⟩
  | .hbm, ⟨42, _⟩ => ⟨S16x1024x1024, .f32⟩
  | .hbm, ⟨43, _⟩ => ⟨S16x1024x1, .f32⟩
  | .hbm, ⟨44, _⟩ => ⟨S16x1024x1024, .f32⟩
  | .hbm, ⟨45, _⟩ => ⟨S16x1024x1024, .f32⟩
  | .hbm, ⟨46, _⟩ => ⟨S16x1024x1024, .bf16⟩
  | _, _ => ⟨S16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩

abbrev nD : Nat := 1
abbrev τ : Topo := Topo.v7x

variable {F : FTy → Type} [FloatOps F]
-- ==== QkvKernel.lean ====
abbrev S8192x1024 : Shape := ⟨2, ![8192, 1024]⟩
abbrev S1024 : Shape := ⟨1, ![1024]⟩
abbrev S8x6144 : Shape := ⟨2, ![8, 6144]⟩
abbrev S1024x1536 : Shape := ⟨2, ![1024, 1536]⟩
abbrev S128 : Shape := ⟨1, ![128]⟩
abbrev S48x1x1024 : Shape := ⟨3, ![48, 1, 1024]⟩
abbrev S1x1024 : Shape := ⟨2, ![1, 1024]⟩
abbrev S1x128 : Shape := ⟨2, ![1, 128]⟩
abbrev S8192x256 : Shape := ⟨2, ![8192, 256]⟩
abbrev S256x1024 : Shape := ⟨2, ![256, 1024]⟩
abbrev S1x1x1024 : Shape := ⟨3, ![1, 1, 1024]⟩
abbrev S256x256 : Shape := ⟨2, ![256, 256]⟩
abbrev S256 : Shape := ⟨1, ![256]⟩
abbrev S256x1 : Shape := ⟨2, ![256, 1]⟩
abbrev S256x1536 : Shape := ⟨2, ![256, 1536]⟩
abbrev S256x128 : Shape := ⟨2, ![256, 128]⟩
abbrev S32x1x256x2x128 : Shape := ⟨5, ![32, 1, 256, 2, 128]⟩

abbrev nBuf : Space → Nat
  | .hbm => 16
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x6144, .f32⟩
  | .hbm, ⟨3, _⟩ => ⟨S1024x1536, .f32⟩
  | .hbm, ⟨4, _⟩ => ⟨S128, .f32⟩
  | .hbm, ⟨5, _⟩ => ⟨S128, .f32⟩
  | .hbm, ⟨6, _⟩ => ⟨S48x1x1024, .f32⟩
  | .hbm, ⟨7, _⟩ => ⟨S1x1024, .f32⟩
  | .hbm, ⟨8, _⟩ => ⟨S1024x1536, .bf16⟩
  | .hbm, ⟨9, _⟩ => ⟨S1x128, .f32⟩
  | .hbm, ⟨10, _⟩ => ⟨S1x128, .f32⟩
  | .hbm, ⟨11, _⟩ => ⟨S8192x1024, .bf16⟩
  | .hbm, ⟨12, _⟩ => ⟨S8192x256, .f32⟩
  | .hbm, ⟨13, _⟩ => ⟨S8192x256, .f32⟩
  | .hbm, ⟨14, _⟩ => ⟨S32x1x256x2x128, .f32⟩
  | .hbm, ⟨15, _⟩ => ⟨S32x1x256x2x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x1536, .bf16⟩
  | .local _ .vmem, ⟨6, _⟩ => ⟨S1x128, .f32⟩
  | .local _ .vmem, ⟨7, _⟩ => ⟨S1x128, .f32⟩
  | .local _ .vmem, ⟨8, _⟩ => ⟨S256x1024, .bf16⟩
  | .local _ .vmem, ⟨9, _⟩ => ⟨S256x1024, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvReferenceIdeal.lean ====
abbrev S8192x1024 : Shape := ⟨2, ![8192, 1024]⟩
abbrev S1024 : Shape := ⟨1, ![1024]⟩
abbrev S8x6144 : Shape := ⟨2, ![8, 6144]⟩
abbrev S1024x1536 : Shape := ⟨2, ![1024, 1536]⟩
abbrev S128 : Shape := ⟨1, ![128]⟩
abbrev S1x6144 : Shape := ⟨2, ![1, 6144]⟩
abbrev S1x1x6x1024 : Shape := ⟨4, ![1, 1, 6, 1024]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1x1x1x1024 : Shape := ⟨4, ![1, 1, 1, 1024]⟩
abbrev S32x256x1536 : Shape := ⟨3, ![32, 256, 1536]⟩
abbrev S32x256x8x128 : Shape := ⟨4, ![32, 256, 8, 128]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S32x256x256 : Shape := ⟨3, ![32, 256, 256]⟩
abbrev S32x256x2x128 : Shape := ⟨4, ![32, 256, 2, 128]⟩
abbrev S32x256x2 : Shape := ⟨3, ![32, 256, 2]⟩
abbrev S32x256x2x1 : Shape := ⟨4, ![32, 256, 2, 1]⟩
abbrev S32x1x256x2x128 : Shape := ⟨5, ![32, 1, 256, 2, 128]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x6144, .f32⟩
  | .hbm, ⟨3, _⟩ => ⟨S1024x1536, .f32⟩
  | .hbm, ⟨4, _⟩ => ⟨S128, .f32⟩
  | .hbm, ⟨5, _⟩ => ⟨S128, .f32⟩
  | .hbm, ⟨6, _⟩ => ⟨S1x6144, .f32⟩
  | .hbm, ⟨7, _⟩ => ⟨S1x1x6x1024, .f32⟩
  | .hbm, ⟨8, _⟩ => ⟨S32x256x1024, .f32⟩
  | .hbm, ⟨9, _⟩ => ⟨S32x256x1024, .f32⟩
  | .hbm, ⟨10, _⟩ => ⟨S_, .f32⟩
  | .hbm, ⟨11, _⟩ => ⟨S32x256, .f32⟩
  | .hbm, ⟨12, _⟩ => ⟨S32x256x1, .f32⟩
  | .hbm, ⟨13, _⟩ => ⟨S_, .f32⟩
  | .hbm, ⟨14, _⟩ => ⟨S32x256x1, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S32x256x1, .f32⟩
  | .hbm, ⟨20, _⟩ => ⟨S32x256x1024, .f32⟩
  | .hbm, ⟨21, _⟩ => ⟨S32x256x1024, .f32⟩
  | .hbm, ⟨22, _⟩ => ⟨S1x1x1024, .f32⟩
  | .hbm, ⟨23, _⟩ => ⟨S32x256x1024, .f32⟩
  | .hbm, ⟨24, _⟩ => ⟨S32x256x1024, .f32⟩
  | .hbm, ⟨25, _⟩ => ⟨S1x1x1x1024, .f32⟩
  | .hbm, ⟨26, _⟩ => ⟨S1x1x1024, .f32⟩
  | .hbm, ⟨27, _⟩ => ⟨S_, .f32⟩
  | .hbm, ⟨28, _⟩ => ⟨S1x1x1024, .f32⟩
  | .hbm, ⟨29, _⟩ => ⟨S1x1x1024, .f32⟩
  | .hbm, ⟨30, _⟩ => ⟨S32x256x1024, .f32⟩
  | .hbm, ⟨31, _⟩ => ⟨S32x256x1024, .f32⟩
  | .hbm, ⟨32, _⟩ => ⟨S1x1x1x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S32x256x1536, .f32⟩
  | .hbm, ⟨37, _⟩ => ⟨S32x256x1024, .f32⟩
  | .hbm, ⟨38, _⟩ => ⟨S32x256x8x128, .f32⟩
  | .hbm, ⟨39, _⟩ => ⟨S32x256x8x128, .f32⟩
  | .hbm, ⟨40, _⟩ => ⟨S_, .f32⟩
  | .hbm, ⟨41, _⟩ => ⟨S32x256x8, .f32⟩
  | .hbm, ⟨42, _⟩ => ⟨S32x256x8x1, .f32⟩
  | .hbm, ⟨43, _⟩ => ⟨S_, .f32⟩
  | .hbm, ⟨44, _⟩ => ⟨S32x256x8x1, .f32⟩
  | .hbm, ⟨45, _⟩ => ⟨S32x256x8x1, .f32⟩
  | .hbm, ⟨46, _⟩ => ⟨S_, .f32⟩
  | .hbm, ⟨47, _⟩ => ⟨S32x256x8x1, .f32⟩
  | .hbm, ⟨48, _⟩ => ⟨S32x256x8x1, .f32⟩
  | .hbm, ⟨49, _⟩ => ⟨S32x256x8x1, .f32⟩
  | .hbm, ⟨50, _⟩ => ⟨S32x256x8x128, .f32⟩
  | .hbm, ⟨51, _⟩ => ⟨S32x256x8x128, .f32⟩
  | .hbm, ⟨52, _⟩ => ⟨S1x1x1x128, .f32⟩
  | .hbm, ⟨53, _⟩ => ⟨S32x256x8x128, .f32⟩
  | .hbm, ⟨54, _⟩ => ⟨S32x256x8x128, .f32⟩
  | .hbm, ⟨55, _⟩ => ⟨S32x256x256, .f32⟩
  | .hbm, ⟨56, _⟩ => ⟨S32x256x2x128, .f32⟩
  | .hbm, ⟨57, _⟩ => ⟨S32x256x2x128, .f32⟩
  | .hbm, ⟨58, _⟩ => ⟨S_, .f32⟩
  | .hbm, ⟨59, _⟩ => ⟨S32x256x2, .f32⟩
  | .hbm, ⟨60, _⟩ => ⟨S32x256x2x1, .f32⟩
  | .hbm, ⟨61, _⟩ => ⟨S_, .f32⟩
  | .hbm, ⟨62, _⟩ => ⟨S32x256x2x1, .f32⟩
  | .hbm, ⟨63, _⟩ => ⟨S32x256x2x1, .f32⟩
  | .hbm, ⟨64, _⟩ => ⟨S_, .f32⟩
  | .hbm, ⟨65, _⟩ => ⟨S32x256x2x1, .f32⟩
  | .hbm, ⟨66, _⟩ => ⟨S32x256x2x1, .f32⟩
  | .hbm, ⟨67, _⟩ => ⟨S32x256x2x1, .f32⟩
  | .hbm, ⟨68, _⟩ => ⟨S32x256x2x128, .f32⟩
  | .hbm, ⟨69, _⟩ => ⟨S32x256x2x128, .f32⟩
  | .hbm, ⟨70, _⟩ => ⟨S1x1x1x128, .f32⟩
  | .hbm, ⟨71, _⟩ => ⟨S32x256x2x128, .f32⟩
  | .hbm, ⟨72, _⟩ => ⟨S32x256x2x128, .f32⟩
  | .hbm, ⟨73, _⟩ => ⟨S32x256x256, .f32⟩
  | .hbm, ⟨74, _⟩ => ⟨S32x256x2x128, .f32⟩
  | .hbm, ⟨75, _⟩ => ⟨S8192x1024, .f32⟩
  | .hbm, ⟨76, _⟩ => ⟨S8192x1024, .bf16⟩
  | .hbm, ⟨77, _⟩ => ⟨S32x1x256x2x128, .f32⟩
  | .hbm, ⟨78, _⟩ => ⟨S32x1x256x2x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== GluKernel.lean ====
abbrev S8192x1024 : Shape := ⟨2, ![8192, 1024]⟩
abbrev S1024 : Shape := ⟨1, ![1024]⟩
abbrev S8x6144 : Shape := ⟨2, ![8, 6144]⟩
abbrev S1024x2048 : Shape := ⟨2, ![1024, 2048]⟩
abbrev S2048 : Shape := ⟨1, ![2048]⟩
abbrev S48x1x1024 : Shape := ⟨3, ![48, 1, 1024]⟩
abbrev S1x1024 : Shape := ⟨2, ![1, 1024]⟩
abbrev S1x2048 : Shape := ⟨2, ![1, 2048]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x2048 : Shape := ⟨2, ![256, 2048]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x6144, .f32⟩
  | .hbm, ⟨3, _⟩ => ⟨S1024x2048, .f32⟩
  | .hbm, ⟨4, _⟩ => ⟨S2048, .f32⟩
  | .hbm, ⟨5, _⟩ => ⟨S48x1x1024, .f32⟩
  | .hbm, ⟨6, _⟩ => ⟨S1x1024, .f32⟩
  | .hbm, ⟨7, _⟩ => ⟨S1024x2048, .bf16⟩
  | .hbm, ⟨8, _⟩ => ⟨S1x2048, .f32⟩
  | .hbm, ⟨9, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1x2048, .f32⟩
  | .local _ .vmem, ⟨9, _⟩ => ⟨S256x1024, .f32⟩
  | .local _ .vmem, ⟨10, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c0_i32_5 : BitVec 32 := 0#32
  let v19 : BitVec 32 := Scalar.addi v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c1_i32_5 : BitVec 32 := 1#32
  let v19 : BitVec 32 := Scalar.addi v18 c1_i32_5
  let c0_i32_6 : BitVec 32 := 0#32
  let c0_i32_7 : BitVec 32 := 0#32
  let c0_i32_8 : BitVec 32 := 0#32
  ![v19.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GluReferenceIdeal.lean ====
abbrev S8192x1024 : Shape := ⟨2, ![8192, 1024]⟩
abbrev S1024 : Shape := ⟨1, ![1024]⟩
abbrev S8x6144 : Shape := ⟨2, ![8, 6144]⟩
abbrev S1024x2048 : Shape := ⟨2, ![1024, 2048]⟩
abbrev S2048 : Shape := ⟨1, ![2048]⟩
abbrev S4x6144 : Shape := ⟨2, ![4, 6144]⟩
abbrev S4x1x6x1024 : Shape := ⟨4, ![4, 1, 6, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S4x2048x2048 : Shape := ⟨3, ![4, 2048, 2048]⟩
abbrev S1x1x2048 : Shape := ⟨3, ![1, 1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x6144, .f32⟩
  | .hbm, ⟨3, _⟩ => ⟨S1024x2048, .f32⟩
  | .hbm, ⟨4, _⟩ => ⟨S2048, .f32⟩
  | .hbm, ⟨5, _⟩ => ⟨S4x6144, .f32⟩
  | .hbm, ⟨6, _⟩ => ⟨S4x1x6x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x1x1x1024, .f32⟩
  | .hbm, ⟨25, _⟩ => ⟨S4x1x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x2048x1024, .f32⟩
  | .hbm, ⟨30, _⟩ => ⟨S4x2048x1024, .f32⟩
  | .hbm, ⟨31, _⟩ => ⟨S4x1x1x1024, .f32⟩
  | .hbm, ⟨32, _⟩ => ⟨S4x1x1024, .f32⟩
  | .hbm, ⟨33, _⟩ => ⟨S4x2048x1024, .f32⟩
  | .hbm, ⟨34, _⟩ => ⟨S4x2048x1024, .f32⟩
  | .hbm, ⟨35, _⟩ => ⟨S4x2048x2048, .f32⟩
  | .hbm, ⟨36, _⟩ => ⟨S1x1x2048, .f32⟩
  | .hbm, ⟨37, _⟩ => ⟨S4x2048x2048, .f32⟩
  | .hbm, ⟨38, _⟩ => ⟨S4x2048x2048, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S_, .f32⟩
  | .hbm, ⟨44, _⟩ => ⟨S4x2048x1024, .f32⟩
  | .hbm, ⟨45, _⟩ => ⟨S4x2048x1024, .f32⟩
  | .hbm, ⟨46, _⟩ => ⟨S_, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== PlainKernel.lean ====
abbrev S8192x1024 : Shape := ⟨2, ![8192, 1024]⟩
abbrev S1024 : Shape := ⟨1, ![1024]⟩
abbrev S8x6144 : Shape := ⟨2, ![8, 6144]⟩
abbrev S1024x3072 : Shape := ⟨2, ![1024, 3072]⟩
abbrev S3072 : Shape := ⟨1, ![3072]⟩
abbrev S48x1x1024 : Shape := ⟨3, ![48, 1, 1024]⟩
abbrev S1x1024 : Shape := ⟨2, ![1, 1024]⟩
abbrev S1x3072 : Shape := ⟨2, ![1, 3072]⟩
abbrev S8192x3072 : Shape := ⟨2, ![8192, 3072]⟩
abbrev S256x1024 : Shape := ⟨2, ![256, 1024]⟩
abbrev S1x1x1024 : Shape := ⟨3, ![1, 1, 1024]⟩
abbrev S256x3072 : Shape := ⟨2, ![256, 3072]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x6144, .f32⟩
  | .hbm, ⟨3, _⟩ => ⟨S1024x3072, .f32⟩
  | .hbm, ⟨4, _⟩ => ⟨S3072, .f32⟩
  | .hbm, ⟨5, _⟩ => ⟨S48x1x1024, .f32⟩
  | .hbm, ⟨6, _⟩ => ⟨S1x1024, .f32⟩
  | .hbm, ⟨7, _⟩ => ⟨S1024x3072, .bf16⟩
  | .hbm, ⟨8, _⟩ => ⟨S1x3072, .f32⟩
  | .hbm, ⟨9, _⟩ => ⟨S8192x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1x3072, .f32⟩
  | .local _ .vmem, ⟨9, _⟩ => ⟨S256x3072, .f32⟩
  | .local _ .vmem, ⟨10, _⟩ => ⟨S256x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c0_i32_5 : BitVec 32 := 0#32
  let v19 : BitVec 32 := Scalar.addi v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c1_i32_5 : BitVec 32 := 1#32
  let v19 : BitVec 32 := Scalar.addi v18 c1_i32_5
  let c0_i32_6 : BitVec 32 := 0#32
  let c0_i32_7 : BitVec 32 := 0#32
  let c0_i32_8 : BitVec 32 := 0#32
  ![v19.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PlainReferenceIdeal.lean ====
abbrev S8192x1024 : Shape := ⟨2, ![8192, 1024]⟩
abbrev S1024 : Shape := ⟨1, ![1024]⟩
abbrev S8x6144 : Shape := ⟨2, ![8, 6144]⟩
abbrev S1024x3072 : Shape := ⟨2, ![1024, 3072]⟩
abbrev S3072 : Shape := ⟨1, ![3072]⟩
abbrev S4x6144 : Shape := ⟨2, ![4, 6144]⟩
abbrev S4x1x6x1024 : Shape := ⟨4, ![4, 1, 6, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S4x2048x3072 : Shape := ⟨3, ![4, 2048, 3072]⟩
abbrev S1x1x3072 : Shape := ⟨3, ![1, 1, 3072]⟩
abbrev S8192x3072 : Shape := ⟨2, ![8192, 3072]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x6144, .f32⟩
  | .hbm, ⟨3, _⟩ => ⟨S1024x3072, .f32⟩
  | .hbm, ⟨4, _⟩ => ⟨S3072, .f32⟩
  | .hbm, ⟨5, _⟩ => ⟨S4x6144, .f32⟩
  | .hbm, ⟨6, _⟩ => ⟨S4x1x6x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x1x1x1024, .f32⟩
  | .hbm, ⟨25, _⟩ => ⟨S4x1x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x2048x1024, .f32⟩
  | .hbm, ⟨30, _⟩ => ⟨S4x2048x1024, .f32⟩
  | .hbm, ⟨31, _⟩ => ⟨S4x1x1x1024, .f32⟩
  | .hbm, ⟨32, _⟩ => ⟨S4x1x1024, .f32⟩
  | .hbm, ⟨33, _⟩ => ⟨S4x2048x1024, .f32⟩
  | .hbm, ⟨34, _⟩ => ⟨S4x2048x1024, .f32⟩
  | .hbm, ⟨35, _⟩ => ⟨S4x2048x3072, .f32⟩
  | .hbm, ⟨36, _⟩ => ⟨S1x1x3072, .f32⟩
  | .hbm, ⟨37, _⟩ => ⟨S4x2048x3072, .f32⟩
  | .hbm, ⟨38, _⟩ => ⟨S4x2048x3072, .f32⟩
  | .hbm, ⟨39, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== OutKernel.lean ====
abbrev S8192x1024 : Shape := ⟨2, ![8192, 1024]⟩
abbrev S1024x1024 : Shape := ⟨2, ![1024, 1024]⟩
abbrev S1024 : Shape := ⟨1, ![1024]⟩
abbrev S8x6144 : Shape := ⟨2, ![8, 6144]⟩
abbrev S1x1024 : Shape := ⟨2, ![1, 1024]⟩
abbrev S48x1x1024 : Shape := ⟨3, ![48, 1, 1024]⟩
abbrev S256x1024 : Shape := ⟨2, ![256, 1024]⟩
abbrev S1x1x1024 : Shape := ⟨3, ![1, 1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S8x6144, .f32⟩
  | .hbm, ⟨5, _⟩ => ⟨S1024x1024, .bf16⟩
  | .hbm, ⟨6, _⟩ => ⟨S1x1024, .f32⟩
  | .hbm, ⟨7, _⟩ => ⟨S48x1x1024, .f32⟩
  | .hbm, ⟨8, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1x1x1024, .f32⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c2_i32 : BitVec 32 := 2#32
  let v19 : BitVec 32 := Scalar.addi v18 c2_i32
  let c0_i32_5 : BitVec 32 := 0#32
  let c0_i32_6 : BitVec 32 := 0#32
  let c0_i32_7 : BitVec 32 := 0#32
  ![v19.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S8192x1024 : Shape := ⟨2, ![8192, 1024]⟩
abbrev S1024x1024 : Shape := ⟨2, ![1024, 1024]⟩
abbrev S1024 : Shape := ⟨1, ![1024]⟩
abbrev S8x6144 : Shape := ⟨2, ![8, 6144]⟩
abbrev S4x6144 : Shape := ⟨2, ![4, 6144]⟩
abbrev S4x1x6x1024 : Shape := ⟨4, ![4, 1, 6, 1024]⟩
abbrev S4x2048x1024 : Shape := ⟨3, ![4, 2048, 1024]⟩
abbrev S1x1x1024 : Shape := ⟨3, ![1, 1, 1024]⟩
abbrev S4x1x1x1024 : Shape := ⟨4, ![4, 1, 1, 1024]⟩
abbrev S4x1x1024 : Shape := ⟨3, ![4, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S8x6144, .f32⟩
  | .hbm, ⟨5, _⟩ => ⟨S4x6144, .f32⟩
  | .hbm, ⟨6, _⟩ => ⟨S4x1x6x1024, .f32⟩
  | .hbm, ⟨7, _⟩ => ⟨S4x2048x1024, .f32⟩
  | .hbm, ⟨8, _⟩ => ⟨S4x2048x1024, .f32⟩
  | .hbm, ⟨9, _⟩ => ⟨S1x1x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x1x1x1024, .f32⟩
  | .hbm, ⟨14, _⟩ => ⟨S4x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== RouterKernel.lean ====
abbrev S8192x1024 : Shape := ⟨2, ![8192, 1024]⟩
abbrev S1024 : Shape := ⟨1, ![1024]⟩
abbrev S8x6144 : Shape := ⟨2, ![8, 6144]⟩
abbrev S1024x16 : Shape := ⟨2, ![1024, 16]⟩
abbrev S1x1024 : Shape := ⟨2, ![1, 1024]⟩
abbrev S48x1x1024 : Shape := ⟨3, ![48, 1, 1024]⟩
abbrev S16x1024 : Shape := ⟨2, ![16, 1024]⟩
abbrev S4x16x2048 : Shape := ⟨3, ![4, 16, 2048]⟩
abbrev S256x1024 : Shape := ⟨2, ![256, 1024]⟩
abbrev S1x1x1024 : Shape := ⟨3, ![1, 1, 1024]⟩
abbrev S1x16x256 : Shape := ⟨3, ![1, 16, 256]⟩
abbrev S256 : Shape := ⟨1, ![256]⟩
abbrev S256x1 : Shape := ⟨2, ![256, 1]⟩
abbrev S16x256 : Shape := ⟨2, ![16, 256]⟩
abbrev S1x256 : Shape := ⟨2, ![1, 256]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x6144, .f32⟩
  | .hbm, ⟨3, _⟩ => ⟨S1024x16, .f32⟩
  | .hbm, ⟨4, _⟩ => ⟨S1x1024, .f32⟩
  | .hbm, ⟨5, _⟩ => ⟨S48x1x1024, .f32⟩
  | .hbm, ⟨6, _⟩ => ⟨S16x1024, .f32⟩
  | .hbm, ⟨7, _⟩ => ⟨S8192x1024, .bf16⟩
  | .hbm, ⟨8, _⟩ => ⟨S4x16x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S16x1024, .f32⟩
  | .local _ .vmem, ⟨8, _⟩ => ⟨S256x1024, .bf16⟩
  | .local _ .vmem, ⟨9, _⟩ => ⟨S256x1024, .bf16⟩
  | .local _ .vmem, ⟨10, _⟩ => ⟨S1x16x256, .f32⟩
  | .local _ .vmem, ⟨11, _⟩ => ⟨S1x16x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c3_i32 : BitVec 32 := 3#32
  let v19 : BitVec 32 := Scalar.addi v18 c3_i32
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c4_i32 : BitVec 32 := 4#32
  let v19 : BitVec 32 := Scalar.addi v18 c4_i32
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RouterReferenceIdeal.lean ====
abbrev S8192x1024 : Shape := ⟨2, ![8192, 1024]⟩
abbrev S1024 : Shape := ⟨1, ![1024]⟩
abbrev S8x6144 : Shape := ⟨2, ![8, 6144]⟩
abbrev S1024x16 : Shape := ⟨2, ![1024, 16]⟩
abbrev S4x6144 : Shape := ⟨2, ![4, 6144]⟩
abbrev S4x1x6x1024 : Shape := ⟨4, ![4, 1, 6, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S4x2048x16 : Shape := ⟨3, ![4, 2048, 16]⟩
abbrev S4x16x2048 : Shape := ⟨3, ![4, 16, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x6144, .f32⟩
  | .hbm, ⟨3, _⟩ => ⟨S1024x16, .f32⟩
  | .hbm, ⟨4, _⟩ => ⟨S4x6144, .f32⟩
  | .hbm, ⟨5, _⟩ => ⟨S4x1x6x1024, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x1x1x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x2048x1024, .f32⟩
  | .hbm, ⟨29, _⟩ => ⟨S4x2048x1024, .f32⟩
  | .hbm, ⟨30, _⟩ => ⟨S4x1x1x1024, .f32⟩
  | .hbm, ⟨31, _⟩ => ⟨S4x1x1024, .f32⟩
  | .hbm, ⟨32, _⟩ => ⟨S4x2048x1024, .f32⟩
  | .hbm, ⟨33, _⟩ => ⟨S4x2048x1024, .f32⟩
  | .hbm, ⟨34, _⟩ => ⟨S4x2048x16, .f32⟩
  | .hbm, ⟨35, _⟩ => ⟨S_, .f32⟩
  | .hbm, ⟨36, _⟩ => ⟨S4x2048, .f32⟩
  | .hbm, ⟨37, _⟩ => ⟨S_, .f32⟩
  | .hbm, ⟨38, _⟩ => ⟨S4x2048, .f32⟩
  | .hbm, ⟨39, _⟩ => ⟨S4x2048, .f32⟩
  | .hbm, ⟨40, _⟩ => ⟨S4x2048x1, .f32⟩
  | .hbm, ⟨41, _⟩ => ⟨S4x2048x16, .f32⟩
  | .hbm, ⟨42, _⟩ => ⟨S4x2048x16, .f32⟩
  | .hbm, ⟨43, _⟩ => ⟨S4x2048x16, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S4x2048x16, .f32⟩
  | .hbm, ⟨48, _⟩ => ⟨S4x2048x16, .f32⟩
  | .hbm, ⟨49, _⟩ => ⟨S8192x1024, .f32⟩
  | .hbm, ⟨50, _⟩ => ⟨S8192x1024, .bf16⟩
  | .hbm, ⟨51, _⟩ => ⟨S4x16x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== PromptKernel.lean ====
abbrev S512x256 : Shape := ⟨2, ![512, 256]⟩
abbrev S16x1024x1024 : Shape := ⟨3, ![16, 1024, 1024]⟩
abbrev S8192x1024 : Shape := ⟨2, ![8192, 1024]⟩
abbrev S8x6144 : Shape := ⟨2, ![8, 6144]⟩
abbrev S1024 : Shape := ⟨1, ![1024]⟩
abbrev S32x16x256 : Shape := ⟨3, ![32, 16, 256]⟩
abbrev S48x1x1024 : Shape := ⟨3, ![48, 1, 1024]⟩
abbrev S1x1024 : Shape := ⟨2, ![1, 1024]⟩
abbrev S1x16x256 : Shape := ⟨3, ![1, 16, 256]⟩
abbrev S16x32x1024 : Shape := ⟨3, ![16, 32, 1024]⟩
abbrev S256x1024 : Shape := ⟨2, ![256, 1024]⟩
abbrev S1x1x1024 : Shape := ⟨3, ![1, 1, 1024]⟩
abbrev S16x256 : Shape := ⟨2, ![16, 256]⟩
abbrev S32x256 : Shape := ⟨2, ![32, 256]⟩
abbrev S1x256 : Shape := ⟨2, ![1, 256]⟩
abbrev S512x1024 : Shape := ⟨2, ![512, 1024]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S512x256, .i32⟩
  | .hbm, ⟨1, _⟩ => ⟨S16x1024x1024, .bf16⟩
  | .hbm, ⟨2, _⟩ => ⟨S8192x1024, .f32⟩
  | .hbm, ⟨3, _⟩ => ⟨S8x6144, .f32⟩
  | .hbm, ⟨4, _⟩ => ⟨S1024, .f32⟩
  | .hbm, ⟨5, _⟩ => ⟨S32x16x256, .i32⟩
  | .hbm, ⟨6, _⟩ => ⟨S48x1x1024, .f32⟩
  | .hbm, ⟨7, _⟩ => ⟨S1x1024, .f32⟩
  | .hbm, ⟨8, _⟩ => ⟨S8192x1024, .f32⟩
  | .local _ .vmem, ⟨0, _⟩ => ⟨S1x16x256, .i32⟩
  | .local _ .vmem, ⟨1, _⟩ => ⟨S1x16x256, .i32⟩
  | .local _ .vmem, ⟨2, _⟩ => ⟨S16x32x1024, .bf16⟩
  | .local _ .vmem, ⟨3, _⟩ => ⟨S16x32x1024, .bf16⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S512x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_42 : BitVec 32 := 0#32
  let v112 : BitVec 1 := Scalar.cmpi .eq arg2 c0_i32_42
  let v113 : BitVec 32 := Scalar.extui v112
  let c0_i32_43 : BitVec 32 := 0#32
  let v114 : BitVec 1 := Scalar.cmpi .ne v113 c0_i32_43
  v114

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![v1.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x16x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== PromptReferenceIdeal.lean ====
abbrev S512x256 : Shape := ⟨2, ![512, 256]⟩
abbrev S16x1024x1024 : Shape := ⟨3, ![16, 1024, 1024]⟩
abbrev S8192x1024 : Shape := ⟨2, ![8192, 1024]⟩
abbrev S8x6144 : Shape := ⟨2, ![8, 6144]⟩
abbrev S1024 : Shape := ⟨1, ![1024]⟩
abbrev S1x6144 : Shape := ⟨2, ![1, 6144]⟩
abbrev S1x1x6x1024 : Shape := ⟨4, ![1, 1, 6, 1024]⟩
abbrev S32x256x1024 : Shape := ⟨3, ![32, 256, 1024]⟩
abbrev S1x1x1x1024 : Shape := ⟨4, ![1, 1, 1, 1024]⟩
abbrev S1x1x1024 : Shape := ⟨3, ![1, 1, 1024]⟩
abbrev S32x16x256 : Shape := ⟨3, ![32, 16, 256]⟩
abbrev S16x32x32x1024 : Shape := ⟨4, ![16, 32, 32, 1024]⟩
abbrev S32x16x32x1024 : Shape := ⟨4, ![32, 16, 32, 1024]⟩
abbrev S_ : Shape := ⟨0, ![]⟩
abbrev S32x16x256x1 : Shape := ⟨4, ![32, 16, 256, 1]⟩
abbrev S32x16x256x1024 : Shape := ⟨4, ![32, 16, 256, 1024]⟩
abbrev S32x256 : Shape := ⟨2, ![32, 256]⟩
abbrev S32x256x1 : Shape := ⟨3, ![32, 256, 1]⟩

abbrev nBuf : Space → Nat
  | .hbm => 66
  | .vmem => 0
  | .smem => 0
  | _ => 0

abbrev bufTy : (tb : Table) → Fin (tcTables nBuf tb) → BufTy
  | .hbm, ⟨0, _⟩ => ⟨S512x256, .i32⟩
  | .hbm, ⟨1, _⟩ => ⟨S16x1024x1024, .bf16⟩
  | .hbm, ⟨2, _⟩ => ⟨S8192x1024, .f32⟩
  | .hbm, ⟨3, _⟩ => ⟨S8x6144, .f32⟩
  | .hbm, ⟨4, _⟩ => ⟨S1024, .f32⟩
  | .hbm, ⟨5, _⟩ => ⟨S1x6144, .f32⟩
  | .hbm, ⟨6, _⟩ => ⟨S1x1x6x1024, .f32⟩
  | .hbm, ⟨7, _⟩ => ⟨S32x256x1024, .f32⟩
  | .hbm, ⟨8, _⟩ => ⟨S1x1x1x1024, .f32⟩
  | .hbm, ⟨9, _⟩ => ⟨S1x1x1024, .f32⟩
  | .hbm, ⟨10, _⟩ => ⟨S32x16x256, .i32⟩
  | .hbm, ⟨11, _⟩ => ⟨S16x1024x1024, .f32⟩
  | .hbm, ⟨12, _⟩ => ⟨S16x32x32x1024, .f32⟩
  | .hbm, ⟨13, _⟩ => ⟨S32x16x32x1024, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S32x16x256, .i32⟩
  | .hbm, ⟨18, _⟩ => ⟨S32x16x256, .i32⟩
  | .hbm, ⟨19, _⟩ => ⟨S_, .i32⟩
  | .hbm, ⟨20, _⟩ => ⟨S32x16x256, .i32⟩
  | .hbm, ⟨21, _⟩ => ⟨S32x16x256, .i32⟩
  | .hbm, ⟨22, _⟩ => ⟨S_, .i32⟩
  | .hbm, ⟨23, _⟩ => ⟨S32x16x256, .i32⟩
  | .hbm, ⟨24, _⟩ => ⟨S32x16x256, .i1⟩
  | .hbm, ⟨25, _⟩ => ⟨S_, .i32⟩
  | .hbm, ⟨26, _⟩ => ⟨S32x16x256, .i32⟩
  | .hbm, ⟨27, _⟩ => ⟨S32x16x256, .i32⟩
  | .hbm, ⟨28, _⟩ => ⟨S32x16x256, .i32⟩
  | .hbm, ⟨29, _⟩ => ⟨S32x16x256x1, .i32⟩
  | .hbm, ⟨30, _⟩ => ⟨S32x16x256x1024, .f32⟩
  | .hbm, ⟨31, _⟩ => ⟨S_, .i32⟩
  | .hbm, ⟨32, _⟩ => ⟨S32x16x256, .i32⟩
  | .hbm, ⟨33, _⟩ => ⟨S32x16x256, .i1⟩
  | .hbm, ⟨34, _⟩ => ⟨S_, .i32⟩
  | .hbm, ⟨35, _⟩ => ⟨S32x16x256, .i32⟩
  | .hbm, ⟨36, _⟩ => ⟨S32x16x256, .i1⟩
  | .hbm, ⟨37, _⟩ => ⟨S32x16x256, .i1⟩
  | .hbm, ⟨38, _⟩ => ⟨S32x16x256x1, .i1⟩
  | .hbm, ⟨39, _⟩ => ⟨S_, .f32⟩
  | .hbm, ⟨40, _⟩ => ⟨S_, .f32⟩
  | .hbm, ⟨41, _⟩ => ⟨S32x16x256x1024, .i1⟩
  | .hbm, ⟨42, _⟩ => ⟨S32x16x256x1024, .f32⟩
  | .hbm, ⟨43, _⟩ => ⟨S32x16x256x1024, .f32⟩
  | .hbm, ⟨44, _⟩ => ⟨S_, .f32⟩
  | .hbm, ⟨45, _⟩ => ⟨S32x256x1024, .f32⟩
  | .hbm, ⟨46, _⟩ => ⟨S32x256x1024, .f32⟩
  | .hbm, ⟨47, _⟩ => ⟨S32x256x1024, .f32⟩
  | .hbm, ⟨48, _⟩ => ⟨S32x256x1024, .f32⟩
  | .hbm, ⟨49, _⟩ => ⟨S32x256x1024, .f32⟩
  | .hbm, ⟨50, _⟩ => ⟨S_, .f32⟩
  | .hbm, ⟨51, _⟩ => ⟨S32x256, .f32⟩
  | .hbm, ⟨52, _⟩ => ⟨S32x256x1, .f32⟩
  | .hbm, ⟨53, _⟩ => ⟨S_, .f32⟩
  | .hbm, ⟨54, _⟩ => ⟨S32x256x1, .f32⟩
  | .hbm, ⟨55, _⟩ => ⟨S32x256x1, .f32⟩
  | .hbm, ⟨56, _⟩ => ⟨S_, .f32⟩
  | .hbm, ⟨57, _⟩ => ⟨S32x256x1, .f32⟩
  | .hbm, ⟨58, _⟩ => ⟨S32x256x1, .f32⟩
  | .hbm, ⟨59, _⟩ => ⟨S32x256x1, .f32⟩
  | .hbm, ⟨60, _⟩ => ⟨S32x256x1024, .f32⟩
  | .hbm, ⟨61, _⟩ => ⟨S32x256x1024, .f32⟩
  | .hbm, ⟨62, _⟩ => ⟨S1x1x1024, .f32⟩
  | .hbm, ⟨63, _⟩ => ⟨S32x256x1024, .f32⟩
  | .hbm, ⟨64, _⟩ => ⟨S32x256x1024, .f32⟩
  | .hbm, ⟨65, _⟩ => ⟨S8192x1024, .f32⟩
  | _, _ => ⟨S512x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== SampleKernel.lean ====
abbrev S64x2048 : Shape := ⟨2, ![64, 2048]⟩
abbrev S16x1024x1024 : Shape := ⟨3, ![16, 1024, 1024]⟩
abbrev S8192x1024 : Shape := ⟨2, ![8192, 1024]⟩
abbrev S8x6144 : Shape := ⟨2, ![8, 6144]⟩
abbrev S1024 : Shape := ⟨1, ![1024]⟩
abbrev S32x2x2048 : Shape := ⟨3, ![32, 2, 2048]⟩
abbrev S48x1x1024 : Shape := ⟨3, ![48, 1, 1024]⟩
abbrev S1x1024 : Shape := ⟨2, ![1, 1024]⟩
abbrev S1x2x1024 : Shape := ⟨3, ![1, 2, 1024]⟩
abbrev S2x256x1024 : Shape := ⟨3, ![2, 256, 1024]⟩
abbrev S1024x1024 : Shape := ⟨2, ![1024, 1024]⟩
abbrev S1x1x1024 : Shape := ⟨3, ![1, 1, 1024]⟩
abbrev S2x1024 : Shape := ⟨2, ![2, 1024]⟩
abbrev S256x1024 : Shape := ⟨2, ![256, 1024]⟩
abbrev S512x1024 : Shape := ⟨2, ![512, 1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S64x2048, .i32⟩
  | .hbm, ⟨1, _⟩ => ⟨S16x1024x1024, .bf16⟩
  | .hbm, ⟨2, _⟩ => ⟨S8192x1024, .f32⟩
  | .hbm, ⟨3, _⟩ => ⟨S8x6144, .f32⟩
  | .hbm, ⟨4, _⟩ => ⟨S1024, .f32⟩
  | .hbm, ⟨5, _⟩ => ⟨S32x2x2048, .i32⟩
  | .hbm, ⟨6, _⟩ => ⟨S48x1x1024, .f32⟩
  | .hbm, ⟨7, _⟩ => ⟨S1x1024, .f32⟩
  | .hbm, ⟨8, _⟩ => ⟨S8192x1024, .f32⟩
  | .local _ .vmem, ⟨0, _⟩ => ⟨S1x2x1024, .i32⟩
  | .local _ .vmem, ⟨1, _⟩ => ⟨S1x2x1024, .i32⟩
  | .local _ .vmem, ⟨2, _⟩ => ⟨S2x256x1024, .bf16⟩
  | .local _ .vmem, ⟨3, _⟩ => ⟨S2x256x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S64x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v28 : BitVec 1 := Scalar.cmpi .eq arg2 c7_i32
  let v29 : BitVec 32 := Scalar.extui v28
  let c0_i32_14 : BitVec 32 := 0#32
  let v30 : BitVec 1 := Scalar.cmpi .ne v29 c0_i32_14
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi c1_i32_5 v16
  let c6_i32 : BitVec 32 := 6#32
  let v18 : BitVec 32 := Scalar.muli v17 c6_i32
  let c5_i32 : BitVec 32 := 5#32
  let v19 : BitVec 32 := Scalar.addi v18 c5_i32
  let c0_i32_6 : BitVec 32 := 0#32
  let c0_i32_7 : BitVec 32 := 0#32
  let c0_i32_8 : BitVec 32 := 0#32
  ![v19.toNat, c0_i32_6.toNat, c0_i32_7.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x2x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SampleReferenceIdeal.lean ====
abbrev S64x2048 : Shape := ⟨2, ![64, 2048]⟩
abbrev S16x1024x1024 : Shape := ⟨3, ![16, 1024, 1024]⟩
abbrev S8192x1024 : Shape := ⟨2, ![8192, 1024]⟩
abbrev S8x6144 : Shape := ⟨2, ![8, 6144]⟩
abbrev S1024 : Shape := ⟨1, ![1024]⟩
abbrev S4x6144 : Shape := ⟨2, ![4, 6144]⟩
abbrev S4x1x6x1024 : Shape := ⟨4, ![4, 1, 6, 1024]⟩
abbrev S4x2048x1024 : Shape := ⟨3, ![4, 2048, 1024]⟩
abbrev S4x1x1x1024 : Shape := ⟨4, ![4, 1, 1, 1024]⟩
abbrev S4x1x1024 : Shape := ⟨3, ![4, 1, 1024]⟩
abbrev S4x16x2048 : Shape := ⟨3, ![4, 16, 2048]⟩
abbrev S16x4x256x1024 : Shape := ⟨4, ![16, 4, 256, 1024]⟩
abbrev S4x16x256x1024 : Shape := ⟨4, ![4, 16, 256, 1024]⟩
abbrev S_ : Shape := ⟨0, ![]⟩
abbrev S4x16x2048x1 : Shape := ⟨4, ![4, 16, 2048, 1]⟩
abbrev S4x16x2048x1024 : Shape := ⟨4, ![4, 16, 2048, 1024]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S64x2048, .i32⟩
  | .hbm, ⟨1, _⟩ => ⟨S16x1024x1024, .bf16⟩
  | .hbm, ⟨2, _⟩ => ⟨S8192x1024, .f32⟩
  | .hbm, ⟨3, _⟩ => ⟨S8x6144, .f32⟩
  | .hbm, ⟨4, _⟩ => ⟨S1024, .f32⟩
  | .hbm, ⟨5, _⟩ => ⟨S4x6144, .f32⟩
  | .hbm, ⟨6, _⟩ => ⟨S4x1x6x1024, .f32⟩
  | .hbm, ⟨7, _⟩ => ⟨S4x2048x1024, .f32⟩
  | .hbm, ⟨8, _⟩ => ⟨S4x1x1x1024, .f32⟩
  | .hbm, ⟨9, _⟩ => ⟨S4x1x1024, .f32⟩
  | .hbm, ⟨10, _⟩ => ⟨S4x16x2048, .i32⟩
  | .hbm, ⟨11, _⟩ => ⟨S16x1024x1024, .f32⟩
  | .hbm, ⟨12, _⟩ => ⟨S16x4x256x1024, .f32⟩
  | .hbm, ⟨13, _⟩ => ⟨S4x16x256x1024, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S4x16x2048, .i32⟩
  | .hbm, ⟨18, _⟩ => ⟨S4x16x2048, .i32⟩
  | .hbm, ⟨19, _⟩ => ⟨S_, .i32⟩
  | .hbm, ⟨20, _⟩ => ⟨S4x16x2048, .i32⟩
  | .hbm, ⟨21, _⟩ => ⟨S4x16x2048, .i32⟩
  | .hbm, ⟨22, _⟩ => ⟨S_, .i32⟩
  | .hbm, ⟨23, _⟩ => ⟨S4x16x2048, .i32⟩
  | .hbm, ⟨24, _⟩ => ⟨S4x16x2048, .i1⟩
  | .hbm, ⟨25, _⟩ => ⟨S_, .i32⟩
  | .hbm, ⟨26, _⟩ => ⟨S4x16x2048, .i32⟩
  | .hbm, ⟨27, _⟩ => ⟨S4x16x2048, .i32⟩
  | .hbm, ⟨28, _⟩ => ⟨S4x16x2048, .i32⟩
  | .hbm, ⟨29, _⟩ => ⟨S4x16x2048x1, .i32⟩
  | .hbm, ⟨30, _⟩ => ⟨S4x16x2048x1024, .f32⟩
  | .hbm, ⟨31, _⟩ => ⟨S_, .i32⟩
  | .hbm, ⟨32, _⟩ => ⟨S4x16x2048, .i32⟩
  | .hbm, ⟨33, _⟩ => ⟨S4x16x2048, .i1⟩
  | .hbm, ⟨34, _⟩ => ⟨S_, .i32⟩
  | .hbm, ⟨35, _⟩ => ⟨S4x16x2048, .i32⟩
  | .hbm, ⟨36, _⟩ => ⟨S4x16x2048, .i1⟩
  | .hbm, ⟨37, _⟩ => ⟨S4x16x2048, .i1⟩
  | .hbm, ⟨38, _⟩ => ⟨S4x16x2048x1, .i1⟩
  | .hbm, ⟨39, _⟩ => ⟨S_, .f32⟩
  | .hbm, ⟨40, _⟩ => ⟨S_, .f32⟩
  | .hbm, ⟨41, _⟩ => ⟨S4x16x2048x1024, .i1⟩
  | .hbm, ⟨42, _⟩ => ⟨S4x16x2048x1024, .f32⟩
  | .hbm, ⟨43, _⟩ => ⟨S4x16x2048x1024, .f32⟩
  | .hbm, ⟨44, _⟩ => ⟨S_, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x2048, .f32⟩
  | .hbm, ⟨52, _⟩ => ⟨S4x2048x1, .f32⟩
  | .hbm, ⟨53, _⟩ => ⟨S_, .f32⟩
  | .hbm, ⟨54, _⟩ => ⟨S4x2048x1, .f32⟩
  | .hbm, ⟨55, _⟩ => ⟨S4x2048x1, .f32⟩
  | .hbm, ⟨56, _⟩ => ⟨S_, .f32⟩
  | .hbm, ⟨57, _⟩ => ⟨S4x2048x1, .f32⟩
  | .hbm, ⟨58, _⟩ => ⟨S4x2048x1, .f32⟩
  | .hbm, ⟨59, _⟩ => ⟨S4x2048x1, .f32⟩
  | .hbm, ⟨60, _⟩ => ⟨S4x2048x1024, .f32⟩
  | .hbm, ⟨61, _⟩ => ⟨S4x2048x1024, .f32⟩
  | .hbm, ⟨62, _⟩ => ⟨S1x1x1024, .f32⟩
  | .hbm, ⟨63, _⟩ => ⟨S4x2048x1024, .f32⟩
  | .hbm, ⟨64, _⟩ => ⟨S4x2048x1024, .f32⟩
  | .hbm, ⟨65, _⟩ => ⟨S8192x1024, .f32⟩
  | _, _ => ⟨S64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== ConvKernel.lean ====
abbrev S8192x1024 : Shape := ⟨2, ![8192, 1024]⟩
abbrev S31x1024 : Shape := ⟨2, ![31, 1024]⟩
abbrev S1024 : Shape := ⟨1, ![1024]⟩
abbrev S1024x1024 : Shape := ⟨2, ![1024, 1024]⟩
abbrev S8x6144 : Shape := ⟨2, ![8, 6144]⟩
abbrev S1x1024 : Shape := ⟨2, ![1, 1024]⟩
abbrev S48x1x1024 : Shape := ⟨3, ![48, 1, 1024]⟩
abbrev S16x1024 : Shape := ⟨2, ![16, 1024]⟩
abbrev S256x1024 : Shape := ⟨2, ![256, 1024]⟩
abbrev S1x1x1024 : Shape := ⟨3, ![1, 1, 1024]⟩
abbrev S288x1024 : Shape := ⟨2, ![288, 1024]⟩
abbrev S32x1024 : Shape := ⟨2, ![32, 1024]⟩
abbrev S32 : Shape := ⟨1, ![32]⟩
abbrev S32x1 : Shape := ⟨2, ![32, 1]⟩

abbrev nBuf : Space → Nat
  | .hbm => 16
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S8x6144, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x1024, .bf16⟩
  | .hbm, ⟨13, _⟩ => ⟨S1x1024, .f32⟩
  | .hbm, ⟨14, _⟩ => ⟨S48x1x1024, .f32⟩
  | .hbm, ⟨15, _⟩ => ⟨S8192x1024, .f32⟩
  | .local _ .vmem, ⟨0, _⟩ => ⟨S16x1024, .f32⟩
  | .local _ .vmem, ⟨1, _⟩ => ⟨S16x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S16x1024, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S1x1x1024, .f32⟩
  | .local _ .vmem, ⟨15, _⟩ => ⟨S1x1x1024, .f32⟩
  | .local _ .vmem, ⟨16, _⟩ => ⟨S256x1024, .f32⟩
  | .local _ .vmem, ⟨17, _⟩ => ⟨S256x1024, .f32⟩
  | .local _ .vmem, ⟨18, _⟩ => ⟨S288x1024, .f32⟩
  | .local _ .vmem, ⟨19, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c2_i32 : BitVec 32 := 2#32
  let v19 : BitVec 32 := Scalar.addi v18 c2_i32
  let c0_i32_5 : BitVec 32 := 0#32
  let c0_i32_6 : BitVec 32 := 0#32
  let c0_i32_7 : BitVec 32 := 0#32
  ![v19.toNat, c0_i32_5.toNat, c0_i32_6.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ConvReferenceIdeal.lean ====
abbrev S8192x1024 : Shape := ⟨2, ![8192, 1024]⟩
abbrev S31x1024 : Shape := ⟨2, ![31, 1024]⟩
abbrev S1024 : Shape := ⟨1, ![1024]⟩
abbrev S1024x1024 : Shape := ⟨2, ![1024, 1024]⟩
abbrev S8x6144 : Shape := ⟨2, ![8, 6144]⟩
abbrev S4x2048x1024 : Shape := ⟨3, ![4, 2048, 1024]⟩
abbrev S_ : Shape := ⟨0, ![]⟩
abbrev S4x2078x1024 : Shape := ⟨3, ![4, 2078, 1024]⟩
abbrev S1x1024 : Shape := ⟨2, ![1, 1024]⟩
abbrev S1x1x1024 : Shape := ⟨3, ![1, 1, 1024]⟩
abbrev S4x2048 : Shape := ⟨2, ![4, 2048]⟩
abbrev S4x2048x1 : Shape := ⟨3, ![4, 2048, 1]⟩
abbrev S4x6144 : Shape := ⟨2, ![4, 6144]⟩
abbrev S4x1x6x1024 : Shape := ⟨4, ![4, 1, 6, 1024]⟩
abbrev S4x1x1x1024 : Shape := ⟨4, ![4, 1, 1, 1024]⟩
abbrev S4x1x1024 : Shape := ⟨3, ![4, 1, 1024]⟩

abbrev nBuf : Space → Nat
  | .hbm => 284
  | .vmem => 0
  | .smem => 0
  | _ => 0

abbrev hbmTy0_0 (i : Nat) : BufTy := match i % 128 with
  | 0 => ⟨S8192x1024, .f32⟩
  | 1 => ⟨S31x1024, .f32⟩
  | 2 => ⟨S1024, .f32⟩
  | 3 => ⟨S1024, .f32⟩
  | 4 => ⟨S1024, .f32⟩
  | 5 => ⟨S1024x1024, .f32⟩
  | 6 => ⟨S1024, .f32⟩
  | 7 => ⟨S8192x1024, .f32⟩
  | 8 => ⟨S8x6144, .f32⟩
  | 9 => ⟨S4x2048x1024, .f32⟩
  | 10 => ⟨S_, .i32⟩
  | 11 => ⟨S_, .f32⟩
  | 12 => ⟨S4x2078x1024, .f32⟩
  | 13 => ⟨S4x2048x1024, .f32⟩
  | 14 => ⟨S1x1024, .f32⟩
  | 15 => ⟨S1024, .f32⟩
  | 16 => ⟨S1x1x1024, .f32⟩
  | 17 => ⟨S4x2048x1024, .f32⟩
  | 18 => ⟨S4x2048x1024, .f32⟩
  | 19 => ⟨S_, .f32⟩
  | 20 => ⟨S4x2048x1024, .f32⟩
  | 21 => ⟨S4x2048x1024, .f32⟩
  | 22 => ⟨S4x2048x1024, .f32⟩
  | 23 => ⟨S1x1024, .f32⟩
  | 24 => ⟨S1024, .f32⟩
  | 25 => ⟨S1x1x1024, .f32⟩
  | 26 => ⟨S4x2048x1024, .f32⟩
  | 27 => ⟨S4x2048x1024, .f32⟩
  | 28 => ⟨S4x2048x1024, .f32⟩
  | 29 => ⟨S4x2048x1024, .f32⟩
  | 30 => ⟨S1x1024, .f32⟩
  | 31 => ⟨S1024, .f32⟩
  | 32 => ⟨S1x1x1024, .f32⟩
  | 33 => ⟨S4x2048x1024, .f32⟩
  | 34 => ⟨S4x2048x1024, .f32⟩
  | 35 => ⟨S4x2048x1024, .f32⟩
  | 36 => ⟨S4x2048x1024, .f32⟩
  | 37 => ⟨S1x1024, .f32⟩
  | 38 => ⟨S1024, .f32⟩
  | 39 => ⟨S1x1x1024, .f32⟩
  | 40 => ⟨S4x2048x1024, .f32⟩
  | 41 => ⟨S4x2048x1024, .f32⟩
  | 42 => ⟨S4x2048x1024, .f32⟩
  | 43 => ⟨S4x2048x1024, .f32⟩
  | 44 => ⟨S1x1024, .f32⟩
  | 45 => ⟨S1024, .f32⟩
  | 46 => ⟨S1x1x1024, .f32⟩
  | 47 => ⟨S4x2048x1024, .f32⟩
  | 48 => ⟨S4x2048x1024, .f32⟩
  | 49 => ⟨S4x2048x1024, .f32⟩
  | 50 => ⟨S4x2048x1024, .f32⟩
  | 51 => ⟨S1x1024, .f32⟩
  | 52 => ⟨S1024, .f32⟩
  | 53 => ⟨S1x1x1024, .f32⟩
  | 54 => ⟨S4x2048x1024, .f32⟩
  | 55 => ⟨S4x2048x1024, .f32⟩
  | 56 => ⟨S4x2048x1024, .f32⟩
  | 57 => ⟨S4x2048x1024, .f32⟩
  | 58 => ⟨S1x1024, .f32⟩
  | 59 => ⟨S1024, .f32⟩
  | 60 => ⟨S1x1x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S1x1024, .f32⟩
  | 66 => ⟨S1024, .f32⟩
  | 67 => ⟨S1x1x1024, .f32⟩
  | 68 => ⟨S4x2048x1024, .f32⟩
  | 69 => ⟨S4x2048x1024, .f32⟩
  | 70 => ⟨S4x2048x1024, .f32⟩
  | 71 => ⟨S4x2048x1024, .f32⟩
  | 72 => ⟨S1x1024, .f32⟩
  | 73 => ⟨S1024, .f32⟩
  | 74 => ⟨S1x1x1024, .f32⟩
  | 75 => ⟨S4x2048x1024, .f32⟩
  | 76 => ⟨S4x2048x1024, .f32⟩
  | 77 => ⟨S4x2048x1024, .f32⟩
  | 78 => ⟨S4x2048x1024, .f32⟩
  | 79 => ⟨S1x1024, .f32⟩
  | 80 => ⟨S1024, .f32⟩
  | 81 => ⟨S1x1x1024, .f32⟩
  | 82 => ⟨S4x2048x1024, .f32⟩
  | 83 => ⟨S4x2048x1024, .f32⟩
  | 84 => ⟨S4x2048x1024, .f32⟩
  | 85 => ⟨S4x2048x1024, .f32⟩
  | 86 => ⟨S1x1024, .f32⟩
  | 87 => ⟨S1024, .f32⟩
  | 88 => ⟨S1x1x1024, .f32⟩
  | 89 => ⟨S4x2048x1024, .f32⟩
  | 90 => ⟨S4x2048x1024, .f32⟩
  | 91 => ⟨S4x2048x1024, .f32⟩
  | 92 => ⟨S4x2048x1024, .f32⟩
  | 93 => ⟨S1x1024, .f32⟩
  | 94 => ⟨S1024, .f32⟩
  | 95 => ⟨S1x1x1024, .f32⟩
  | 96 => ⟨S4x2048x1024, .f32⟩
  | 97 => ⟨S4x2048x1024, .f32⟩
  | 98 => ⟨S4x2048x1024, .f32⟩
  | 99 => ⟨S4x2048x1024, .f32⟩
  | 100 => ⟨S1x1024, .f32⟩
  | 101 => ⟨S1024, .f32⟩
  | 102 => ⟨S1x1x1024, .f32⟩
  | 103 => ⟨S4x2048x1024, .f32⟩
  | 104 => ⟨S4x2048x1024, .f32⟩
  | 105 => ⟨S4x2048x1024, .f32⟩
  | 106 => ⟨S4x2048x1024, .f32⟩
  | 107 => ⟨S1x1024, .f32⟩
  | 108 => ⟨S1024, .f32⟩
  | 109 => ⟨S1x1x1024, .f32⟩
  | 110 => ⟨S4x2048x1024, .f32⟩
  | 111 => ⟨S4x2048x1024, .f32⟩
  | 112 => ⟨S4x2048x1024, .f32⟩
  | 113 => ⟨S4x2048x1024, .f32⟩
  | 114 => ⟨S1x1024, .f32⟩
  | 115 => ⟨S1024, .f32⟩
  | 116 => ⟨S1x1x1024, .f32⟩
  | 117 => ⟨S4x2048x1024, .f32⟩
  | 118 => ⟨S4x2048x1024, .f32⟩
  | 119 => ⟨S4x2048x1024, .f32⟩
  | 120 => ⟨S4x2048x1024, .f32⟩
  | 121 => ⟨S1x1024, .f32⟩
  | 122 => ⟨S1024, .f32⟩
  | 123 => ⟨S1x1x1024, .f32⟩
  | 124 => ⟨S4x2048x1024, .f32⟩
  | 125 => ⟨S4x2048x1024, .f32⟩
  | 126 => ⟨S4x2048x1024, .f32⟩
  | 127 => ⟨S4x2048x1024, .f32⟩
  | _ => ⟨S8192x1024, .f32⟩

abbrev hbmTy0_1 (i : Nat) : BufTy := match i % 128 with
  | 0 => ⟨S1x1024, .f32⟩
  | 1 => ⟨S1024, .f32⟩
  | 2 => ⟨S1x1x1024, .f32⟩
  | 3 => ⟨S4x2048x1024, .f32⟩
  | 4 => ⟨S4x2048x1024, .f32⟩
  | 5 => ⟨S4x2048x1024, .f32⟩
  | 6 => ⟨S4x2048x1024, .f32⟩
  | 7 => ⟨S1x1024, .f32⟩
  | 8 => ⟨S1024, .f32⟩
  | 9 => ⟨S1x1x1024, .f32⟩
  | 10 => ⟨S4x2048x1024, .f32⟩
  | 11 => ⟨S4x2048x1024, .f32⟩
  | 12 => ⟨S4x2048x1024, .f32⟩
  | 13 => ⟨S4x2048x1024, .f32⟩
  | 14 => ⟨S1x1024, .f32⟩
  | 15 => ⟨S1024, .f32⟩
  | 16 => ⟨S1x1x1024, .f32⟩
  | 17 => ⟨S4x2048x1024, .f32⟩
  | 18 => ⟨S4x2048x1024, .f32⟩
  | 19 => ⟨S4x2048x1024, .f32⟩
  | 20 => ⟨S4x2048x1024, .f32⟩
  | 21 => ⟨S1x1024, .f32⟩
  | 22 => ⟨S1024, .f32⟩
  | 23 => ⟨S1x1x1024, .f32⟩
  | 24 => ⟨S4x2048x1024, .f32⟩
  | 25 => ⟨S4x2048x1024, .f32⟩
  | 26 => ⟨S4x2048x1024, .f32⟩
  | 27 => ⟨S4x2048x1024, .f32⟩
  | 28 => ⟨S1x1024, .f32⟩
  | 29 => ⟨S1024, .f32⟩
  | 30 => ⟨S1x1x1024, .f32⟩
  | 31 => ⟨S4x2048x1024, .f32⟩
  | 32 => ⟨S4x2048x1024, .f32⟩
  | 33 => ⟨S4x2048x1024, .f32⟩
  | 34 => ⟨S4x2048x1024, .f32⟩
  | 35 => ⟨S1x1024, .f32⟩
  | 36 => ⟨S1024, .f32⟩
  | 37 => ⟨S1x1x1024, .f32⟩
  | 38 => ⟨S4x2048x1024, .f32⟩
  | 39 => ⟨S4x2048x1024, .f32⟩
  | 40 => ⟨S4x2048x1024, .f32⟩
  | 41 => ⟨S4x2048x1024, .f32⟩
  | 42 => ⟨S1x1024, .f32⟩
  | 43 => ⟨S1024, .f32⟩
  | 44 => ⟨S1x1x1024, .f32⟩
  | 45 => ⟨S4x2048x1024, .f32⟩
  | 46 => ⟨S4x2048x1024, .f32⟩
  | 47 => ⟨S4x2048x1024, .f32⟩
  | 48 => ⟨S4x2048x1024, .f32⟩
  | 49 => ⟨S1x1024, .f32⟩
  | 50 => ⟨S1024, .f32⟩
  | 51 => ⟨S1x1x1024, .f32⟩
  | 52 => ⟨S4x2048x1024, .f32⟩
  | 53 => ⟨S4x2048x1024, .f32⟩
  | 54 => ⟨S4x2048x1024, .f32⟩
  | 55 => ⟨S4x2048x1024, .f32⟩
  | 56 => ⟨S1x1024, .f32⟩
  | 57 => ⟨S1024, .f32⟩
  | 58 => ⟨S1x1x1024, .f32⟩
  | 59 => ⟨S4x2048x1024, .f32⟩
  | 60 => ⟨S4x2048x1024, .f32⟩
  | 61 => ⟨S4x2048x1024, .f32⟩
  | 62 => ⟨S4x2048x1024, .f32⟩
  | 63 => ⟨S1x1024, .f32⟩
  | 64 => ⟨S1024, .f32⟩
  | 65 => ⟨S1x1x1024, .f32⟩
  | 66 => ⟨S4x2048x1024, .f32⟩
  | 67 => ⟨S4x2048x1024, .f32⟩
  | 68 => ⟨S4x2048x1024, .f32⟩
  | 69 => ⟨S4x2048x1024, .f32⟩
  | 70 => ⟨S1x1024, .f32⟩
  | 71 => ⟨S1024, .f32⟩
  | 72 => ⟨S1x1x1024, .f32⟩
  | 73 => ⟨S4x2048x1024, .f32⟩
  | 74 => ⟨S4x2048x1024, .f32⟩
  | 75 => ⟨S4x2048x1024, .f32⟩
  | 76 => ⟨S4x2048x1024, .f32⟩
  | 77 => ⟨S1x1024, .f32⟩
  | 78 => ⟨S1024, .f32⟩
  | 79 => ⟨S1x1x1024, .f32⟩
  | 80 => ⟨S4x2048x1024, .f32⟩
  | 81 => ⟨S4x2048x1024, .f32⟩
  | 82 => ⟨S4x2048x1024, .f32⟩
  | 83 => ⟨S4x2048x1024, .f32⟩
  | 84 => ⟨S1x1024, .f32⟩
  | 85 => ⟨S1024, .f32⟩
  | 86 => ⟨S1x1x1024, .f32⟩
  | 87 => ⟨S4x2048x1024, .f32⟩
  | 88 => ⟨S4x2048x1024, .f32⟩
  | 89 => ⟨S4x2048x1024, .f32⟩
  | 90 => ⟨S4x2048x1024, .f32⟩
  | 91 => ⟨S1x1024, .f32⟩
  | 92 => ⟨S1024, .f32⟩
  | 93 => ⟨S1x1x1024, .f32⟩
  | 94 => ⟨S4x2048x1024, .f32⟩
  | 95 => ⟨S4x2048x1024, .f32⟩
  | 96 => ⟨S4x2048x1024, .f32⟩
  | 97 => ⟨S4x2048x1024, .f32⟩
  | 98 => ⟨S1x1024, .f32⟩
  | 99 => ⟨S1024, .f32⟩
  | 100 => ⟨S1x1x1024, .f32⟩
  | 101 => ⟨S4x2048x1024, .f32⟩
  | 102 => ⟨S4x2048x1024, .f32⟩
  | 103 => ⟨S4x2048x1024, .f32⟩
  | 104 => ⟨S1x1x1024, .f32⟩
  | 105 => ⟨S4x2048x1024, .f32⟩
  | 106 => ⟨S4x2048x1024, .f32⟩
  | 107 => ⟨S_, .f32⟩
  | 108 => ⟨S4x2048, .f32⟩
  | 109 => ⟨S4x2048x1, .f32⟩
  | 110 => ⟨S_, .f32⟩
  | 111 => ⟨S4x2048x1, .f32⟩
  | 112 => ⟨S4x2048x1, .f32⟩
  | 113 => ⟨S4x2048x1024, .f32⟩
  | 114 => ⟨S4x2048x1024, .f32⟩
  | 115 => ⟨S4x2048x1024, .f32⟩
  | 116 => ⟨S_, .f32⟩
  | 117 => ⟨S4x2048, .f32⟩
  | 118 => ⟨S4x2048x1, .f32⟩
  | 119 => ⟨S_, .f32⟩
  | 120 => ⟨S4x2048x1, .f32⟩
  | 121 => ⟨S4x2048x1, .f32⟩
  | 122 => ⟨S_, .f32⟩
  | 123 => ⟨S4x2048x1, .f32⟩
  | 124 => ⟨S4x2048x1, .f32⟩
  | 125 => ⟨S4x2048x1, .f32⟩
  | 126 => ⟨S4x2048x1024, .f32⟩
  | 127 => ⟨S4x2048x1024, .f32⟩
  | _ => ⟨S8192x1024, .f32⟩

abbrev hbmTy0_2 (i : Nat) : BufTy := match i % 128 with
  | 0 => ⟨S1x1x1024, .f32⟩
  | 1 => ⟨S4x2048x1024, .f32⟩
  | 2 => ⟨S4x2048x1024, .f32⟩
  | 3 => ⟨S1x1x1024, .f32⟩
  | 4 => ⟨S4x2048x1024, .f32⟩
  | 5 => ⟨S4x2048x1024, .f32⟩
  | 6 => ⟨S4x2048x1024, .f32⟩
  | 7 => ⟨S4x2048x1024, .f32⟩
  | 8 => ⟨S_, .f32⟩
  | 9 => ⟨S4x2048x1024, .f32⟩
  | 10 => ⟨S4x2048x1024, .f32⟩
  | 11 => ⟨S_, .f32⟩
  | 12 => ⟨S4x2048x1024, .f32⟩
  | 13 => ⟨S4x2048x1024, .f32⟩
  | 14 => ⟨S4x2048x1024, .f32⟩
  | 15 => ⟨S4x2048x1024, .f32⟩
  | 16 => ⟨S1x1x1024, .f32⟩
  | 17 => ⟨S4x2048x1024, .f32⟩
  | 18 => ⟨S4x2048x1024, .f32⟩
  | 19 => ⟨S4x6144, .f32⟩
  | 20 => ⟨S4x1x6x1024, .f32⟩
  | 21 => ⟨S4x2048x1024, .f32⟩
  | 22 => ⟨S4x1x1x1024, .f32⟩
  | 23 => ⟨S4x1x1024, .f32⟩
  | 24 => ⟨S4x2048x1024, .f32⟩
  | 25 => ⟨S4x2048x1024, .f32⟩
  | 26 => ⟨S4x2048x1024, .f32⟩
  | 27 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_cst_0 : Ref sig .tc := ⟨.hbm, 235, rfl⟩
abbrev main_v223 : Ref sig .tc := ⟨.hbm, 236, rfl⟩
abbrev main_v224 : Ref sig .tc := ⟨.hbm, 237, rfl⟩
abbrev main_cst_1 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_cst_2 : Ref sig .tc := ⟨.hbm, 244, rfl⟩
abbrev main_v230 : Ref sig .tc := ⟨.hbm, 245, rfl⟩
abbrev main_v231 : Ref sig .tc := ⟨.hbm, 246, rfl⟩
abbrev main_cst_3 : Ref sig .tc := ⟨.hbm, 247, rfl⟩
abbrev main_v232 : Ref sig .tc := ⟨.hbm, 248, rfl⟩
abbrev main_v233 : Ref sig .tc := ⟨.hbm, 249, rfl⟩
abbrev main_cst_4 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_call1_v0 : Ref sig .tc := ⟨.hbm, 262, rfl⟩
abbrev main_call1_v1 : Ref sig .tc := ⟨.hbm, 263, rfl⟩
abbrev main_call1_cst : Ref sig .tc := ⟨.hbm, 264, rfl⟩
abbrev main_call1_v2 : Ref sig .tc := ⟨.hbm, 265, rfl⟩
abbrev main_call1_v3 : Ref sig .tc := ⟨.hbm, 266, rfl⟩
abbrev main_call1_cst_0 : Ref sig .tc := ⟨.hbm, 267, rfl⟩
abbrev main_call1_v4 : Ref sig .tc := ⟨.hbm, 268, rfl⟩
abbrev main_call1_v5 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩

abbrev nD : Nat := 1
abbrev τ : Topo := Topo.v7x

variable {F : FTy → Type} [FloatOps F]
-- ==== ModKernel.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModReferenceIdeal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== ShortKernel.lean ====
abbrev S8192x3072 : Shape := ⟨2, ![8192, 3072]⟩
abbrev S3x3072 : Shape := ⟨2, ![3, 3072]⟩
abbrev S3072 : Shape := ⟨1, ![3072]⟩
abbrev S1x3072 : Shape := ⟨2, ![1, 3072]⟩
abbrev S8192x1024 : Shape := ⟨2, ![8192, 1024]⟩
abbrev S8x3072 : Shape := ⟨2, ![8, 3072]⟩
abbrev S256x3072 : Shape := ⟨2, ![256, 3072]⟩
abbrev S256x1024 : Shape := ⟨2, ![256, 1024]⟩
abbrev S272x3072 : Shape := ⟨2, ![272, 3072]⟩
abbrev S32x1024 : Shape := ⟨2, ![32, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x3072, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S8192x1024, .f32⟩
  | .hbm, ⟨5, _⟩ => ⟨S8192x1024, .f32⟩
  | .local _ .vmem, ⟨0, _⟩ => ⟨S8x3072, .f32⟩
  | .local _ .vmem, ⟨1, _⟩ => ⟨S8x3072, .f32⟩
  | .local _ .vmem, ⟨2, _⟩ => ⟨S256x3072, .f32⟩
  | .local _ .vmem, ⟨3, _⟩ => ⟨S256x3072, .f32⟩
  | .local _ .vmem, ⟨4, _⟩ => ⟨S8x3072, .f32⟩
  | .local _ .vmem, ⟨5, _⟩ => ⟨S8x3072, .f32⟩
  | .local _ .vmem, ⟨6, _⟩ => ⟨S3x3072, .f32⟩
  | .local _ .vmem, ⟨7, _⟩ => ⟨S1x3072, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S272x3072, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ShortReferenceIdeal.lean ====
abbrev S8192x3072 : Shape := ⟨2, ![8192, 3072]⟩
abbrev S3x3072 : Shape := ⟨2, ![3, 3072]⟩
abbrev S3072 : Shape := ⟨1, ![3072]⟩
abbrev S4x2048x3072 : Shape := ⟨3, ![4, 2048, 3072]⟩
abbrev S_ : Shape := ⟨0, ![]⟩
abbrev S4x2050x3072 : Shape := ⟨3, ![4, 2050, 3072]⟩
abbrev S1x3072 : Shape := ⟨2, ![1, 3072]⟩
abbrev S1x1x3072 : Shape := ⟨3, ![1, 1, 3072]⟩
abbrev S4x2048x1024 : Shape := ⟨3, ![4, 2048, 1024]⟩
abbrev S8192x1024 : Shape := ⟨2, ![8192, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3x3072, .f32⟩
  | .hbm, ⟨2, _⟩ => ⟨S3072, .f32⟩
  | .hbm, ⟨3, _⟩ => ⟨S4x2048x3072, .f32⟩
  | .hbm, ⟨4, _⟩ => ⟨S_, .i32⟩
  | .hbm, ⟨5, _⟩ => ⟨S_, .f32⟩
  | .hbm, ⟨6, _⟩ => ⟨S4x2050x3072, .f32⟩
  | .hbm, ⟨7, _⟩ => ⟨S4x2048x3072, .f32⟩
  | .hbm, ⟨8, _⟩ => ⟨S1x3072, .f32⟩
  | .hbm, ⟨9, _⟩ => ⟨S3072, .f32⟩
  | .hbm, ⟨10, _⟩ => ⟨S1x1x3072, .f32⟩
  | .hbm, ⟨11, _⟩ => ⟨S4x2048x3072, .f32⟩
  | .hbm, ⟨12, _⟩ => ⟨S4x2048x3072, .f32⟩
  | .hbm, ⟨13, _⟩ => ⟨S_, .f32⟩
  | .hbm, ⟨14, _⟩ => ⟨S4x2048x3072, .f32⟩
  | .hbm, ⟨15, _⟩ => ⟨S4x2048x3072, .f32⟩
  | .hbm, ⟨16, _⟩ => ⟨S4x2048x3072, .f32⟩
  | .hbm, ⟨17, _⟩ => ⟨S1x3072, .f32⟩
  | .hbm, ⟨18, _⟩ => ⟨S3072, .f32⟩
  | .hbm, ⟨19, _⟩ => ⟨S1x1x3072, .f32⟩
  | .hbm, ⟨20, _⟩ => ⟨S4x2048x3072, .f32⟩
  | .hbm, ⟨21, _⟩ => ⟨S4x2048x3072, .f32⟩
  | .hbm, ⟨22, _⟩ => ⟨S4x2048x3072, .f32⟩
  | .hbm, ⟨23, _⟩ => ⟨S4x2048x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S4x2048x3072, .f32⟩
  | .hbm, ⟨28, _⟩ => ⟨S4x2048x3072, .f32⟩
  | .hbm, ⟨29, _⟩ => ⟨S4x2048x3072, .f32⟩
  | .hbm, ⟨30, _⟩ => ⟨S1x1x3072, .f32⟩
  | .hbm, ⟨31, _⟩ => ⟨S4x2048x3072, .f32⟩
  | .hbm, ⟨32, _⟩ => ⟨S4x2048x3072, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S8192x1024, .f32⟩
  | .hbm, ⟨38, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== FilterKernel.lean ====
abbrev S2048x33 : Shape := ⟨2, ![2048, 33]⟩
abbrev S2048x1024 : Shape := ⟨2, ![2048, 1024]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩
abbrev S2048x128 : Shape := ⟨2, ![2048, 128]⟩
abbrev S128x128 : Shape := ⟨2, ![128, 128]⟩
abbrev S1x64 : Shape := ⟨2, ![1, 64]⟩
abbrev S1x128 : Shape := ⟨2, ![1, 128]⟩
abbrev S128x2048 : Shape := ⟨2, ![128, 2048]⟩
abbrev S1x1024 : Shape := ⟨2, ![1, 1024]⟩
abbrev S128x256 : Shape := ⟨2, ![128, 256]⟩
abbrev S2048x256 : Shape := ⟨2, ![2048, 256]⟩
abbrev S1x256 : Shape := ⟨2, ![1, 256]⟩
abbrev S256 : Shape := ⟨1, ![256]⟩

abbrev nBuf : Space → Nat
  | .hbm => 40
  | .vmem => 19
  | .smem => 0
  | _ => 0

abbrev bufTy : (tb : Table) → Fin (tcTables nBuf tb) → BufTy
  | .hbm, ⟨0, _⟩ => ⟨S2048x33, .f32⟩
  | .hbm, ⟨1, _⟩ => ⟨S2048x1024, .f32⟩
  | .hbm, ⟨2, _⟩ => ⟨S33x64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64x2048, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S_, .i32⟩
  | .hbm, ⟨13, _⟩ => ⟨S_, .f32⟩
  | .hbm, ⟨14, _⟩ => ⟨S128x128, .f32⟩
  | .hbm, ⟨15, _⟩ => ⟨S1x64, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S1x64, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S_, .i32⟩
  | .hbm, ⟨24, _⟩ => ⟨S_, .f32⟩
  | .hbm, ⟨25, _⟩ => ⟨S128x128, .f32⟩
  | .hbm, ⟨26, _⟩ => ⟨S1x64, .f32⟩
  | .hbm, ⟨27, _⟩ => ⟨S_, .i32⟩
  | .hbm, ⟨28, _⟩ => ⟨S_, .f32⟩
  | .hbm, ⟨29, _⟩ => ⟨S1x128, .f32⟩
  | .hbm, ⟨30, _⟩ => ⟨S1x64, .f32⟩
  | .hbm, ⟨31, _⟩ => ⟨S_, .i32⟩
  | .hbm, ⟨32, _⟩ => ⟨S_, .f32⟩
  | .hbm, ⟨33, _⟩ => ⟨S1x128, .f32⟩
  | .hbm, ⟨34, _⟩ => ⟨S_, .i32⟩
  | .hbm, ⟨35, _⟩ => ⟨S_, .f32⟩
  | .hbm, ⟨36, _⟩ => ⟨S128x2048, .f32⟩
  | .hbm, ⟨37, _⟩ => ⟨S2048x1024, .f32⟩
  | .hbm, ⟨38, _⟩ => ⟨S2048x1024, .f32⟩
  | .hbm, ⟨39, _⟩ => ⟨S1x1024, .f32⟩
  | .local _ .vmem, ⟨0, _⟩ => ⟨S2048x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S1x256, .f32⟩
  | .local _ .vmem, ⟨18, _⟩ => ⟨S1x256, .f32⟩
  | _, _ => ⟨S2048x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_c_1 : Ref sig .tc := ⟨.hbm, 16, rfl⟩
abbrev main_call2_v0 : Ref sig .tc := ⟨.hbm, 17, rfl⟩
abbrev main_v3 : Ref sig .tc := ⟨.hbm, 18, rfl⟩
abbrev main_v4 : Ref sig .tc := ⟨.hbm, 19, rfl⟩
abbrev main_c_2 : Ref sig .tc := ⟨.hbm, 20, rfl⟩
abbrev main_call3_v0 : Ref sig .tc := ⟨.hbm, 21, rfl⟩
abbrev main_v5 : Ref sig .tc := ⟨.hbm, 22, rfl⟩
abbrev main_c_3 : Ref sig .tc := ⟨.hbm, 23, rfl⟩
abbrev main_call4_v0 : Ref sig .tc := ⟨.hbm, 24, rfl⟩
abbrev main_v6 : Ref sig .tc := ⟨.hbm, 25, rfl⟩
abbrev main_v7 : Ref sig .tc := ⟨.hbm, 26, rfl⟩
abbrev main_c_4 : Ref sig .tc := ⟨.hbm, 27, rfl⟩
abbrev main_call5_v0 : Ref sig .tc := ⟨.hbm, 28, rfl⟩
abbrev main_v8 : Ref sig .tc := ⟨.hbm, 29, rfl⟩
abbrev main_v9 : Ref sig .tc := ⟨.hbm, 30, rfl⟩
abbrev main_c_5 : Ref sig .tc := ⟨.hbm, 31, rfl⟩
abbrev main_call6_v0 : Ref sig .tc := ⟨.hbm, 32, rfl⟩
abbrev main_v10 : Ref sig .tc := ⟨.hbm, 33, rfl⟩
abbrev main_c_6 : Ref sig .tc := ⟨.hbm, 34, rfl⟩
abbrev main_call7_v0 : Ref sig .tc := ⟨.hbm, 35, rfl⟩
abbrev main_v11 : Ref sig .tc := ⟨.hbm, 36, rfl⟩
abbrev main_v12_0 : Ref sig .tc := ⟨.hbm, 37, rfl⟩
abbrev main_v12_1 : Ref sig .tc := ⟨.hbm, 38, rfl⟩
abbrev main_v12_2 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FilterReferenceIdeal.lean ====
abbrev S2048x33 : Shape := ⟨2, ![2048, 33]⟩
abbrev S2048x1024 : Shape := ⟨2, ![2048, 1024]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S2048x64 : Shape := ⟨2, ![2048, 64]⟩
abbrev S1x64 : Shape := ⟨2, ![1, 64]⟩
abbrev S2048x2048 : Shape := ⟨2, ![2048, 2048]⟩
abbrev S2048x2x1024 : Shape := ⟨3, ![2048, 2, 1024]⟩
abbrev S2048x1x1024 : Shape := ⟨3, ![2048, 1, 1024]⟩
abbrev S_ : Shape := ⟨0, ![]⟩
abbrev S1x1024 : Shape := ⟨2, ![1, 1024]⟩
abbrev S2047x1x1024 : Shape := ⟨3, ![2047, 1, 1024]⟩
abbrev S2047x1024 : Shape := ⟨2, ![2047, 1024]⟩
abbrev S2048 : Shape := ⟨1, ![2048]⟩
abbrev S2048x1 : Shape := ⟨2, ![2048, 1]⟩
abbrev S1024 : Shape := ⟨1, ![1024]⟩

abbrev nBuf : Space → Nat
  | .hbm => 77
  | .vmem => 0
  | .smem => 0
  | _ => 0

abbrev bufTy : (tb : Table) → Fin (tcTables nBuf tb) → BufTy
  | .hbm, ⟨0, _⟩ => ⟨S2048x33, .f32⟩
  | .hbm, ⟨1, _⟩ => ⟨S2048x1024, .f32⟩
  | .hbm, ⟨2, _⟩ => ⟨S33x64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64x2048, .f32⟩
  | .hbm, ⟨9, _⟩ => ⟨S2048x64, .f32⟩
  | .hbm, ⟨10, _⟩ => ⟨S1x64, .f32⟩
  | .hbm, ⟨11, _⟩ => ⟨S2048x64, .f32⟩
  | .hbm, ⟨12, _⟩ => ⟨S2048x64, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S1x64, .f32⟩
  | .hbm, ⟨19, _⟩ => ⟨S2048x64, .f32⟩
  | .hbm, ⟨20, _⟩ => ⟨S2048x64, .f32⟩
  | .hbm, ⟨21, _⟩ => ⟨S1x64, .f32⟩
  | .hbm, ⟨22, _⟩ => ⟨S2048x64, .f32⟩
  | .hbm, ⟨23, _⟩ => ⟨S2048x64, .f32⟩
  | .hbm, ⟨24, _⟩ => ⟨S2048x64, .f32⟩
  | .hbm, ⟨25, _⟩ => ⟨S2048x2048, .f32⟩
  | .hbm, ⟨26, _⟩ => ⟨S2048x2x1024, .f32⟩
  | .hbm, ⟨27, _⟩ => ⟨S2048x1x1024, .f32⟩
  | .hbm, ⟨28, _⟩ => ⟨S2048x2x1024, .f32⟩
  | .hbm, ⟨29, _⟩ => ⟨S2048x2x1024, .f32⟩
  | .hbm, ⟨30, _⟩ => ⟨S2048x1x1024, .f32⟩
  | .hbm, ⟨31, _⟩ => ⟨S2048x1024, .f32⟩
  | .hbm, ⟨32, _⟩ => ⟨S_, .f32⟩
  | .hbm, ⟨33, _⟩ => ⟨S1x1024, .f32⟩
  | .hbm, ⟨34, _⟩ => ⟨S2047x1x1024, .f32⟩
  | .hbm, ⟨35, _⟩ => ⟨S2047x1024, .f32⟩
  | .hbm, ⟨36, _⟩ => ⟨S2048x1024, .f32⟩
  | .hbm, ⟨37, _⟩ => ⟨S2048x1024, .f32⟩
  | .hbm, ⟨38, _⟩ => ⟨S2048, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S_, .i32⟩
  | .hbm, ⟨48, _⟩ => ⟨S2048, .i32⟩
  | .hbm, ⟨49, _⟩ => ⟨S2048, .i1⟩
  | .hbm, ⟨50, _⟩ => ⟨S_, .i32⟩
  | .hbm, ⟨51, _⟩ => ⟨S2048, .i32⟩
  | .hbm, ⟨52, _⟩ => ⟨S2048, .i1⟩
  | .hbm, ⟨53, _⟩ => ⟨S_, .i32⟩
  | .hbm, ⟨54, _⟩ => ⟨S_, .i1⟩
  | .hbm, ⟨55, _⟩ => ⟨S2048, .i1⟩
  | .hbm, ⟨56, _⟩ => ⟨S2048, .i1⟩
  | .hbm, ⟨57, _⟩ => ⟨S2048, .i1⟩
  | .hbm, ⟨58, _⟩ => ⟨S2048, .i32⟩
  | .hbm, ⟨59, _⟩ => ⟨S2048, .i32⟩
  | .hbm, ⟨60, _⟩ => ⟨S2048, .i32⟩
  | .hbm, ⟨61, _⟩ => ⟨S_, .i32⟩
  | .hbm, ⟨62, _⟩ => ⟨S2048, .i32⟩
  | .hbm, ⟨63, _⟩ => ⟨S2048, .i1⟩
  | .hbm, ⟨64, _⟩ => ⟨S_, .f32⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S2048, .f32⟩
  | .hbm, ⟨69, _⟩ => ⟨S2048x1024, .f32⟩
  | .hbm, ⟨70, _⟩ => ⟨S2048x1, .f32⟩
  | .hbm, ⟨71, _⟩ => ⟨S2048x1, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S1x1024, .f32⟩
  | _, _ => ⟨S2048x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_1 : Ref sig .tc := ⟨.hbm, 47, rfl⟩
abbrev main_call0_v5 : Ref sig .tc := ⟨.hbm, 48, rfl⟩
abbrev main_call0_v6 : Ref sig .tc := ⟨.hbm, 49, rfl⟩
abbrev main_call0_c_2 : Ref sig .tc := ⟨.hbm, 50, rfl⟩
abbrev main_call0_v7 : Ref sig .tc := ⟨.hbm, 51, rfl⟩
abbrev main_call0_v8 : Ref sig .tc := ⟨.hbm, 52, rfl⟩
abbrev main_call0_c_3 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_v29 : Ref sig .tc := ⟨.hbm, 60, rfl⟩
abbrev main_c_0 : Ref sig .tc := ⟨.hbm, 61, rfl⟩
abbrev main_v30 : Ref sig .tc := ⟨.hbm, 62, rfl⟩
abbrev main_v31 : Ref sig .tc := ⟨.hbm, 63, rfl⟩
abbrev main_cst_1 : Ref sig .tc := ⟨.hbm, 64, rfl⟩
abbrev main_cst_2 : Ref sig .tc := ⟨.hbm, 65, rfl⟩
abbrev main_call1_v0 : Ref sig .tc := ⟨.hbm, 66, rfl⟩
abbrev main_call1_v1 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_3 : Ref sig .tc := ⟨.hbm, 74, rfl⟩
abbrev main_v38 : Ref sig .tc := ⟨.hbm, 75, rfl⟩
abbrev main_v39 : Ref sig .tc := ⟨.hbm, 76, rfl⟩

abbrev nD : Nat := 1
abbrev τ : Topo := Topo.v7x

variable {F : FTy → Type} [FloatOps F]
-- ==== Proof.SoftmaxSum.lean ====
/- The one fact of arithmetic the attention call needs: where the scores are real, dividing the weighted sum by the sum of
   the weights is the same as weighting by the divided weights. The values weighted are any extended reals. -/
module

public import Idealize.ShloMosaic.PureOps.Ideal.Laws
public import Idealize.ShloMosaic.Lib.IdealHost

@[expose] public section

noncomputable section

namespace Cert.Softmax

open Idealize.ShloMosaic

/-- The word of minus infinity is read as the least extended real. -/
theorem word_bot : Ideal.ofBits .f32 0xFF800000#32 = ⊥ := by simp [Ideal.ofBits, Ideal.ieee]

/-- The word of infinity is read as the greatest extended real. -/
theorem word_top : Ideal.ofBits .f32 0x7F800000#32 = ⊤ := by simp [Ideal.ofBits, Ideal.ieee]

/-- The word of the scale of the scores is read as a real number. -/
theorem word_scale : ∃ r : ℝ, Ideal.ofBits .f32 0x3DB504F3#32 = (r : EReal) := by
  refine ⟨((0x3DB504F3 % 2 ^ 23 + 2 ^ 23 : ℕ) : ℝ) * (2 : ℝ) ^ (-27 : ℤ), ?_⟩
  simp [Ideal.ofBits, Ideal.ieee]

/-- An extended real whose absolute value is below infinity is a real number. -/
theorem real_of_abs {x : EReal} (h : max x (-x) < ⊤) : ∃ r : ℝ, x = (r : EReal) := by
  induction x with
  | bot => simp at h
  | top => simp at h
  | coe r => exact ⟨r, rfl⟩

/-- A finite sum of real numbers, read in the extended reals. -/
theorem coe_sum {n : Nat} (f : Fin n → ℝ) : ((∑ j, f j : ℝ) : EReal) = ∑ j, (f j : EReal) := by
  refine Finset.induction_on (Finset.univ : Finset (Fin n)) (by simp) fun a t ha ih => ?_
  rw [Finset.sum_insert ha, Finset.sum_insert ha, EReal.coe_add, ih]

/-- A finite sum of products of real numbers is a real number. -/
theorem real_dot {n : Nat} (f g : Fin n → EReal) (hf : ∀ j, ∃ r : ℝ, f j = (r : EReal)) (hg : ∀ j, ∃ r : ℝ, g j = (r : EReal)) :
    ∃ r : ℝ, ∑ j, f j * g j = (r : EReal) := by
  choose a ha using hf
  choose b hb using hg
  refine ⟨∑ j, a j * b j, ?_⟩
  rw [coe_sum]
  exact Finset.sum_congr rfl fun j _ => by rw [ha, hb, EReal.coe_mul]

/-- The greatest of finitely many, at least one, real numbers is a real number. -/
theorem real_max {n : Nat} (s : Fin (n + 1) → EReal) (hs : ∀ l, ∃ r : ℝ, s l = (r : EReal)) :
    ∃ r : ℝ, Finset.univ.fold max (⊥ : EReal) s = (r : EReal) := by
  obtain ⟨i, _, hi⟩ := Finset.exists_mem_eq_sup (Finset.univ : Finset (Fin (n + 1))) Finset.univ_nonempty s
  obtain ⟨r, hr⟩ := hs i
  exact ⟨r, (show Finset.univ.sup s = _ from hi.trans hr)⟩

/-- A finite sum of extended reals times a positive real is the sum of the terms times it. -/
theorem sum_mul_real {n : Nat} (f : Fin n → EReal) {c : ℝ} (hc : 0 ≤ c) : (∑ l, f l) * (c : EReal) = ∑ l, f l * (c : EReal) := by
  refine Finset.induction_on (Finset.univ : Finset (Fin n)) (by simp) fun a t ha ih => ?_
  rw [Finset.sum_insert ha, Finset.sum_insert ha, ← ih,
    EReal.right_distrib_of_nonneg_of_ne_top (by exact_mod_cast hc) (EReal.coe_ne_top c)]

/-- Softmax then weighted sum, the division taken outside the sum on the left: equal where every score is real. -/
theorem div_outside {n : Nat} (s v : Fin (n + 1) → EReal) (hs : ∀ l, ∃ r : ℝ, s l = (r : EReal)) :
    Ideal.div (∑ l, Ideal.exp (s l - Finset.univ.fold max ⊥ s) * v l) (∑ l, Ideal.exp (s l - Finset.univ.fold max ⊥ s))
      = ∑ l, v l * Ideal.div (Ideal.exp (s l - max ⊥ (Finset.univ.fold max ⊥ s)))
          (∑ l, Ideal.exp (s l - max ⊥ (Finset.univ.fold max ⊥ s))) := by
  obtain ⟨M, hM⟩ := real_max s hs
  choose a ha using hs
  rw [hM]
  have he : ∀ l, Ideal.exp (s l - (M : EReal)) = ((Real.exp (a l - M) : ℝ) : EReal) := fun l => by
    rw [ha, ← EReal.coe_sub, Ideal.exp_coe]
  have hb : max (⊥ : EReal) (M : EReal) = (M : EReal) := max_eq_right bot_le
  have hl : (∑ l, Ideal.exp (s l - (M : EReal))) = ((∑ l, Real.exp (a l - M) : ℝ) : EReal) := by
    rw [coe_sum]; exact Finset.sum_congr rfl fun l _ => he l
  have hp : 0 < ∑ l, Real.exp (a l - M) := Finset.sum_pos (fun l _ => Real.exp_pos _) Finset.univ_nonempty
  rw [hb, hl, Ideal.div_coe hp.ne', sum_mul_real _ (by positivity)]
  refine Finset.sum_congr rfl fun l _ => ?_
  rw [Ideal.div_coe hp.ne', mul_comm (Ideal.exp _) (v l), mul_assoc]

end Cert.Softmax

end
-- ==== Proof.AttnReference.lean ====
module

public import proofs.«01_k».proof.Proof.Gen.AttnKernelIdeal.Frame
public import proofs.«01_k».proof.Proof.Gen.AttnReferenceIdeal.Read
public import proofs.«01_k».proof.Proof.SoftmaxSum
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnReferenceIdeal.Rows

open Cert.AttnReferenceIdeal Cert.AttnReferenceIdeal.Read

variable (q : FVec Ideal S8192x1024 .bf16) (k v : FVec Ideal S8192x256 .f32) (ck cv : FVec Ideal S4x1x512x2x128 .f32)

/-- A scaled score: the query row against one key, times the scale. -/
theorem score (b : Fin 4) (g : Fin 2) (h : Fin 4) (n : Fin 2048) (l : Fin 2560) :
    val_main_v11 (F := Ideal) q k ck (ix5 b g h n l)
      = (∑ j : Fin 128, val_main_v4 (F := Ideal) k ck (ix4 b l g j) * q (ix2 ⟨b.val * 2048 + n.val, by omega⟩ ⟨g.val * 512 + h.val * 128 + j.val, by omega⟩))
        * Ideal.ofBits .f32 0x3DB504F3#32 := by
  pointwise [val_main_v11, val_main_v10, val_main_v9, val_main_v8, val_main_v1, val_main_v0, val_main_cst]

/-- A row's greatest score, as the reference folds it. -/
theorem greatest (b : Fin 4) (g : Fin 2) (h : Fin 4) (n : Fin 2048) :
    val_main_v12 (F := Ideal) q k ck (ix4 b g h n)
      = Finset.univ.fold max (Ideal.ofBits .f32 0xFF800000#32) fun x : Fin 2560 => val_main_v11 (F := Ideal) q k ck (ix5 b g h n x) := by
  pointwise [val_main_v12, val_main_cst_0]

/-- What is subtracted from every score of a row: the row's greatest score, not below minus infinity. -/
theorem shift (b : Fin 4) (g : Fin 2) (h : Fin 4) (n : Fin 2048) (l : Fin 2560) :
    val_main_v16 (F := Ideal) q k ck (ix5 b g h n l)
      = max (Ideal.ofBits .f32 0xFF800000#32) (val_main_v12 (F := Ideal) q k ck (ix4 b g h n)) := by
  have e : idx_main_v15 (idx_main_v16 (ix5 b g h n l)) = ix4 b g h n := by
    funext a; fin_cases a <;> rfl
  rw [val_main_v16_apply, val_main_v15_apply, val_main_v14_apply, val_main_v13_apply, val_main_cst_1_apply, e]
  generalize val_main_v12 (F := Ideal) q k ck = y
  rfl

/-- A weight before its division: the exponential of the score less the row's greatest score. -/
theorem weight (b : Fin 4) (g : Fin 2) (h : Fin 4) (n : Fin 2048) (l : Fin 2560) :
    val_main_v18 (F := Ideal) q k ck (ix5 b g h n l)
      = Ideal.exp (val_main_v11 (F := Ideal) q k ck (ix5 b g h n l)
          - max (Ideal.ofBits .f32 0xFF800000#32) (val_main_v12 (F := Ideal) q k ck (ix4 b g h n))) := by
  rw [val_main_v18_apply, val_main_v17_apply, shift]
  generalize val_main_v12 (F := Ideal) q k ck = y
  generalize val_main_v11 (F := Ideal) q k ck = z
  rfl

/-- A weight: divided by the row's sum. -/
theorem share (b : Fin 4) (g : Fin 2) (h : Fin 4) (n : Fin 2048) (l : Fin 2560) :
    val_main_v22 (F := Ideal) q k ck (ix5 b g h n l)
      = Ideal.div (val_main_v18 (F := Ideal) q k ck (ix5 b g h n l)) (∑ x : Fin 2560, val_main_v18 (F := Ideal) q k ck (ix5 b g h n x)) := by
  pointwise [val_main_v22, val_main_v21, val_main_v20, val_main_v19, val_main_cst_2]

/-- A head's output: the values weighted. -/
theorem mixed (b : Fin 4) (n : Fin 2048) (g : Fin 2) (h : Fin 4) (d : Fin 128) :
    val_main_v24 (F := Ideal) q k v ck cv (ix5 b n g h d)
      = ∑ l : Fin 2560, val_main_v7 (F := Ideal) v cv (ix4 b l g d) * val_main_v22 (F := Ideal) q k ck (ix5 b g h n l) := by
  pointwise [val_main_v24, val_main_v23]

end Cert.AttnReferenceIdeal.Rows

end
-- ==== Proof.Arrays.lean ====
/- Two reshapes of the kernels' host lines, read at an index. -/
module

public import Idealize.ShloMosaic.Lib.Pipeline.ValueKit
public import Idealize.ShloMosaic.PureOps.Ideal

@[expose] public section

open Idealize.ShloMosaic

namespace Cert.Arrays

/-- The modulation rows are read six to a sample: row `j` of sample `s` is its columns from `j * 1024`. -/
theorem modulation (A : FVec Ideal (⟨2, ![8, 6144]⟩ : Shape) .f32) (h) (s : Fin 8) (j : Nat) (u : Fin 48) (hu : u.val = s.val * 6 + j) (o : Fin 1024) (o' : Fin 6144)
    (ho : o'.val = j * 1024 + o.val) : shapeCast (⟨3, ![48, 1, 1024]⟩ : Shape) A h (ix3 u 0 o) = A (ix2 s o') := by
  refine shapeCast_apply A h (ix3 u 0 o) (ix2 s o') ?_
  rw [Shape.rowMajor_val_two, Shape.rowMajor_val_three]
  show s.val * 6144 + o'.val = (u.val * 1 + 0) * 1024 + o.val
  omega

/-- A vector laid out as one row. -/
theorem row {n : Nat} (B : FVec Ideal (⟨1, ![n]⟩ : Shape) .f32) (h) (o : Fin n) : shapeCast (⟨2, ![1, n]⟩ : Shape) B h (ix2 0 o) = B (ix1 o) := by
  refine shapeCast_apply B h (ix2 0 o) (ix1 o) ?_
  rw [Shape.rowMajor_val_one, Shape.rowMajor_val_two]
  show o.val = 0 * n + o.val
  omega

end Cert.Arrays
-- ==== Proof.AttnBlocks.lean ====
module

public import proofs.«01_k».proof.Proof.Gen.AttnKernelIdeal.Frame
public import proofs.«01_k».proof.Proof.Gen.AttnReferenceIdeal.Read
public import proofs.«01_k».proof.Proof.AttnReference
public import proofs.«01_k».proof.Proof.Arrays
public import proofs.«01_k».proof.Proof.SoftmaxSum
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnKernelIdeal.Value

open Cert.AttnKernelIdeal Cert.AttnKernelIdeal.Gen
open Cert.AttnReferenceIdeal.Read

variable (m : (ℓ : Loc nD τ sig) → Buf (Elt Ideal) ℓ)

/-- Every window's block index at every grid point: the row block is `t`, the sample `t / 8`, the gate row `(1 + t / 8) * 6 + 2`. -/
theorem idx : ∀ t : Fin cfg0.N, win0_0.index t = ![t.val, 0]
    ∧ win0_1.index t = ![t.val / 8, 0, 0]
    ∧ win0_2.index t = ![t.val / 8, 0, 0]
    ∧ win0_3.index t = ![0, 0]
    ∧ win0_4.index t = ![t.val, 0]
    ∧ win0_5.index t = ![(1 + t.val / 8) * 6 + 2, 0, 0]
    ∧ win0_6.index t = ![t.val, 0]
    ∧ t.val < 32 :=
  (by decide +kernel : ∀ t : Fin grid0.N, _)

/-- The cached rows of a sample followed by its new rows, as the kernel's program joins them. -/
abbrev join (K : FVec Ideal S8192x256 .f32) (C : FVec Ideal S4x1x512x2x128 .f32) : FVec Ideal S4x2560x256 .bf16 :=
  truncf .bf16 (concatenate S4x2560x256 1 [⟨S4x512x256, shapeCast _ (shapeCast _ C shapeCasts_S4x1x512x2x128_S4x512x2x128) shapeCasts_S4x512x2x128_S4x512x256⟩,
    ⟨S4x2048x256, shapeCast _ K shapeCasts_S8192x256_S4x2048x256⟩] concatenates_S4x512x256_S4x2048x256_S4x2560x256_d1) bitsLt_bf16_f32

/-- The joined rows are the reference's, whose two heads lie on an axis of their own. -/
theorem join_eq (K : FVec Ideal S8192x256 .f32) (C : FVec Ideal S4x1x512x2x128 .f32) (b : Fin 4) (l : Fin 2560) (g : Fin 2) (j : Fin 128)
    (e : Fin 256) (he : e.val = g.val * 128 + j.val) :
    join K C (ix3 b l e) = val_main_v4 (F := Ideal) K C (ix4 b l g j) := by
  have h1 : e.val / 128 = g.val := by omega
  have h2 : e.val % 128 = j.val := by omega
  pointwise [join, val_main_v4, val_main_v3, val_main_v2]
  by_cases hl : l.val < 512
  · simp only [hl, dite_true]
    blk_ext [h1, h2]
  · simp only [hl, dite_false]
    blk_ext [h1, h2, he]

/-- The keys of a point's block: the sample's cached keys, then its new ones. -/
theorem keys (c : Dev nD) (t : Fin cfg0.N) (b : Fin 4) (hb : b.val = t.val / 8) (l : Fin 2560) (g : Fin 2) (j : Fin 128)
    (e : Fin 256) (he : e.val = g.val * 128 + j.val) :
    iblk m c 1 t (ix3 0 l e) = val_main_v4 (F := Ideal) (m ((c : Thread nD τ).loc main_arg1)) (m ((c : Thread nD τ).loc main_arg3)) (ix4 b l g j) := by
  simp only [iblk]
  entry_read
  refine Eq.trans ?_ (join_eq _ _ b l g j e he)
  show join _ _ ((win0_1.blk t).view.emb (ix3 0 l e)) = _
  congr 1
  blk_ext [idx t]

/-- The values of a point's block. -/
theorem values (c : Dev nD) (t : Fin cfg0.N) (b : Fin 4) (hb : b.val = t.val / 8) (l : Fin 2560) (g : Fin 2) (j : Fin 128)
    (e : Fin 256) (he : e.val = g.val * 128 + j.val) :
    iblk m c 2 t (ix3 0 l e) = val_main_v7 (F := Ideal) (m ((c : Thread nD τ).loc main_arg2)) (m ((c : Thread nD τ).loc main_arg4)) (ix4 b l g j) := by
  simp only [iblk]
  entry_read
  refine Eq.trans ?_ (join_eq _ _ b l g j e he)
  show join _ _ ((win0_2.blk t).view.emb (ix3 0 l e)) = _
  congr 1
  blk_ext [idx t]

/-- The queries, the output projection, the residual rows and the gate row of a point, read at coordinates. -/
theorem rows (c : Dev nD) (t : Fin cfg0.N) (r : Fin 256) (R : Fin 8192) (hR : R.val = t.val * 256 + r.val) (s : Fin 8) (hs : s.val = 1 + t.val / 8)
    (o o' : Fin 1024) (o2 : Fin 6144) (ho : o2.val = 2048 + o.val) :
    iblk m c 0 t (ix2 r o) = (m ((c : Thread nD τ).loc main_arg0) : FVec Ideal S8192x1024 .bf16) (ix2 R o)
    ∧ iblk m c 3 t (ix2 o' o) = (m ((c : Thread nD τ).loc main_arg5) : FVec Ideal S1024x1024 .f32) (ix2 o' o)
    ∧ iblk m c 4 t (ix2 r o) = (m ((c : Thread nD τ).loc main_arg6) : FVec Ideal S8192x1024 .f32) (ix2 R o)
    ∧ iblk m c 5 t (ix3 0 0 o) = (m ((c : Thread nD τ).loc main_arg7) : FVec Ideal S8x6144 .f32) (ix2 s o2) := by
  refine ⟨?_, ?_, ?_, ?_⟩
  · blk_ext [iblk, V, idx t]
  · simp only [iblk]
    entry_read
    refine Eq.trans (b := truncf (F := Ideal) .bf16 (m ((c : Thread nD τ).loc main_arg5) : FVec Ideal S1024x1024 .f32) bitsLt_bf16_f32 (ix2 o' o)) ?_ rfl
    congr 1
    blk_ext [idx t]
  · blk_ext [iblk, V, idx t]
  · simp only [iblk]
    entry_read
    have e : (win0_5.blk t).view.emb (ix3 0 0 o) = (ix3 ⟨s.val * 6 + 2, by omega⟩ 0 o : S48x1x1024.Idx) := by
      blk_ext [idx t]
    show shapeCast S48x1x1024 (m ((c : Thread nD τ).loc main_arg7) : FVec Ideal S8x6144 .f32) shapeCasts_S8x6144_S48x1x1024 ((win0_5.blk t).view.emb (ix3 0 0 o)) = _
    rw [e]
    exact Cert.Arrays.modulation _ _ s 2 _ rfl o o2 ho

end Cert.AttnKernelIdeal.Value

end
-- ==== Proof.AttnValue.lean ====
module

public import proofs.«01_k».proof.Proof.Gen.AttnKernelIdeal.Frame
public import proofs.«01_k».proof.Proof.Gen.AttnReferenceIdeal.Read
public import proofs.«01_k».proof.Proof.AttnReference
public import proofs.«01_k».proof.Proof.SoftmaxSum
public import proofs.«01_k».proof.Proof.AttnBlocks
public import proofs.«01_k».proof.Pre_scores_finite
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnKernelIdeal.Value

open Cert.AttnKernelIdeal Cert.AttnKernelIdeal.Gen
open Cert.AttnReferenceIdeal.Read Cert.AttnReferenceIdeal.Rows

variable (m : (ℓ : Loc nD τ sig) → Buf (Elt Ideal) ℓ)

section head

variable (Q : FVec Ideal S8192x1024 .bf16) (K V : FVec Ideal S8192x256 .f32) (CK CV : FVec Ideal S4x1x512x2x128 .f32)
  (hQ : ∀ i, ∃ x : ℝ, Q i = (x : EReal)) (hK : ∀ i, ∃ x : ℝ, val_main_v4 (F := Ideal) K CK i = (x : EReal))

include hQ hK

/-- Where queries and keys are real, the reference's scaled scores are real. -/
theorem score_real (b : Fin 4) (g : Fin 2) (h : Fin 4) (n : Fin 2048) (l : Fin 2560) :
    ∃ x : ℝ, val_main_v11 (F := Ideal) Q K CK (ix5 b g h n l) = (x : EReal) := by
  obtain ⟨x, hx⟩ := Cert.Softmax.real_dot (fun j : Fin 128 => val_main_v4 (F := Ideal) K CK (ix4 b l g j))
    (fun j => Q (ix2 ⟨b.val * 2048 + n.val, by omega⟩ ⟨g.val * 512 + h.val * 128 + j.val, by omega⟩)) (fun _ => hK _) (fun _ => hQ _)
  obtain ⟨y, hy⟩ := Cert.Softmax.word_scale
  exact ⟨x * y, by rw [score, hx, hy, EReal.coe_mul]⟩

/-- One head of one query row as the kernel computes it is the reference's head output. -/
theorem head_eq (q : FVec Ideal S256x128 .bf16) (kb vb : FVec Ideal S1x2560x128 .bf16) (r : Fin 256) (b : Fin 4) (n : Fin 2048) (g : Fin 2) (h : Fin 4)
    (hq : ∀ j : Fin 128, q (ix2 r j) = Q (ix2 ⟨b.val * 2048 + n.val, by omega⟩ ⟨g.val * 512 + h.val * 128 + j.val, by omega⟩))
    (hk : ∀ (l : Fin 2560) (j : Fin 128), kb (ix3 0 l j) = val_main_v4 (F := Ideal) K CK (ix4 b l g j))
    (hv : ∀ (l : Fin 2560) (d : Fin 128), vb (ix3 0 l d) = val_main_v7 (F := Ideal) V CV (ix4 b l g d)) (d : Fin 128) :
    k0_pay2 (F := Ideal) q kb vb (ix2 r d) = val_main_v24 (F := Ideal) Q K V CK CV (ix5 b n g h d) := by
  have hs : ∀ l : Fin 2560, (∑ j : Fin 128, q (ix2 r j) * kb (ix3 0 l j)) * Ideal.ofBits .f32 0x3DB504F3#32
      = val_main_v11 (F := Ideal) Q K CK (ix5 b g h n l) := fun l => by
    rw [score]
    congr 1
    exact Finset.sum_congr rfl fun j _ => by rw [hq, hk, mul_comm]
  rw [mixed]
  simp only [share, weight, greatest]
  pointwise [k0_pay2]
  simp only [hs, hv, Cert.Softmax.word_bot]
  exact Cert.Softmax.div_outside (n := 2559) _ _ fun l => score_real Q K CK hQ hK b g h n l

end head

/-- The kernel's last step over its eight heads' outputs: joined along the lanes, projected, gated, added to the residual. -/
def mix (h0 h1 h2 h3 h4 h5 h6 h7 : FVec Ideal S256x128 .f32) (w : FVec Ideal S1024x1024 .bf16) (x : FVec Ideal S256x1024 .f32)
    (g : FVec Ideal S1x1x1024 .f32) : FVec Ideal S256x1024 .f32 :=
  addf x (mulf (broadcastTo S256x1024 (shapeCast S1x1024 g shapeCasts_S1x1x1024_S1x1024) broadcasts_S1x1024_S256x1024)
    (matmul dot_S256x1024_S1024x1024_S256x1024_1_0_0_1_n_n none
      (truncf .bf16 (concatenate S256x1024 1 [⟨S256x128, h0⟩, ⟨S256x128, h1⟩, ⟨S256x128, h2⟩, ⟨S256x128, h3⟩, ⟨S256x128, h4⟩, ⟨S256x128, h5⟩,
        ⟨S256x128, h6⟩, ⟨S256x128, h7⟩] concatenates_S256x128_S256x128_S256x128_S256x128_S256x128_S256x128_S256x128_S256x128_S256x1024_d1) bitsLt_bf16_f32)
      (shapeCast S1024x1024 w shapeCasts_S1024x1024_S1024x1024) (constant S256x1024 .f32 0x00000000#32)))

/-- The kernel's eight heads are one function of their blocks, however the program cuts it. -/
theorem pay_eq (q0 q1 q2 q3 q4 q5 q6 q7 : FVec Ideal S256x128 .bf16) (k0 v0 k1 v1 : FVec Ideal S1x2560x128 .bf16) (w : FVec Ideal S1024x1024 .bf16)
    (x : FVec Ideal S256x1024 .f32) (g : FVec Ideal S1x1x1024 .f32) :
    k0_pay1 (F := Ideal) (k0_pay2 (F := Ideal) q0 k0 v0) (k0_pay6 (F := Ideal) (k0_pay3 (F := Ideal) v0) (k0_pay4 (F := Ideal) q1 k0) (k0_pay5 (F := Ideal) q1 k0)) (k0_pay7 (F := Ideal) q2 k0 v0)
      (k0_pay10 (F := Ideal) (k0_pay8 (F := Ideal) v0) (k0_pay9 (F := Ideal) q3 k0)) (k0_pay11 (F := Ideal) q4 k1 v1) (k0_pay14 (F := Ideal) (k0_pay12 (F := Ideal) v1) (k0_pay13 (F := Ideal) q5 k1)) (k0_pay15 (F := Ideal) q6 k1 v1)
      (k0_pay16 (F := Ideal) v1) (k0_pay17 (F := Ideal) q7 k1) w x g
      = mix (k0_pay2 (F := Ideal) q0 k0 v0) (k0_pay2 (F := Ideal) q1 k0 v0) (k0_pay2 (F := Ideal) q2 k0 v0) (k0_pay2 (F := Ideal) q3 k0 v0)
          (k0_pay2 (F := Ideal) q4 k1 v1) (k0_pay2 (F := Ideal) q5 k1 v1) (k0_pay2 (F := Ideal) q6 k1 v1) (k0_pay2 (F := Ideal) q7 k1 v1) w x g := rfl

/-- The last step over heads that are the reference's is the reference's result row. -/
theorem mix_eq (Q : FVec Ideal S8192x1024 .bf16) (K V : FVec Ideal S8192x256 .f32) (CK CV : FVec Ideal S4x1x512x2x128 .f32) (W : FVec Ideal S1024x1024 .f32)
    (X : FVec Ideal S8192x1024 .f32) (A : FVec Ideal S8x6144 .f32)
    (h0 h1 h2 h3 h4 h5 h6 h7 : FVec Ideal S256x128 .f32) (w : FVec Ideal S1024x1024 .bf16) (x : FVec Ideal S256x1024 .f32) (g : FVec Ideal S1x1x1024 .f32)
    (r : Fin 256) (R : Fin 8192) (o : Fin 1024) (b : Fin 4) (n : Fin 2048) (hb : b.val = R.val / 2048) (hn : n.val = R.val % 2048)
    (e0 : ∀ d : Fin 128, h0 (ix2 r d) = val_main_v24 (F := Ideal) Q K V CK CV (ix5 b n 0 0 d)) (e1 : ∀ d : Fin 128, h1 (ix2 r d) = val_main_v24 (F := Ideal) Q K V CK CV (ix5 b n 0 1 d)) (e2 : ∀ d : Fin 128, h2 (ix2 r d) = val_main_v24 (F := Ideal) Q K V CK CV (ix5 b n 0 2 d)) (e3 : ∀ d : Fin 128, h3 (ix2 r d) = val_main_v24 (F := Ideal) Q K V CK CV (ix5 b n 0 3 d)) (e4 : ∀ d : Fin 128, h4 (ix2 r d) = val_main_v24 (F := Ideal) Q K V CK CV (ix5 b n 1 0 d)) (e5 : ∀ d : Fin 128, h5 (ix2 r d) = val_main_v24 (F := Ideal) Q K V CK CV (ix5 b n 1 1 d)) (e6 : ∀ d : Fin 128, h6 (ix2 r d) = val_main_v24 (F := Ideal) Q K V CK CV (ix5 b n 1 2 d)) (e7 : ∀ d : Fin 128, h7 (ix2 r d) = val_main_v24 (F := Ideal) Q K V CK CV (ix5 b n 1 3 d))
    (hw : ∀ i o : Fin 1024, w (ix2 i o) = W (ix2 i o)) (hx : x (ix2 r o) = X (ix2 R o))
    (hg : g (ix3 0 0 o) = A (ix2 ⟨1 + R.val / 2048, by omega⟩ ⟨2048 + o.val, by omega⟩)) :
    mix h0 h1 h2 h3 h4 h5 h6 h7 w x g (ix2 r o) = val_main_v35 (F := Ideal) Q K V CK CV W X A (ix2 R o) := by
  pointwise [mix, val_main_v35, val_main_v34, val_main_v33, val_main_v32, val_main_v31, val_main_v30, val_main_v29, val_main_v28, val_main_v27, val_main_v26, val_main_v25]
  rw [hx, hg]
  congr 2
  refine Finset.sum_congr rfl fun j _ => ?_
  rw [hw]
  congr 1
  have key : ∀ (G : Fin 2) (H : Fin 4) (d : Fin 128), G.val = j.val / 512 → H.val = j.val / 128 % 4 → d.val = j.val % 128 →
      val_main_v24 (F := Ideal) Q K V CK CV (ix5 b n G H d)
        = val_main_v24 (F := Ideal) Q K V CK CV (ix5 ⟨R.val / 2048, by omega⟩ ⟨R.val % 2048, by omega⟩ ⟨j.val / 512, by omega⟩ ⟨j.val / 128 % 4, by omega⟩ ⟨j.val % 128, by omega⟩) := by
    intro G H d hG hH hd
    congr 1
    rw [show (⟨R.val / 2048, by omega⟩ : Fin 4) = b from Fin.ext hb.symm, show (⟨R.val % 2048, by omega⟩ : Fin 2048) = n from Fin.ext hn.symm,
      show (⟨j.val / 512, by omega⟩ : Fin 2) = G from Fin.ext hG.symm, show (⟨j.val / 128 % 4, by omega⟩ : Fin 4) = H from Fin.ext hH.symm,
      show (⟨j.val % 128, by omega⟩ : Fin 128) = d from Fin.ext hd.symm]
  by_cases c0 : j.val < 128
  · rw [dif_pos c0]; rw [e0]; exact key _ _ _ (by show 0 = j.val / 512; omega) (by show 0 = j.val / 128 % 4; omega) (by show j.val = j.val % 128; omega)
  rw [dif_neg c0]
  by_cases c1 : j.val - 128 < 128
  · rw [dif_pos c1]; rw [e1]; exact key _ _ _ (by show 0 = j.val / 512; omega) (by show 1 = j.val / 128 % 4; omega) (by show j.val - 128 = j.val % 128; omega)
  rw [dif_neg c1]
  by_cases c2 : j.val - 128 - 128 < 128
  · rw [dif_pos c2]; rw [e2]; exact key _ _ _ (by show 0 = j.val / 512; omega) (by show 2 = j.val / 128 % 4; omega) (by show j.val - 128 - 128 = j.val % 128; omega)
  rw [dif_neg c2]
  by_cases c3 : j.val - 128 - 128 - 128 < 128
  · rw [dif_pos c3]; rw [e3]; exact key _ _ _ (by show 0 = j.val / 512; omega) (by show 3 = j.val / 128 % 4; omega) (by show j.val - 128 - 128 - 128 = j.val % 128; omega)
  rw [dif_neg c3]
  by_cases c4 : j.val - 128 - 128 - 128 - 128 < 128
  · rw [dif_pos c4]; rw [e4]; exact key _ _ _ (by show 1 = j.val / 512; omega) (by show 0 = j.val / 128 % 4; omega) (by show j.val - 128 - 128 - 128 - 128 = j.val % 128; omega)
  rw [dif_neg c4]
  by_cases c5 : j.val - 128 - 128 - 128 - 128 - 128 < 128
  · rw [dif_pos c5]; rw [e5]; exact key _ _ _ (by show 1 = j.val / 512; omega) (by show 1 = j.val / 128 % 4; omega) (by show j.val - 128 - 128 - 128 - 128 - 128 = j.val % 128; omega)
  rw [dif_neg c5]
  by_cases c6 : j.val - 128 - 128 - 128 - 128 - 128 - 128 < 128
  · rw [dif_pos c6]; rw [e6]; exact key _ _ _ (by show 1 = j.val / 512; omega) (by show 2 = j.val / 128 % 4; omega) (by show j.val - 128 - 128 - 128 - 128 - 128 - 128 = j.val % 128; omega)
  rw [dif_neg c6]
  rw [e7]; exact key _ _ _ (by show 1 = j.val / 512; omega) (by show 3 = j.val / 128 % 4; omega) (by show j.val - 128 - 128 - 128 - 128 - 128 - 128 - 128 = j.val % 128; omega)

/-- What the precondition says: the queries, the new keys and the cached keys are real numbers. -/
theorem finite_of_pre [Cert.Pre_scores_finite.Facts] (Q : FVec Ideal S8192x1024 .bf16) (K V : FVec Ideal S8192x256 .f32) (CK CV : FVec Ideal S4x1x512x2x128 .f32) (W : FVec Ideal S1024x1024 .f32)
    (X : FVec Ideal S8192x1024 .f32) (A : FVec Ideal S8x6144 .f32) (j) (h : Cert.Pre_scores_finite.fn (F := Ideal) Q K V CK CV W X A j = 1#1) :
    (∀ i, ∃ x : ℝ, Q i = (x : EReal)) ∧ (∀ i, ∃ x : ℝ, K i = (x : EReal)) ∧ (∀ i, ∃ x : ℝ, CK i = (x : EReal)) := by
  have sub : Subsingleton Cert.Pre_scores_finite.S_.Idx := ⟨fun a b => funext fun i => i.elim0⟩
  obtain ⟨h12, h3⟩ := IntOp.andi_eq_one.1 h
  obtain ⟨h1, h2⟩ := IntOp.andi_eq_one.1 h12
  have read : ∀ x : EReal, Ideal.cmp .olt (max x (-x)) (Ideal.ofBits .f32 0x7F800000#32) = 1#1 → ∃ r : ℝ, x = (r : EReal) := fun x hx => by
    refine Cert.Softmax.real_of_abs ?_
    rw [Cert.Softmax.word_top] at hx
    by_contra hc
    simp [Ideal.cmp, hc] at hx
  exact ⟨fun i => read _ (Host.reduce_andi_all _ _ _ _ _ h1 i), fun i => read _ (Host.reduce_andi_all _ _ _ _ _ h2 i), fun i => read _ (Host.reduce_andi_all _ _ _ _ _ h3 i)⟩

/-- Joined keys are real where the cached and the new ones are. -/
theorem keys_real (K : FVec Ideal S8192x256 .f32) (CK : FVec Ideal S4x1x512x2x128 .f32) (hK : ∀ i, ∃ x : ℝ, K i = (x : EReal)) (hC : ∀ i, ∃ x : ℝ, CK i = (x : EReal)) (i) :
    ∃ x : ℝ, val_main_v4 (F := Ideal) K CK i = (x : EReal) := by
  idx_vars i
  pointwise [val_main_v4, val_main_v3, val_main_v2]
  split
  · exact hC _
  · exact hK _

/-- The queries of head 0: the lanes from 0 of the block. -/
theorem load_q0 (x : FVec Ideal S256x1024 .bf16) (r : Fin 256) (j : Fin 128) (o : Fin 1024) (ho : o.val = 0 + j.val) :
    View.ld (Val := Elt Ideal) (e' := .bf16) x r0_0 (ix2 r j) = x (ix2 r o) := by
  refine View.ld_unit_apply_of (Val := Elt Ideal) (e := .bf16) x _ _ _ _ _ fun a => ?_
  fin_cases a
  · exact (Nat.zero_add r.val).symm
  · exact ho

/-- The queries of head 1: the lanes from 128 of the block. -/
theorem load_q1 (x : FVec Ideal S256x1024 .bf16) (r : Fin 256) (j : Fin 128) (o : Fin 1024) (ho : o.val = 128 + j.val) :
    View.ld (Val := Elt Ideal) (e' := .bf16) x r0_2 (ix2 r j) = x (ix2 r o) := by
  refine View.ld_unit_apply_of (Val := Elt Ideal) (e := .bf16) x _ _ _ _ _ fun a => ?_
  fin_cases a
  · exact (Nat.zero_add r.val).symm
  · exact ho

/-- The queries of head 2: the lanes from 256 of the block. -/
theorem load_q2 (x : FVec Ideal S256x1024 .bf16) (r : Fin 256) (j : Fin 128) (o : Fin 1024) (ho : o.val = 256 + j.val) :
    View.ld (Val := Elt Ideal) (e' := .bf16) x r0_3 (ix2 r j) = x (ix2 r o) := by
  refine View.ld_unit_apply_of (Val := Elt Ideal) (e := .bf16) x _ _ _ _ _ fun a => ?_
  fin_cases a
  · exact (Nat.zero_add r.val).symm
  · exact ho

/-- The queries of head 3: the lanes from 384 of the block. -/
theorem load_q3 (x : FVec Ideal S256x1024 .bf16) (r : Fin 256) (j : Fin 128) (o : Fin 1024) (ho : o.val = 384 + j.val) :
    View.ld (Val := Elt Ideal) (e' := .bf16) x r0_4 (ix2 r j) = x (ix2 r o) := by
  refine View.ld_unit_apply_of (Val := Elt Ideal) (e := .bf16) x _ _ _ _ _ fun a => ?_
  fin_cases a
  · exact (Nat.zero_add r.val).symm
  · exact ho

/-- The queries of head 4: the lanes from 512 of the block. -/
theorem load_q4 (x : FVec Ideal S256x1024 .bf16) (r : Fin 256) (j : Fin 128) (o : Fin 1024) (ho : o.val = 512 + j.val) :
    View.ld (Val := Elt Ideal) (e' := .bf16) x r0_5 (ix2 r j) = x (ix2 r o) := by
  refine View.ld_unit_apply_of (Val := Elt Ideal) (e := .bf16) x _ _ _ _ _ fun a => ?_
  fin_cases a
  · exact (Nat.zero_add r.val).symm
  · exact ho

/-- The queries of head 5: the lanes from 640 of the block. -/
theorem load_q5 (x : FVec Ideal S256x1024 .bf16) (r : Fin 256) (j : Fin 128) (o : Fin 1024) (ho : o.val = 640 + j.val) :
    View.ld (Val := Elt Ideal) (e' := .bf16) x r0_7 (ix2 r j) = x (ix2 r o) := by
  refine View.ld_unit_apply_of (Val := Elt Ideal) (e := .bf16) x _ _ _ _ _ fun a => ?_
  fin_cases a
  · exact (Nat.zero_add r.val).symm
  · exact ho

/-- The queries of head 6: the lanes from 768 of the block. -/
theorem load_q6 (x : FVec Ideal S256x1024 .bf16) (r : Fin 256) (j : Fin 128) (o : Fin 1024) (ho : o.val = 768 + j.val) :
    View.ld (Val := Elt Ideal) (e' := .bf16) x r0_8 (ix2 r j) = x (ix2 r o) := by
  refine View.ld_unit_apply_of (Val := Elt Ideal) (e := .bf16) x _ _ _ _ _ fun a => ?_
  fin_cases a
  · exact (Nat.zero_add r.val).symm
  · exact ho

/-- The queries of head 7: the lanes from 896 of the block. -/
theorem load_q7 (x : FVec Ideal S256x1024 .bf16) (r : Fin 256) (j : Fin 128) (o : Fin 1024) (ho : o.val = 896 + j.val) :
    View.ld (Val := Elt Ideal) (e' := .bf16) x r0_9 (ix2 r j) = x (ix2 r o) := by
  refine View.ld_unit_apply_of (Val := Elt Ideal) (e := .bf16) x _ _ _ _ _ fun a => ?_
  fin_cases a
  · exact (Nat.zero_add r.val).symm
  · exact ho

/-- The keys, or the values, of group 0: the lanes from 0 of the block. -/
theorem load_kv0 (x : FVec Ideal S1x2560x256 .bf16) (l : Fin 2560) (j : Fin 128) (o : Fin 256) (ho : o.val = 0 + j.val) :
    View.ld (Val := Elt Ideal) (e' := .bf16) x r0_1 (ix3 0 l j) = x (ix3 0 l o) := by
  refine View.ld_unit_apply_of (Val := Elt Ideal) (e := .bf16) x _ _ _ _ _ fun a => ?_
  fin_cases a
  · rfl
  · exact (Nat.zero_add l.val).symm
  · exact ho

/-- The keys, or the values, of group 1: the lanes from 128 of the block. -/
theorem load_kv1 (x : FVec Ideal S1x2560x256 .bf16) (l : Fin 2560) (j : Fin 128) (o : Fin 256) (ho : o.val = 128 + j.val) :
    View.ld (Val := Elt Ideal) (e' := .bf16) x r0_6 (ix3 0 l j) = x (ix3 0 l o) := by
  refine View.ld_unit_apply_of (Val := Elt Ideal) (e := .bf16) x _ _ _ _ _ fun a => ?_
  fin_cases a
  · rfl
  · exact (Nat.zero_add l.val).symm
  · exact ho

/-- After the run the output array is the reference's result, where the queries and the keys are real. -/
theorem final (c : Dev nD)
    (hQ : ∀ i, ∃ x : ℝ, (m ((c : Thread nD τ).loc main_arg0) : FVec Ideal S8192x1024 .bf16) i = (x : EReal))
    (hK : ∀ i, ∃ x : ℝ, (m ((c : Thread nD τ).loc main_arg1) : FVec Ideal S8192x256 .f32) i = (x : EReal))
    (hC : ∀ i, ∃ x : ℝ, (m ((c : Thread nD τ).loc main_arg3) : FVec Ideal S4x1x512x2x128 .f32) i = (x : EReal)) :
    (dats m 0 c).arrAt 6 (cfgs 0).N
      = val_main_v35 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) := by
  refine (dats m 0 c).arrAt_eq_of_covers 6 _ (by decide +kernel) fun t hf y => ?_
  blk_simp; rw [after0_6]; frame_out
  have ht : t.val < 32 := (idx t).2.2.2.2.2.2.2
  rw [pay_eq]
  idx_vars y
  rename' y0 => r, y1 => o
  have hE : (((cfg0.win 6).blk t).view.emb (ix2 r o)) = (ix2 ⟨t.val * 256 + r.val, by omega⟩ o : S8192x1024.Idx) := by blk_ext [idx t]
  rw [hE]
  have head : ∀ (q : FVec Ideal S256x128 .bf16) (kb vb : FVec Ideal S1x2560x128 .bf16) (g : Fin 2) (h : Fin 4)
      (hq : ∀ j : Fin 128, q (ix2 r j) = iblk m c 0 t (ix2 r ⟨g.val * 512 + h.val * 128 + j.val, by omega⟩))
      (hk : ∀ (l : Fin 2560) (j : Fin 128), kb (ix3 0 l j) = iblk m c 1 t (ix3 0 l ⟨g.val * 128 + j.val, by omega⟩))
      (hv : ∀ (l : Fin 2560) (j : Fin 128), vb (ix3 0 l j) = iblk m c 2 t (ix3 0 l ⟨g.val * 128 + j.val, by omega⟩)) (d : Fin 128),
      k0_pay2 (F := Ideal) q kb vb (ix2 r d) = val_main_v24 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (ix5 ⟨t.val / 8, by omega⟩ ⟨(t.val * 256 + r.val) % 2048, by omega⟩ g h d) := fun q kb vb g h hq hk hv d => by
    refine head_eq _ _ _ _ _ hQ (keys_real _ _ hK hC) q kb vb r _ _ g h (fun j => ?_) (fun l j => ?_) (fun l j => ?_) d
    · rw [hq, (rows m c t r ⟨t.val / 8 * 2048 + (t.val * 256 + r.val) % 2048, by omega⟩ (by show t.val / 8 * 2048 + (t.val * 256 + r.val) % 2048 = _; omega)
        ⟨1 + t.val / 8, by omega⟩ rfl _ 0 ⟨2048 + (g.val * 512 + h.val * 128 + j.val), by omega⟩ rfl).1]
    · rw [hk]; exact keys m c t _ rfl l g j _ rfl
    · rw [hv]; exact values m c t _ rfl l g j _ rfl
  have hr := rows m c t r ⟨t.val * 256 + r.val, by omega⟩ rfl ⟨1 + t.val / 8, by omega⟩ rfl
  refine mix_eq _ _ _ _ _ _ _ _ _ _ _ _ _ _ _ _ _ _ _ r ⟨t.val * 256 + r.val, by omega⟩ o ⟨t.val / 8, by omega⟩ ⟨(t.val * 256 + r.val) % 2048, by omega⟩
    (by show t.val / 8 = (t.val * 256 + r.val) / 2048; omega) rfl
    (head _ _ _ 0 0 ?_ ?_ ?_) (head _ _ _ 0 1 ?_ ?_ ?_) (head _ _ _ 0 2 ?_ ?_ ?_) (head _ _ _ 0 3 ?_ ?_ ?_)
    (head _ _ _ 1 0 ?_ ?_ ?_) (head _ _ _ 1 1 ?_ ?_ ?_) (head _ _ _ 1 2 ?_ ?_ ?_) (head _ _ _ 1 3 ?_ ?_ ?_)
    (fun i o => (hr o i ⟨2048 + o.val, by omega⟩ rfl).2.1) ?_ ?_
  case refine_25 => exact (hr o 0 ⟨2048 + o.val, by omega⟩ rfl).2.2.1
  case refine_26 =>
    refine (hr o 0 ⟨2048 + o.val, by omega⟩ rfl).2.2.2.trans ?_
    blk_ext []
  · exact fun j => load_q0 _ r j _ (by show 0 * 512 + 0 * 128 + j.val = 0 + j.val; omega)
  · exact fun l j => load_kv0 _ l j _ (by show 0 * 128 + j.val = 0 + j.val; omega)
  · exact fun l j => load_kv0 _ l j _ (by show 0 * 128 + j.val = 0 + j.val; omega)
  · exact fun j => load_q1 _ r j _ (by show 0 * 512 + 1 * 128 + j.val = 128 + j.val; omega)
  · exact fun l j => load_kv0 _ l j _ (by show 0 * 128 + j.val = 0 + j.val; omega)
  · exact fun l j => load_kv0 _ l j _ (by show 0 * 128 + j.val = 0 + j.val; omega)
  · exact fun j => load_q2 _ r j _ (by show 0 * 512 + 2 * 128 + j.val = 256 + j.val; omega)
  · exact fun l j => load_kv0 _ l j _ (by show 0 * 128 + j.val = 0 + j.val; omega)
  · exact fun l j => load_kv0 _ l j _ (by show 0 * 128 + j.val = 0 + j.val; omega)
  · exact fun j => load_q3 _ r j _ (by show 0 * 512 + 3 * 128 + j.val = 384 + j.val; omega)
  · exact fun l j => load_kv0 _ l j _ (by show 0 * 128 + j.val = 0 + j.val; omega)
  · exact fun l j => load_kv0 _ l j _ (by show 0 * 128 + j.val = 0 + j.val; omega)
  · exact fun j => load_q4 _ r j _ (by show 1 * 512 + 0 * 128 + j.val = 512 + j.val; omega)
  · exact fun l j => load_kv1 _ l j _ (by show 1 * 128 + j.val = 128 + j.val; omega)
  · exact fun l j => load_kv1 _ l j _ (by show 1 * 128 + j.val = 128 + j.val; omega)
  · exact fun j => load_q5 _ r j _ (by show 1 * 512 + 1 * 128 + j.val = 640 + j.val; omega)
  · exact fun l j => load_kv1 _ l j _ (by show 1 * 128 + j.val = 128 + j.val; omega)
  · exact fun l j => load_kv1 _ l j _ (by show 1 * 128 + j.val = 128 + j.val; omega)
  · exact fun j => load_q6 _ r j _ (by show 1 * 512 + 2 * 128 + j.val = 768 + j.val; omega)
  · exact fun l j => load_kv1 _ l j _ (by show 1 * 128 + j.val = 128 + j.val; omega)
  · exact fun l j => load_kv1 _ l j _ (by show 1 * 128 + j.val = 128 + j.val; omega)
  · exact fun j => load_q7 _ r j _ (by show 1 * 512 + 3 * 128 + j.val = 896 + j.val; omega)
  · exact fun l j => load_kv1 _ l j _ (by show 1 * 128 + j.val = 128 + j.val; omega)
  · exact fun l j => load_kv1 _ l j _ (by show 1 * 128 + j.val = 128 + j.val; omega)

end Cert.AttnKernelIdeal.Value

end
-- ==== Proof.FfnValue.lean ====
module

public import proofs.«01_k».proof.Proof.Gen.FfnKernelIdeal.Frame
public import proofs.«01_k».proof.Proof.Gen.FfnReferenceIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnKernelIdeal.Value

open Cert.FfnKernelIdeal Cert.FfnKernelIdeal.Gen

variable (m : (ℓ : Loc nD τ sig) → Buf (Elt Ideal) ℓ)

/-- Every window's block index at every grid point: the expert is `t / 2`, the half of the hidden axis `t % 2`. -/
theorem idx : ∀ t : Fin cfg0.N, win0_0.index t = ![t.val / 2, 0, 0]
    ∧ win0_1.index t = ![t.val / 2, 0, 0]
    ∧ win0_2.index t = ![t.val / 2, 0, 0]
    ∧ win0_3.index t = ![t.val / 2, 0, 0]
    ∧ win0_4.index t = ![t.val / 2, 0, t.val % 2]
    ∧ win0_5.index t = ![t.val / 2, 0, t.val % 2]
    ∧ win0_6.index t = ![t.val / 2, t.val % 2, 0]
    ∧ win0_7.index t = ![t.val / 2, 0, 0]
    ∧ win0_8.index t = ![t.val / 2, 0, 0]
    ∧ t.val / 2 < 16 :=
  (by decide +kernel : ∀ t : Fin grid0.N, _)

/-- A load through the rectangle of the last store reads what it stored. -/
theorem ld_canon {s : Shape} {e : EltTy} (r : Rect s) (w : r.shape.Idx → Elt Ideal e) (L : List (View.Piece (Elt Ideal) s e)) :
    View.ld (View.canon ((⟨r, w⟩ : View.Piece (Elt Ideal) s e) :: L)) r = w :=
  funext fun j => View.canon_cons_emb r w L j

/-- A load through a rectangle disjoint from the last store's reads the earlier stores. -/
theorem ld_canon_skip {s : Shape} {e : EltTy} (r r' : Rect s) (w : r.shape.Idx → Elt Ideal e) (L : List (View.Piece (Elt Ideal) s e))
    (h : LoadRect.disj r r'.toLoadRect = true) :
    View.ld (View.canon ((⟨r, w⟩ : View.Piece (Elt Ideal) s e) :: L)) r' = View.ld (View.canon L) r' :=
  funext fun j => View.canon_cons_of_not_mem ⟨r, w⟩ L (LoadRect.idx_not_mem_of_disj h j)

/-- The accumulation step of the second row half is the one of the first row half. -/
theorem pay1_eq (w1 w3 : FVec Ideal S1x1024x512 .f32) (w2 : FVec Ideal S1x512x1024 .f32) (x : FVec Ideal S1x1024x1024 .bf16) (acc : FVec Ideal S1024x1024 .f32) :
    k0_pay1 (F := Ideal) (k0_pay7 w2) (k0_pay10 w1 x) (k0_pay11 w3 x) acc = k0_pay8 (F := Ideal) w1 w3 w2 x acc := rfl

/-- The scaled write-back of the second row half is the one of the first row half. -/
theorem pay3_eq (acc : FVec Ideal S1024x1024 .f32) (g : FVec Ideal S1x1024x128 .f32) :
    k0_pay3 (F := Ideal) acc g = k0_pay2 (F := Ideal) acc g := rfl

/-- The reference's two results are one function of the rows, their gates and the weights. -/
theorem ref_eq (X : FVec Ideal S16x1024x1024 .bf16) (G : FVec Ideal S16x1024x128 .f32) (W1 W3 W2 : FVec Ideal S16x1024x1024 .f32) :
    Cert.FfnReferenceIdeal.Read.val_main_v23 (F := Ideal) X G W1 W3 W2 = Cert.FfnReferenceIdeal.Read.val_main_v11 (F := Ideal) X G W1 W3 W2 := rfl

open Cert.FfnReferenceIdeal.Read in
/-- Two accumulation steps from zero, over the two halves of the hidden axis, then the scaled write-back, are one row
    of the reference's gated feed-forward of expert `e`: the sum over the hidden axis cut into its halves. -/
theorem core (X : FVec Ideal S16x1024x1024 .bf16) (G : FVec Ideal S16x1024x128 .f32) (W1 W3 W2 : FVec Ideal S16x1024x1024 .f32)
    (x x' : FVec Ideal S1x1024x1024 .bf16) (g : FVec Ideal S1x1024x128 .f32) (w1 w3 w1' w3' : FVec Ideal S1x1024x512 .f32)
    (w2 w2' : FVec Ideal S1x512x1024 .f32) (z : FVec Ideal S1024x1024 .f32) (e : Fin 16)
    (hz : ∀ r d, z (ix2 r d) = (0 : EReal))
    (hx : ∀ r k, x (ix3 0 r k) = X (ix3 e r k)) (hx' : ∀ r k, x' (ix3 0 r k) = X (ix3 e r k))
    (hg : ∀ r, g (ix3 0 r 0) = G (ix3 e r 0))
    (h1 : ∀ (k : Fin 1024) (f : Fin 512), w1 (ix3 0 k f) = W1 (ix3 e k ⟨f.val, by omega⟩))
    (h1' : ∀ (k : Fin 1024) (f : Fin 512), w1' (ix3 0 k f) = W1 (ix3 e k ⟨512 + f.val, by omega⟩))
    (h3 : ∀ (k : Fin 1024) (f : Fin 512), w3 (ix3 0 k f) = W3 (ix3 e k ⟨f.val, by omega⟩))
    (h3' : ∀ (k : Fin 1024) (f : Fin 512), w3' (ix3 0 k f) = W3 (ix3 e k ⟨512 + f.val, by omega⟩))
    (h2 : ∀ (f : Fin 512) (d : Fin 1024), w2 (ix3 0 f d) = W2 (ix3 e ⟨f.val, by omega⟩ d))
    (h2' : ∀ (f : Fin 512) (d : Fin 1024), w2' (ix3 0 f d) = W2 (ix3 e ⟨512 + f.val, by omega⟩ d))
    (u : Fin 1) (r d : Fin 1024) :
    k0_pay2 (F := Ideal) (k0_pay8 (F := Ideal) w1' w3' w2' x' (k0_pay8 (F := Ideal) w1 w3 w2 x z)) g (ix3 u r d)
      = val_main_v11 (F := Ideal) X G W1 W3 W2 (ix3 e r d) := by
  pointwise [k0_pay2, k0_pay8, k0_pay5, k0_pay6, k0_pay7, val_main_v11, val_main_v10, val_main_v9, val_main_v8, val_main_v7, val_main_v6, val_main_v5, val_main_v4, val_main_v3, val_main_v2, val_main_v1, val_main_v0, val_main_call0_v0, val_main_call0_v1, val_main_call0_v2, val_main_call0_v3, val_main_call0_v4, val_main_call0_v5, val_main_call0_cst, val_main_call0_cst_0]
  rw [Fin.sum_univ_two_halves 512 512 rfl]
  simp only [hz, zero_add, hx, hx', hg, h1, h1', h2, h2', h3, h3', Ideal.logistic]

/-- The two gate-projection blocks, the up-projection blocks and the down-projection blocks of a point, read at coordinates. -/
theorem weights (c : Dev nD) (t : Fin cfg0.N) (e : Fin 16) (he : e.val = t.val / 2) (k : Fin 1024) (f : Fin 512) (f' : Fin 1024)
    (hf : f'.val = t.val % 2 * 512 + f.val) :
    iblk m c 4 t (ix3 0 k f) = (m ((c : Thread nD τ).loc main_arg4) : FVec Ideal S16x1024x1024 .f32) (ix3 e k f')
    ∧ iblk m c 5 t (ix3 0 k f) = (m ((c : Thread nD τ).loc main_arg5) : FVec Ideal S16x1024x1024 .f32) (ix3 e k f')
    ∧ iblk m c 6 t (ix3 0 f k) = (m ((c : Thread nD τ).loc main_arg6) : FVec Ideal S16x1024x1024 .f32) (ix3 e f' k) := by
  refine ⟨?_, ?_, ?_⟩ <;> blk_ext [iblk, V, idx t]

/-- The two row blocks and the two gate blocks of a point, read at coordinates. -/
theorem rows (c : Dev nD) (t : Fin cfg0.N) (e : Fin 16) (he : e.val = t.val / 2) (r k : Fin 1024) (l : Fin 128) :
    iblk m c 0 t (ix3 0 r k) = (m ((c : Thread nD τ).loc main_arg0) : FVec Ideal S16x1024x1024 .bf16) (ix3 e r k)
    ∧ iblk m c 1 t (ix3 0 r k) = (m ((c : Thread nD τ).loc main_arg1) : FVec Ideal S16x1024x1024 .bf16) (ix3 e r k)
    ∧ iblk m c 2 t (ix3 0 r l) = (m ((c : Thread nD τ).loc main_arg2) : FVec Ideal S16x1024x128 .f32) (ix3 e r l)
    ∧ iblk m c 3 t (ix3 0 r l) = (m ((c : Thread nD τ).loc main_arg3) : FVec Ideal S16x1024x128 .f32) (ix3 e r l) := by
  refine ⟨?_, ?_, ?_, ?_⟩ <;> blk_ext [iblk, V, idx t]

/-- After the run the first output array is the reference's first result. -/
theorem final7 (c : Dev nD) : (dats m 0 c).arrAt 7 (cfgs 0).N
    = Cert.FfnReferenceIdeal.Read.val_main_v11 (F := Ideal) (m ((c : Thread nD τ).loc main_arg0)) (m ((c : Thread nD τ).loc main_arg2))
       (m ((c : Thread nD τ).loc main_arg4)) (m ((c : Thread nD τ).loc main_arg5)) (m ((c : Thread nD τ).loc main_arg6)) := by
  refine (dats m 0 c).arrAt_eq_of_covers 7 _ (by decide +kernel) fun t hf y => ?_
  have h1 : t.val % 2 = 1 := (flush0_7 t).mp hf
  have h0 : ¬ t.val % 2 = 0 := by omega
  blk_simp; rw [after0_7, outsAt0_B m c t h0 h1]; dsimp only
  have ht : t.val - 1 < cfg0.N := Nat.lt_of_le_of_lt (Nat.sub_le _ _) t.isLt
  have e : outsAt0 m c (t.val - 1) (Nat.lt_of_le_of_lt (Nat.sub_le _ _) t.isLt) = outsAt0 m c (⟨t.val - 1, ht⟩ : Fin cfg0.N).val (⟨t.val - 1, ht⟩ : Fin cfg0.N).isLt := rfl
  rw [e, outsAt0_A m c ⟨t.val - 1, ht⟩ (by show (t.val - 1) % 2 = 0; omega) (by show ¬ (t.val - 1) % 2 = 1; omega)]; dsimp only
  frame_out
  simp (discharger := first | decide | (intro a; fin_cases a <;> rfl)) only [pay1_eq, pay3_eq, read_unread_whole, View.readCov_cons_toLoadRect, ↓View.readCov_skip, View.readCov_fill, ld_canon, ↓ld_canon_skip]
  have hE : t.val / 2 < 16 := (idx t).2.2.2.2.2.2.2.2.2
  have hA := weights m c ⟨t.val - 1, ht⟩ ⟨t.val / 2, hE⟩ (by show t.val / 2 = (t.val - 1) / 2; omega)
  have hB := weights m c t ⟨t.val / 2, hE⟩ rfl
  have rA := rows m c ⟨t.val - 1, ht⟩ ⟨t.val / 2, hE⟩ (by show t.val / 2 = (t.val - 1) / 2; omega)
  have rB := rows m c t ⟨t.val / 2, hE⟩ rfl
  have f0 : ∀ f : Fin 512, f.val = (t.val - 1) % 2 * 512 + f.val := fun f => by omega
  have f1 : ∀ f : Fin 512, 512 + f.val = t.val % 2 * 512 + f.val := fun f => by omega
  idx_vars y
  refine (core (m ((c : Thread nD τ).loc main_arg0)) (m ((c : Thread nD τ).loc main_arg2)) (m ((c : Thread nD τ).loc main_arg4))
    (m ((c : Thread nD τ).loc main_arg5)) (m ((c : Thread nD τ).loc main_arg6)) _ _ _ _ _ _ _ _ _ _ ⟨t.val / 2, hE⟩
    (fun r d => by pointwise [k0_pay4]) (fun r k => (rA r k 0).1) (fun r k => (rB r k 0).1) (fun r => (rB r 0 0).2.2.1)
    (fun k f => (hA k f _ (f0 f)).1) (fun k f => (hB k f _ (f1 f)).1) (fun k f => (hA k f _ (f0 f)).2.1) (fun k f => (hB k f _ (f1 f)).2.1)
    (fun f d => (hA d f _ (f0 f)).2.2) (fun f d => (hB d f _ (f1 f)).2.2) _ _ _).trans ?_
  blk_ext [idx t]

/-- After the run the second output array is the reference's second result. -/
theorem final8 (c : Dev nD) : (dats m 0 c).arrAt 8 (cfgs 0).N
    = Cert.FfnReferenceIdeal.Read.val_main_v23 (F := Ideal) (m ((c : Thread nD τ).loc main_arg1)) (m ((c : Thread nD τ).loc main_arg3))
       (m ((c : Thread nD τ).loc main_arg4)) (m ((c : Thread nD τ).loc main_arg5)) (m ((c : Thread nD τ).loc main_arg6)) := by
  refine (dats m 0 c).arrAt_eq_of_covers 8 _ (by decide +kernel) fun t hf y => ?_
  have h1 : t.val % 2 = 1 := (flush0_8 t).mp hf
  have h0 : ¬ t.val % 2 = 0 := by omega
  blk_simp; rw [after0_8, outsAt0_B m c t h0 h1]; dsimp only
  have ht : t.val - 1 < cfg0.N := Nat.lt_of_le_of_lt (Nat.sub_le _ _) t.isLt
  have e : outsAt0 m c (t.val - 1) (Nat.lt_of_le_of_lt (Nat.sub_le _ _) t.isLt) = outsAt0 m c (⟨t.val - 1, ht⟩ : Fin cfg0.N).val (⟨t.val - 1, ht⟩ : Fin cfg0.N).isLt := rfl
  rw [e, outsAt0_A m c ⟨t.val - 1, ht⟩ (by show (t.val - 1) % 2 = 0; omega) (by show ¬ (t.val - 1) % 2 = 1; omega)]; dsimp only
  frame_out
  simp (discharger := first | decide | (intro a; fin_cases a <;> rfl)) only [pay1_eq, pay3_eq, read_unread_whole, View.readCov_cons_toLoadRect, ↓View.readCov_skip, View.readCov_fill, ld_canon, ↓ld_canon_skip]
  have hE : t.val / 2 < 16 := (idx t).2.2.2.2.2.2.2.2.2
  have hA := weights m c ⟨t.val - 1, ht⟩ ⟨t.val / 2, hE⟩ (by show t.val / 2 = (t.val - 1) / 2; omega)
  have hB := weights m c t ⟨t.val / 2, hE⟩ rfl
  have rA := rows m c ⟨t.val - 1, ht⟩ ⟨t.val / 2, hE⟩ (by show t.val / 2 = (t.val - 1) / 2; omega)
  have rB := rows m c t ⟨t.val / 2, hE⟩ rfl
  have f0 : ∀ f : Fin 512, f.val = (t.val - 1) % 2 * 512 + f.val := fun f => by omega
  have f1 : ∀ f : Fin 512, 512 + f.val = t.val % 2 * 512 + f.val := fun f => by omega
  idx_vars y
  refine (core (m ((c : Thread nD τ).loc main_arg1)) (m ((c : Thread nD τ).loc main_arg3)) (m ((c : Thread nD τ).loc main_arg4))
    (m ((c : Thread nD τ).loc main_arg5)) (m ((c : Thread nD τ).loc main_arg6)) _ _ _ _ _ _ _ _ _ _ ⟨t.val / 2, hE⟩
    (fun r d => by pointwise [k0_pay4]) (fun r k => (rA r k 0).2.1) (fun r k => (rB r k 0).2.1) (fun r => (rB r 0 0).2.2.2)
    (fun k f => (hA k f _ (f0 f)).1) (fun k f => (hB k f _ (f1 f)).1) (fun k f => (hA k f _ (f0 f)).2.1) (fun k f => (hB k f _ (f1 f)).2.1)
    (fun f d => (hA d f _ (f0 f)).2.2) (fun f d => (hB d f _ (f1 f)).2.2) _ _ _).trans ?_
  rw [ref_eq]; blk_ext [idx t]

end Cert.FfnKernelIdeal.Value

end
-- ==== Proof.QkvValue.lean ====
/- The value of the query, key and value projection call: its output array is the reference's, row by row. -/
module

public import proofs.«01_k».proof.Proof.Gen.QkvKernelIdeal.Frame
public import proofs.«01_k».proof.Proof.Gen.QkvReferenceIdeal.Read
public import proofs.«01_k».proof.Proof.Arrays
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvKernelIdeal.Value

open Cert.QkvKernelIdeal Cert.QkvKernelIdeal.Gen
open Cert.QkvReferenceIdeal.Read

variable (m : (ℓ : Loc nD τ sig) → Buf (Elt Ideal) ℓ)

/-- Every window's block index at every grid point: the row block is `t`, the modulation rows are those of the prompt. -/
theorem idx : ∀ t : Fin cfg0.N, win0_0.index t = ![t.val, 0]
    ∧ win0_1.index t = ![0, 0]
    ∧ win0_2.index t = ![0, 0, 0]
    ∧ win0_3.index t = ![1, 0, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0]
    ∧ t.val < 32 :=
  (by decide +kernel : ∀ t : Fin grid0.N, _)

/-- A row of the projection, before it is cut into heads, is the reference's, where the blocks read the arguments. -/
theorem projection (X : FVec Ideal S8192x1024 .f32) (N : FVec Ideal S1024 .f32) (A : FVec Ideal S8x6144 .f32) (W : FVec Ideal S1024x1536 .f32)
    (x : FVec Ideal S256x1024 .f32) (n : FVec Ideal S1x1024 .f32) (h s : FVec Ideal S1x1x1024 .f32) (w : FVec Ideal S1024x1536 .bf16)
    (r : Fin 256) (b : Fin 32)
    (hx : ∀ k, x (ix2 r k) = X (ix2 ⟨b.val * 256 + r.val, by omega⟩ k)) (hn : ∀ k, n (ix2 0 k) = N (ix1 k))
    (hh : ∀ k : Fin 1024, h (ix3 0 0 k) = A (ix2 0 ⟨k.val, by omega⟩)) (hs : ∀ k : Fin 1024, s (ix3 0 0 k) = A (ix2 0 ⟨1024 + k.val, by omega⟩))
    (hw : ∀ k o, w (ix2 k o) = W (ix2 k o)) (o : Fin 1536) :
    k0_pay1 (F := Ideal) x n h s w (ix2 r o) = val_main_v26 (F := Ideal) X N A W (ix3 b r o) := by
  pointwise [k0_pay1, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  simp only [hx, hn, hh, hs, hw]

/-- The queries' result, by sample, row, head and feature. -/
theorem query_result (X : FVec Ideal S8192x1024 .f32) (N : FVec Ideal S1024 .f32) (A : FVec Ideal S8x6144 .f32) (W : FVec Ideal S1024x1536 .f32) (G : FVec Ideal S128 .f32) (b : Fin 32) (r : Fin 256) (h : Fin 8) (d : Fin 128) (R : Fin 8192) (o : Fin 1024)
    (hR : R.val = b.val * 256 + r.val) (ho : o.val = h.val * 128 + d.val) :
    val_main_v60 (F := Ideal) X N A W G (ix2 R o) = val_main_v41 (F := Ideal) X N A W G (ix4 b r h d) := by
  have e : idx_main_v59 (ix2 R o) = ix4 b r h d := by blk_ext
  rw [← e, ← val_main_v59_apply]
  rfl

/-- Head 0 of the queries is the reference's, where the projection's row is. -/
theorem query0 (X : FVec Ideal S8192x1024 .f32) (N : FVec Ideal S1024 .f32) (A : FVec Ideal S8x6144 .f32) (W : FVec Ideal S1024x1536 .f32) (G : FVec Ideal S128 .f32) (x : FVec Ideal S256x1024 .f32) (n : FVec Ideal S1x1024 .f32) (h s : FVec Ideal S1x1x1024 .f32) (w : FVec Ideal S1024x1536 .bf16) (g : FVec Ideal S1x128 .f32)
    (r : Fin 256) (b : Fin 32) (hP : ∀ o, k0_pay1 (F := Ideal) x n h s w (ix2 r o) = val_main_v26 (F := Ideal) X N A W (ix3 b r o)) (hg : ∀ d, g (ix2 0 d) = G (ix1 d)) (d : Fin 128) :
    k0_pay5 (F := Ideal) (k0_pay2 x n h s w) (k0_pay3 g) (k0_pay4 x n h s w) (Scalar.ofBits .f32 0x358637BD#32) (ix2 r d) = val_main_v41 (F := Ideal) X N A W G (ix4 b r 0 d) := by
  pointwise [k0_pay5, k0_pay2, k0_pay3, k0_pay4, val_main_v41, val_main_v40, val_main_v39, val_main_v38, val_main_v37, val_main_v36, val_main_v35, val_main_v34, val_main_v33, val_main_v32, val_main_v31, val_main_v30, val_main_v29, val_main_v28, val_main_v27, val_main_cst, val_main_cst_0, val_main_cst_1, val_main_cst_2, val_main_cst_3, val_main_cst_4, val_main_cst_5, val_main_cst_6, val_main_cst_7, val_main_cst_8]
  simp only [hP, hg]

/-- Head 1 of the queries is the reference's, where the projection's row is. -/
theorem query1 (X : FVec Ideal S8192x1024 .f32) (N : FVec Ideal S1024 .f32) (A : FVec Ideal S8x6144 .f32) (W : FVec Ideal S1024x1536 .f32) (G : FVec Ideal S128 .f32) (P : FVec Ideal S256x1536 .f32) (g : FVec Ideal S1x128 .f32)
    (r : Fin 256) (b : Fin 32) (hP : ∀ o, P (ix2 r o) = val_main_v26 (F := Ideal) X N A W (ix3 b r o)) (hg : ∀ d, g (ix2 0 d) = G (ix1 d)) (d : Fin 128) :
    k0_pay6 (F := Ideal) P g (ix2 r d) = val_main_v41 (F := Ideal) X N A W G (ix4 b r 1 d) := by
  pointwise [k0_pay6, val_main_v41, val_main_v40, val_main_v39, val_main_v38, val_main_v37, val_main_v36, val_main_v35, val_main_v34, val_main_v33, val_main_v32, val_main_v31, val_main_v30, val_main_v29, val_main_v28, val_main_v27, val_main_cst, val_main_cst_0, val_main_cst_1, val_main_cst_2, val_main_cst_3, val_main_cst_4, val_main_cst_5, val_main_cst_6, val_main_cst_7, val_main_cst_8]
  simp only [hP, hg]

/-- Head 2 of the queries is the reference's, where the projection's row is. -/
theorem query2 (X : FVec Ideal S8192x1024 .f32) (N : FVec Ideal S1024 .f32) (A : FVec Ideal S8x6144 .f32) (W : FVec Ideal S1024x1536 .f32) (G : FVec Ideal S128 .f32) (P : FVec Ideal S256x1536 .f32) (g : FVec Ideal S1x128 .f32)
    (r : Fin 256) (b : Fin 32) (hP : ∀ o, P (ix2 r o) = val_main_v26 (F := Ideal) X N A W (ix3 b r o)) (hg : ∀ d, g (ix2 0 d) = G (ix1 d)) (d : Fin 128) :
    k0_pay7 (F := Ideal) P g (ix2 r d) = val_main_v41 (F := Ideal) X N A W G (ix4 b r 2 d) := by
  pointwise [k0_pay7, val_main_v41, val_main_v40, val_main_v39, val_main_v38, val_main_v37, val_main_v36, val_main_v35, val_main_v34, val_main_v33, val_main_v32, val_main_v31, val_main_v30, val_main_v29, val_main_v28, val_main_v27, val_main_cst, val_main_cst_0, val_main_cst_1, val_main_cst_2, val_main_cst_3, val_main_cst_4, val_main_cst_5, val_main_cst_6, val_main_cst_7, val_main_cst_8]
  simp only [hP, hg]

/-- Head 3 of the queries is the reference's, where the projection's row is. -/
theorem query3 (X : FVec Ideal S8192x1024 .f32) (N : FVec Ideal S1024 .f32) (A : FVec Ideal S8x6144 .f32) (W : FVec Ideal S1024x1536 .f32) (G : FVec Ideal S128 .f32) (P : FVec Ideal S256x1536 .f32) (g : FVec Ideal S1x128 .f32)
    (r : Fin 256) (b : Fin 32) (hP : ∀ o, P (ix2 r o) = val_main_v26 (F := Ideal) X N A W (ix3 b r o)) (hg : ∀ d, g (ix2 0 d) = G (ix1 d)) (d : Fin 128) :
    k0_pay8 (F := Ideal) P g (ix2 r d) = val_main_v41 (F := Ideal) X N A W G (ix4 b r 3 d) := by
  pointwise [k0_pay8, val_main_v41, val_main_v40, val_main_v39, val_main_v38, val_main_v37, val_main_v36, val_main_v35, val_main_v34, val_main_v33, val_main_v32, val_main_v31, val_main_v30, val_main_v29, val_main_v28, val_main_v27, val_main_cst, val_main_cst_0, val_main_cst_1, val_main_cst_2, val_main_cst_3, val_main_cst_4, val_main_cst_5, val_main_cst_6, val_main_cst_7, val_main_cst_8]
  simp only [hP, hg]

/-- Head 4 of the queries is the reference's, where the projection's row is. -/
theorem query4 (X : FVec Ideal S8192x1024 .f32) (N : FVec Ideal S1024 .f32) (A : FVec Ideal S8x6144 .f32) (W : FVec Ideal S1024x1536 .f32) (G : FVec Ideal S128 .f32) (P : FVec Ideal S256x1536 .f32) (g : FVec Ideal S1x128 .f32)
    (r : Fin 256) (b : Fin 32) (hP : ∀ o, P (ix2 r o) = val_main_v26 (F := Ideal) X N A W (ix3 b r o)) (hg : ∀ d, g (ix2 0 d) = G (ix1 d)) (d : Fin 128) :
    k0_pay9 (F := Ideal) P g (ix2 r d) = val_main_v41 (F := Ideal) X N A W G (ix4 b r 4 d) := by
  pointwise [k0_pay9, val_main_v41, val_main_v40, val_main_v39, val_main_v38, val_main_v37, val_main_v36, val_main_v35, val_main_v34, val_main_v33, val_main_v32, val_main_v31, val_main_v30, val_main_v29, val_main_v28, val_main_v27, val_main_cst, val_main_cst_0, val_main_cst_1, val_main_cst_2, val_main_cst_3, val_main_cst_4, val_main_cst_5, val_main_cst_6, val_main_cst_7, val_main_cst_8]
  simp only [hP, hg]

/-- Head 5 of the queries is the reference's, where the projection's row is. -/
theorem query5 (X : FVec Ideal S8192x1024 .f32) (N : FVec Ideal S1024 .f32) (A : FVec Ideal S8x6144 .f32) (W : FVec Ideal S1024x1536 .f32) (G : FVec Ideal S128 .f32) (P : FVec Ideal S256x1536 .f32) (g : FVec Ideal S1x128 .f32)
    (r : Fin 256) (b : Fin 32) (hP : ∀ o, P (ix2 r o) = val_main_v26 (F := Ideal) X N A W (ix3 b r o)) (hg : ∀ d, g (ix2 0 d) = G (ix1 d)) (d : Fin 128) :
    k0_pay13 (F := Ideal) (k0_pay10 P) (k0_pay11 g) (k0_pay12 P) (ix2 r d) = val_main_v41 (F := Ideal) X N A W G (ix4 b r 5 d) := by
  pointwise [k0_pay13, k0_pay10, k0_pay11, k0_pay12, val_main_v41, val_main_v40, val_main_v39, val_main_v38, val_main_v37, val_main_v36, val_main_v35, val_main_v34, val_main_v33, val_main_v32, val_main_v31, val_main_v30, val_main_v29, val_main_v28, val_main_v27, val_main_cst, val_main_cst_0, val_main_cst_1, val_main_cst_2, val_main_cst_3, val_main_cst_4, val_main_cst_5, val_main_cst_6, val_main_cst_7, val_main_cst_8]
  simp only [hP, hg]

/-- Head 6 of the queries is the reference's, where the projection's row is. -/
theorem query6 (X : FVec Ideal S8192x1024 .f32) (N : FVec Ideal S1024 .f32) (A : FVec Ideal S8x6144 .f32) (W : FVec Ideal S1024x1536 .f32) (G : FVec Ideal S128 .f32) (P : FVec Ideal S256x1536 .f32) (g : FVec Ideal S1x128 .f32)
    (r : Fin 256) (b : Fin 32) (hP : ∀ o, P (ix2 r o) = val_main_v26 (F := Ideal) X N A W (ix3 b r o)) (hg : ∀ d, g (ix2 0 d) = G (ix1 d)) (d : Fin 128) :
    k0_pay14 (F := Ideal) P g (ix2 r d) = val_main_v41 (F := Ideal) X N A W G (ix4 b r 6 d) := by
  pointwise [k0_pay14, val_main_v41, val_main_v40, val_main_v39, val_main_v38, val_main_v37, val_main_v36, val_main_v35, val_main_v34, val_main_v33, val_main_v32, val_main_v31, val_main_v30, val_main_v29, val_main_v28, val_main_v27, val_main_cst, val_main_cst_0, val_main_cst_1, val_main_cst_2, val_main_cst_3, val_main_cst_4, val_main_cst_5, val_main_cst_6, val_main_cst_7, val_main_cst_8]
  simp only [hP, hg]

/-- Head 7 of the queries is the reference's, where the projection's row is. -/
theorem query7 (X : FVec Ideal S8192x1024 .f32) (N : FVec Ideal S1024 .f32) (A : FVec Ideal S8x6144 .f32) (W : FVec Ideal S1024x1536 .f32) (G : FVec Ideal S128 .f32) (P : FVec Ideal S256x1536 .f32) (g : FVec Ideal S1x128 .f32)
    (r : Fin 256) (b : Fin 32) (hP : ∀ o, P (ix2 r o) = val_main_v26 (F := Ideal) X N A W (ix3 b r o)) (hg : ∀ d, g (ix2 0 d) = G (ix1 d)) (d : Fin 128) :
    k0_pay17 (F := Ideal) (k0_pay15 g) (k0_pay16 P) (ix2 r d) = val_main_v41 (F := Ideal) X N A W G (ix4 b r 7 d) := by
  pointwise [k0_pay17, k0_pay15, k0_pay16, val_main_v41, val_main_v40, val_main_v39, val_main_v38, val_main_v37, val_main_v36, val_main_v35, val_main_v34, val_main_v33, val_main_v32, val_main_v31, val_main_v30, val_main_v29, val_main_v28, val_main_v27, val_main_cst, val_main_cst_0, val_main_cst_1, val_main_cst_2, val_main_cst_3, val_main_cst_4, val_main_cst_5, val_main_cst_6, val_main_cst_7, val_main_cst_8]
  simp only [hP, hg]

/-- Head 0 of the keys is the reference's, where the projection's row is. -/
theorem key0 (X : FVec Ideal S8192x1024 .f32) (N : FVec Ideal S1024 .f32) (A : FVec Ideal S8x6144 .f32) (W : FVec Ideal S1024x1536 .f32) (G : FVec Ideal S128 .f32) (P : FVec Ideal S256x1536 .f32) (g : FVec Ideal S1x128 .f32)
    (r : Fin 256) (b : Fin 32) (hP : ∀ o, P (ix2 r o) = val_main_v26 (F := Ideal) X N A W (ix3 b r o)) (hg : ∀ d, g (ix2 0 d) = G (ix1 d)) (d : Fin 128) :
    k0_pay18 (F := Ideal) P g (ix2 r d) = val_main_v56 (F := Ideal) X N A W G (ix4 b r 0 d) := by
  pointwise [k0_pay18, val_main_v56, val_main_v55, val_main_v54, val_main_v53, val_main_v52, val_main_v51, val_main_v50, val_main_v49, val_main_v48, val_main_v47, val_main_v46, val_main_v45, val_main_v44, val_main_v43, val_main_v42, val_main_cst, val_main_cst_0, val_main_cst_1, val_main_cst_2, val_main_cst_3, val_main_cst_4, val_main_cst_5, val_main_cst_6, val_main_cst_7, val_main_cst_8]
  simp only [hP, hg]

/-- Head 1 of the keys is the reference's, where the projection's row is. -/
theorem key1 (X : FVec Ideal S8192x1024 .f32) (N : FVec Ideal S1024 .f32) (A : FVec Ideal S8x6144 .f32) (W : FVec Ideal S1024x1536 .f32) (G : FVec Ideal S128 .f32) (P : FVec Ideal S256x1536 .f32) (g : FVec Ideal S1x128 .f32)
    (r : Fin 256) (b : Fin 32) (hP : ∀ o, P (ix2 r o) = val_main_v26 (F := Ideal) X N A W (ix3 b r o)) (hg : ∀ d, g (ix2 0 d) = G (ix1 d)) (d : Fin 128) :
    k0_pay19 (F := Ideal) P g (ix2 r d) = val_main_v56 (F := Ideal) X N A W G (ix4 b r 1 d) := by
  pointwise [k0_pay19, val_main_v56, val_main_v55, val_main_v54, val_main_v53, val_main_v52, val_main_v51, val_main_v50, val_main_v49, val_main_v48, val_main_v47, val_main_v46, val_main_v45, val_main_v44, val_main_v43, val_main_v42, val_main_cst, val_main_cst_0, val_main_cst_1, val_main_cst_2, val_main_cst_3, val_main_cst_4, val_main_cst_5, val_main_cst_6, val_main_cst_7, val_main_cst_8]
  simp only [hP, hg, ← Nat.add_assoc, Nat.reduceAdd]

/-- The values are the reference's, where the projection's row is. -/
theorem value (X : FVec Ideal S8192x1024 .f32) (N : FVec Ideal S1024 .f32) (A : FVec Ideal S8x6144 .f32) (W : FVec Ideal S1024x1536 .f32) (P : FVec Ideal S256x1536 .f32)
    (r : Fin 256) (b : Fin 32) (hP : ∀ o, P (ix2 r o) = val_main_v26 (F := Ideal) X N A W (ix3 b r o)) (h : Fin 2) (d : Fin 128) (o : Fin 256) (ho : o.val = h.val * 128 + d.val) :
    k0_pay20 (F := Ideal) P (ix2 r o) = val_main_v58 (F := Ideal) X N A W (ix4 b r h d) := by
  pointwise [k0_pay20, val_main_v58, val_main_v57]
  simp only [hP, ho]

/-- A loading of a whole block is the block. -/
theorem loads (x : FVec Ideal S256x1024 .f32) (n : FVec Ideal S1x1024 .f32) (h : FVec Ideal S1x1x1024 .f32) (w : FVec Ideal S1024x1536 .bf16) (q : FVec Ideal S1x128 .f32) :
    View.ld (Val := Elt Ideal) (e' := .f32) x r0_0 = x ∧ View.ld (Val := Elt Ideal) (e' := .f32) n r0_1 = n ∧ View.ld (Val := Elt Ideal) (e' := .f32) h r0_2 = h
    ∧ View.ld (Val := Elt Ideal) (e' := .bf16) w r0_3 = w ∧ View.ld (Val := Elt Ideal) (e' := .f32) q r0_4 = q := by
  refine ⟨?_, ?_, ?_, ?_, ?_⟩ <;> exact View.ld_unit_zero (by funext a; fin_cases a <;> rfl) _ _

/-- The eight query heads of a block, stored one beside another, are the reference's rows. -/
theorem queries (X : FVec Ideal S8192x1024 .f32) (N : FVec Ideal S1024 .f32) (A : FVec Ideal S8x6144 .f32) (W : FVec Ideal S1024x1536 .f32) (Q : FVec Ideal S128 .f32) (x : FVec Ideal S256x1024 .f32) (n : FVec Ideal S1x1024 .f32) (h s : FVec Ideal S1x1x1024 .f32) (w : FVec Ideal S1024x1536 .bf16) (q k : FVec Ideal S1x128 .f32)
    (b : Fin 32) (hP : ∀ (r : Fin 256) (o : Fin 1536), k0_pay1 (F := Ideal) x n h s w (ix2 r o) = val_main_v26 (F := Ideal) X N A W (ix3 b r o))
    (hq : ∀ d, q (ix2 0 d) = Q (ix1 d)) (r : Fin 256) (o : Fin 1024) (R : Fin 8192) (hR : R.val = b.val * 256 + r.val) :
    out0_7 (F := Ideal) x n h s w q k (ix2 r o) = val_main_v60 (F := Ideal) X N A W Q (ix2 R o) := by
  obtain ⟨l0, l1, l2, l4, l5⟩ := loads x n h w q
  have l3 := (loads x n s w q).2.2.1
  unfold out0_7 k0_pay21
  rw [l0, l1, l2, l3, l4, l5]
  canon_tiles u hh
  case piece0 =>
    idx_vars u
    have e0 : r.val = u0.val := hh0
    have e1 : o.val = 896 + u1.val := hh1
    exact (query7 X N A W Q _ q u0 b (hP u0) hq u1).trans (query_result X N A W Q b u0 7 u1 R o (by omega) (by show o.val = 7 * 128 + u1.val; omega)).symm
  case piece1 =>
    idx_vars u
    have e0 : r.val = u0.val := hh0
    have e1 : o.val = 768 + u1.val := hh1
    exact (query6 X N A W Q _ q u0 b (hP u0) hq u1).trans (query_result X N A W Q b u0 6 u1 R o (by omega) (by show o.val = 6 * 128 + u1.val; omega)).symm
  case piece2 =>
    idx_vars u
    have e0 : r.val = u0.val := hh0
    have e1 : o.val = 640 + u1.val := hh1
    exact (query5 X N A W Q _ q u0 b (hP u0) hq u1).trans (query_result X N A W Q b u0 5 u1 R o (by omega) (by show o.val = 5 * 128 + u1.val; omega)).symm
  case piece3 =>
    idx_vars u
    have e0 : r.val = u0.val := hh0
    have e1 : o.val = 512 + u1.val := hh1
    exact (query4 X N A W Q _ q u0 b (hP u0) hq u1).trans (query_result X N A W Q b u0 4 u1 R o (by omega) (by show o.val = 4 * 128 + u1.val; omega)).symm
  case piece4 =>
    idx_vars u
    have e0 : r.val = u0.val := hh0
    have e1 : o.val = 384 + u1.val := hh1
    exact (query3 X N A W Q _ q u0 b (hP u0) hq u1).trans (query_result X N A W Q b u0 3 u1 R o (by omega) (by show o.val = 3 * 128 + u1.val; omega)).symm
  case piece5 =>
    idx_vars u
    have e0 : r.val = u0.val := hh0
    have e1 : o.val = 256 + u1.val := hh1
    exact (query2 X N A W Q _ q u0 b (hP u0) hq u1).trans (query_result X N A W Q b u0 2 u1 R o (by omega) (by show o.val = 2 * 128 + u1.val; omega)).symm
  case piece6 =>
    idx_vars u
    have e0 : r.val = u0.val := hh0
    have e1 : o.val = 128 + u1.val := hh1
    exact (query1 X N A W Q _ q u0 b (hP u0) hq u1).trans (query_result X N A W Q b u0 1 u1 R o (by omega) (by show o.val = 1 * 128 + u1.val; omega)).symm
  case piece7 =>
    idx_vars u
    have e0 : r.val = u0.val := hh0
    have e1 : o.val = u1.val := by simpa using hh1
    exact (query0 X N A W Q x n h s w q u0 b (hP u0) hq u1).trans (query_result X N A W Q b u0 0 u1 R o (by omega) (by show o.val = 0 * 128 + u1.val; omega)).symm

/-- The two key heads of a block, stored one beside another, are the reference's. -/
theorem keys (X : FVec Ideal S8192x1024 .f32) (N : FVec Ideal S1024 .f32) (A : FVec Ideal S8x6144 .f32) (W : FVec Ideal S1024x1536 .f32) (K : FVec Ideal S128 .f32) (x : FVec Ideal S256x1024 .f32) (n : FVec Ideal S1x1024 .f32) (h s : FVec Ideal S1x1x1024 .f32) (w : FVec Ideal S1024x1536 .bf16) (q k : FVec Ideal S1x128 .f32)
    (b : Fin 32) (hP : ∀ (r : Fin 256) (o : Fin 1536), k0_pay1 (F := Ideal) x n h s w (ix2 r o) = val_main_v26 (F := Ideal) X N A W (ix3 b r o))
    (hk : ∀ d, k (ix2 0 d) = K (ix1 d)) (r : Fin 256) (o : Fin 256) (g : Fin 2) (d : Fin 128) (ho : o.val = g.val * 128 + d.val) :
    out0_8 (F := Ideal) x n h s w q k (ix2 r o) = val_main_v56 (F := Ideal) X N A W K (ix4 b r g d) := by
  obtain ⟨l0, l1, l2, l4, l5⟩ := loads x n h w k
  have l3 := (loads x n s w q).2.2.1
  unfold out0_8 k0_pay21
  rw [l0, l1, l2, l3, l4, l5]
  canon_tiles u hh
  case piece0 =>
    idx_vars u
    have e0 : r = u0 := Fin.ext hh0
    have e1 : o.val = 128 + u1.val := hh1
    have eg : g = 1 := Fin.ext (by show g.val = 1; omega)
    have ed : d = u1 := Fin.ext (by omega)
    rw [eg, ed, e0]
    exact key1 X N A W K _ k u0 b (hP u0) hk u1
  case piece1 =>
    idx_vars u
    have e0 : r = u0 := Fin.ext hh0
    have e1 : o.val = u1.val := by simpa using hh1
    have eg : g = 0 := Fin.ext (by show g.val = 0; omega)
    have ed : d = u1 := Fin.ext (by omega)
    rw [eg, ed, e0]
    exact key0 X N A W K _ k u0 b (hP u0) hk u1

/-- The values of a block, stored whole, are the reference's. -/
theorem values (X : FVec Ideal S8192x1024 .f32) (N : FVec Ideal S1024 .f32) (A : FVec Ideal S8x6144 .f32) (W : FVec Ideal S1024x1536 .f32) (x : FVec Ideal S256x1024 .f32) (n : FVec Ideal S1x1024 .f32) (h s : FVec Ideal S1x1x1024 .f32) (w : FVec Ideal S1024x1536 .bf16) (q k : FVec Ideal S1x128 .f32)
    (b : Fin 32) (hP : ∀ (r : Fin 256) (o : Fin 1536), k0_pay1 (F := Ideal) x n h s w (ix2 r o) = val_main_v26 (F := Ideal) X N A W (ix3 b r o))
    (r : Fin 256) (o : Fin 256) (g : Fin 2) (d : Fin 128) (ho : o.val = g.val * 128 + d.val) :
    out0_9 (F := Ideal) x n h s w q k (ix2 r o) = val_main_v58 (F := Ideal) X N A W (ix4 b r g d) := by
  obtain ⟨l0, l1, l2, l4, l5⟩ := loads x n h w k
  have l3 := (loads x n s w q).2.2.1
  unfold out0_9 k0_pay21
  rw [l0, l1, l2, l3, l4]
  canon_tiles u hh
  case piece0 =>
    idx_vars u
    have e0 : r = u0 := Fin.ext (by simpa using hh0)
    have e1 : o = u1 := Fin.ext (by simpa using hh1)
    rw [← e0, ← e1]
    exact value X N A W _ r b (hP r) g d o ho

/-- An array by sample, row, head and feature, as rows of heads side by side. -/
def rows (T : FVec Ideal Cert.QkvReferenceIdeal.S32x256x2x128 .f32) : FVec Ideal S8192x256 .f32 := fun y =>
  T (ix4 (⟨(y 0).val / 256, by have h : (y 0).val < 8192 := (y 0).isLt; omega⟩ : Fin 32) (⟨(y 0).val % 256, by omega⟩ : Fin 256)
    (⟨(y 1).val / 128, by have h : (y 1).val < 256 := (y 1).isLt; omega⟩ : Fin 2) (⟨(y 1).val % 128, by omega⟩ : Fin 128))

/-- Such a row read at its coordinates. -/
theorem rows_apply (T : FVec Ideal Cert.QkvReferenceIdeal.S32x256x2x128 .f32) (R : Fin 8192) (o : Fin 256) (b : Fin 32) (r : Fin 256) (g : Fin 2) (d : Fin 128)
    (hR : R.val = b.val * 256 + r.val) (ho : o.val = g.val * 128 + d.val) : rows T (ix2 R o) = T (ix4 b r g d) := by
  show T _ = _
  congr 1
  blk_ext

/-- Such rows cut into samples, rows and heads again, with an axis of one after the samples. -/
theorem rows_cast (T : FVec Ideal Cert.QkvReferenceIdeal.S32x256x2x128 .f32) (h : S8192x256.ShapeCasts S32x1x256x2x128) (b : Fin 32) (z : Fin 1) (r : Fin 256) (g : Fin 2) (d : Fin 128) :
    shapeCast S32x1x256x2x128 (rows T) h (ix5 b z r g d) = T (ix4 b r g d) := by
  pointwise [rows]
  congr 1
  blk_ext

/-- The blocks of a point, read at coordinates: the rows, the norm's weights, the two modulation rows, the projection's weights and the two head norms' weights. -/
theorem blocks (c : Dev nD) (t : Fin cfg0.N) (r : Fin 256) (R : Fin 8192) (hR : R.val = t.val * 256 + r.val) (k : Fin 1024) (o : Fin 1536) (d : Fin 128) :
    iblk m c 0 t (ix2 r k) = (m ((c : Thread nD τ).loc main_arg0) : FVec Ideal S8192x1024 .f32) (ix2 R k)
    ∧ iblk m c 1 t (ix2 0 k) = (m ((c : Thread nD τ).loc main_arg1) : FVec Ideal S1024 .f32) (ix1 k)
    ∧ iblk m c 2 t (ix3 0 0 k) = (m ((c : Thread nD τ).loc main_arg2) : FVec Ideal S8x6144 .f32) (ix2 0 ⟨k.val, by omega⟩)
    ∧ iblk m c 3 t (ix3 0 0 k) = (m ((c : Thread nD τ).loc main_arg2) : FVec Ideal S8x6144 .f32) (ix2 0 ⟨1024 + k.val, by omega⟩)
    ∧ iblk m c 4 t (ix2 k o) = (m ((c : Thread nD τ).loc main_arg3) : FVec Ideal S1024x1536 .f32) (ix2 k o)
    ∧ iblk m c 5 t (ix2 0 d) = (m ((c : Thread nD τ).loc main_arg4) : FVec Ideal S128 .f32) (ix1 d)
    ∧ iblk m c 6 t (ix2 0 d) = (m ((c : Thread nD τ).loc main_arg5) : FVec Ideal S128 .f32) (ix1 d) := by
  refine ⟨?_, ?_, ?_, ?_, ?_, ?_, ?_⟩
  · blk_ext [iblk, V, idx t]
  · simp only [iblk]
    entry_read
    have e : (win0_1.blk t).view.emb (ix2 0 k) = (ix2 0 k : S1x1024.Idx) := by
      blk_ext [idx t]
    show shapeCast S1x1024 (m ((c : Thread nD τ).loc main_arg1) : FVec Ideal S1024 .f32) shapeCasts_S1024_S1x1024 ((win0_1.blk t).view.emb (ix2 0 k)) = _
    rw [e]
    exact Cert.Arrays.row _ _ k
  · simp only [iblk]
    entry_read
    have e : (win0_2.blk t).view.emb (ix3 0 0 k) = (ix3 0 0 k : S48x1x1024.Idx) := by
      blk_ext [idx t]
    show shapeCast S48x1x1024 (m ((c : Thread nD τ).loc main_arg2) : FVec Ideal S8x6144 .f32) shapeCasts_S8x6144_S48x1x1024 ((win0_2.blk t).view.emb (ix3 0 0 k)) = _
    rw [e]
    exact Cert.Arrays.modulation _ _ 0 0 _ rfl k _ (by show k.val = 0 * 1024 + k.val; omega)
  · simp only [iblk]
    entry_read
    have e : (win0_3.blk t).view.emb (ix3 0 0 k) = (ix3 1 0 k : S48x1x1024.Idx) := by
      blk_ext [idx t]
    show shapeCast S48x1x1024 (m ((c : Thread nD τ).loc main_arg2) : FVec Ideal S8x6144 .f32) shapeCasts_S8x6144_S48x1x1024 ((win0_3.blk t).view.emb (ix3 0 0 k)) = _
    rw [e]
    exact Cert.Arrays.modulation _ _ 0 1 _ rfl k _ (by show 1024 + k.val = 1 * 1024 + k.val; omega)
  · simp only [iblk]
    entry_read
    refine Eq.trans (b := truncf (F := Ideal) .bf16 (m ((c : Thread nD τ).loc main_arg3) : FVec Ideal S1024x1536 .f32) bitsLt_bf16_f32 (ix2 k o)) ?_ rfl
    congr 1
    blk_ext [idx t]
  · simp only [iblk]
    entry_read
    have e : (win0_5.blk t).view.emb (ix2 0 d) = (ix2 0 d : S1x128.Idx) := by
      blk_ext [idx t]
    show shapeCast S1x128 (m ((c : Thread nD τ).loc main_arg4) : FVec Ideal S128 .f32) shapeCasts_S128_S1x128 ((win0_5.blk t).view.emb (ix2 0 d)) = _
    rw [e]
    exact Cert.Arrays.row _ _ d
  · simp only [iblk]
    entry_read
    have e : (win0_6.blk t).view.emb (ix2 0 d) = (ix2 0 d : S1x128.Idx) := by
      blk_ext [idx t]
    show shapeCast S1x128 (m ((c : Thread nD τ).loc main_arg5) : FVec Ideal S128 .f32) shapeCasts_S128_S1x128 ((win0_6.blk t).view.emb (ix2 0 d)) = _
    rw [e]
    exact Cert.Arrays.row _ _ d

/-- The projection of a point's blocks is the reference's, sample `t`. -/
theorem point (c : Dev nD) (t : Fin cfg0.N) (b : Fin 32) (hb : b.val = t.val) (r : Fin 256) (o : Fin 1536) :
    k0_pay1 (F := Ideal) (iblk m c 0 t) (iblk m c 1 t) (iblk m c 2 t) (iblk m c 3 t) (iblk m c 4 t) (ix2 r o) = val_main_v26 (F := Ideal) (m ((c : Thread nD τ).loc main_arg0)) (m ((c : Thread nD τ).loc main_arg1)) (m ((c : Thread nD τ).loc main_arg2)) (m ((c : Thread nD τ).loc main_arg3)) (ix3 b r o) := by
  have h := fun k o => blocks m c t r ⟨b.val * 256 + r.val, by omega⟩ (by show b.val * 256 + r.val = _; omega) k o 0
  exact projection _ _ _ _ _ _ _ _ _ r b (fun k => (h k 0).1) (fun k => (h k 0).2.1) (fun k => (h k 0).2.2.1) (fun k => (h k 0).2.2.2.1)
    (fun k o => (h k o).2.2.2.2.1) o

/-- After the run the first output array is the reference's queries. -/
theorem final_query (c : Dev nD) : (dats m 0 c).arrAt 7 (cfgs 0).N = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after0_7]
  have ht : t.val < 32 := (idx t).2.2.2.2.2.2.2.2.2.2
  idx_vars y
  rename' y0 => r, y1 => o
  have hE : (((cfg0.win 7).blk t).view.emb (ix2 r o)) = (ix2 ⟨t.val * 256 + r.val, by omega⟩ o : S8192x1024.Idx) := by blk_ext [idx t]
  rw [hE]
  exact queries _ _ _ _ _ _ _ _ _ _ _ _ ⟨t.val, ht⟩ (fun r o => point m c t ⟨t.val, ht⟩ rfl r o) (fun d => (blocks m c t 0 ⟨t.val * 256 + (0 : Fin 256).val, by omega⟩ rfl 0 0 d).2.2.2.2.2.1)
    r o ⟨t.val * 256 + r.val, by omega⟩ rfl

/-- After the run the second output array is the reference's keys, a row's heads side by side. -/
theorem array_key (c : Dev nD) : (dats m 0 c).arrAt 8 (cfgs 0).N = rows (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg5))) := by
  refine (dats m 0 c).arrAt_eq_of_covers 8 _ (by decide +kernel) fun t hf y => ?_
  blk_simp; rw [after0_8]
  have ht : t.val < 32 := (idx t).2.2.2.2.2.2.2.2.2.2
  idx_vars y
  rename' y0 => r, y1 => o
  have hE : (((cfg0.win 8).blk t).view.emb (ix2 r o)) = (ix2 ⟨t.val * 256 + r.val, by omega⟩ o : S8192x256.Idx) := by blk_ext [idx t]
  rw [hE]
  rw [rows_apply _ _ _ ⟨t.val, ht⟩ r (⟨o.val / 128, by omega⟩ : Fin 2) (⟨o.val % 128, by omega⟩ : Fin 128) rfl (by show o.val = o.val / 128 * 128 + o.val % 128; omega)]
  exact keys _ _ _ _ _ _ _ _ _ _ _ _ ⟨t.val, ht⟩ (fun r o => point m c t ⟨t.val, ht⟩ rfl r o) (fun d => (blocks m c t 0 ⟨t.val * 256 + (0 : Fin 256).val, by omega⟩ rfl 0 0 d).2.2.2.2.2.2)
    r o _ _ (by show o.val = o.val / 128 * 128 + o.val % 128; omega)

/-- After the run the third output array is the reference's values, a row's heads side by side. -/
theorem array_value (c : Dev nD) : (dats m 0 c).arrAt 9 (cfgs 0).N = rows (val_main_v58 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 9 _ (by decide +kernel) fun t hf y => ?_
  blk_simp; rw [after0_9]
  have ht : t.val < 32 := (idx t).2.2.2.2.2.2.2.2.2.2
  idx_vars y
  rename' y0 => r, y1 => o
  have hE : (((cfg0.win 9).blk t).view.emb (ix2 r o)) = (ix2 ⟨t.val * 256 + r.val, by omega⟩ o : S8192x256.Idx) := by blk_ext [idx t]
  rw [hE]
  rw [rows_apply _ _ _ ⟨t.val, ht⟩ r (⟨o.val / 128, by omega⟩ : Fin 2) (⟨o.val % 128, by omega⟩ : Fin 128) rfl (by show o.val = o.val / 128 * 128 + o.val % 128; omega)]
  exact values _ _ _ _ _ _ _ _ _ _ _ ⟨t.val, ht⟩ (fun r o => point m c t ⟨t.val, ht⟩ rfl r o) r o _ _ (by show o.val = o.val / 128 * 128 + o.val % 128; omega)

/-- The second output array cut into samples, rows and heads is the reference's new keys. -/
theorem final_key (c : Dev nD) : shapeCast S32x1x256x2x128 ((dats m 0 c).arrAt 8 (cfgs 0).N : FVec Ideal S8192x256 .f32) shapeCasts_S8192x256_S32x1x256x2x128 = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  rw [array_key]
  funext y
  idx_vars y
  rw [val_main_v61_apply]
  refine (rows_cast _ _ _ _ _ _ _).trans ?_
  congr 1
  blk_ext

/-- The third output array cut into samples, rows and heads is the reference's new values. -/
theorem final_value (c : Dev nD) : shapeCast S32x1x256x2x128 ((dats m 0 c).arrAt 9 (cfgs 0).N : FVec Ideal S8192x256 .f32) shapeCasts_S8192x256_S32x1x256x2x128 = val_main_v62 (F := Ideal) (m ((c : Thread nD τ).loc main_arg0)) (m ((c : Thread nD τ).loc main_arg1)) (m ((c : Thread nD τ).loc main_arg2)) (m ((c : Thread nD τ).loc main_arg3)) := by
  rw [array_value]
  funext y
  idx_vars y
  rw [val_main_v62_apply]
  refine (rows_cast _ _ _ _ _ _ _).trans ?_
  congr 1
  blk_ext

/-- The second result of the program is its second output array, cut into samples, rows and heads. -/
theorem tail_key (c : Dev nD) : Pipeline.afterTail₀ cfgs (dats m) 0 (V0 m) [hostOps1] c main_v6
    = shapeCast S32x1x256x2x128 ((dats m 0 c).arrAt 8 (cfgs 0).N : FVec Ideal S8192x256 .f32) shapeCasts_S8192x256_S32x1x256x2x128 := by
  unfold Pipeline.afterTail₀
  simp only [hostOps1, List.flatten_cons, List.flatten_nil, List.append_nil]
  after_region_results
  rw [← Pipeline.Dat.withArrays_arrAt (dats m 0 c) sharedIn0 (V0 m c) (fun w => A_eq m c w) 8]
  rfl

/-- The third result of the program is its third output array, cut into samples, rows and heads. -/
theorem tail_value (c : Dev nD) : Pipeline.afterTail₀ cfgs (dats m) 0 (V0 m) [hostOps1] c main_v7
    = shapeCast S32x1x256x2x128 ((dats m 0 c).arrAt 9 (cfgs 0).N : FVec Ideal S8192x256 .f32) shapeCasts_S8192x256_S32x1x256x2x128 := by
  unfold Pipeline.afterTail₀
  simp only [hostOps1, List.flatten_cons, List.flatten_nil, List.append_nil]
  after_region_results
  rw [← Pipeline.Dat.withArrays_arrAt (dats m 0 c) sharedIn0 (V0 m c) (fun w => A_eq m c w) 9]
  rfl

end Cert.QkvKernelIdeal.Value

end
-- ==== Proof.GluValue.lean ====
/- The value of the gated input projection call: its output array is the reference's, row by row. -/
module

public import proofs.«01_k».proof.Proof.Gen.GluKernelIdeal.Frame
public import proofs.«01_k».proof.Proof.Gen.GluReferenceIdeal.Read
public import proofs.«01_k».proof.Proof.Arrays
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GluKernelIdeal.Value

open Cert.GluKernelIdeal Cert.GluKernelIdeal.Gen
open Cert.GluReferenceIdeal.Read

variable (m : (ℓ : Loc nD τ sig) → Buf (Elt Ideal) ℓ)

/-- Every window's block index at every grid point: the row block is `t`, the modulation rows those of sample `t / 8`. -/
theorem idx : ∀ t : Fin cfg0.N, win0_0.index t = ![t.val, 0]
    ∧ win0_1.index t = ![0, 0]
    ∧ win0_2.index t = ![(1 + t.val / 8) * 6, 0, 0]
    ∧ win0_3.index t = ![(1 + t.val / 8) * 6 + 1, 0, 0]
    ∧ win0_4.index t = ![0, 0]
    ∧ win0_5.index t = ![0, 0]
    ∧ win0_6.index t = ![t.val, 0]
    ∧ t.val < 32 :=
  (by decide +kernel : ∀ t : Fin grid0.N, _)

/-- A row of the payload is the reference's, where the blocks read the arguments. -/
theorem core (X : FVec Ideal S8192x1024 .f32) (G : FVec Ideal S1024 .f32) (A : FVec Ideal S8x6144 .f32) (W : FVec Ideal S1024x2048 .f32) (B : FVec Ideal S2048 .f32)
    (x : FVec Ideal S256x1024 .f32) (g : FVec Ideal S1x1024 .f32) (sh sc : FVec Ideal S1x1x1024 .f32) (w : FVec Ideal S1024x2048 .bf16) (b : FVec Ideal S1x2048 .f32)
    (r : Fin 256) (R : Fin 8192)
    (hx : ∀ k, x (ix2 r k) = X (ix2 R k)) (hg : ∀ k, g (ix2 0 k) = G (ix1 k))
    (hsh : ∀ k : Fin 1024, sh (ix3 0 0 k) = A (ix2 ⟨1 + R.val / 2048, by omega⟩ ⟨k.val, by omega⟩))
    (hsc : ∀ k : Fin 1024, sc (ix3 0 0 k) = A (ix2 ⟨1 + R.val / 2048, by omega⟩ ⟨1024 + k.val, by omega⟩))
    (hw : ∀ k o, w (ix2 k o) = W (ix2 k o)) (hb : ∀ o, b (ix2 0 o) = B (ix1 o)) (o : Fin 1024) :
    k0_pay1 (F := Ideal) x g sh sc w b (ix2 r o) = val_main_v39 (F := Ideal) X G A W B (ix2 R o) := by
  pointwise [k0_pay1, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  simp only [hx, hg, hsh, hsc, hw, hb, Ideal.logistic]

/-- The blocks of a point, read at coordinates: the rows, the norm's scale, the shift and scale rows, the weights and the bias. -/
theorem blocks (c : Dev nD) (t : Fin cfg0.N) (r : Fin 256) (R : Fin 8192) (hR : R.val = t.val * 256 + r.val) (s : Fin 8) (hs : s.val = 1 + t.val / 8)
    (k : Fin 1024) (o : Fin 2048) :
    iblk m c 0 t (ix2 r k) = (m ((c : Thread nD τ).loc main_arg0) : FVec Ideal S8192x1024 .f32) (ix2 R k)
    ∧ iblk m c 1 t (ix2 0 k) = (m ((c : Thread nD τ).loc main_arg1) : FVec Ideal S1024 .f32) (ix1 k)
    ∧ iblk m c 2 t (ix3 0 0 k) = (m ((c : Thread nD τ).loc main_arg2) : FVec Ideal S8x6144 .f32) (ix2 s ⟨k.val, by omega⟩)
    ∧ iblk m c 3 t (ix3 0 0 k) = (m ((c : Thread nD τ).loc main_arg2) : FVec Ideal S8x6144 .f32) (ix2 s ⟨1024 + k.val, by omega⟩)
    ∧ iblk m c 4 t (ix2 k o) = (m ((c : Thread nD τ).loc main_arg3) : FVec Ideal S1024x2048 .f32) (ix2 k o)
    ∧ iblk m c 5 t (ix2 0 o) = (m ((c : Thread nD τ).loc main_arg4) : FVec Ideal S2048 .f32) (ix1 o) := by
  refine ⟨?_, ?_, ?_, ?_, ?_, ?_⟩
  · blk_ext [iblk, V, idx t]
  · simp only [iblk]
    entry_read
    have e : (win0_1.blk t).view.emb (ix2 0 k) = (ix2 0 k : S1x1024.Idx) := by
      blk_ext [idx t]
    show shapeCast S1x1024 (m ((c : Thread nD τ).loc main_arg1) : FVec Ideal S1024 .f32) shapeCasts_S1024_S1x1024 ((win0_1.blk t).view.emb (ix2 0 k)) = _
    rw [e]
    exact Cert.Arrays.row _ _ k
  · simp only [iblk]
    entry_read
    have e : (win0_2.blk t).view.emb (ix3 0 0 k) = (ix3 ⟨s.val * 6 + 0, by omega⟩ 0 k : S48x1x1024.Idx) := by
      blk_ext [idx t]
    show shapeCast S48x1x1024 (m ((c : Thread nD τ).loc main_arg2) : FVec Ideal S8x6144 .f32) shapeCasts_S8x6144_S48x1x1024 ((win0_2.blk t).view.emb (ix3 0 0 k)) = _
    rw [e]
    exact Cert.Arrays.modulation _ _ s 0 _ rfl k _ (by show k.val = 0 * 1024 + k.val; omega)
  · simp only [iblk]
    entry_read
    have e : (win0_3.blk t).view.emb (ix3 0 0 k) = (ix3 ⟨s.val * 6 + 1, by omega⟩ 0 k : S48x1x1024.Idx) := by
      blk_ext [idx t]
    show shapeCast S48x1x1024 (m ((c : Thread nD τ).loc main_arg2) : FVec Ideal S8x6144 .f32) shapeCasts_S8x6144_S48x1x1024 ((win0_3.blk t).view.emb (ix3 0 0 k)) = _
    rw [e]
    exact Cert.Arrays.modulation _ _ s 1 _ rfl k _ (by show 1024 + k.val = 1 * 1024 + k.val; omega)
  · simp only [iblk]
    entry_read
    refine Eq.trans (b := truncf (F := Ideal) .bf16 (m ((c : Thread nD τ).loc main_arg3) : FVec Ideal S1024x2048 .f32) bitsLt_bf16_f32 (ix2 k o)) ?_ rfl
    congr 1
    blk_ext [idx t]
  · simp only [iblk]
    entry_read
    have e : (win0_5.blk t).view.emb (ix2 0 o) = (ix2 0 o : S1x2048.Idx) := by
      blk_ext [idx t]
    show shapeCast S1x2048 (m ((c : Thread nD τ).loc main_arg4) : FVec Ideal S2048 .f32) shapeCasts_S2048_S1x2048 ((win0_5.blk t).view.emb (ix2 0 o)) = _
    rw [e]
    exact Cert.Arrays.row _ _ o

/-- After the run the output array is the reference's result. -/
theorem final (c : Dev nD) : (dats m 0 c).arrAt 6 (cfgs 0).N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]; frame_out
  have ht : t.val < 32 := (idx t).2.2.2.2.2.2.2
  idx_vars y
  rename' y0 => r, y1 => o
  have hE : (((cfg0.win 6).blk t).view.emb (ix2 r o)) = (ix2 ⟨t.val * 256 + r.val, by omega⟩ o : S8192x1024.Idx) := by blk_ext [idx t]
  rw [hE]
  have hs : (⟨1 + (t.val * 256 + r.val) / 2048, by omega⟩ : Fin 8).val = 1 + t.val / 8 := by show 1 + (t.val * 256 + r.val) / 2048 = 1 + t.val / 8; omega
  have h := blocks m c t r ⟨t.val * 256 + r.val, by omega⟩ rfl _ hs
  exact core _ _ _ _ _ _ _ _ _ _ _ r ⟨t.val * 256 + r.val, by omega⟩ (fun k => (h k 0).1) (fun k => (h k 0).2.1) (fun k => (h k 0).2.2.1) (fun k => (h k 0).2.2.2.1)
    (fun k o => (h k o).2.2.2.2.1) (fun o => (h 0 o).2.2.2.2.2) o

end Cert.GluKernelIdeal.Value

end
-- ==== Proof.PlainValue.lean ====
/- The value of the Hyena input projection call: its output array is the reference's, row by row. -/
module

public import proofs.«01_k».proof.Proof.Gen.PlainKernelIdeal.Frame
public import proofs.«01_k».proof.Proof.Gen.PlainReferenceIdeal.Read
public import proofs.«01_k».proof.Proof.Arrays
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PlainKernelIdeal.Value

open Cert.PlainKernelIdeal Cert.PlainKernelIdeal.Gen
open Cert.PlainReferenceIdeal.Read

variable (m : (ℓ : Loc nD τ sig) → Buf (Elt Ideal) ℓ)

/-- Every window's block index at every grid point: the row block is `t`, the modulation rows those of sample `t / 8`. -/
theorem idx : ∀ t : Fin cfg0.N, win0_0.index t = ![t.val, 0]
    ∧ win0_1.index t = ![0, 0]
    ∧ win0_2.index t = ![(1 + t.val / 8) * 6, 0, 0]
    ∧ win0_3.index t = ![(1 + t.val / 8) * 6 + 1, 0, 0]
    ∧ win0_4.index t = ![0, 0]
    ∧ win0_5.index t = ![0, 0]
    ∧ win0_6.index t = ![t.val, 0]
    ∧ t.val < 32 :=
  (by decide +kernel : ∀ t : Fin grid0.N, _)

/-- A row of the payload is the reference's, where the blocks read the arguments. -/
theorem core (X : FVec Ideal S8192x1024 .f32) (G : FVec Ideal S1024 .f32) (A : FVec Ideal S8x6144 .f32) (W : FVec Ideal S1024x3072 .f32) (B : FVec Ideal S3072 .f32)
    (x : FVec Ideal S256x1024 .f32) (g : FVec Ideal S1x1024 .f32) (sh sc : FVec Ideal S1x1x1024 .f32) (w : FVec Ideal S1024x3072 .bf16) (b : FVec Ideal S1x3072 .f32)
    (r : Fin 256) (R : Fin 8192)
    (hx : ∀ k, x (ix2 r k) = X (ix2 R k)) (hg : ∀ k, g (ix2 0 k) = G (ix1 k))
    (hsh : ∀ k : Fin 1024, sh (ix3 0 0 k) = A (ix2 ⟨1 + R.val / 2048, by omega⟩ ⟨k.val, by omega⟩))
    (hsc : ∀ k : Fin 1024, sc (ix3 0 0 k) = A (ix2 ⟨1 + R.val / 2048, by omega⟩ ⟨1024 + k.val, by omega⟩))
    (hw : ∀ k o, w (ix2 k o) = W (ix2 k o)) (hb : ∀ o, b (ix2 0 o) = B (ix1 o)) (o : Fin 3072) :
    k0_pay1 (F := Ideal) x g sh sc w b (ix2 r o) = val_main_v30 (F := Ideal) X G A W B (ix2 R o) := by
  pointwise [k0_pay1, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [hx, hg, hsh, hsc, hw, hb]

/-- The blocks of a point, read at coordinates: the rows, the norm's scale, the shift and scale rows, the weights and the bias. -/
theorem blocks (c : Dev nD) (t : Fin cfg0.N) (r : Fin 256) (R : Fin 8192) (hR : R.val = t.val * 256 + r.val) (s : Fin 8) (hs : s.val = 1 + t.val / 8)
    (k : Fin 1024) (o : Fin 3072) :
    iblk m c 0 t (ix2 r k) = (m ((c : Thread nD τ).loc main_arg0) : FVec Ideal S8192x1024 .f32) (ix2 R k)
    ∧ iblk m c 1 t (ix2 0 k) = (m ((c : Thread nD τ).loc main_arg1) : FVec Ideal S1024 .f32) (ix1 k)
    ∧ iblk m c 2 t (ix3 0 0 k) = (m ((c : Thread nD τ).loc main_arg2) : FVec Ideal S8x6144 .f32) (ix2 s ⟨k.val, by omega⟩)
    ∧ iblk m c 3 t (ix3 0 0 k) = (m ((c : Thread nD τ).loc main_arg2) : FVec Ideal S8x6144 .f32) (ix2 s ⟨1024 + k.val, by omega⟩)
    ∧ iblk m c 4 t (ix2 k o) = (m ((c : Thread nD τ).loc main_arg3) : FVec Ideal S1024x3072 .f32) (ix2 k o)
    ∧ iblk m c 5 t (ix2 0 o) = (m ((c : Thread nD τ).loc main_arg4) : FVec Ideal S3072 .f32) (ix1 o) := by
  refine ⟨?_, ?_, ?_, ?_, ?_, ?_⟩
  · blk_ext [iblk, V, idx t]
  · simp only [iblk]
    entry_read
    have e : (win0_1.blk t).view.emb (ix2 0 k) = (ix2 0 k : S1x1024.Idx) := by
      blk_ext [idx t]
    show shapeCast S1x1024 (m ((c : Thread nD τ).loc main_arg1) : FVec Ideal S1024 .f32) shapeCasts_S1024_S1x1024 ((win0_1.blk t).view.emb (ix2 0 k)) = _
    rw [e]
    exact Cert.Arrays.row _ _ k
  · simp only [iblk]
    entry_read
    have e : (win0_2.blk t).view.emb (ix3 0 0 k) = (ix3 ⟨s.val * 6 + 0, by omega⟩ 0 k : S48x1x1024.Idx) := by
      blk_ext [idx t]
    show shapeCast S48x1x1024 (m ((c : Thread nD τ).loc main_arg2) : FVec Ideal S8x6144 .f32) shapeCasts_S8x6144_S48x1x1024 ((win0_2.blk t).view.emb (ix3 0 0 k)) = _
    rw [e]
    exact Cert.Arrays.modulation _ _ s 0 _ rfl k _ (by show k.val = 0 * 1024 + k.val; omega)
  · simp only [iblk]
    entry_read
    have e : (win0_3.blk t).view.emb (ix3 0 0 k) = (ix3 ⟨s.val * 6 + 1, by omega⟩ 0 k : S48x1x1024.Idx) := by
      blk_ext [idx t]
    show shapeCast S48x1x1024 (m ((c : Thread nD τ).loc main_arg2) : FVec Ideal S8x6144 .f32) shapeCasts_S8x6144_S48x1x1024 ((win0_3.blk t).view.emb (ix3 0 0 k)) = _
    rw [e]
    exact Cert.Arrays.modulation _ _ s 1 _ rfl k _ (by show 1024 + k.val = 1 * 1024 + k.val; omega)
  · simp only [iblk]
    entry_read
    refine Eq.trans (b := truncf (F := Ideal) .bf16 (m ((c : Thread nD τ).loc main_arg3) : FVec Ideal S1024x3072 .f32) bitsLt_bf16_f32 (ix2 k o)) ?_ rfl
    congr 1
    blk_ext [idx t]
  · simp only [iblk]
    entry_read
    have e : (win0_5.blk t).view.emb (ix2 0 o) = (ix2 0 o : S1x3072.Idx) := by
      blk_ext [idx t]
    show shapeCast S1x3072 (m ((c : Thread nD τ).loc main_arg4) : FVec Ideal S3072 .f32) shapeCasts_S3072_S1x3072 ((win0_5.blk t).view.emb (ix2 0 o)) = _
    rw [e]
    exact Cert.Arrays.row _ _ o

/-- After the run the output array is the reference's result. -/
theorem final (c : Dev nD) : (dats m 0 c).arrAt 6 (cfgs 0).N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]; frame_out
  have ht : t.val < 32 := (idx t).2.2.2.2.2.2.2
  idx_vars y
  rename' y0 => r, y1 => o
  have hE : (((cfg0.win 6).blk t).view.emb (ix2 r o)) = (ix2 ⟨t.val * 256 + r.val, by omega⟩ o : S8192x3072.Idx) := by blk_ext [idx t]
  rw [hE]
  have hs : (⟨1 + (t.val * 256 + r.val) / 2048, by omega⟩ : Fin 8).val = 1 + t.val / 8 := by show 1 + (t.val * 256 + r.val) / 2048 = 1 + t.val / 8; omega
  have h := blocks m c t r ⟨t.val * 256 + r.val, by omega⟩ rfl _ hs
  exact core _ _ _ _ _ _ _ _ _ _ _ r ⟨t.val * 256 + r.val, by omega⟩ (fun k => (h k 0).1) (fun k => (h k 0).2.1) (fun k => (h k 0).2.2.1) (fun k => (h k 0).2.2.2.1)
    (fun k o => (h k o).2.2.2.2.1) (fun o => (h 0 o).2.2.2.2.2) o

end Cert.PlainKernelIdeal.Value

end
-- ==== Proof.OutValue.lean ====
/- The value of the Hyena output projection call: its output array is the reference's, row by row. -/
module

public import proofs.«01_k».proof.Proof.Gen.OutKernelIdeal.Frame
public import proofs.«01_k».proof.Proof.Gen.OutReferenceIdeal.Read
public import proofs.«01_k».proof.Proof.Arrays
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutKernelIdeal.Value

open Cert.OutKernelIdeal Cert.OutKernelIdeal.Gen
open Cert.OutReferenceIdeal.Read

variable (m : (ℓ : Loc nD τ sig) → Buf (Elt Ideal) ℓ)

/-- Every window's block index at every grid point: the row block is `t`, the gate row that of sample `t / 8`. -/
theorem idx : ∀ t : Fin cfg0.N, win0_0.index t = ![t.val, 0]
    ∧ win0_1.index t = ![0, 0]
    ∧ win0_2.index t = ![0, 0]
    ∧ win0_3.index t = ![t.val, 0]
    ∧ win0_4.index t = ![(1 + t.val / 8) * 6 + 2, 0, 0]
    ∧ win0_5.index t = ![t.val, 0]
    ∧ t.val < 32 :=
  (by decide +kernel : ∀ t : Fin grid0.N, _)

/-- A row of the payload is the reference's, where the blocks read the arguments. -/
theorem core (Y : FVec Ideal S8192x1024 .f32) (W : FVec Ideal S1024x1024 .f32) (B : FVec Ideal S1024 .f32) (X : FVec Ideal S8192x1024 .f32) (A : FVec Ideal S8x6144 .f32)
    (a : FVec Ideal S256x1024 .f32) (w : FVec Ideal S1024x1024 .bf16) (b : FVec Ideal S1x1024 .f32) (x : FVec Ideal S256x1024 .f32) (g : FVec Ideal S1x1x1024 .f32)
    (r : Fin 256) (R : Fin 8192)
    (ha : ∀ k, a (ix2 r k) = Y (ix2 R k)) (hw : ∀ k o, w (ix2 k o) = W (ix2 k o)) (hb : ∀ o, b (ix2 0 o) = B (ix1 o)) (hx : ∀ k, x (ix2 r k) = X (ix2 R k))
    (hg : ∀ k : Fin 1024, g (ix3 0 0 k) = A (ix2 ⟨1 + R.val / 2048, by omega⟩ ⟨2048 + k.val, by omega⟩)) (o : Fin 1024) :
    k0_pay1 (F := Ideal) a w b x g (ix2 r o) = val_main_v13 (F := Ideal) Y W B X A (ix2 R o) := by
  pointwise [k0_pay1, val_main_v13, val_main_v12, val_main_v11, val_main_v10, val_main_v9, val_main_v8, val_main_v7, val_main_v6, val_main_v5, val_main_v4, val_main_v3, val_main_v2, val_main_v1, val_main_v0]
  simp only [ha, hw, hb, hx, hg]

/-- The blocks of a point, read at coordinates: the rows, the weights, the bias, the residual rows and the gate row. -/
theorem blocks (c : Dev nD) (t : Fin cfg0.N) (r : Fin 256) (R : Fin 8192) (hR : R.val = t.val * 256 + r.val) (s : Fin 8) (hs : s.val = 1 + t.val / 8)
    (k o : Fin 1024) :
    iblk m c 0 t (ix2 r k) = (m ((c : Thread nD τ).loc main_arg0) : FVec Ideal S8192x1024 .f32) (ix2 R k)
    ∧ iblk m c 1 t (ix2 k o) = (m ((c : Thread nD τ).loc main_arg1) : FVec Ideal S1024x1024 .f32) (ix2 k o)
    ∧ iblk m c 2 t (ix2 0 o) = (m ((c : Thread nD τ).loc main_arg2) : FVec Ideal S1024 .f32) (ix1 o)
    ∧ iblk m c 3 t (ix2 r k) = (m ((c : Thread nD τ).loc main_arg3) : FVec Ideal S8192x1024 .f32) (ix2 R k)
    ∧ iblk m c 4 t (ix3 0 0 o) = (m ((c : Thread nD τ).loc main_arg4) : FVec Ideal S8x6144 .f32) (ix2 s ⟨2048 + o.val, by omega⟩) := by
  refine ⟨?_, ?_, ?_, ?_, ?_⟩
  · blk_ext [iblk, V, idx t]
  · simp only [iblk]
    entry_read
    refine Eq.trans (b := truncf (F := Ideal) .bf16 (m ((c : Thread nD τ).loc main_arg1) : FVec Ideal S1024x1024 .f32) bitsLt_bf16_f32 (ix2 k o)) ?_ rfl
    congr 1
    blk_ext [idx t]
  · simp only [iblk]
    entry_read
    have e : (win0_2.blk t).view.emb (ix2 0 o) = (ix2 0 o : S1x1024.Idx) := by
      blk_ext [idx t]
    show shapeCast S1x1024 (m ((c : Thread nD τ).loc main_arg2) : FVec Ideal S1024 .f32) shapeCasts_S1024_S1x1024 ((win0_2.blk t).view.emb (ix2 0 o)) = _
    rw [e]
    exact Cert.Arrays.row _ _ o
  · blk_ext [iblk, V, idx t]
  · simp only [iblk]
    entry_read
    have e : (win0_4.blk t).view.emb (ix3 0 0 o) = (ix3 ⟨s.val * 6 + 2, by omega⟩ 0 o : S48x1x1024.Idx) := by
      blk_ext [idx t]
    show shapeCast S48x1x1024 (m ((c : Thread nD τ).loc main_arg4) : FVec Ideal S8x6144 .f32) shapeCasts_S8x6144_S48x1x1024 ((win0_4.blk t).view.emb (ix3 0 0 o)) = _
    rw [e]
    exact Cert.Arrays.modulation _ _ s 2 _ rfl o _ (by show 2048 + o.val = 2 * 1024 + o.val; omega)

/-- After the run the output array is the reference's result. -/
theorem final (c : Dev nD) : (dats m 0 c).arrAt 5 (cfgs 0).N = val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  have ht : t.val < 32 := (idx t).2.2.2.2.2.2
  idx_vars y
  rename' y0 => r, y1 => o
  have hE : (((cfg0.win 5).blk t).view.emb (ix2 r o)) = (ix2 ⟨t.val * 256 + r.val, by omega⟩ o : S8192x1024.Idx) := by blk_ext [idx t]
  rw [hE]
  have hs : (⟨1 + (t.val * 256 + r.val) / 2048, by omega⟩ : Fin 8).val = 1 + t.val / 8 := by show 1 + (t.val * 256 + r.val) / 2048 = 1 + t.val / 8; omega
  have h := blocks m c t r ⟨t.val * 256 + r.val, by omega⟩ rfl _ hs
  exact core _ _ _ _ _ _ _ _ _ _ r ⟨t.val * 256 + r.val, by omega⟩ (fun k => (h k 0).1) (fun k o => (h k o).2.1) (fun o => (h 0 o).2.2.1) (fun k => (h k 0).2.2.2.1)
    (fun o => (h 0 o).2.2.2.2) o

end Cert.OutKernelIdeal.Value

end
-- ==== Proof.RouterValue.lean ====
/- The value of the router call: its output array is the reference's, row by row. -/
module

public import proofs.«01_k».proof.Proof.Gen.RouterKernelIdeal.Frame
public import proofs.«01_k».proof.Proof.Gen.RouterReferenceIdeal.Read
public import proofs.«01_k».proof.Proof.Arrays
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RouterKernelIdeal.Value

open Cert.RouterKernelIdeal Cert.RouterKernelIdeal.Gen
open Cert.RouterReferenceIdeal.Read

variable (m : (ℓ : Loc nD τ sig) → Buf (Elt Ideal) ℓ)

/-- Every window's block index at every grid point: the row block is `t`, block `t % 8` of sample `t / 8`; the modulation rows are those of that sample. -/
theorem idx : ∀ t : Fin cfg0.N, win0_0.index t = ![t.val, 0]
    ∧ win0_1.index t = ![0, 0]
    ∧ win0_2.index t = ![(1 + t.val / 8) * 6 + 3, 0, 0]
    ∧ win0_3.index t = ![(1 + t.val / 8) * 6 + 4, 0, 0]
    ∧ win0_4.index t = ![0, 0]
    ∧ win0_5.index t = ![t.val, 0]
    ∧ win0_6.index t = ![t.val / 8, 0, t.val % 8]
    ∧ t.val < 32 :=
  (by decide +kernel : ∀ t : Fin grid0.N, _)

/-- A row of the modulated norm is the reference's, where the blocks read the arguments. -/
theorem normed (X : FVec Ideal S8192x1024 .f32) (N : FVec Ideal S1024 .f32) (A : FVec Ideal S8x6144 .f32) (x : FVec Ideal S256x1024 .f32) (n : FVec Ideal S1x1024 .f32) (h s : FVec Ideal S1x1x1024 .f32)
    (r : Fin 256) (b : Fin 4) (q : Fin 2048)
    (hx : ∀ k, x (ix2 r k) = X (ix2 ⟨b.val * 2048 + q.val, by omega⟩ k)) (hn : ∀ k, n (ix2 0 k) = N (ix1 k))
    (hh : ∀ k : Fin 1024, h (ix3 0 0 k) = A (ix2 ⟨1 + b.val, by omega⟩ ⟨3072 + k.val, by omega⟩))
    (hs : ∀ k : Fin 1024, s (ix3 0 0 k) = A (ix2 ⟨1 + b.val, by omega⟩ ⟨4096 + k.val, by omega⟩)) (k : Fin 1024) :
    k0_pay2 (F := Ideal) x n h s (ix2 r k) = val_main_v25 (F := Ideal) X N A (ix3 b q k) := by
  pointwise [k0_pay2, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [hx, hn, hh, hs]

/-- The kernel's affinity of a token for an expert, from its router scores. -/
theorem affinity (x : FVec Ideal S256x1024 .f32) (n : FVec Ideal S1x1024 .f32) (h s : FVec Ideal S1x1x1024 .f32) (w : FVec Ideal S16x1024 .f32)
    (L : Fin 16 → EReal) (r : Fin 256) (hL : ∀ e, ∑ k, w (ix2 e k) * k0_pay2 (F := Ideal) x n h s (ix2 r k) = L e) (e : Fin 16) :
    k0_pay1 (F := Ideal) (k0_pay4 x n h s w) (k0_pay5 x n h s w) (ix3 0 e r)
      = Ideal.div (Ideal.exp (L e - Finset.univ.fold max (Ideal.ofBits .f32 0xFF800000#32) L)) (∑ e', Ideal.exp (L e' - Finset.univ.fold max (Ideal.ofBits .f32 0xFF800000#32) L)) := by
  pointwise [k0_pay1, k0_pay4, k0_pay5]
  simp only [hL]

section Reference

variable (X : FVec Ideal S8192x1024 .f32) (N : FVec Ideal S1024 .f32) (A : FVec Ideal S8x6144 .f32) (W : FVec Ideal S1024x16 .f32)

/-- The reference's score of a token for an expert. -/
theorem score (b : Fin 4) (q : Fin 2048) (e : Fin 16) :
    val_main_v26 (F := Ideal) X N A W (ix3 b q e) = ∑ k, val_main_v25 (F := Ideal) X N A (ix3 b q k) * W (ix2 k e) := by
  pointwise [val_main_v26]

/-- A token's greatest score, as the reference folds it. -/
theorem greatest (b : Fin 4) (q : Fin 2048) :
    val_main_v27 (F := Ideal) X N A W (ix2 b q) = Finset.univ.fold max (Ideal.ofBits .f32 0xFF800000#32) fun e : Fin 16 => val_main_v26 (F := Ideal) X N A W (ix3 b q e) := by
  pointwise [val_main_v27, val_main_cst_3]

/-- What the reference subtracts from a token's scores: the greatest of them, which is not below minus infinity. -/
theorem shift (b : Fin 4) (q : Fin 2048) (e : Fin 16) :
    val_main_v31 (F := Ideal) X N A W (ix3 b q e) = Finset.univ.fold max (Ideal.ofBits .f32 0xFF800000#32) fun e : Fin 16 => val_main_v26 (F := Ideal) X N A W (ix3 b q e) := by
  have e : idx_main_v30 (idx_main_v31 (ix3 b q e)) = ix2 b q := by
    funext a; fin_cases a <;> rfl
  rw [val_main_v31_apply, val_main_v30_apply, val_main_v29_apply, val_main_v28_apply, val_main_cst_4_apply, e]
  refine Eq.trans (b := max (Ideal.ofBits .f32 0xFF800000#32) (val_main_v27 (F := Ideal) X N A W (ix2 b q))) ?_ ?_
  · generalize val_main_v27 (F := Ideal) X N A W = y
    rfl
  rw [greatest]
  exact max_eq_right (Finset.le_fold_max _ |>.mpr (Or.inl le_rfl))

/-- A token's exponential for an expert. -/
theorem weight (b : Fin 4) (q : Fin 2048) (e : Fin 16) :
    val_main_v33 (F := Ideal) X N A W (ix3 b q e)
      = Ideal.exp (val_main_v26 (F := Ideal) X N A W (ix3 b q e) - Finset.univ.fold max (Ideal.ofBits .f32 0xFF800000#32) fun e : Fin 16 => val_main_v26 (F := Ideal) X N A W (ix3 b q e)) := by
  rw [val_main_v33_apply, val_main_v32_apply, shift]
  generalize val_main_v26 (F := Ideal) X N A W = z
  rfl

/-- The reference's affinity of a token for an expert. -/
theorem share (b : Fin 4) (q : Fin 2048) (e : Fin 16) :
    val_main_v40 (F := Ideal) X N A W (ix3 b e q)
      = Ideal.div (val_main_v33 (F := Ideal) X N A W (ix3 b q e)) (∑ e' : Fin 16, val_main_v33 (F := Ideal) X N A W (ix3 b q e')) := by
  pointwise [val_main_v40, val_main_v37, val_main_v36, val_main_v35, val_main_v34, val_main_cst_5]

/-- The normed rows' result, by sample and token. -/
theorem normed_result (b : Fin 4) (q : Fin 2048) (R : Fin 8192) (k : Fin 1024) (hR : R.val = b.val * 2048 + q.val) :
    val_main_v39 (F := Ideal) X N A (ix2 R k) = val_main_v25 (F := Ideal) X N A (ix3 b q k) := by
  have e : idx_main_v38 (ix2 R k) = ix3 b q k := by blk_ext
  rw [← e, ← val_main_v38_apply]
  rfl

end Reference

/-- The blocks of a point, read at coordinates: the rows, the norm's weights, the two modulation rows and the router's weights, transposed. -/
theorem blocks (c : Dev nD) (t : Fin cfg0.N) (r : Fin 256) (R : Fin 8192) (hR : R.val = t.val * 256 + r.val) (s : Fin 8) (hs : s.val = 1 + t.val / 8) (k : Fin 1024) (e : Fin 16) :
    iblk m c 0 t (ix2 r k) = (m ((c : Thread nD τ).loc main_arg0) : FVec Ideal S8192x1024 .f32) (ix2 R k)
    ∧ iblk m c 1 t (ix2 0 k) = (m ((c : Thread nD τ).loc main_arg1) : FVec Ideal S1024 .f32) (ix1 k)
    ∧ iblk m c 2 t (ix3 0 0 k) = (m ((c : Thread nD τ).loc main_arg2) : FVec Ideal S8x6144 .f32) (ix2 s ⟨3072 + k.val, by omega⟩)
    ∧ iblk m c 3 t (ix3 0 0 k) = (m ((c : Thread nD τ).loc main_arg2) : FVec Ideal S8x6144 .f32) (ix2 s ⟨4096 + k.val, by omega⟩)
    ∧ iblk m c 4 t (ix2 e k) = (m ((c : Thread nD τ).loc main_arg3) : FVec Ideal S1024x16 .f32) (ix2 k e) := by
  refine ⟨?_, ?_, ?_, ?_, ?_⟩
  · blk_ext [iblk, V, idx t]
  · simp only [iblk]
    entry_read
    have e : (win0_1.blk t).view.emb (ix2 0 k) = (ix2 0 k : S1x1024.Idx) := by
      blk_ext [idx t]
    show shapeCast S1x1024 (m ((c : Thread nD τ).loc main_arg1) : FVec Ideal S1024 .f32) shapeCasts_S1024_S1x1024 ((win0_1.blk t).view.emb (ix2 0 k)) = _
    rw [e]
    exact Cert.Arrays.row _ _ k
  · simp only [iblk]
    entry_read
    have e : (win0_2.blk t).view.emb (ix3 0 0 k) = (ix3 ⟨s.val * 6 + 3, by omega⟩ 0 k : S48x1x1024.Idx) := by
      blk_ext [idx t]
    show shapeCast S48x1x1024 (m ((c : Thread nD τ).loc main_arg2) : FVec Ideal S8x6144 .f32) shapeCasts_S8x6144_S48x1x1024 ((win0_2.blk t).view.emb (ix3 0 0 k)) = _
    rw [e]
    exact Cert.Arrays.modulation _ _ s 3 _ rfl k _ (by show 3072 + k.val = 3 * 1024 + k.val; omega)
  · simp only [iblk]
    entry_read
    have e : (win0_3.blk t).view.emb (ix3 0 0 k) = (ix3 ⟨s.val * 6 + 4, by omega⟩ 0 k : S48x1x1024.Idx) := by
      blk_ext [idx t]
    show shapeCast S48x1x1024 (m ((c : Thread nD τ).loc main_arg2) : FVec Ideal S8x6144 .f32) shapeCasts_S8x6144_S48x1x1024 ((win0_3.blk t).view.emb (ix3 0 0 k)) = _
    rw [e]
    exact Cert.Arrays.modulation _ _ s 4 _ rfl k _ (by show 4096 + k.val = 4 * 1024 + k.val; omega)
  · simp only [iblk]
    entry_read
    have f : (win0_4.blk t).view.emb (ix2 e k) = (ix2 e k : S16x1024.Idx) := by
      blk_ext [idx t]
    show transpose S16x1024 [1, 0] (m ((c : Thread nD τ).loc main_arg3) : FVec Ideal S1024x16 .f32) transposes_S1024x16_S16x1024_1_0 ((win0_4.blk t).view.emb (ix2 e k)) = _
    rw [f]
    pointwise

/-- The normed rows of a point are the reference's, those of sample `b` from token `q` on. -/
theorem point (c : Dev nD) (t : Fin cfg0.N) (b : Fin 4) (hb : b.val = t.val / 8) (r : Fin 256) (q : Fin 2048) (hq : q.val = t.val % 8 * 256 + r.val) (k : Fin 1024) :
    k0_pay2 (F := Ideal) (iblk m c 0 t) (iblk m c 1 t) (iblk m c 2 t) (iblk m c 3 t) (ix2 r k) = val_main_v25 (F := Ideal) (m ((c : Thread nD τ).loc main_arg0)) (m ((c : Thread nD τ).loc main_arg1)) (m ((c : Thread nD τ).loc main_arg2)) (ix3 b q k) := by
  have h := fun k => blocks m c t r ⟨b.val * 2048 + q.val, by omega⟩ (by show b.val * 2048 + q.val = _; omega) ⟨1 + b.val, by omega⟩ (by show 1 + b.val = _; omega) k 0
  exact normed _ _ _ _ _ _ _ r b q (fun k => (h k).1) (fun k => (h k).2.1) (fun k => (h k).2.2.1) (fun k => (h k).2.2.2.1) k

/-- After the run the first output array is the reference's normed rows. -/
theorem final_normed (c : Dev nD) : (dats m 0 c).arrAt 5 (cfgs 0).N = val_main_v39 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  have ht : t.val < 32 := (idx t).2.2.2.2.2.2.2
  idx_vars y
  rename' y0 => r, y1 => o
  have hE : (((cfg0.win 5).blk t).view.emb (ix2 r o)) = (ix2 ⟨t.val * 256 + r.val, by omega⟩ o : S8192x1024.Idx) := by blk_ext [idx t]
  rw [hE]
  exact (point m c t ⟨t.val / 8, by omega⟩ rfl r ⟨t.val % 8 * 256 + r.val, by omega⟩ rfl o).trans
    (normed_result _ _ _ ⟨t.val / 8, by omega⟩ ⟨t.val % 8 * 256 + r.val, by omega⟩ _ o (by show t.val * 256 + r.val = t.val / 8 * 2048 + (t.val % 8 * 256 + r.val); omega)).symm

/-- After the run the second output array is the reference's affinities. -/
theorem final_affinity (c : Dev nD) : (dats m 0 c).arrAt 6 (cfgs 0).N = val_main_v40 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]; frame_out
  have ht : t.val < 32 := (idx t).2.2.2.2.2.2.2
  idx_vars y
  rename' y1 => e, y2 => r
  have hE : (((cfg0.win 6).blk t).view.emb (ix3 y0 e r)) = (ix3 ⟨t.val / 8, by omega⟩ e ⟨t.val % 8 * 256 + r.val, by omega⟩ : S4x16x2048.Idx) := by blk_ext [idx t]
  rw [hE]
  obtain rfl : y0 = 0 := Subsingleton.elim _ _
  refine (affinity _ _ _ _ _ (fun e => val_main_v26 (F := Ideal) (m ((c : Thread nD τ).loc main_arg0)) (m ((c : Thread nD τ).loc main_arg1)) (m ((c : Thread nD τ).loc main_arg2)) (m ((c : Thread nD τ).loc main_arg3)) (ix3 ⟨t.val / 8, by omega⟩ ⟨t.val % 8 * 256 + r.val, by omega⟩ e)) r (fun e => ?_) e).trans ?_
  · rw [score]
    refine Finset.sum_congr rfl fun k _ => ?_
    rw [point m c t ⟨t.val / 8, by omega⟩ rfl r ⟨t.val % 8 * 256 + r.val, by omega⟩ rfl k, mul_comm]
    congr 1
    exact (blocks m c t r ⟨t.val * 256 + r.val, by omega⟩ rfl ⟨1 + t.val / 8, by omega⟩ rfl k e).2.2.2.2
  · rw [share]
    simp only [weight]

end Cert.RouterKernelIdeal.Value

end
-- ==== Proof.ExpertSum.lean ====
module

public import Idealize.ShloMosaic.Lib.Pipeline.ValueKit
public import Idealize.ShloMosaic.Lib.Claim

@[expose] public section

noncomputable section

open Idealize.ShloMosaic Idealize.ShloMosaic.TcCoe

/-! One token's share of one expert's list: the row at the token's place, or nothing when the token has no place. -/

namespace Cert.ExpertSum

/-- A small number as a word, read signed, is the number. -/
theorem toInt_small (n : Nat) (h : n < 2 ^ 31) : (BitVec.ofNat 32 n).toInt = n := by
  rw [BitVec.toInt_eq_toNat_cond, BitVec.toNat_ofNat, Nat.mod_eq_of_lt (by omega), if_pos (by omega)]

/-- The row of a list of `C + 1` rows at the place `s`, read as a signed word; zero where the list has no such place. -/
def row {C : Nat} (s : BitVec 32) (Y : Fin (C + 1) → EReal) : EReal :=
  if 0 ≤ s.toInt ∧ s.toInt ≤ C then Y ⟨min s.toInt.toNat C, by omega⟩ else 0

/-- The sum of all rows, each times one where its number is the place and zero elsewhere, is the row at the place. -/
theorem row_of_sum {C : Nat} (hC : C < 2 ^ 31) (s : BitVec 32) (Y : Fin (C + 1) → EReal) :
    ∑ c : Fin (C + 1), Scalar.select (IntOp.cmpi .eq (BitVec.ofNat 32 c.val) s) (1 : EReal) 0 * Y c = row s Y := by
  have hsel : ∀ c : Fin (C + 1), Scalar.select (IntOp.cmpi .eq (BitVec.ofNat 32 c.val) s) (1 : EReal) 0 = if BitVec.ofNat 32 c.val = s then 1 else 0 := by
    intro c
    by_cases h : BitVec.ofNat 32 c.val = s
    · simp [Scalar.select, IntOp.cmpi, h]
    · have hb : (BitVec.ofNat 32 c.val == s) = false := by simpa using h
      simp [Scalar.select, IntOp.cmpi, h, hb]
  have hto : ∀ c : Fin (C + 1), (BitVec.ofNat 32 c.val).toInt = c.val := by
    intro c
    exact toInt_small c.val (by omega)
  simp only [hsel]
  unfold row
  split
  · rename_i h
    have hs : BitVec.ofNat 32 (min s.toInt.toNat C) = s := by
      apply BitVec.eq_of_toInt_eq
      rw [hto ⟨min s.toInt.toNat C, by omega⟩]
      simp only; omega
    rw [Finset.sum_eq_single (⟨min s.toInt.toNat C, by omega⟩ : Fin (C + 1))]
    · rw [if_pos hs, one_mul]
    · intro c _ hc
      rw [if_neg, zero_mul]
      intro e
      apply hc
      have := hto c
      rw [e] at this
      apply Fin.ext
      simp only; omega
    · intro h'; exact absurd (Finset.mem_univ _) h'
  · rename_i h
    refine Finset.sum_eq_zero fun c _ => ?_
    rw [if_neg, zero_mul]
    intro e
    have := hto c
    rw [e] at this
    exact h ⟨by omega, by omega⟩

/-- Reading the row at the place held within the list, and keeping it where the place is one of the list, is the row at
    the place. -/
theorem row_of_read {C : Nat} (hC : C + 1 < 2 ^ 31) (s : BitVec 32) (Y : Fin (C + 1) → EReal) (i : Fin (C + 1))
    (hi : i.val = min (Scalar.select (IntOp.cmpi .slt (IntOp.minsi (BitVec.ofNat 32 C) (IntOp.maxsi 0#32 s)) 0#32)
        (IntOp.addi (IntOp.minsi (BitVec.ofNat 32 C) (IntOp.maxsi 0#32 s)) (BitVec.ofNat 32 (C + 1)))
        (IntOp.minsi (BitVec.ofNat 32 C) (IntOp.maxsi 0#32 s))).toInt.toNat C) :
    Scalar.select (IntOp.andi (IntOp.cmpi .sge s 0#32) (IntOp.cmpi .slt s (BitVec.ofNat 32 (C + 1)))) (Y i) 0 = row s Y := by
  have hC0 : (BitVec.ofNat 32 C).toInt = C := toInt_small C (by omega)
  have hC1 : (BitVec.ofNat 32 (C + 1)).toInt = C + 1 := by
    rw [toInt_small (C + 1) (by omega)]; push_cast; rfl
  have h0 : (0#32).toInt = 0 := by decide
  unfold row
  by_cases h : 0 ≤ s.toInt ∧ s.toInt ≤ C
  · rw [if_pos h]
    have a1 : (0#32).sle s = true := by rw [BitVec.sle_eq_decide, h0]; simpa using h.1
    have a2 : s.slt (BitVec.ofNat 32 (C + 1)) = true := by rw [BitVec.slt_eq_decide, hC1]; simp; omega
    have hmax : (IntOp.maxsi 0#32 s).toInt = s.toInt := by
      unfold IntOp.maxsi
      split
      · rename_i q; rw [BitVec.slt_eq_decide, h0] at q; simp at q; omega
      · rfl
    have hmin : (IntOp.minsi (BitVec.ofNat 32 C) (IntOp.maxsi 0#32 s)).toInt = s.toInt := by
      unfold IntOp.minsi
      split
      · rename_i q; rw [BitVec.slt_eq_decide, hC0, hmax] at q; simp at q; omega
      · exact hmax
    have hlt : (IntOp.minsi (BitVec.ofNat 32 C) (IntOp.maxsi 0#32 s)).slt 0#32 = false := by
      rw [BitVec.slt_eq_decide, hmin, h0]; simpa using h.1
    have e : i = ⟨min s.toInt.toNat C, by omega⟩ := by
      apply Fin.ext
      rw [hi]
      simp [Scalar.select, IntOp.cmpi, hlt, hmin]
    rw [e]
    simp [Scalar.select, IntOp.cmpi, IntOp.andi, a1, a2]
  · rw [if_neg h]
    have : IntOp.andi (IntOp.cmpi .sge s 0#32) (IntOp.cmpi .slt s (BitVec.ofNat 32 (C + 1))) = 0#1 := by
      have q : ((0#32).sle s && s.slt (BitVec.ofNat 32 (C + 1))) = false := by
        rw [BitVec.sle_eq_decide, BitVec.slt_eq_decide, hC1, h0]
        simp; omega
      simp only [IntOp.andi, IntOp.cmpi]
      cases hx : (0#32).sle s <;> cases hy : s.slt (BitVec.ofNat 32 (C + 1)) <;> simp [hx, hy] at q ⊢
    rw [this]
    simp [Scalar.select]

/-- The dimension numbers of the reading of one row of each list per token: lists `[B, E, C, D]`, places `[B, E, L, 1]`. -/
abbrev rowDims (B E C L D : Nat)
    (wf : GatherDims.WF ⟨4, ![B, E, C, D]⟩ ⟨4, ![B, E, L, 1]⟩ ⟨4, ![B, E, L, D]⟩ [3] [2] [0, 1] [2] [0, 1] 3 ![1, 1, 1, D]) :
    GatherDims ⟨4, ![B, E, C, D]⟩ ⟨4, ![B, E, L, 1]⟩ ⟨4, ![B, E, L, D]⟩ where
  offsetDims := [3]
  collapsedSliceDims := [2]
  operandBatchingDims := [0, 1]
  startIndicesBatchingDims := [0, 1]
  startIndexMap := [2]
  indexVectorDim := 3
  sliceSizes := ![1, 1, 1, D]
  wf := wf

/-- That reading at an element: the list of its batch and expert, at the place held within the list, in its column. -/
theorem rows_apply {B E C L D w : Nat} {α : Type} (hC : 0 < C)
    (wf : GatherDims.WF ⟨4, ![B, E, C, D]⟩ ⟨4, ![B, E, L, 1]⟩ ⟨4, ![B, E, L, D]⟩ [3] [2] [0, 1] [2] [0, 1] 3 ![1, 1, 1, D])
    (x : (⟨4, ![B, E, C, D]⟩ : Shape).Idx → α) (idx : IVec ⟨4, ![B, E, L, 1]⟩ w) (b : Fin B) (e : Fin E) (l : Fin L) (d : Fin D) :
    Host.gather (rowDims B E C L D wf) x idx (ix4 b e l d)
      = x (ix4 b e ⟨min (idx (ix4 b e l 0)).toInt.toNat (C - 1), by omega⟩ d) := by
  unfold Host.gather
  congr 1
  funext a
  refine Fin.ext ?_
  show (rowDims B E C L D wf).start (ix4 b e l d) idx a + (rowDims B E C L D wf).batchCoord (ix4 b e l d) a
      + (rowDims B E C L D wf).offCoord (ix4 b e l d) a = _
  have hk : (rowDims B E C L D wf).sKept = [3] := by
    show List.filter _ (List.finRange 4) = [3]
    rfl
  match a with
  | ⟨0, _⟩ =>
    rw [GatherDims.start_batching _ _ _ _ (by simp), GatherDims.offCoord_eq_zero _ _ _ (by rw [hk]; simp)]
    simp only [Nat.zero_add, Nat.add_zero]
    unfold GatherDims.batchCoord
    rw [dif_pos (by simp)]
    rfl
  | ⟨1, _⟩ =>
    rw [GatherDims.start_batching _ _ _ _ (by simp), GatherDims.offCoord_eq_zero _ _ _ (by rw [hk]; simp)]
    simp only [Nat.zero_add, Nat.add_zero]
    unfold GatherDims.batchCoord
    rw [dif_pos (by simp)]
    rfl
  | ⟨2, _⟩ =>
    rw [GatherDims.batchCoord_eq_zero _ _ _ (by simp), GatherDims.offCoord_eq_zero _ _ _ (by rw [hk]; simp)]
    simp only [Nat.add_zero]
    unfold GatherDims.start
    rw [dif_pos (by simp)]
    have hsi : (rowDims B E C L D wf).siIdx (ix4 b e l d) ⟨List.idxOf (2 : Fin 4) (rowDims B E C L D wf).startIndexMap,
        List.idxOf_lt_length_iff.2 (List.mem_singleton.mpr rfl)⟩ = ix4 b e l 0 := by
      funext q; refine Fin.ext ?_
      match q with
      | ⟨0, _⟩ => rfl
      | ⟨1, _⟩ => rfl
      | ⟨2, _⟩ => rfl
      | ⟨3, _⟩ => rfl
    exact congrArg (fun q => min (idx q).toInt.toNat (C - 1)) hsi
  | ⟨3, _⟩ =>
    rw [GatherDims.batchCoord_eq_zero _ _ _ (by simp)]
    unfold GatherDims.start
    rw [dif_neg (by simp)]
    unfold GatherDims.offCoord
    rw [dif_pos (by rw [hk]; simp)]
    simp only [Nat.zero_add]
    rfl

end Cert.ExpertSum

end
-- ==== Proof.PromptRows.lean ====
/- The reference of the prompt tokens' last call, at an element: what each expert's list gives a token. -/
module

public import proofs.«01_k».proof.Proof.Gen.PromptReferenceIdeal.Read
public import proofs.«01_k».proof.Proof.ExpertSum
public import Idealize.ShloMosaic.Lib.Pipeline.ValueKit
public import Idealize.ShloMosaic.Lib.Claim

@[expose] public section

set_option maxRecDepth 16384

noncomputable section

open Idealize.ShloMosaic Idealize.ShloMosaic.TcCoe

namespace Cert.PromptReferenceIdeal.Rows

open Cert.PromptReferenceIdeal Cert.PromptReferenceIdeal.Read

variable (S : IVec S512x256 32) (Y : FVec Ideal S16x1024x1024 .bf16)

/-- The place looked up, as a word: the token's place held within the list. -/
theorem place (b : Fin 32) (e : Fin 16) (l : Fin 256) : val_main_v15 (F := Ideal) S (ix4 b e l 0)
    = Scalar.select (IntOp.cmpi .slt (IntOp.minsi (BitVec.ofNat 32 31) (IntOp.maxsi 0#32 (S (ix2 ⟨b.val * 16 + e.val, by omega⟩ l)))) 0#32)
        (IntOp.addi (IntOp.minsi (BitVec.ofNat 32 31) (IntOp.maxsi 0#32 (S (ix2 ⟨b.val * 16 + e.val, by omega⟩ l)))) (BitVec.ofNat 32 (31 + 1)))
        (IntOp.minsi (BitVec.ofNat 32 31) (IntOp.maxsi 0#32 (S (ix2 ⟨b.val * 16 + e.val, by omega⟩ l)))) := by
  pointwise [val_main_v15, val_main_v14, val_main_v13, val_main_v12, val_main_c_2, val_main_v11, val_main_v10, val_main_c_1, val_main_v9, val_main_call0_v4, val_main_call0_v3, val_main_call0_v2, val_main_call0_v1, val_main_call0_v0, val_main_c, val_main_c_0, val_main_v5]
  generalize S _ = s
  rfl

/-- What an expert's list of sequence `b` gives a token: the row at the token's place, or zero where it has none. -/
theorem share (b : Fin 32) (e : Fin 16) (l : Fin 256) (d : Fin 1024) : val_main_v23 (F := Ideal) S Y (ix4 b e l d)
    = ExpertSum.row (S (ix2 ⟨b.val * 16 + e.val, by omega⟩ l)) (fun k : Fin (31 + 1) => Y (ix3 e ⟨b.val * 32 + k.val, by omega⟩ d)) := by
  have hg : val_main_v16 (F := Ideal) S Y (ix4 b e l d)
      = val_main_v8 (F := Ideal) Y (ix4 b e ⟨min (val_main_v15 (F := Ideal) S (ix4 b e l 0)).toInt.toNat (32 - 1), by omega⟩ d) :=
    ExpertSum.rows_apply (by omega) gather_S32x16x32x1024_S32x16x256x1_S32x16x256x1024_3_2_01_01_2_3_1111024.wf _ _ b e l d
  have h8 : ∀ k : Fin 32, val_main_v8 (F := Ideal) Y (ix4 b e k d) = Y (ix3 e ⟨b.val * 32 + k.val, by omega⟩ d) := by
    intro k
    pointwise [val_main_v8, val_main_v7, val_main_v6]
  refine Eq.trans ?_ (ExpertSum.row_of_read (C := 31) (by omega) (S (ix2 ⟨b.val * 16 + e.val, by omega⟩ l)) (fun k => Y (ix3 e ⟨b.val * 32 + k.val, by omega⟩ d))
    ⟨min (val_main_v15 (F := Ideal) S (ix4 b e l 0)).toInt.toNat 31, by omega⟩ (congrArg (fun s : BitVec 32 => min s.toInt.toNat 31) (place S b e l)))
  have hz : val_main_call1_v2 (F := Ideal) (ix4 b e l d) = (0 : EReal) := by
    have h0 : val_main_cst (F := Ideal) ix0 = (0 : EReal) := by pointwise [val_main_cst]
    rw [val_main_call1_v2_apply]
    exact h0
  rw [val_main_v23_apply, hg, h8, hz]
  pointwise [val_main_call1_v1, val_main_v22, val_main_v21, val_main_v20, val_main_v19, val_main_c_4, val_main_v18, val_main_v17, val_main_c_3, val_main_v5]

/-- A token's sum over the experts. -/
theorem total (b : Fin 32) (l : Fin 256) (d : Fin 1024) : val_main_v24 (F := Ideal) S Y (ix3 b l d)
    = ∑ e : Fin 16, ExpertSum.row (S (ix2 ⟨b.val * 16 + e.val, by omega⟩ l)) (fun k : Fin (31 + 1) => Y (ix3 e ⟨b.val * 32 + k.val, by omega⟩ d)) := by
  rw [val_main_v24_apply]
  have h0 : val_main_cst_5 (F := Ideal) (Shape.Idx.first Gen.h_S_) = (0 : EReal) := by pointwise [val_main_cst_5]
  rw [h0, zero_add]
  refine Finset.sum_congr rfl fun e _ => ?_
  refine Eq.trans (congrArg (val_main_v23 (F := Ideal) S Y) ?_) (share S Y b e l d)
  funext a
  match a with
  | ⟨0, _⟩ => rfl
  | ⟨1, _⟩ => rfl
  | ⟨2, _⟩ => rfl
  | ⟨3, _⟩ => rfl

end Cert.PromptReferenceIdeal.Rows

end
-- ==== Proof.PromptValue.lean ====
/- The value of the last call for the context tokens: its output array is the reference's. -/
module

public import proofs.«01_k».proof.Proof.Gen.PromptKernelIdeal.Frame
public import proofs.«01_k».proof.Proof.PromptRows
public import proofs.«01_k».proof.Proof.Arrays
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PromptKernelIdeal.Value

open Cert.PromptKernelIdeal Cert.PromptKernelIdeal.Gen

variable (m : (ℓ : Loc nD τ sig) → Buf (Elt Ideal) ℓ)

/-- Every window's block index at every grid point: the sequence is `t`. -/
theorem idx : ∀ t : Fin cfg0.N, win0_0.index t = ![t.val, 0, 0]
    ∧ win0_1.index t = ![0, t.val, 0]
    ∧ win0_2.index t = ![t.val, 0]
    ∧ win0_3.index t = ![5, 0, 0]
    ∧ win0_4.index t = ![0, 0]
    ∧ win0_5.index t = ![t.val, 0]
    ∧ t.val < 32 :=
  (by decide +kernel : ∀ t : Fin grid0.N, _)

/-- The masks of all experts, one list below the other: one where a row's number in its list is the token's place in that list. -/
def places (s : IVec S1x16x256 32) : FVec Ideal S512x256 .f32 :=
  k0_pay2 (F := Ideal) (k0_pay19 (F := Ideal) s) (k0_pay20 (F := Ideal) s) (k0_pay21 (F := Ideal) s) (k0_pay22 (k0_pay6 (F := Ideal) s) (iota Kind.tc S32x256 32 [0] iota_S32x256_d0_w32))
    (k0_pay23 (k0_pay7 (F := Ideal) s)) (k0_pay24 (k0_pay8 (F := Ideal) s)) (k0_pay25 (k0_pay9 (F := Ideal) s)) (k0_pay26 (k0_pay10 (F := Ideal) s)) (k0_pay27 (k0_pay11 (F := Ideal) s))
    (k0_pay28 (k0_pay12 (F := Ideal) s)) (k0_pay29 (k0_pay13 (F := Ideal) s)) (k0_pay30 (k0_pay14 (F := Ideal) s)) (k0_pay31 (k0_pay15 (F := Ideal) s)) (k0_pay32 (k0_pay16 (F := Ideal) s))
    (k0_pay33 (k0_pay17 (F := Ideal) s)) (k0_pay1 (k0_pay18 (F := Ideal) s) (FloatOps.ofBits FTy.f32 1065353216#32) (FloatOps.ofBits FTy.f32 0#32))

/-- The mask of each expert's list. -/
def mask (s : IVec S1x16x256 32) : Fin 16 → IVec S32x256 1 :=
  ![k0_pay7 (F := Ideal) s, k0_pay8 (F := Ideal) s, k0_pay9 (F := Ideal) s, k0_pay10 (F := Ideal) s, k0_pay11 (F := Ideal) s, k0_pay12 (F := Ideal) s, k0_pay13 (F := Ideal) s, k0_pay14 (F := Ideal) s,
    k0_pay15 (F := Ideal) s, k0_pay16 (F := Ideal) s, k0_pay17 (F := Ideal) s, k0_pay18 (F := Ideal) s, k0_pay19 (F := Ideal) s, k0_pay20 (F := Ideal) s, k0_pay21 (F := Ideal) s,
    k0_pay22 (k0_pay6 (F := Ideal) s) (iota Kind.tc S32x256 32 [0] iota_S32x256_d0_w32)]

/-- A list's mask at a token. -/
theorem mask_apply (s : IVec S1x16x256 32) (e : Fin 16) (k : Fin 32) (l : Fin 256) : mask s e (ix2 k l)
    = IntOp.cmpi .eq (BitVec.ofNat 32 k.val) (s (ix3 0 e l)) := by
  fin_cases e
  · show k0_pay7 (F := Ideal) s (ix2 k l) = IntOp.cmpi .eq (BitVec.ofNat 32 k.val) (s (ix3 0 0 l))
    pointwise [k0_pay7, k0_pay6]
  · show k0_pay8 (F := Ideal) s (ix2 k l) = IntOp.cmpi .eq (BitVec.ofNat 32 k.val) (s (ix3 0 1 l))
    pointwise [k0_pay8, k0_pay6]
  · show k0_pay9 (F := Ideal) s (ix2 k l) = IntOp.cmpi .eq (BitVec.ofNat 32 k.val) (s (ix3 0 2 l))
    pointwise [k0_pay9, k0_pay6]
  · show k0_pay10 (F := Ideal) s (ix2 k l) = IntOp.cmpi .eq (BitVec.ofNat 32 k.val) (s (ix3 0 3 l))
    pointwise [k0_pay10, k0_pay6]
  · show k0_pay11 (F := Ideal) s (ix2 k l) = IntOp.cmpi .eq (BitVec.ofNat 32 k.val) (s (ix3 0 4 l))
    pointwise [k0_pay11, k0_pay6]
  · show k0_pay12 (F := Ideal) s (ix2 k l) = IntOp.cmpi .eq (BitVec.ofNat 32 k.val) (s (ix3 0 5 l))
    pointwise [k0_pay12, k0_pay6]
  · show k0_pay13 (F := Ideal) s (ix2 k l) = IntOp.cmpi .eq (BitVec.ofNat 32 k.val) (s (ix3 0 6 l))
    pointwise [k0_pay13, k0_pay6]
  · show k0_pay14 (F := Ideal) s (ix2 k l) = IntOp.cmpi .eq (BitVec.ofNat 32 k.val) (s (ix3 0 7 l))
    pointwise [k0_pay14, k0_pay6]
  · show k0_pay15 (F := Ideal) s (ix2 k l) = IntOp.cmpi .eq (BitVec.ofNat 32 k.val) (s (ix3 0 8 l))
    pointwise [k0_pay15, k0_pay6]
  · show k0_pay16 (F := Ideal) s (ix2 k l) = IntOp.cmpi .eq (BitVec.ofNat 32 k.val) (s (ix3 0 9 l))
    pointwise [k0_pay16, k0_pay6]
  · show k0_pay17 (F := Ideal) s (ix2 k l) = IntOp.cmpi .eq (BitVec.ofNat 32 k.val) (s (ix3 0 10 l))
    pointwise [k0_pay17, k0_pay6]
  · show k0_pay18 (F := Ideal) s (ix2 k l) = IntOp.cmpi .eq (BitVec.ofNat 32 k.val) (s (ix3 0 11 l))
    pointwise [k0_pay18, k0_pay6]
  · show k0_pay19 (F := Ideal) s (ix2 k l) = IntOp.cmpi .eq (BitVec.ofNat 32 k.val) (s (ix3 0 12 l))
    pointwise [k0_pay19, k0_pay6]
  · show k0_pay20 (F := Ideal) s (ix2 k l) = IntOp.cmpi .eq (BitVec.ofNat 32 k.val) (s (ix3 0 13 l))
    pointwise [k0_pay20, k0_pay6]
  · show k0_pay21 (F := Ideal) s (ix2 k l) = IntOp.cmpi .eq (BitVec.ofNat 32 k.val) (s (ix3 0 14 l))
    pointwise [k0_pay21, k0_pay6]
  · show k0_pay22 (k0_pay6 (F := Ideal) s) (iota Kind.tc S32x256 32 [0] iota_S32x256_d0_w32) (ix2 k l) = IntOp.cmpi .eq (BitVec.ofNat 32 k.val) (s (ix3 0 15 l))
    pointwise [k0_pay22, k0_pay6]

/-- A row of the masks at a token. -/
theorem places_apply (s : IVec S1x16x256 32) (e : Fin 16) (k : Fin 32) (l : Fin 256) : places s (ix2 ⟨e.val * 32 + k.val, by omega⟩ l)
    = Scalar.select (IntOp.cmpi .eq (BitVec.ofNat 32 k.val) (s (ix3 0 e l))) (1 : EReal) 0 := by
  have h : places s (ix2 ⟨e.val * 32 + k.val, by omega⟩ l) = k0_pay23 (F := Ideal) (mask s e) (ix2 k l) :=
    concatenate_ofFn_apply (t := S512x256) (s₁ := S32x256) 0 (fun n => k0_pay23 (F := Ideal) (mask s n)) concatenates_S32x256_S32x256_S32x256_S32x256_S32x256_S32x256_S32x256_S32x256_S32x256_S32x256_S32x256_S32x256_S32x256_S32x256_S32x256_S32x256_S512x256_d0 rfl 32 rfl
      (ix2 ⟨e.val * 32 + k.val, by omega⟩ l) e (by show (e.val * 32 + k.val) / 32 = e.val; omega) (ix2 k l) (by show k.val = (e.val * 32 + k.val) % 32; omega)
      (fun b hb => by match b with | ⟨0, _⟩ => exact absurd rfl hb | ⟨1, _⟩ => rfl)
  rw [h, ← mask_apply]
  pointwise [k0_pay23]

/-- One step adds, at a token, the row of every expert's list at the token's place. -/
theorem step (s : IVec S1x16x256 32) (y : FVec Ideal S16x32x1024 .bf16) (acc : FVec Ideal S256x1024 .f32) (l : Fin 256) (d : Fin 1024) :
    k0_pay3 (F := Ideal) (places s) y acc (ix2 l d) = acc (ix2 l d)
      + ∑ e : Fin 16, ExpertSum.row (s (ix3 0 e l)) (fun k : Fin (31 + 1) => y (ix3 e k d)) := by
  have hp := places_apply s
  generalize places s = q at hp ⊢
  pointwise [k0_pay3]
  rw [Fin.sum_univ_tiles 16 32 rfl]
  simp only [← ExpertSum.row_of_sum (C := 31) (by omega)]
  refine congrArg (acc (ix2 l d) + ·) (Finset.sum_congr rfl fun e _ => Finset.sum_congr rfl fun k _ => congrArg₂ (· * ·) (hp e k l) (congrArg y ?_))
  exact congrArg₂ (ix3 · · d) (Fin.ext (by show (e.val * 32 + k.val) / 32 = e.val; omega)) (Fin.ext (by show (e.val * 32 + k.val) % 32 = k.val; omega))

open Cert.PromptReferenceIdeal.Read in
/-- The gated residual and the norm of a row are the reference's, where the accumulator holds the reference's sum over the experts. -/
theorem core (S : IVec S512x256 32) (Y : FVec Ideal S16x1024x1024 .bf16) (X : FVec Ideal S8192x1024 .f32) (A : FVec Ideal S8x6144 .f32) (G : FVec Ideal S1024 .f32)
    (x : FVec Ideal S256x1024 .f32) (a : FVec Ideal S1x1x1024 .f32) (acc : FVec Ideal S256x1024 .f32) (g : FVec Ideal S1x1024 .f32)
    (l : Fin 256) (R : Fin 8192)
    (hx : ∀ k, x (ix2 l k) = X (ix2 R k)) (ha : ∀ k : Fin 1024, a (ix3 0 0 k) = A (ix2 0 ⟨5120 + k.val, by omega⟩))
    (hacc : ∀ k, acc (ix2 l k) = val_main_v24 (F := Ideal) S Y (ix3 ⟨R.val / 256, by omega⟩ ⟨R.val % 256, by omega⟩ k))
    (hg : ∀ k, g (ix2 0 k) = G (ix1 k)) (d : Fin 1024) :
    k0_pay4 (F := Ideal) x a acc g (ix2 l d) = val_main_v41 (F := Ideal) S Y X A G (ix2 R d) := by
  pointwise [k0_pay4, val_main_v41, val_main_v40, val_main_v39, val_main_v38, val_main_v37, val_main_v36, val_main_v35, val_main_v34, val_main_v33, val_main_cst_8, val_main_v32, val_main_v31, val_main_cst_7, val_main_v30, val_main_v29, val_main_cst_6, val_main_v28, val_main_v27, val_main_v26, val_main_v25, val_main_v4, val_main_v3, val_main_v2, val_main_v1, val_main_v0]
  simp only [hx, ha, hacc, hg]

/-- The blocks of a point, read at coordinates. -/
theorem blocks (c : Dev nD) (t : Fin cfg0.N) (l : Fin 256) (k : Fin 1024) (R : Fin 8192) (hR : R.val = t.val * 256 + l.val) :
    iblk m c 2 t (ix2 l k) = (m ((c : Thread nD τ).loc main_arg2) : FVec Ideal S8192x1024 .f32) (ix2 R k)
    ∧ iblk m c 3 t (ix3 0 0 k) = (m ((c : Thread nD τ).loc main_arg3) : FVec Ideal S8x6144 .f32) (ix2 0 ⟨5120 + k.val, by omega⟩)
    ∧ iblk m c 4 t (ix2 0 k) = (m ((c : Thread nD τ).loc main_arg4) : FVec Ideal S1024 .f32) (ix1 k) := by
  refine ⟨?_, ?_, ?_⟩
  · blk_ext [iblk, V, idx t]
  · simp only [iblk]
    entry_read
    have e : (win0_3.blk t).view.emb (ix3 0 0 k) = (ix3 5 0 k : S48x1x1024.Idx) := by
      blk_ext [idx t]
    show shapeCast S48x1x1024 (m ((c : Thread nD τ).loc main_arg3) : FVec Ideal S8x6144 .f32) shapeCasts_S8x6144_S48x1x1024 ((win0_3.blk t).view.emb (ix3 0 0 k)) = _
    rw [e]
    exact Cert.Arrays.modulation _ _ 0 5 5 rfl k _ (by show 5120 + k.val = 5 * 1024 + k.val; omega)
  · simp only [iblk]
    entry_read
    have e : (win0_4.blk t).view.emb (ix2 0 k) = (ix2 0 k : S1x1024.Idx) := by
      blk_ext [idx t]
    show shapeCast S1x1024 (m ((c : Thread nD τ).loc main_arg4) : FVec Ideal S1024 .f32) shapeCasts_S1024_S1x1024 ((win0_4.blk t).view.emb (ix2 0 k)) = _
    rw [e]
    exact Cert.Arrays.row _ _ k

/-- The places and the experts' rows of a point, read at coordinates. -/
theorem lists (c : Dev nD) (t : Fin cfg0.N) (e : Fin 16) (b : Fin 32) (hb : b.val = t.val) (l : Fin 256) (k : Fin (31 + 1)) (d : Fin 1024) :
    (iblk m c 0 t : IVec S1x16x256 32) (ix3 0 e l) = (m ((c : Thread nD τ).loc main_arg0) : IVec S512x256 32) (ix2 ⟨b.val * 16 + e.val, by omega⟩ l)
    ∧ (iblk m c 1 t : FVec Ideal S16x32x1024 .bf16) (ix3 e k d) = (m ((c : Thread nD τ).loc main_arg1) : FVec Ideal S16x1024x1024 .bf16) (ix3 e ⟨b.val * 32 + k.val, by omega⟩ d) := by
  refine ⟨?_, ?_⟩
  · simp only [iblk]
    entry_read
    have q : (win0_0.blk t).view.emb (ix3 0 e l) = (ix3 b e l : S32x16x256.Idx) := by
      blk_ext [idx t]
    show shapeCast S32x16x256 (m ((c : Thread nD τ).loc main_arg0) : IVec S512x256 32) shapeCasts_S512x256_S32x16x256 ((win0_0.blk t).view.emb (ix3 0 e l)) = _
    rw [q]
    refine shapeCast_apply _ _ _ (ix2 ⟨b.val * 16 + e.val, by omega⟩ l) ?_
    rw [Shape.rowMajor_val_two, Shape.rowMajor_val_three]
    rfl
  · blk_ext [iblk, V, idx t]

/-- One step from zero fills the accumulator with the reference's sum over the experts. -/
theorem summed (c : Dev nD) (t : Fin cfg0.N) (b : Fin 32) (hb : b.val = t.val) (l l' : Fin 256) (hl : l' = l) (d : Fin 1024) :
    k0_pay3 (F := Ideal) (places (iblk m c 0 t)) (iblk m c 1 t) (k0_pay5 (F := Ideal)) (ix2 l d)
      = Cert.PromptReferenceIdeal.Read.val_main_v24 (F := Ideal) (m ((c : Thread nD τ).loc main_arg0)) (m ((c : Thread nD τ).loc main_arg1)) (ix3 b l' d) := by
  have h0 : k0_pay5 (F := Ideal) (ix2 l d) = (0 : EReal) := by pointwise [k0_pay5]
  subst hl
  rw [Cert.PromptReferenceIdeal.Rows.total]
  refine (step _ _ _ l' d).trans ?_
  rw [h0, zero_add]
  refine Finset.sum_congr rfl fun e _ => ?_
  rw [(lists m c t e b hb l' 0 d).1]
  simp only [fun k => (lists m c t e b hb l' k d).2]

/-- The output block of a point is the gated residual and the norm over the accumulator, which one step fills from zero. -/
theorem last (c : Dev nD) (t : Fin cfg0.N) : outsAt0 m c t
    = k0_pay4 (F := Ideal) (iblk m c 2 t) (iblk m c 3 t) (k0_pay3 (F := Ideal) (places (iblk m c 0 t)) (iblk m c 1 t) (k0_pay5 (F := Ideal))) (iblk m c 4 t) := by
  unfold outsAt0
  frame_out
  rfl

/-- After the run the output array is the reference's result. -/
theorem final (c : Dev nD) : (dats m 0 c).arrAt 5 (cfgs 0).N
    = Cert.PromptReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h32 := (idx t).2.2.2.2.2.2
  blk_simp; rw [after0_5, last m c t]
  idx_vars y
  rename' y0 => l, y1 => d
  have hE : (((cfg0.win 5).blk t).view.emb (ix2 l d)) = (ix2 ⟨t.val * 256 + l.val, by omega⟩ d : S8192x1024.Idx) := by blk_ext [idx t]
  rw [hE]
  have h := fun k => blocks m c t l k ⟨t.val * 256 + l.val, by omega⟩ rfl
  exact core _ _ _ _ _ _ _ _ _ l ⟨t.val * 256 + l.val, by omega⟩ (fun k => (h k).1) (fun k => (h k).2.1)
    (fun k => summed m c t _ (by show (t.val * 256 + l.val) / 256 = t.val; omega) l _ (Fin.ext (by show (t.val * 256 + l.val) % 256 = l.val; omega)) k)
    (fun k => (h k).2.2) d

end Cert.PromptKernelIdeal.Value

end
-- ==== Proof.SampleRows.lean ====
/- The reference of the sample tokens' last call, at an element: what each expert's list gives a token. -/
module

public import proofs.«01_k».proof.Proof.Gen.SampleReferenceIdeal.Read
public import proofs.«01_k».proof.Proof.ExpertSum
public import Idealize.ShloMosaic.Lib.Pipeline.ValueKit
public import Idealize.ShloMosaic.Lib.Claim

@[expose] public section

set_option maxRecDepth 16384

noncomputable section

open Idealize.ShloMosaic Idealize.ShloMosaic.TcCoe

namespace Cert.SampleReferenceIdeal.Rows

open Cert.SampleReferenceIdeal Cert.SampleReferenceIdeal.Read

variable (S : IVec S64x2048 32) (Y : FVec Ideal S16x1024x1024 .bf16)

/-- The place looked up, as a word: the token's place held within the list. -/
theorem place (b : Fin 4) (e : Fin 16) (l : Fin 2048) : val_main_v15 (F := Ideal) S (ix4 b e l 0)
    = Scalar.select (IntOp.cmpi .slt (IntOp.minsi (BitVec.ofNat 32 255) (IntOp.maxsi 0#32 (S (ix2 ⟨b.val * 16 + e.val, by omega⟩ l)))) 0#32)
        (IntOp.addi (IntOp.minsi (BitVec.ofNat 32 255) (IntOp.maxsi 0#32 (S (ix2 ⟨b.val * 16 + e.val, by omega⟩ l)))) (BitVec.ofNat 32 (255 + 1)))
        (IntOp.minsi (BitVec.ofNat 32 255) (IntOp.maxsi 0#32 (S (ix2 ⟨b.val * 16 + e.val, by omega⟩ l)))) := by
  pointwise [val_main_v15, val_main_v14, val_main_v13, val_main_v12, val_main_c_2, val_main_v11, val_main_v10, val_main_c_1, val_main_v9, val_main_call0_v4, val_main_call0_v3, val_main_call0_v2, val_main_call0_v1, val_main_call0_v0, val_main_c, val_main_c_0, val_main_v5]
  generalize S _ = s
  rfl

/-- What an expert's list of sequence `b` gives a token: the row at the token's place, or zero where it has none. -/
theorem share (b : Fin 4) (e : Fin 16) (l : Fin 2048) (d : Fin 1024) : val_main_v23 (F := Ideal) S Y (ix4 b e l d)
    = ExpertSum.row (S (ix2 ⟨b.val * 16 + e.val, by omega⟩ l)) (fun k : Fin (255 + 1) => Y (ix3 e ⟨b.val * 256 + k.val, by omega⟩ d)) := by
  have hg : val_main_v16 (F := Ideal) S Y (ix4 b e l d)
      = val_main_v8 (F := Ideal) Y (ix4 b e ⟨min (val_main_v15 (F := Ideal) S (ix4 b e l 0)).toInt.toNat (256 - 1), by omega⟩ d) :=
    ExpertSum.rows_apply (by omega) gather_S4x16x256x1024_S4x16x2048x1_S4x16x2048x1024_3_2_01_01_2_3_1111024.wf _ _ b e l d
  have h8 : ∀ k : Fin 256, val_main_v8 (F := Ideal) Y (ix4 b e k d) = Y (ix3 e ⟨b.val * 256 + k.val, by omega⟩ d) := by
    intro k
    pointwise [val_main_v8, val_main_v7, val_main_v6]
  refine Eq.trans ?_ (ExpertSum.row_of_read (C := 255) (by omega) (S (ix2 ⟨b.val * 16 + e.val, by omega⟩ l)) (fun k => Y (ix3 e ⟨b.val * 256 + k.val, by omega⟩ d))
    ⟨min (val_main_v15 (F := Ideal) S (ix4 b e l 0)).toInt.toNat 255, by omega⟩ (congrArg (fun s : BitVec 32 => min s.toInt.toNat 255) (place S b e l)))
  have hz : val_main_call1_v2 (F := Ideal) (ix4 b e l d) = (0 : EReal) := by
    have h0 : val_main_cst (F := Ideal) ix0 = (0 : EReal) := by pointwise [val_main_cst]
    rw [val_main_call1_v2_apply]
    exact h0
  rw [val_main_v23_apply, hg, h8, hz]
  pointwise [val_main_call1_v1, val_main_v22, val_main_v21, val_main_v20, val_main_v19, val_main_c_4, val_main_v18, val_main_v17, val_main_c_3, val_main_v5]

/-- A token's sum over the experts. -/
theorem total (b : Fin 4) (l : Fin 2048) (d : Fin 1024) : val_main_v24 (F := Ideal) S Y (ix3 b l d)
    = ∑ e : Fin 16, ExpertSum.row (S (ix2 ⟨b.val * 16 + e.val, by omega⟩ l)) (fun k : Fin (255 + 1) => Y (ix3 e ⟨b.val * 256 + k.val, by omega⟩ d)) := by
  rw [val_main_v24_apply]
  have h0 : val_main_cst_5 (F := Ideal) (Shape.Idx.first Gen.h_S_) = (0 : EReal) := by pointwise [val_main_cst_5]
  rw [h0, zero_add]
  refine Finset.sum_congr rfl fun e _ => ?_
  refine Eq.trans (congrArg (val_main_v23 (F := Ideal) S Y) ?_) (share S Y b e l d)
  funext a
  match a with
  | ⟨0, _⟩ => rfl
  | ⟨1, _⟩ => rfl
  | ⟨2, _⟩ => rfl
  | ⟨3, _⟩ => rfl

end Cert.SampleReferenceIdeal.Rows

end
-- ==== Proof.SampleValue.lean ====
/- The value of the last call for the latent tokens: its output array is the reference's. -/
module

public import proofs.«01_k».proof.Proof.Gen.SampleKernelIdeal.Frame
public import proofs.«01_k».proof.Proof.SampleRows
public import proofs.«01_k».proof.Proof.Arrays
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SampleKernelIdeal.Value

open Cert.SampleKernelIdeal Cert.SampleKernelIdeal.Gen

variable (m : (ℓ : Loc nD τ sig) → Buf (Elt Ideal) ℓ)

/-- Every window's block index at every grid point: the sequence is `t / 16`, the half of its tokens `t / 8 % 2`, the pair of experts `t % 8`. -/
theorem idx : ∀ t : Fin cfg0.N, win0_0.index t = ![t.val / 16 * 8 + t.val % 8, 0, t.val / 8 % 2]
    ∧ win0_1.index t = ![t.val % 8, t.val / 16, 0]
    ∧ win0_2.index t = ![t.val / 8, 0]
    ∧ win0_3.index t = ![(1 + t.val / 16) * 6 + 5, 0, 0]
    ∧ win0_4.index t = ![0, 0]
    ∧ win0_5.index t = ![t.val / 8, 0]
    ∧ t.val < 64 :=
  (by decide +kernel : ∀ t : Fin grid0.N, _)

/-- The accumulator starts at zero. -/
theorem start (l d : Fin 1024) : k0_pay1 (F := Ideal) (ix2 l d) = (0 : EReal) := by
  pointwise [k0_pay1]

/-- One step adds, at a token, the row of each of the two experts' lists at the token's place. -/
theorem step (s : IVec S1x2x1024 32) (y : FVec Ideal S2x256x1024 .bf16) (acc : FVec Ideal S1024x1024 .f32) (l d : Fin 1024) :
    k0_pay2 (F := Ideal) s y acc (ix2 l d) = acc (ix2 l d)
      + (ExpertSum.row (s (ix3 0 0 l)) (fun k : Fin (255 + 1) => y (ix3 0 k d))
        + ExpertSum.row (s (ix3 0 1 l)) (fun k : Fin (255 + 1) => y (ix3 1 k d))) := by
  rw [← ExpertSum.row_of_sum (C := 255) (by omega), ← ExpertSum.row_of_sum (C := 255) (by omega)]
  pointwise [k0_pay2]
  refine congrArg (acc (ix2 l d) + ·) (congrArg₂ (· + ·) (Finset.sum_congr rfl fun k _ => congrArg (Scalar.select _ · _) (congrArg y ?_))
    (Finset.sum_congr rfl fun k _ => congrArg (Scalar.select _ · _) (congrArg y ?_)))
  · exact congrArg₂ (ix3 · · d) (Fin.ext (by show k.val / 256 = 0; omega)) (Fin.ext (by show k.val % 256 = k.val; omega))
  · exact congrArg₂ (ix3 · · d) (Fin.ext (by show (256 + k.val) / 256 = 1; omega)) (Fin.ext (by show (256 + k.val) % 256 = k.val; omega))

/-- What the two experts of a point give a token. -/
def pair (c : Dev nD) (t : Fin cfg0.N) (l d : Fin 1024) : EReal :=
  ExpertSum.row ((iblk m c 0 t : IVec S1x2x1024 32) (ix3 0 0 l)) (fun k : Fin (255 + 1) => (iblk m c 1 t : FVec Ideal S2x256x1024 .bf16) (ix3 0 k d))
    + ExpertSum.row ((iblk m c 0 t : IVec S1x2x1024 32) (ix3 0 1 l)) (fun k : Fin (255 + 1) => (iblk m c 1 t : FVec Ideal S2x256x1024 .bf16) (ix3 1 k d))

/-- The first pair of experts leaves in the accumulator what it gives. -/
theorem first (c : Dev nD) (t : Fin cfg0.N) (h0 : t.val % 8 = 0) (l d : Fin 1024) :
    ((outsAt0 m c t.val t.isLt).2 : FVec Ideal S1024x1024 .f32) (ix2 l d) = pair m c t l d := by
  rw [outsAt0_A m c t h0 (by omega)]; dsimp only
  frame_out
  refine (step _ _ _ l d).trans ?_
  rw [start, zero_add]
  rfl

/-- Every later pair of experts adds what it gives. -/
theorem later (c : Dev nD) (t : Fin cfg0.N) (h0 : ¬ t.val % 8 = 0) (l d : Fin 1024) :
    ((outsAt0 m c t.val t.isLt).2 : FVec Ideal S1024x1024 .f32) (ix2 l d)
      = ((outsAt0 m c (t.val - 1) (Nat.lt_of_le_of_lt (Nat.sub_le _ _) t.isLt)).2 : FVec Ideal S1024x1024 .f32) (ix2 l d) + pair m c t l d := by
  by_cases h1 : t.val % 8 = 7
  · rw [outsAt0_C m c t h0 h1]; dsimp only
    frame_out
    simp (discharger := first | decide | (intro a; fin_cases a <;> rfl)) only [read_unread_whole, View.readCov_cons_toLoadRect, ↓View.readCov_skip, View.readCov_fill]
    exact step _ _ _ l d
  · rw [outsAt0_B m c t h0 h1]; dsimp only
    frame_out
    simp (discharger := first | decide | (intro a; fin_cases a <;> rfl)) only [read_unread_whole, View.readCov_cons_toLoadRect, ↓View.readCov_skip, View.readCov_fill]
    exact step _ _ _ l d

open Cert.SampleReferenceIdeal.Read in
/-- The gated residual and the norm of a row are the reference's, where the accumulator holds the reference's sum over the experts. -/
theorem core (S : IVec S64x2048 32) (Y : FVec Ideal S16x1024x1024 .bf16) (X : FVec Ideal S8192x1024 .f32) (A : FVec Ideal S8x6144 .f32) (G : FVec Ideal S1024 .f32)
    (x : FVec Ideal S1024x1024 .f32) (a : FVec Ideal S1x1x1024 .f32) (acc : FVec Ideal S1024x1024 .f32) (g : FVec Ideal S1x1024 .f32)
    (l : Fin 1024) (R : Fin 8192)
    (hx : ∀ k, x (ix2 l k) = X (ix2 R k)) (ha : ∀ k : Fin 1024, a (ix3 0 0 k) = A (ix2 ⟨1 + R.val / 2048, by omega⟩ ⟨5120 + k.val, by omega⟩))
    (hacc : ∀ k, acc (ix2 l k) = val_main_v24 (F := Ideal) S Y (ix3 ⟨R.val / 2048, by omega⟩ ⟨R.val % 2048, by omega⟩ k))
    (hg : ∀ k, g (ix2 0 k) = G (ix1 k)) (d : Fin 1024) :
    k0_pay3 (F := Ideal) x a acc g (ix2 l d) = val_main_v41 (F := Ideal) S Y X A G (ix2 R d) := by
  pointwise [k0_pay3, val_main_v41, val_main_v40, val_main_v39, val_main_v38, val_main_v37, val_main_v36, val_main_v35, val_main_v34, val_main_v33, val_main_cst_8, val_main_v32, val_main_v31, val_main_cst_7, val_main_v30, val_main_v29, val_main_cst_6, val_main_v28, val_main_v27, val_main_v26, val_main_v25, val_main_v4, val_main_v3, val_main_v2, val_main_v1, val_main_v0]
  simp only [hx, ha, hacc, hg]

/-- The blocks of a point, read at coordinates. -/
theorem blocks (c : Dev nD) (t : Fin cfg0.N) (l k : Fin 1024) (R : Fin 8192) (hR : R.val = t.val / 8 * 1024 + l.val) (s : Fin 8) (hs : s.val = 1 + t.val / 16) :
    iblk m c 2 t (ix2 l k) = (m ((c : Thread nD τ).loc main_arg2) : FVec Ideal S8192x1024 .f32) (ix2 R k)
    ∧ iblk m c 3 t (ix3 0 0 k) = (m ((c : Thread nD τ).loc main_arg3) : FVec Ideal S8x6144 .f32) (ix2 s ⟨5120 + k.val, by omega⟩)
    ∧ iblk m c 4 t (ix2 0 k) = (m ((c : Thread nD τ).loc main_arg4) : FVec Ideal S1024 .f32) (ix1 k) := by
  refine ⟨?_, ?_, ?_⟩
  · blk_ext [iblk, V, idx t]
  · simp only [iblk]
    entry_read
    have e : (win0_3.blk t).view.emb (ix3 0 0 k) = (ix3 ⟨s.val * 6 + 5, by omega⟩ 0 k : S48x1x1024.Idx) := by
      blk_ext [idx t]
    show shapeCast S48x1x1024 (m ((c : Thread nD τ).loc main_arg3) : FVec Ideal S8x6144 .f32) shapeCasts_S8x6144_S48x1x1024 ((win0_3.blk t).view.emb (ix3 0 0 k)) = _
    rw [e]
    exact Cert.Arrays.modulation _ _ s 5 _ rfl k _ (by show 5120 + k.val = 5 * 1024 + k.val; omega)
  · simp only [iblk]
    entry_read
    have e : (win0_4.blk t).view.emb (ix2 0 k) = (ix2 0 k : S1x1024.Idx) := by
      blk_ext [idx t]
    show shapeCast S1x1024 (m ((c : Thread nD τ).loc main_arg4) : FVec Ideal S1024 .f32) shapeCasts_S1024_S1x1024 ((win0_4.blk t).view.emb (ix2 0 k)) = _
    rw [e]
    exact Cert.Arrays.row _ _ k

/-- The places and the experts' rows of a point, read at coordinates. -/
theorem lists (c : Dev nD) (t : Fin cfg0.N) (i : Fin 2) (e : Fin 16) (he : e.val = t.val % 8 * 2 + i.val) (b : Fin 4) (hb : b.val = t.val / 16)
    (l : Fin 1024) (L : Fin 2048) (hL : L.val = t.val / 8 % 2 * 1024 + l.val) (k : Fin (255 + 1)) (d : Fin 1024) :
    (iblk m c 0 t : IVec S1x2x1024 32) (ix3 0 i l) = (m ((c : Thread nD τ).loc main_arg0) : IVec S64x2048 32) (ix2 ⟨b.val * 16 + e.val, by omega⟩ L)
    ∧ (iblk m c 1 t : FVec Ideal S2x256x1024 .bf16) (ix3 i k d) = (m ((c : Thread nD τ).loc main_arg1) : FVec Ideal S16x1024x1024 .bf16) (ix3 e ⟨b.val * 256 + k.val, by omega⟩ d) := by
  refine ⟨?_, ?_⟩
  · simp only [iblk]
    entry_read
    have q : (win0_0.blk t).view.emb (ix3 0 i l) = (ix3 ⟨b.val * 8 + t.val % 8, by omega⟩ i L : S32x2x2048.Idx) := by
      blk_ext [idx t]
    show shapeCast S32x2x2048 (m ((c : Thread nD τ).loc main_arg0) : IVec S64x2048 32) shapeCasts_S64x2048_S32x2x2048 ((win0_0.blk t).view.emb (ix3 0 i l)) = _
    rw [q]
    refine shapeCast_apply _ _ _ (ix2 ⟨b.val * 16 + e.val, by omega⟩ L) ?_
    rw [Shape.rowMajor_val_two, Shape.rowMajor_val_three]
    show (b.val * 16 + e.val) * 2048 + L.val = ((b.val * 8 + t.val % 8) * 2 + i.val) * 2048 + L.val
    omega
  · blk_ext [iblk, V, idx t]

/-- After the last pair of experts the accumulator holds the reference's sum over the experts. -/
theorem summed (c : Dev nD) (t : Fin cfg0.N) (h7 : t.val % 8 = 7) (b : Fin 4) (hb : b.val = t.val / 16)
    (l : Fin 1024) (L : Fin 2048) (hL : L.val = t.val / 8 % 2 * 1024 + l.val) (d : Fin 1024) :
    ((outsAt0 m c t.val t.isLt).2 : FVec Ideal S1024x1024 .f32) (ix2 l d)
      = Cert.SampleReferenceIdeal.Read.val_main_v24 (F := Ideal) (m ((c : Thread nD τ).loc main_arg0)) (m ((c : Thread nD τ).loc main_arg1)) (ix3 b L d) := by
  have ht : t.val < cfg0.N := t.isLt
  have h64 := (idx t).2.2.2.2.2.2
  rw [Cert.SampleReferenceIdeal.Rows.total, Fin.sum_univ_tiles 8 2 rfl]
  have hp : ∀ (n : Nat) (hn : t.val - n < cfg0.N) (hn7 : n ≤ 7), pair m c ⟨t.val - n, hn⟩ l d
      = ∑ i : Fin 2, ExpertSum.row ((m ((c : Thread nD τ).loc main_arg0) : IVec S64x2048 32) (ix2 ⟨b.val * 16 + ((7 - n) * 2 + i.val), by omega⟩ L))
          (fun k : Fin (255 + 1) => (m ((c : Thread nD τ).loc main_arg1) : FVec Ideal S16x1024x1024 .bf16) (ix3 ⟨(7 - n) * 2 + i.val, by omega⟩ ⟨b.val * 256 + k.val, by omega⟩ d)) := by
    intro n hn hn7
    have q := fun (i : Fin 2) (k : Fin (255 + 1)) => lists m c ⟨t.val - n, hn⟩ i ⟨(7 - n) * 2 + i.val, by omega⟩ (by show (7 - n) * 2 + i.val = (t.val - n) % 8 * 2 + i.val; omega)
      b (by show b.val = (t.val - n) / 16; omega) l L (by show L.val = (t.val - n) / 8 % 2 * 1024 + l.val; omega) k d
    rw [Fin.sum_univ_two]
    unfold pair
    rw [(q 0 0).1, (q 1 0).1]
    simp only [fun k => (q 0 k).2, fun k => (q 1 k).2]
  have hlt : ∀ n : Nat, t.val - n < cfg0.N := fun n => Nat.lt_of_le_of_lt (Nat.sub_le _ _) t.isLt
  have hl : ∀ n : Nat, n ≤ 6 → ((outsAt0 m c (t.val - n) (hlt n)).2 : FVec Ideal S1024x1024 .f32) (ix2 l d)
      = ((outsAt0 m c (t.val - (n + 1)) (hlt (n + 1))).2 : FVec Ideal S1024x1024 .f32) (ix2 l d) + pair m c ⟨t.val - n, hlt n⟩ l d :=
    fun n hn => later m c ⟨t.val - n, hlt n⟩ (by show ¬ (t.val - n) % 8 = 0; omega) l d
  have h0 : ((outsAt0 m c (t.val - 7) (hlt 7)).2 : FVec Ideal S1024x1024 .f32) (ix2 l d) = pair m c ⟨t.val - 7, hlt 7⟩ l d :=
    first m c ⟨t.val - 7, hlt 7⟩ (by show (t.val - 7) % 8 = 0; omega) l d
  refine (hl 0 (by omega)).trans ?_
  rw [hl 1 (by omega), hl 2 (by omega), hl 3 (by omega), hl 4 (by omega), hl 5 (by omega), hl 6 (by omega), h0]
  rw [hp 0 (hlt 0) (by omega), hp 1 (hlt 1) (by omega), hp 2 (hlt 2) (by omega), hp 3 (hlt 3) (by omega), hp 4 (hlt 4) (by omega), hp 5 (hlt 5) (by omega),
    hp 6 (hlt 6) (by omega), hp 7 (hlt 7) (by omega), Fin.sum_univ_eight]
  rfl

/-- At the last pair of experts the output block is the gated residual and the norm over what the accumulator then holds. -/
theorem last (c : Dev nD) (t : Fin cfg0.N) (h7 : t.val % 8 = 7) : (outsAt0 m c t.val t.isLt).1
    = k0_pay3 (F := Ideal) (iblk m c 2 t) (iblk m c 3 t) ((outsAt0 m c t.val t.isLt).2) (iblk m c 4 t) := by
  rw [outsAt0_C m c t (by omega) h7]; dsimp only
  frame_out

/-- After the run the output array is the reference's result. -/
theorem final (c : Dev nD) : (dats m 0 c).arrAt 5 (cfgs 0).N
    = Cert.SampleReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h7 : t.val % 8 = 7 := (flush0_5 t).mp hf
  have h64 := (idx t).2.2.2.2.2.2
  blk_simp; rw [after0_5, last m c t h7]
  idx_vars y
  rename' y0 => l, y1 => d
  have hE : (((cfg0.win 5).blk t).view.emb (ix2 l d)) = (ix2 ⟨t.val / 8 * 1024 + l.val, by omega⟩ d : S8192x1024.Idx) := by blk_ext [idx t]
  rw [hE]
  have h := fun k => blocks m c t l k ⟨t.val / 8 * 1024 + l.val, by omega⟩ rfl ⟨1 + (t.val / 8 * 1024 + l.val) / 2048, by omega⟩ (by show 1 + (t.val / 8 * 1024 + l.val) / 2048 = 1 + t.val / 16; omega)
  exact core _ _ _ _ _ _ _ _ _ l ⟨t.val / 8 * 1024 + l.val, by omega⟩ (fun k => (h k).1) (fun k => (h k).2.1)
    (fun k => summed m c t h7 _ (by show (t.val / 8 * 1024 + l.val) / 2048 = t.val / 16; omega) l _ (by show (t.val / 8 * 1024 + l.val) % 2048 = t.val / 8 % 2 * 1024 + l.val; omega) k)
    (fun k => (h k).2.2) d

end Cert.SampleKernelIdeal.Value

end
-- ==== Proof.ConvTaps.lean ====
/- The convolution the reference writes: the sum over the taps of the rows padded with zeros, and the padded rows themselves. -/
module

public import proofs.«01_k».proof.Proof.Gen.ConvReferenceIdeal.Read
public import Idealize.ShloMosaic.Lib.Pipeline.ValueKit
public import Idealize.ShloMosaic.Lib.Claim
public import Idealize.ShloMosaic.Lib.KernelVsHost

@[expose] public section

set_option maxRecDepth 16384

noncomputable section

open Idealize.ShloMosaic Idealize.SL.Sem

namespace Cert.ConvReferenceIdeal.Taps

open Cert.ConvReferenceIdeal Cert.ConvReferenceIdeal.Read

/-- One tap's term of the convolution at a row of a sequence. -/
def term (X : FVec Ideal S8192x1024 .f32) (w : FVec Ideal S31x1024 .f32) (s : Fin 4) (l : Fin 2048) (o : Fin 1024) (k : Nat) : EReal :=
  val_main_v1 (F := Ideal) X (ix3 s ⟨min (k + l.val) 2077, by omega⟩ o) * w (ix2 ⟨min k 30, by omega⟩ o)

/-- The term of one of the taps. -/
theorem term_eq (X : FVec Ideal S8192x1024 .f32) (w : FVec Ideal S31x1024 .f32) (s : Fin 4) (l : Fin 2048) (o : Fin 1024) (k : Nat) (h : k < 31) :
    term X w s l o k = val_main_v1 (F := Ideal) X (ix3 s ⟨k + l.val, by omega⟩ o) * w (ix2 ⟨k, h⟩ o) := by
  unfold term
  have e : (⟨min (k + l.val) 2077, by omega⟩ : Fin 2078) = ⟨k + l.val, by omega⟩ := Fin.ext (by show min (k + l.val) 2077 = k + l.val; omega)
  have e' : (⟨min k 30, by omega⟩ : Fin 31) = ⟨k, h⟩ := Fin.ext (by show min k 30 = k; omega)
  rw [e, e']

/-- The reference's convolution is the bias and the sum of the taps' terms. -/
theorem taps (X : FVec Ideal S8192x1024 .f32) (w : FVec Ideal S31x1024 .f32) (b : FVec Ideal S1024 .f32) (s : Fin 4) (l : Fin 2048) (o : Fin 1024) :
    val_main_v222 (F := Ideal) X w b (ix3 s l o) = b (ix1 o) + ∑ k ∈ Finset.range 31, term X w s l o k := by
  have z : val_main_cst (F := Ideal) ix0 = (0 : EReal) := (val_main_cst_apply (F := Ideal) ix0).trans (Ideal.ofBits_zero .f32)
  pointwise [val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2]
  simp only [Finset.sum_range_succ, Finset.sum_range_zero, term_eq X w s l o 0 (by decide), term_eq X w s l o 1 (by decide), term_eq X w s l o 2 (by decide), term_eq X w s l o 3 (by decide), term_eq X w s l o 4 (by decide), term_eq X w s l o 5 (by decide), term_eq X w s l o 6 (by decide), term_eq X w s l o 7 (by decide), term_eq X w s l o 8 (by decide), term_eq X w s l o 9 (by decide), term_eq X w s l o 10 (by decide), term_eq X w s l o 11 (by decide), term_eq X w s l o 12 (by decide), term_eq X w s l o 13 (by decide), term_eq X w s l o 14 (by decide), term_eq X w s l o 15 (by decide), term_eq X w s l o 16 (by decide), term_eq X w s l o 17 (by decide), term_eq X w s l o 18 (by decide), term_eq X w s l o 19 (by decide), term_eq X w s l o 20 (by decide), term_eq X w s l o 21 (by decide), term_eq X w s l o 22 (by decide), term_eq X w s l o 23 (by decide), term_eq X w s l o 24 (by decide), term_eq X w s l o 25 (by decide), term_eq X w s l o 26 (by decide), term_eq X w s l o 27 (by decide), term_eq X w s l o 28 (by decide), term_eq X w s l o 29 (by decide), term_eq X w s l o 30 (by decide)]
  simp only [Nat.zero_add]
  rw [z, add_comm (b (ix1 o))]
  rfl

/-- A padded row inside the sequence is the sequence's. -/
theorem inside (X : FVec Ideal S8192x1024 .f32) (s : Fin 4) (p : Fin 2078) (o : Fin 1024) (R : Fin 8192) (h : p.val < 2063) (hR : R.val + 15 = s.val * 2048 + p.val) (h' : 15 ≤ p.val) :
    val_main_v1 (F := Ideal) X (ix3 s p o) = X (ix2 R o) := by
  unfold val_main_v1
  refine (pad_apply_of_inside _ _ _ _ _ _ _ _ (ix3 s ⟨p.val - 15, by omega⟩ o) fun d => ?_).trans ?_
  · match d with
    | ⟨0, _⟩ => show s.val = 0 + s.val * (0 + 1); omega
    | ⟨1, _⟩ => show p.val = 15 + (p.val - 15) * (0 + 1); omega
    | ⟨2, _⟩ => show o.val = 0 + o.val * (0 + 1); omega
  refine (val_main_v0_apply (F := Ideal) X _).trans ?_
  refine congrArg (fun q : S8192x1024.Idx => X q) (funext fun d => Fin.ext ?_)
  match d with
  | ⟨0, _⟩ => show ((s.val * 2048 + (p.val - 15)) * 1024 + o.val) / 1024 = R.val; omega
  | ⟨1, _⟩ => show ((s.val * 2048 + (p.val - 15)) * 1024 + o.val) % 1024 = o.val; omega

/-- A padded row outside the sequence is zero. -/
theorem outside (X : FVec Ideal S8192x1024 .f32) (s : Fin 4) (p : Fin 2078) (o : Fin 1024) (h : p.val < 15 ∨ 2063 ≤ p.val) :
    val_main_v1 (F := Ideal) X (ix3 s p o) = (0 : EReal) := by
  unfold val_main_v1
  refine (pad_apply_of_not_inside _ _ _ _ _ _ _ _ (1 : Fin 3) fun hd => ?_).trans ?_
  · have h1 : 15 ≤ p.val := hd.1
    have h2 : (p.val - 15) / (0 + 1) < 2048 := hd.2.2
    omega
  · refine (val_main_call0_v0_apply (F := Ideal) _).trans ?_
    rw [val_main_c_apply]
    show (((0#32 : BitVec 32).toInt : ℝ) : EReal) = 0
    simp

end Cert.ConvReferenceIdeal.Taps

end
-- ==== Proof.ConvValue.lean ====
/- The value of the convolution's tail. -/
module

public import proofs.«01_k».proof.Proof.Gen.ConvKernelIdeal.Frame
public import proofs.«01_k».proof.Proof.ConvTaps
public import proofs.«01_k».proof.Proof.Arrays
public import Idealize.ShloMosaic.Lib.Pipeline.ValueKit
public import Idealize.ShloMosaic.Lib.Pipeline.ReadBack
public import Idealize.ShloMosaic.Lib.Claim

@[expose] public section

set_option maxRecDepth 16384
set_option maxHeartbeats 4000000

noncomputable section

open Idealize.ShloMosaic Idealize.ShloMosaic.TcCoe Idealize.SL.Sem
open Idealize.ShloMosaic.Pipeline (Dat)

namespace Cert.ConvKernelIdeal.Value

open Cert.ConvKernelIdeal Cert.ConvKernelIdeal.Gen
open Cert.ConvReferenceIdeal.Read Cert.ConvReferenceIdeal.Taps

variable (m : (ℓ : Loc nD τ sig) → Buf (Elt Ideal) ℓ)

/-- Thirty-two rows of the padded rows, from row `n`. -/
def rows (Z : FVec Ideal S288x1024 .f32) (n : Nat) : FVec Ideal S32x1024 .f32 :=
  fun i => Z (ix2 ⟨min (n + (i 0).val) 287, by omega⟩ (i 1))

/-- One tap's weights as a row. -/
def tap (w : FVec Ideal S31x1024 .f32) (k : Nat) : FVec Ideal S1x1024 .f32 :=
  fun i => w (ix2 ⟨min k 30, by omega⟩ (i 1))

/-- A load of thirty-two of the padded rows. -/
theorem load_rows (L : List (View.Piece (Elt Ideal) S288x1024 .f32)) (n : Nat) (inb : ∀ a, (![n, 0] : Fin 2 → Nat) a + (![32, 1024] : Fin 2 → Nat) a ≤ S288x1024.size a) :
    (View.whole cc0_scratch0).readCov L (Rect.unit ![n, 0] ![32, 1024] inb).toLoadRect = rows (View.canon L) n := by
  refine (View.readCov_eq_canon' _ _ _).trans ?_
  funext i
  have h := inb 0
  have hi : (i 0).val < 32 := (i 0).isLt
  refine congrArg (View.canon L) (funext fun a => Fin.ext ?_)
  refine (Rect.idx_unit_val _ _ inb i a).trans ?_
  have h' : n + 32 ≤ 288 := h
  match a with
  | ⟨0, _⟩ => show n + (i 0).val = min (n + (i 0).val) 287; omega
  | ⟨1, _⟩ => show 0 + (i 1).val = (i 1).val; omega

/-- A load of one tap's weights. -/
theorem load_tap (w : FVec Ideal S31x1024 .f32) (k : Nat) (inb : ∀ a, (![k, 0] : Fin 2 → Nat) a + (![1, 1024] : Fin 2 → Nat) a ≤ S31x1024.size a) :
    View.ld (Val := Elt Ideal) (S := S31x1024) (e' := .f32) w (Rect.unit ![k, 0] ![1, 1024] inb) = tap w k := by
  funext i
  have h' : k + 1 ≤ 31 := inb 0
  have hi : (i 0).val < 1 := (i 0).isLt
  refine View.ld_unit_apply_of (Val := Elt Ideal) (S := S31x1024) (e := .f32) w _ _ inb i _ fun a => ?_
  match a with
  | ⟨0, _⟩ => show min k 30 = k + (i 0).val; omega
  | ⟨1, _⟩ => show (i 1).val = 0 + (i 1).val; omega

/-- The same, of the block the pipeline stages. -/
theorem load_tap_block (c : Dev nD) (t : Fin cfg0.N) (k : Nat) (inb : ∀ a, (![k, 0] : Fin 2 → Nat) a + (![1, 1024] : Fin 2 → Nat) a ≤ S31x1024.size a) :
    View.ld (iblk m c 3 t) (Rect.unit ![k, 0] ![1, 1024] inb) = tap (iblk m c 3 t) k :=
  load_tap (iblk m c 3 t) k inb

/-- The bias and the first `n` taps, added one after the other. -/
def chain (z : Nat → FVec Ideal S32x1024 .f32) (w : Nat → FVec Ideal S1x1024 .f32) (b : FVec Ideal S1x1024 .f32) : Nat → FVec Ideal S32x1024 .f32
  | 0 => broadcastTo S32x1024 (shapeCast S1x1024 (shapeCast S1x1024 b shapeCasts_S1x1024_S1x1024) shapeCasts_S1x1024_S1x1024) broadcasts_S1x1024_S32x1024
  | n + 1 => addf (chain z w b n) (mulf (z n) (broadcastTo S32x1024 (w n) broadcasts_S1x1024_S32x1024))

/-- The mean of each row. -/
def rowMean (v : FVec Ideal S32x1024 .f32) : FVec Ideal S32x1 .f32 :=
  divf (shapeCast S32x1 (multiReduction .add [1] S32 v 0x00000000#32 reduces_S32x1024_S32 (.inl rfl) rfl) shapeCasts_S32_S32x1)
    (broadcast S32x1 (Scalar.ofBits .f32 0x44800000#32))

/-- The rows less their means. -/
def centred (x : FVec Ideal S32x1024 .f32) : FVec Ideal S32x1024 .f32 :=
  subf x (broadcastTo S32x1024 (rowMean x) broadcasts_S32x1_S32x1024)

/-- The norm of the rows. -/
def layerNorm (x : FVec Ideal S32x1024 .f32) (g a : FVec Ideal S1x1024 .f32) : FVec Ideal S32x1024 .f32 :=
  addf (mulf (mulf (centred x) (broadcastTo S32x1024 (rsqrt (addf (rowMean (mulf (centred x) (centred x))) (broadcast S32x1 (Scalar.ofBits .f32 0x358637BD#32))))
    broadcasts_S32x1_S32x1024)) (broadcastTo S32x1024 (shapeCast S1x1024 g shapeCasts_S1x1024_S1x1024) broadcasts_S1x1024_S32x1024))
    (broadcastTo S32x1024 (shapeCast S1x1024 a shapeCasts_S1x1024_S1x1024) broadcasts_S1x1024_S32x1024)

/-- The norm of the rows and the smooth gate. -/
def normed (x : FVec Ideal S32x1024 .f32) (g a : FVec Ideal S1x1024 .f32) : FVec Ideal S32x1024 .bf16 :=
  shapeCast S32x1024 (truncf .bf16 (mulf (layerNorm x g a) (logistic (layerNorm x g a))) bitsLt_bf16_f32) shapeCasts_S32x1024_S32x1024

/-- Thirty-two rows of the activations, from row `r`. -/
def chunk (Z : FVec Ideal S288x1024 .f32) (w : FVec Ideal S31x1024 .f32) (b g a : FVec Ideal S1x1024 .f32) (r : Nat) : FVec Ideal S32x1024 .bf16 :=
  normed (chain (fun k => rows Z (r + 1 + k)) (tap w) b 31) g a

/-- The activations of the block of rows. -/
def act (Z : FVec Ideal S288x1024 .f32) (w : FVec Ideal S31x1024 .f32) (b g a : FVec Ideal S1x1024 .f32) : FVec Ideal S256x1024 .bf16 :=
  fun y => chunk Z w b g a (32 * ((y 0).val / 32)) (ix2 ⟨(y 0).val % 32, Nat.mod_lt _ (by decide)⟩ (y 1))

/-- Each piece of the activations is thirty-two of their rows. -/
theorem chunk_act (Z : FVec Ideal S288x1024 .f32) (w : FVec Ideal S31x1024 .f32) (b g a : FVec Ideal S1x1024 .f32) (q : Nat)
    (inb : ∀ d, (![32 * q, 0] : Fin 2 → Nat) d + (![32, 1024] : Fin 2 → Nat) d ≤ S256x1024.size d) (x : S32x1024.Idx) :
    chunk Z w b g a (32 * q) x = act Z w b g a ((Rect.unit (s := S256x1024) ![32 * q, 0] ![32, 1024] inb).emb x) := by
  have hx : (x 0).val < 32 := (x 0).isLt
  have e0 : (((Rect.unit (s := S256x1024) ![32 * q, 0] ![32, 1024] inb).emb x) 0).val = 32 * q + (x 0).val := Rect.idx_unit_val (s := S256x1024) ![32 * q, 0] ![32, 1024] inb x 0
  have e1 : (((Rect.unit (s := S256x1024) ![32 * q, 0] ![32, 1024] inb).emb x) 1).val = 0 + (x 1).val := Rect.idx_unit_val (s := S256x1024) ![32 * q, 0] ![32, 1024] inb x 1
  unfold act
  have h1 : 32 * ((((Rect.unit (s := S256x1024) ![32 * q, 0] ![32, 1024] inb).emb x) 0).val / 32) = 32 * q := by rw [e0]; omega
  rw [h1]
  refine congrArg _ (funext fun d => Fin.ext ?_)
  match d with
  | ⟨0, _⟩ => show (x 0).val = (((Rect.unit (s := S256x1024) ![32 * q, 0] ![32, 1024] inb).emb x) 0).val % 32; rw [e0]; omega
  | ⟨1, _⟩ => show (x 1).val = (((Rect.unit (s := S256x1024) ![32 * q, 0] ![32, 1024] inb).emb x) 1).val; rw [e1]; omega

/-- A row of the block lies in the piece of its thirty-two. -/
theorem mem_piece (q : Nat) (inb : ∀ d, (![32 * q, 0] : Fin 2 → Nat) d + (![32, 1024] : Fin 2 → Nat) d ≤ S256x1024.size d) (y : S256x1024.Idx)
    (h : (y 0).val / 32 = q) : y ∈ (Rect.unit (s := S256x1024) ![32 * q, 0] ![32, 1024] inb).set := by
  refine Rect.mem_set_unit.mpr fun d => ?_
  have h1 : (y 1).val < 1024 := (y 1).isLt
  match d with
  | ⟨0, _⟩ => exact ⟨show 32 * q ≤ (y 0).val by omega, show (y 0).val < 32 * q + 32 by omega⟩
  | ⟨1, _⟩ => exact ⟨Nat.zero_le _, show (y 1).val < 0 + 1024 by omega⟩

/-- The rows a block convolves: sixteen before it, its own, sixteen after it. -/
def padded (c : Dev nD) (t : Fin cfg0.N) : FVec Ideal S288x1024 .f32 :=
  View.canon ([⟨Rect.unit ![272, 0] ![16, 1024] inb_S288x1024_S16x1024_272_0, k0_pay3 (grid0.coords t) (iblk m c 2 t)⟩,
    ⟨Rect.unit ![16, 0] ![256, 1024] inb_S288x1024_S256x1024_16_0, k0_pay2 (iblk m c 1 t)⟩,
    ⟨Rect.unit ![0, 0] ![16, 1024] inb_S288x1024_S16x1024_0_0, k0_pay1 (grid0.coords t) (iblk m c 0 t)⟩] : List (View.Piece (Elt Ideal) S288x1024 .f32))

/-- The eight pieces, read back, are the activations of the block. -/
theorem gathered (Z : FVec Ideal S288x1024 .f32) (w : FVec Ideal S31x1024 .f32) (b g a : FVec Ideal S1x1024 .f32)
    (P7 P6 P5 P4 P3 P2 P1 P0 : FVec Ideal S32x1024 .bf16)
    (h7 : P7 = chunk Z w b g a (32 * 7)) (h6 : P6 = chunk Z w b g a (32 * 6)) (h5 : P5 = chunk Z w b g a (32 * 5)) (h4 : P4 = chunk Z w b g a (32 * 4)) (h3 : P3 = chunk Z w b g a (32 * 3)) (h2 : P2 = chunk Z w b g a (32 * 2)) (h1 : P1 = chunk Z w b g a (32 * 1)) (h0 : P0 = chunk Z w b g a (32 * 0))
    (inb : ∀ d, (![0, 0] : Fin 2 → Nat) d + (![256, 1024] : Fin 2 → Nat) d ≤ S256x1024.size d) :
    (View.whole cc0_scratch1).readCov ([⟨Rect.unit ![224, 0] ![32, 1024] inb_S256x1024_S32x1024_224_0, P7⟩, ⟨Rect.unit ![192, 0] ![32, 1024] inb_S256x1024_S32x1024_192_0, P6⟩, ⟨Rect.unit ![160, 0] ![32, 1024] inb_S256x1024_S32x1024_160_0, P5⟩, ⟨Rect.unit ![128, 0] ![32, 1024] inb_S256x1024_S32x1024_128_0, P4⟩, ⟨Rect.unit ![96, 0] ![32, 1024] inb_S256x1024_S32x1024_96_0, P3⟩, ⟨Rect.unit ![64, 0] ![32, 1024] inb_S256x1024_S32x1024_64_0, P2⟩, ⟨Rect.unit ![32, 0] ![32, 1024] inb_S256x1024_S32x1024_32_0, P1⟩, ⟨Rect.unit ![0, 0] ![32, 1024] inb_S256x1024_S32x1024_0_0, P0⟩] : List (View.Piece (Elt Ideal) S256x1024 .bf16))
      (Rect.unit ![0, 0] ![256, 1024] inb).toLoadRect = act Z w b g a := by
  refine (View.readCov_eq_canon' _ _ _).trans (funext fun (y : S256x1024.Idx) => ?_)
  have e : (Rect.unit (s := S256x1024) ![0, 0] ![256, 1024] inb).idx y = y := funext fun d => Fin.ext <| by
    refine (Rect.idx_unit_val _ _ inb y d).trans ?_
    match d with
    | ⟨0, _⟩ => exact Nat.zero_add _
    | ⟨1, _⟩ => exact Nat.zero_add _
  refine (congrArg _ e).trans ?_
  subst h7 h6 h5 h4 h3 h2 h1 h0
  refine View.canon_apply_of_pieces (Val := Elt Ideal) (S := S256x1024) (e := .bf16) (act Z w b g a) _ (View.PiecesOf.mem ?_) y ?_
  · exact ⟨chunk_act Z w b g a 7 inb_S256x1024_S32x1024_224_0, chunk_act Z w b g a 6 inb_S256x1024_S32x1024_192_0, chunk_act Z w b g a 5 inb_S256x1024_S32x1024_160_0, chunk_act Z w b g a 4 inb_S256x1024_S32x1024_128_0, chunk_act Z w b g a 3 inb_S256x1024_S32x1024_96_0, chunk_act Z w b g a 2 inb_S256x1024_S32x1024_64_0, chunk_act Z w b g a 1 inb_S256x1024_S32x1024_32_0, chunk_act Z w b g a 0 inb_S256x1024_S32x1024_0_0, trivial⟩
  have hy : (y 0).val < 256 := (y 0).isLt
  obtain h | h | h | h | h | h | h | h : (y 0).val / 32 = 7 ∨ (y 0).val / 32 = 6 ∨ (y 0).val / 32 = 5 ∨ (y 0).val / 32 = 4
    ∨ (y 0).val / 32 = 3 ∨ (y 0).val / 32 = 2 ∨ (y 0).val / 32 = 1 ∨ (y 0).val / 32 = 0 := by omega
  · exact ⟨_, List.mem_cons_self, mem_piece 7 inb_S256x1024_S32x1024_224_0 y h⟩
  · exact ⟨_, List.mem_cons_of_mem _ (List.mem_cons_self), mem_piece 6 inb_S256x1024_S32x1024_192_0 y h⟩
  · exact ⟨_, List.mem_cons_of_mem _ (List.mem_cons_of_mem _ (List.mem_cons_self)), mem_piece 5 inb_S256x1024_S32x1024_160_0 y h⟩
  · exact ⟨_, List.mem_cons_of_mem _ (List.mem_cons_of_mem _ (List.mem_cons_of_mem _ (List.mem_cons_self))), mem_piece 4 inb_S256x1024_S32x1024_128_0 y h⟩
  · exact ⟨_, List.mem_cons_of_mem _ (List.mem_cons_of_mem _ (List.mem_cons_of_mem _ (List.mem_cons_of_mem _ (List.mem_cons_self)))), mem_piece 3 inb_S256x1024_S32x1024_96_0 y h⟩
  · exact ⟨_, List.mem_cons_of_mem _ (List.mem_cons_of_mem _ (List.mem_cons_of_mem _ (List.mem_cons_of_mem _ (List.mem_cons_of_mem _ (List.mem_cons_self))))), mem_piece 2 inb_S256x1024_S32x1024_64_0 y h⟩
  · exact ⟨_, List.mem_cons_of_mem _ (List.mem_cons_of_mem _ (List.mem_cons_of_mem _ (List.mem_cons_of_mem _ (List.mem_cons_of_mem _ (List.mem_cons_of_mem _ (List.mem_cons_self)))))), mem_piece 1 inb_S256x1024_S32x1024_32_0 y h⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece 0 inb_S256x1024_S32x1024_0_0 y h⟩

/-- A block of the result. -/
theorem last (c : Dev nD) (t : Fin cfg0.N) : outsAt0 m c t
    = k0_pay58 (act (padded m c t) (iblk m c 3 t) (iblk m c 4 t) (iblk m c 5 t) (iblk m c 6 t)) (iblk m c 7 t) (iblk m c 8 t) (iblk m c 9 t) (iblk m c 10 t) := by
  unfold outsAt0 padded
  frame_out
  simp only [load_rows, load_tap_block]
  generalize View.canon (Val := Elt Ideal) [_, _, _] = Z
  refine congrArg (fun q => k0_pay58 q (iblk m c 7 t) (iblk m c 8 t) (iblk m c 9 t) (iblk m c 10 t)) ?_
  refine gathered Z (iblk m c 3 t) (iblk m c 4 t) (iblk m c 5 t) (iblk m c 6 t) _ _ _ _ _ _ _ _ ?_ ?_ ?_ ?_ ?_ ?_ ?_ ?_ _
  all_goals generalize iblk m c 3 t = w; generalize iblk m c 4 t = b; generalize iblk m c 5 t = g; generalize iblk m c 6 t = a
  all_goals rfl

/-- The bias and the taps, at an entry. -/
theorem chain_apply (z : Nat → FVec Ideal S32x1024 .f32) (w : Nat → FVec Ideal S1x1024 .f32) (b : FVec Ideal S1x1024 .f32) (i : Fin 32) (o : Fin 1024) :
    ∀ n, chain z w b n (ix2 i o) = b (ix2 0 o) + ∑ k ∈ Finset.range n, z k (ix2 i o) * w k (ix2 0 o)
  | 0 => by
    pointwise [chain]
    simp
  | n + 1 => by
    rw [Finset.sum_range_succ, ← add_assoc, ← chain_apply z w b i o n]
    pointwise [chain]

/-- The norm and the gate are the reference's, where the row is the reference's convolution. -/
theorem norm_core (X : FVec Ideal S8192x1024 .f32) (W : FVec Ideal S31x1024 .f32) (B G A : FVec Ideal S1024 .f32)
    (x : FVec Ideal S32x1024 .f32) (g a : FVec Ideal S1x1024 .f32) (i : Fin 32) (s : Fin 4) (l : Fin 2048)
    (hx : ∀ k, x (ix2 i k) = val_main_v222 (F := Ideal) X W B (ix3 s l k)) (hg : ∀ k, g (ix2 0 k) = G (ix1 k)) (ha : ∀ k, a (ix2 0 k) = A (ix1 k)) (o : Fin 1024) :
    normed x g a (ix2 i o) = val_main_v245 (F := Ideal) X W B G A (ix3 s l o) := by
  pointwise [normed, layerNorm, centred, rowMean, val_main_v245, val_main_call1_v5, val_main_call1_v4, val_main_call1_cst_0, val_main_call1_v3, val_main_call1_v2, val_main_call1_cst, val_main_call1_v1, val_main_call1_v0, val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_v225, val_main_v224, val_main_v223, val_main_cst_4, val_main_cst_3, val_main_cst_2, val_main_cst_1, val_main_cst_0]
  simp only [hx, hg, ha, Ideal.logistic]

/-- The projection and the gated residual are the reference's, where the activations are. -/
theorem core (Z : FVec Ideal S8192x1024 .f32) (T : FVec Ideal S31x1024 .f32) (D G A : FVec Ideal S1024 .f32) (W : FVec Ideal S1024x1024 .f32) (B : FVec Ideal S1024 .f32) (X : FVec Ideal S8192x1024 .f32) (M : FVec Ideal S8x6144 .f32)
    (y : FVec Ideal S256x1024 .bf16) (w : FVec Ideal S1024x1024 .bf16) (b : FVec Ideal S1x1024 .f32) (x : FVec Ideal S256x1024 .f32) (g : FVec Ideal S1x1x1024 .f32)
    (r : Fin 256) (R : Fin 8192)
    (hy : ∀ k, y (ix2 r k) = val_main_v245 (F := Ideal) Z T D G A (ix3 ⟨R.val / 2048, by omega⟩ ⟨R.val % 2048, by omega⟩ k)) (hw : ∀ k o, w (ix2 k o) = W (ix2 k o)) (hb : ∀ o, b (ix2 0 o) = B (ix1 o)) (hx : ∀ k, x (ix2 r k) = X (ix2 R k))
    (hg : ∀ k : Fin 1024, g (ix3 0 0 k) = M (ix2 ⟨1 + R.val / 2048, by omega⟩ ⟨2048 + k.val, by omega⟩)) (o : Fin 1024) :
    k0_pay58 (F := Ideal) y w b x g (ix2 r o) = val_main_v258 (F := Ideal) Z T D G A W B X M (ix2 R o) := by
  pointwise [k0_pay58, val_main_v258, val_main_v257, val_main_v256, val_main_v255, val_main_v254, val_main_v253, val_main_v252, val_main_v251, val_main_v250, val_main_v249, val_main_v248, val_main_v247, val_main_v246]
  simp only [hy, hw, hb, hx, hg]

/-- Every window's block index at every grid point. -/
theorem idx : ∀ t : Fin cfg0.N, win0_0.index t = ![t.val * 16 - 1, 0]
    ∧ win0_1.index t = ![t.val, 0]
    ∧ win0_2.index t = ![min ((t.val + 1) * 16) 511, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![(1 + t.val / 8) * 6 + 2, 0, 0]
    ∧ win0_11.index t = ![t.val, 0]
    ∧ t.val < 32 :=
  (by decide +kernel : ∀ t : Fin grid0.N, _)

/-- The place of a grid point's block in its sequence. -/
def place (i : grid0.Coords) : BitVec 32 :=
  have v1 : BitVec 32 := Scalar.select (Scalar.cmpi .eq 8#32 0#32) 1#32 8#32
  have v2 : BitVec 32 := Scalar.remsi (BitVec.ofNat 32 (i 0).val) v1
  Scalar.select (Scalar.andi (Scalar.xori (Scalar.cmpi .slt v2 0#32) (Scalar.cmpi .slt v1 0#32)) (Scalar.cmpi .ne v2 0#32)) (Scalar.addi v2 v1) v2

/-- A block has rows before it in its sequence unless it is the sequence's first, and after it unless it is the last. -/
theorem place_cmp : ∀ t : Fin cfg0.N, Scalar.cmpi .sgt (place (grid0.coords t)) 0#32 = (if t.val % 8 = 0 then 0#1 else 1#1)
    ∧ Scalar.cmpi .slt (place (grid0.coords t)) 7#32 = (if t.val % 8 = 7 then 0#1 else 1#1) :=
  (by decide +kernel : ∀ t : Fin grid0.N, _)

/-- The rows before the block, or zeros at the start of a sequence. -/
theorem before (t : Fin cfg0.N) (x : FVec Ideal S16x1024 .f32) (i : S16x1024.Idx) :
    k0_pay1 (F := Ideal) (grid0.coords t) x i = if t.val % 8 = 0 then (0 : EReal) else x i := by
  have e : k0_pay1 (F := Ideal) (grid0.coords t) x = shapeCast S16x1024 (Scalar.select (Scalar.cmpi .sgt (place (grid0.coords t)) 0#32) x (broadcast S16x1024 (Scalar.ofBits .f32 0x00000000#32)))
      shapeCasts_S16x1024_S16x1024 := rfl
  rw [e, shapeCast_self, (place_cmp t).1]
  by_cases h : t.val % 8 = 0
  · rw [if_pos h, if_pos h]; exact Ideal.ofBits_zero .f32
  · rw [if_neg h, if_neg h]; rfl

/-- The rows after the block, or zeros at the end of a sequence. -/
theorem after (t : Fin cfg0.N) (x : FVec Ideal S16x1024 .f32) (i : S16x1024.Idx) :
    k0_pay3 (F := Ideal) (grid0.coords t) x i = if t.val % 8 = 7 then (0 : EReal) else x i := by
  have e : k0_pay3 (F := Ideal) (grid0.coords t) x = shapeCast S16x1024 (Scalar.select (Scalar.cmpi .slt (place (grid0.coords t)) 7#32) x (broadcast S16x1024 (Scalar.ofBits .f32 0x00000000#32)))
      shapeCasts_S16x1024_S16x1024 := rfl
  rw [e, shapeCast_self, (place_cmp t).2]
  by_cases h : t.val % 8 = 7
  · rw [if_pos h, if_pos h]; exact Ideal.ofBits_zero .f32
  · rw [if_neg h, if_neg h]; rfl

/-- Sixteen, two hundred and fifty-six and sixteen rows, one after the other. -/
def stacked (a : FVec Ideal S16x1024 .f32) (b : FVec Ideal S256x1024 .f32) (d : FVec Ideal S16x1024 .f32) : FVec Ideal S288x1024 .f32 :=
  fun y => if h : (y 0).val < 16 then a (ix2 ⟨(y 0).val, h⟩ (y 1))
    else if h' : (y 0).val < 272 then b (ix2 ⟨(y 0).val - 16, by omega⟩ (y 1)) else d (ix2 ⟨(y 0).val - 272, by have h2 : (y 0).val < 288 := (y 0).isLt; omega⟩ (y 1))

/-- Three stores of sixteen, two hundred and fifty-six and sixteen rows, read at a row. -/
theorem three (a : FVec Ideal S16x1024 .f32) (b : FVec Ideal S256x1024 .f32) (d : FVec Ideal S16x1024 .f32) (n : Fin 288) (o : Fin 1024) :
    View.canon ([⟨Rect.unit ![272, 0] ![16, 1024] inb_S288x1024_S16x1024_272_0, d⟩, ⟨Rect.unit ![16, 0] ![256, 1024] inb_S288x1024_S256x1024_16_0, b⟩,
      ⟨Rect.unit ![0, 0] ![16, 1024] inb_S288x1024_S16x1024_0_0, a⟩] : List (View.Piece (Elt Ideal) S288x1024 .f32)) (ix2 n o)
      = if h : n.val < 16 then a (ix2 ⟨n.val, h⟩ o) else if h' : n.val < 272 then b (ix2 ⟨n.val - 16, by omega⟩ o) else d (ix2 ⟨n.val - 272, by omega⟩ o) := by
  refine View.canon_apply_of_pieces (Val := Elt Ideal) (S := S288x1024) (e := .f32) (stacked a b d) _ (View.PiecesOf.mem ?_) (ix2 n o) ?_
  · refine ⟨fun x => ?_, fun x => ?_, fun x => ?_, trivial⟩
    · have e0 : (((Rect.unit (s := S288x1024) ![272, 0] ![16, 1024] inb_S288x1024_S16x1024_272_0).emb x) 0).val = 272 + (x 0).val := Rect.idx_unit_val (s := S288x1024) ![272, 0] ![16, 1024] inb_S288x1024_S16x1024_272_0 x 0
      have e1 : (((Rect.unit (s := S288x1024) ![272, 0] ![16, 1024] inb_S288x1024_S16x1024_272_0).emb x) 1).val = 0 + (x 1).val := Rect.idx_unit_val (s := S288x1024) ![272, 0] ![16, 1024] inb_S288x1024_S16x1024_272_0 x 1
      have hx : (x 0).val < 16 := (x 0).isLt
      unfold stacked
      rw [dif_neg (by rw [e0]; omega), dif_neg (by rw [e0]; omega)]
      refine congrArg d (funext fun q => Fin.ext ?_)
      match q with
      | ⟨0, _⟩ => show (x 0).val = _ - 272; rw [e0]; omega
      | ⟨1, _⟩ => exact (e1.trans (Nat.zero_add _)).symm
    · have e0 : (((Rect.unit (s := S288x1024) ![16, 0] ![256, 1024] inb_S288x1024_S256x1024_16_0).emb x) 0).val = 16 + (x 0).val := Rect.idx_unit_val (s := S288x1024) ![16, 0] ![256, 1024] inb_S288x1024_S256x1024_16_0 x 0
      have e1 : (((Rect.unit (s := S288x1024) ![16, 0] ![256, 1024] inb_S288x1024_S256x1024_16_0).emb x) 1).val = 0 + (x 1).val := Rect.idx_unit_val (s := S288x1024) ![16, 0] ![256, 1024] inb_S288x1024_S256x1024_16_0 x 1
      have hx : (x 0).val < 256 := (x 0).isLt
      unfold stacked
      rw [dif_neg (by rw [e0]; omega), dif_pos (by rw [e0]; omega)]
      refine congrArg b (funext fun q => Fin.ext ?_)
      match q with
      | ⟨0, _⟩ => show (x 0).val = _ - 16; rw [e0]; omega
      | ⟨1, _⟩ => exact (e1.trans (Nat.zero_add _)).symm
    · have e0 : (((Rect.unit (s := S288x1024) ![0, 0] ![16, 1024] inb_S288x1024_S16x1024_0_0).emb x) 0).val = 0 + (x 0).val := Rect.idx_unit_val (s := S288x1024) ![0, 0] ![16, 1024] inb_S288x1024_S16x1024_0_0 x 0
      have e1 : (((Rect.unit (s := S288x1024) ![0, 0] ![16, 1024] inb_S288x1024_S16x1024_0_0).emb x) 1).val = 0 + (x 1).val := Rect.idx_unit_val (s := S288x1024) ![0, 0] ![16, 1024] inb_S288x1024_S16x1024_0_0 x 1
      have hx : (x 0).val < 16 := (x 0).isLt
      unfold stacked
      rw [dif_pos (by rw [e0]; omega)]
      refine congrArg a (funext fun q => Fin.ext ?_)
      match q with
      | ⟨0, _⟩ => exact (e0.trans (Nat.zero_add _)).symm
      | ⟨1, _⟩ => exact (e1.trans (Nat.zero_add _)).symm
  · have hn := n.isLt
    have ho := o.isLt
    by_cases h : n.val < 16
    · refine ⟨_, List.mem_cons_of_mem _ (List.mem_cons_of_mem _ List.mem_cons_self), (Rect.mem_set_unit (inb := inb_S288x1024_S16x1024_0_0)).mpr fun q => ?_⟩
      match q with
      | ⟨0, _⟩ => exact ⟨Nat.zero_le _, show n.val < 0 + 16 by omega⟩
      | ⟨1, _⟩ => exact ⟨Nat.zero_le _, show o.val < 0 + 1024 by omega⟩
    · by_cases h' : n.val < 272
      · refine ⟨_, List.mem_cons_of_mem _ List.mem_cons_self, (Rect.mem_set_unit (inb := inb_S288x1024_S256x1024_16_0)).mpr fun q => ?_⟩
        match q with
        | ⟨0, _⟩ => exact ⟨show 16 ≤ n.val by omega, show n.val < 16 + 256 by omega⟩
        | ⟨1, _⟩ => exact ⟨Nat.zero_le _, show o.val < 0 + 1024 by omega⟩
      · refine ⟨_, List.mem_cons_self, (Rect.mem_set_unit (inb := inb_S288x1024_S16x1024_272_0)).mpr fun q => ?_⟩
        match q with
        | ⟨0, _⟩ => exact ⟨show 272 ≤ n.val by omega, show n.val < 272 + 16 by omega⟩
        | ⟨1, _⟩ => exact ⟨Nat.zero_le _, show o.val < 0 + 1024 by omega⟩

/-- The rows a block convolves are the reference's padded rows. -/
theorem padded_eq (c : Dev nD) (t : Fin cfg0.N) (n : Fin 288) (o : Fin 1024) (s : Fin 4) (p : Fin 2078) (hs : s.val = t.val / 8)
    (hp : p.val + 1 = t.val % 8 * 256 + n.val) :
    padded m c t (ix2 n o) = val_main_v1 (F := Ideal) (m ((c : Thread nD τ).loc main_arg0) : FVec Ideal S8192x1024 .f32) (ix3 s p o) := by
  have ht : t.val < 32 := (idx t).2.2.2.2.2.2.2.2.2.2.2.2
  have hn := n.isLt
  unfold padded
  refine (three _ _ _ n o).trans ?_
  by_cases h : n.val < 16
  · rw [dif_pos h, before]
    by_cases h0 : t.val % 8 = 0
    · rw [if_pos h0, outside _ s p o (by omega)]
    · rw [if_neg h0, inside _ s p o ⟨t.val * 256 + n.val - 16, by omega⟩ (by omega) (by show t.val * 256 + n.val - 16 + 15 = _; omega) (by omega)]
      blk_ext [iblk, V, idx t]
  · rw [dif_neg h]
    by_cases h' : n.val < 272
    · rw [dif_pos h', inside _ s p o ⟨t.val * 256 + n.val - 16, by omega⟩ (by omega) (by show t.val * 256 + n.val - 16 + 15 = _; omega) (by omega)]
      unfold k0_pay2
      rw [shapeCast_self]
      blk_ext [iblk, V, idx t]
    · rw [dif_neg h', after]
      by_cases h0 : t.val % 8 = 7
      · rw [if_pos h0, outside _ s p o (by omega)]
      · rw [if_neg h0, inside _ s p o ⟨t.val * 256 + n.val - 16, by omega⟩ (by omega) (by show t.val * 256 + n.val - 16 + 15 = _; omega) (by omega)]
        blk_ext [iblk, V, idx t]

/-- The blocks of a point, read at coordinates: the taps, the four rows, the weights, the residual rows and the gate row. -/
theorem blocks (c : Dev nD) (t : Fin cfg0.N) (r : Fin 256) (R : Fin 8192) (hR : R.val = t.val * 256 + r.val) (s : Fin 8) (hs : s.val = 1 + t.val / 8)
    (q : Fin 31) (k o : Fin 1024) :
    iblk m c 3 t (ix2 q o) = (m ((c : Thread nD τ).loc main_arg1) : FVec Ideal S31x1024 .f32) (ix2 q o)
    ∧ iblk m c 4 t (ix2 0 o) = (m ((c : Thread nD τ).loc main_arg2) : FVec Ideal S1024 .f32) (ix1 o)
    ∧ iblk m c 5 t (ix2 0 o) = (m ((c : Thread nD τ).loc main_arg3) : FVec Ideal S1024 .f32) (ix1 o)
    ∧ iblk m c 6 t (ix2 0 o) = (m ((c : Thread nD τ).loc main_arg4) : FVec Ideal S1024 .f32) (ix1 o)
    ∧ iblk m c 7 t (ix2 k o) = (m ((c : Thread nD τ).loc main_arg5) : FVec Ideal S1024x1024 .f32) (ix2 k o)
    ∧ iblk m c 8 t (ix2 0 o) = (m ((c : Thread nD τ).loc main_arg6) : FVec Ideal S1024 .f32) (ix1 o)
    ∧ iblk m c 9 t (ix2 r k) = (m ((c : Thread nD τ).loc main_arg7) : FVec Ideal S8192x1024 .f32) (ix2 R k)
    ∧ iblk m c 10 t (ix3 0 0 o) = (m ((c : Thread nD τ).loc main_arg8) : FVec Ideal S8x6144 .f32) (ix2 s ⟨2048 + o.val, by omega⟩) := by
  refine ⟨?_, ?_, ?_, ?_, ?_, ?_, ?_, ?_⟩
  · blk_ext [iblk, V, idx t]
  · simp only [iblk]
    entry_read
    have e : (win0_4.blk t).view.emb (ix2 0 o) = (ix2 0 o : S1x1024.Idx) := by
      blk_ext [idx t]
    show shapeCast S1x1024 (m ((c : Thread nD τ).loc main_arg2) : FVec Ideal S1024 .f32) shapeCasts_S1024_S1x1024 ((win0_4.blk t).view.emb (ix2 0 o)) = _
    rw [e]
    exact Cert.Arrays.row _ _ o
  · simp only [iblk]
    entry_read
    have e : (win0_5.blk t).view.emb (ix2 0 o) = (ix2 0 o : S1x1024.Idx) := by
      blk_ext [idx t]
    show shapeCast S1x1024 (m ((c : Thread nD τ).loc main_arg3) : FVec Ideal S1024 .f32) shapeCasts_S1024_S1x1024 ((win0_5.blk t).view.emb (ix2 0 o)) = _
    rw [e]
    exact Cert.Arrays.row _ _ o
  · simp only [iblk]
    entry_read
    have e : (win0_6.blk t).view.emb (ix2 0 o) = (ix2 0 o : S1x1024.Idx) := by
      blk_ext [idx t]
    show shapeCast S1x1024 (m ((c : Thread nD τ).loc main_arg4) : FVec Ideal S1024 .f32) shapeCasts_S1024_S1x1024 ((win0_6.blk t).view.emb (ix2 0 o)) = _
    rw [e]
    exact Cert.Arrays.row _ _ o
  · simp only [iblk]
    entry_read
    refine Eq.trans (b := truncf (F := Ideal) .bf16 (m ((c : Thread nD τ).loc main_arg5) : FVec Ideal S1024x1024 .f32) bitsLt_bf16_f32 (ix2 k o)) ?_ rfl
    congr 1
    blk_ext [idx t]
  · simp only [iblk]
    entry_read
    have e : (win0_8.blk t).view.emb (ix2 0 o) = (ix2 0 o : S1x1024.Idx) := by
      blk_ext [idx t]
    show shapeCast S1x1024 (m ((c : Thread nD τ).loc main_arg6) : FVec Ideal S1024 .f32) shapeCasts_S1024_S1x1024 ((win0_8.blk t).view.emb (ix2 0 o)) = _
    rw [e]
    exact Cert.Arrays.row _ _ o
  · blk_ext [iblk, V, idx t]
  · simp only [iblk]
    entry_read
    have e : (win0_10.blk t).view.emb (ix3 0 0 o) = (ix3 ⟨s.val * 6 + 2, by omega⟩ 0 o : S48x1x1024.Idx) := by
      blk_ext [idx t]
    show shapeCast S48x1x1024 (m ((c : Thread nD τ).loc main_arg8) : FVec Ideal S8x6144 .f32) shapeCasts_S8x6144_S48x1x1024 ((win0_10.blk t).view.emb (ix3 0 0 o)) = _
    rw [e]
    exact Cert.Arrays.modulation _ _ s 2 _ rfl o _ (by show 2048 + o.val = 2 * 1024 + o.val; omega)

/-- A row of a block's activations is the reference's. -/
theorem act_eq (c : Dev nD) (t : Fin cfg0.N) (r : Fin 256) (s : Fin 4) (l : Fin 2048) (hs : s.val = t.val / 8) (hl : l.val = t.val % 8 * 256 + r.val) (k : Fin 1024) :
    act (padded m c t) (iblk m c 3 t) (iblk m c 4 t) (iblk m c 5 t) (iblk m c 6 t) (ix2 r k)
      = val_main_v245 (F := Ideal) (m ((c : Thread nD τ).loc main_arg0) : FVec Ideal S8192x1024 .f32) (m ((c : Thread nD τ).loc main_arg1) : FVec Ideal S31x1024 .f32) (m ((c : Thread nD τ).loc main_arg2) : FVec Ideal S1024 .f32) (m ((c : Thread nD τ).loc main_arg3) : FVec Ideal S1024 .f32) (m ((c : Thread nD τ).loc main_arg4) : FVec Ideal S1024 .f32) (ix3 s l k) := by
  have ht : t.val < 32 := (idx t).2.2.2.2.2.2.2.2.2.2.2.2
  have h := fun q o => blocks m c t 0 ⟨t.val * 256, by omega⟩ rfl ⟨1 + t.val / 8, by omega⟩ rfl q 0 o
  refine norm_core (m ((c : Thread nD τ).loc main_arg0) : FVec Ideal S8192x1024 .f32) (m ((c : Thread nD τ).loc main_arg1) : FVec Ideal S31x1024 .f32) (m ((c : Thread nD τ).loc main_arg2) : FVec Ideal S1024 .f32) (m ((c : Thread nD τ).loc main_arg3) : FVec Ideal S1024 .f32) (m ((c : Thread nD τ).loc main_arg4) : FVec Ideal S1024 .f32) _ (iblk m c 5 t) (iblk m c 6 t)
    ⟨r.val % 32, by omega⟩ s l (fun o => ?_) (fun o => (h 0 o).2.2.1) (fun o => (h 0 o).2.2.2.1) k
  refine (chain_apply _ _ _ _ o 31).trans (Eq.trans ?_ (taps _ _ _ s l o).symm)
  refine congrArg₂ (· + ·) (h 0 o).2.1 (Finset.sum_congr rfl fun q hq => ?_)
  have hq' : q < 31 := Finset.mem_range.mp hq
  rw [term_eq _ _ s l o q hq']
  refine congrArg₂ (· * ·) ?_ ?_
  · exact padded_eq m c t _ o s _ hs (by show q + l.val + 1 = t.val % 8 * 256 + min (32 * (r.val / 32) + 1 + q + r.val % 32) 287; omega)
  · have e : (⟨min q 30, by omega⟩ : Fin 31) = ⟨q, hq'⟩ := Fin.ext (by show min q 30 = q; omega)
    show iblk m c 3 t (ix2 ⟨min q 30, _⟩ o) = _
    rw [e]
    exact (h ⟨q, hq'⟩ o).1

/-- After the run the output array is the reference's result. -/
theorem final (c : Dev nD) : (dats m 0 c).arrAt 11 (cfgs 0).N = val_main_v258 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  blk_simp; rw [after0_11, last]
  have ht : t.val < 32 := (idx t).2.2.2.2.2.2.2.2.2.2.2.2
  idx_vars y
  rename' y0 => r, y1 => o
  have hE : (((cfg0.win 11).blk t).view.emb (ix2 r o)) = (ix2 ⟨t.val * 256 + r.val, by omega⟩ o : S8192x1024.Idx) := by blk_ext [idx t]
  rw [hE]
  have hs : (⟨1 + (t.val * 256 + r.val) / 2048, by omega⟩ : Fin 8).val = 1 + t.val / 8 := by show 1 + (t.val * 256 + r.val) / 2048 = 1 + t.val / 8; omega
  have h := blocks m c t r ⟨t.val * 256 + r.val, by omega⟩ rfl _ hs 0
  exact core _ _ _ _ _ _ _ _ _ _ _ _ _ _ r ⟨t.val * 256 + r.val, by omega⟩
    (fun k => act_eq m c t r _ _ (by show (t.val * 256 + r.val) / 2048 = t.val / 8; omega) (by show (t.val * 256 + r.val) % 2048 = t.val % 8 * 256 + r.val; omega) k)
    (fun k o => (h k o).2.2.2.2.1) (fun o => (h 0 o).2.2.2.2.2.1) (fun k => (h k 0).2.2.2.2.2.2.1) (fun o => (h 0 o).2.2.2.2.2.2.2) o

end Cert.ConvKernelIdeal.Value

end
-- ==== Proof.ModValue.lean ====
/- The value of the modulation vectors' call: its output array is the reference's, entry by entry. -/
module

public import proofs.«01_k».proof.Proof.Gen.ModKernelIdeal.Frame
public import proofs.«01_k».proof.Proof.Gen.ModReferenceIdeal.Read
public import proofs.«01_k».proof.Proof.Arrays
public import Idealize.ShloMosaic.Lib.Pipeline.ValueKit
public import Idealize.ShloMosaic.Lib.Claim

@[expose] public section

set_option maxRecDepth 16384
set_option maxHeartbeats 4000000

noncomputable section

open Idealize.ShloMosaic Idealize.ShloMosaic.TcCoe Idealize.SL.Sem
open Idealize.ShloMosaic.Pipeline (Dat)

namespace Cert.ModKernelIdeal.Value

open Cert.ModKernelIdeal Cert.ModKernelIdeal.Gen
open Cert.ModReferenceIdeal.Read

variable (m : (ℓ : Loc nD τ sig) → Buf (Elt Ideal) ℓ)

/-- Every window's block index at every grid point: the layer is `t / 4`, the column block `t % 4`. -/
theorem idx : ∀ t : Fin cfg0.N, win0_0.index t = ![0, 0]
    ∧ win0_1.index t = ![t.val / 4, 0, t.val % 4]
    ∧ win0_2.index t = ![t.val / 4, 0, t.val % 4]
    ∧ win0_3.index t = ![t.val / 4, 0, t.val % 4]
    ∧ t.val < 16 :=
  (by decide +kernel : ∀ t : Fin grid0.N, _)

/-- A row of the bias, reshaped to one row for each layer. -/
theorem bias (B : FVec Ideal S4x6144 .f32) (h) (l : Fin 4) (o : Fin 6144) : shapeCast S4x1x6144 B h (ix3 l 0 o) = B (ix2 l o) := by
  refine shapeCast_apply B h (ix3 l 0 o) (ix2 l o) ?_
  rw [Shape.rowMajor_val_two, Shape.rowMajor_val_three]
  show l.val * 6144 + o.val = (l.val * 1 + 0) * 6144 + o.val
  omega

/-- An entry of the payload is the reference's, where the blocks read the arguments. -/
theorem core (X : FVec Ideal S8x1024 .f32) (W : FVec Ideal S4x1024x6144 .f32) (B : FVec Ideal S4x6144 .f32)
    (x : FVec Ideal S8x1024 .f32) (w : FVec Ideal S1x1024x1536 .f32) (b : FVec Ideal S1x1x1536 .f32) (l : Fin 4) (o : Fin 1536) (O : Fin 6144)
    (hx : ∀ s k, x (ix2 s k) = X (ix2 s k)) (hw : ∀ k, w (ix3 0 k o) = W (ix3 l k O)) (hb : b (ix3 0 0 o) = B (ix2 l O)) (s : Fin 8) :
    k0_pay1 (F := Ideal) x w b (ix3 0 s o) = val_main_v5 (F := Ideal) X W B (ix3 l s O) := by
  pointwise [k0_pay1, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
  simp only [hx, hw, hb, Ideal.logistic]
  exact congrArg (· + B (ix2 l O)) (Finset.sum_congr rfl fun k _ => mul_comm _ _)

/-- The blocks of a point, read at coordinates: the conditions, the layer's weights and its bias. -/
theorem blocks (c : Dev nD) (t : Fin cfg0.N) (l : Fin 4) (hl : l.val = t.val / 4) (s : Fin 8) (k : Fin 1024) (o : Fin 1536) (O : Fin 6144) (hO : O.val = t.val % 4 * 1536 + o.val) :
    iblk m c 0 t (ix2 s k) = (m ((c : Thread nD τ).loc main_arg0) : FVec Ideal S8x1024 .f32) (ix2 s k)
    ∧ iblk m c 1 t (ix3 0 k o) = (m ((c : Thread nD τ).loc main_arg1) : FVec Ideal S4x1024x6144 .f32) (ix3 l k O)
    ∧ iblk m c 2 t (ix3 0 0 o) = (m ((c : Thread nD τ).loc main_arg2) : FVec Ideal S4x6144 .f32) (ix2 l O) := by
  refine ⟨?_, ?_, ?_⟩
  · blk_ext [iblk, V, idx t]
  · blk_ext [iblk, V, idx t]
  · simp only [iblk]
    entry_read
    have e : (win0_2.blk t).view.emb (ix3 0 0 o) = (ix3 l 0 O : S4x1x6144.Idx) := by
      blk_ext [idx t]
    show shapeCast S4x1x6144 (m ((c : Thread nD τ).loc main_arg2) : FVec Ideal S4x6144 .f32) shapeCasts_S4x6144_S4x1x6144 ((win0_2.blk t).view.emb (ix3 0 0 o)) = _
    rw [e]
    exact bias _ _ l O

/-- After the run the output array is the reference's result. -/
theorem final (c : Dev nD) : (dats m 0 c).arrAt 3 (cfgs 0).N = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  have ht : t.val < 16 := (idx t).2.2.2.2
  idx_vars y
  rename' y0 => u, y1 => s, y2 => o
  have hu : u = 0 := Fin.ext (by omega)
  subst hu
  have hE : (((cfg0.win 3).blk t).view.emb (ix3 0 s o)) = (ix3 ⟨t.val / 4, by omega⟩ s ⟨t.val % 4 * 1536 + o.val, by omega⟩ : S4x8x6144.Idx) := by blk_ext [idx t]
  rw [hE]
  have h := fun s k => blocks m c t ⟨t.val / 4, by omega⟩ rfl s k o ⟨t.val % 4 * 1536 + o.val, by omega⟩ rfl
  exact core _ _ _ _ _ _ _ o _ (fun s k => (h s k).1) (fun k => (h 0 k).2.1) (h 0 0).2.2 s

end Cert.ModKernelIdeal.Value

end
-- ==== Proof.ShortTaps.lean ====
/- The short convolution the reference writes: three taps of the rows padded with zeros, and the padded rows themselves. -/
module

public import proofs.«01_k».proof.Proof.Gen.ShortReferenceIdeal.Read
public import Idealize.ShloMosaic.Lib.Pipeline.ValueKit
public import Idealize.ShloMosaic.Lib.Claim
public import Idealize.ShloMosaic.Lib.KernelVsHost

@[expose] public section

set_option maxRecDepth 16384

noncomputable section

open Idealize.ShloMosaic Idealize.SL.Sem

namespace Cert.ShortReferenceIdeal.Taps

open Cert.ShortReferenceIdeal Cert.ShortReferenceIdeal.Read

/-- The reference's convolution is the three taps' terms and the bias. -/
theorem taps (X : FVec Ideal S8192x3072 .f32) (w : FVec Ideal S3x3072 .f32) (b : FVec Ideal S3072 .f32) (s : Fin 4) (l : Fin 2048) (o : Fin 3072) :
    val_main_v26 (F := Ideal) X w b (ix3 s l o) = val_main_v1 (F := Ideal) X (ix3 s ⟨0 + l.val, by omega⟩ o) * w (ix2 0 o) + val_main_v1 (F := Ideal) X (ix3 s ⟨1 + l.val, by omega⟩ o) * w (ix2 1 o)
      + val_main_v1 (F := Ideal) X (ix3 s ⟨2 + l.val, by omega⟩ o) * w (ix2 2 o) + b (ix1 o) := by
  have z : val_main_cst (F := Ideal) ix0 = (0 : EReal) := (val_main_cst_apply (F := Ideal) ix0).trans (Ideal.ofBits_zero .f32)
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2]
  rw [z, zero_add]

/-- The first third of the convolution, as a row of the result. -/
theorem first (X : FVec Ideal S8192x3072 .f32) (w : FVec Ideal S3x3072 .f32) (b : FVec Ideal S3072 .f32) (R : Fin 8192) (o : Fin 1024) :
    val_main_v32 (F := Ideal) X w b (ix2 R o) = val_main_v26 (F := Ideal) X w b (ix3 ⟨R.val / 2048, by omega⟩ ⟨R.val % 2048, by omega⟩ ⟨o.val, by omega⟩) := by
  pointwise [val_main_v32, val_main_v27]

/-- The last third of the convolution times the middle one, as a row of the result. -/
theorem product (X : FVec Ideal S8192x3072 .f32) (w : FVec Ideal S3x3072 .f32) (b : FVec Ideal S3072 .f32) (R : Fin 8192) (o : Fin 1024) :
    val_main_v31 (F := Ideal) X w b (ix2 R o) = val_main_v26 (F := Ideal) X w b (ix3 ⟨R.val / 2048, by omega⟩ ⟨R.val % 2048, by omega⟩ ⟨2048 + o.val, by omega⟩)
      * val_main_v26 (F := Ideal) X w b (ix3 ⟨R.val / 2048, by omega⟩ ⟨R.val % 2048, by omega⟩ ⟨1024 + o.val, by omega⟩) := by
  pointwise [val_main_v31, val_main_v30, val_main_v29, val_main_v28]

/-- A padded row inside the sequence is the sequence's. -/
theorem inside (X : FVec Ideal S8192x3072 .f32) (s : Fin 4) (p : Fin 2050) (o : Fin 3072) (R : Fin 8192) (h : p.val < 2049) (hR : R.val + 1 = s.val * 2048 + p.val) (h' : 1 ≤ p.val) :
    val_main_v1 (F := Ideal) X (ix3 s p o) = X (ix2 R o) := by
  unfold val_main_v1
  refine (pad_apply_of_inside _ _ _ _ _ _ _ _ (ix3 s ⟨p.val - 1, by omega⟩ o) fun d => ?_).trans ?_
  · match d with
    | ⟨0, _⟩ => show s.val = 0 + s.val * (0 + 1); omega
    | ⟨1, _⟩ => show p.val = 1 + (p.val - 1) * (0 + 1); omega
    | ⟨2, _⟩ => show o.val = 0 + o.val * (0 + 1); omega
  refine (val_main_v0_apply (F := Ideal) X _).trans ?_
  refine congrArg (fun q : S8192x3072.Idx => X q) (funext fun d => Fin.ext ?_)
  match d with
  | ⟨0, _⟩ => show ((s.val * 2048 + (p.val - 1)) * 3072 + o.val) / 3072 = R.val; omega
  | ⟨1, _⟩ => show ((s.val * 2048 + (p.val - 1)) * 3072 + o.val) % 3072 = o.val; omega

/-- A padded row outside the sequence is zero. -/
theorem outside (X : FVec Ideal S8192x3072 .f32) (s : Fin 4) (p : Fin 2050) (o : Fin 3072) (h : p.val < 1 ∨ 2049 ≤ p.val) :
    val_main_v1 (F := Ideal) X (ix3 s p o) = (0 : EReal) := by
  unfold val_main_v1
  refine (pad_apply_of_not_inside _ _ _ _ _ _ _ _ (1 : Fin 3) fun hd => ?_).trans ?_
  · have h1 : 1 ≤ p.val := hd.1
    have h2 : (p.val - 1) / (0 + 1) < 2048 := hd.2.2
    omega
  · refine (val_main_call0_v0_apply (F := Ideal) _).trans ?_
    rw [val_main_c_apply]
    show (((0#32 : BitVec 32).toInt : ℝ) : EReal) = 0
    simp

end Cert.ShortReferenceIdeal.Taps

end
-- ==== Proof.ShortValue.lean ====
/- The value of the Hyena short convolution's call: its two output arrays are the reference's. -/
module

public import proofs.«01_k».proof.Proof.Gen.ShortKernelIdeal.Frame
public import proofs.«01_k».proof.Proof.ShortTaps
public import proofs.«01_k».proof.Proof.Arrays
public import Idealize.ShloMosaic.Lib.Pipeline.ValueKit
public import Idealize.ShloMosaic.Lib.Pipeline.ReadBack
public import Idealize.ShloMosaic.Lib.Claim

@[expose] public section

set_option maxRecDepth 16384
set_option maxHeartbeats 4000000

noncomputable section

open Idealize.ShloMosaic Idealize.ShloMosaic.TcCoe Idealize.SL.Sem
open Idealize.ShloMosaic.Pipeline (Dat)

namespace Cert.ShortKernelIdeal.Value

open Cert.ShortKernelIdeal Cert.ShortKernelIdeal.Gen
open Cert.ShortReferenceIdeal.Read Cert.ShortReferenceIdeal.Taps

variable (m : (ℓ : Loc nD τ sig) → Buf (Elt Ideal) ℓ)

/-- Thirty-two of the padded rows, from row `n`, and their columns from `j`. -/
def rows (Z : FVec Ideal S272x3072 .f32) (n j : Nat) : FVec Ideal S32x1024 .f32 :=
  fun i => Z (ix2 ⟨min (n + (i 0).val) 271, by omega⟩ ⟨min (j + (i 1).val) 3071, by omega⟩)

/-- The weights of one tap, or the bias, from column `j`. -/
def tap {n : Nat} (w : FVec Ideal (⟨2, ![n + 1, 3072]⟩ : Shape) .f32) (k j : Nat) : FVec Ideal S1x1024 .f32 :=
  fun i => w (ix2 ⟨min k n, by omega⟩ ⟨min (j + (i 1).val) 3071, by omega⟩)

/-- A load of thirty-two of the padded rows. -/
theorem load_rows (L : List (View.Piece (Elt Ideal) S272x3072 .f32)) (n j : Nat) (inb : ∀ a, (![n, j] : Fin 2 → Nat) a + (![32, 1024] : Fin 2 → Nat) a ≤ S272x3072.size a) :
    (View.whole cc0_scratch0).readCov L (Rect.unit ![n, j] ![32, 1024] inb).toLoadRect = rows (View.canon L) n j := by
  refine (View.readCov_eq_canon' _ _ _).trans ?_
  funext i
  have hi : (i 0).val < 32 := (i 0).isLt
  have hi' : (i 1).val < 1024 := (i 1).isLt
  refine congrArg (View.canon L) (funext fun a => Fin.ext ?_)
  refine (Rect.idx_unit_val _ _ inb i a).trans ?_
  have h : n + 32 ≤ 272 := inb 0
  have h' : j + 1024 ≤ 3072 := inb 1
  match a with
  | ⟨0, _⟩ => show n + (i 0).val = min (n + (i 0).val) 271; omega
  | ⟨1, _⟩ => show j + (i 1).val = min (j + (i 1).val) 3071; omega

/-- A load of one tap's weights, or of the bias. -/
theorem load_tap {q : Nat} (w : FVec Ideal (⟨2, ![q + 1, 3072]⟩ : Shape) .f32) (k j : Nat) (inb : ∀ a, (![k, j] : Fin 2 → Nat) a + (![1, 1024] : Fin 2 → Nat) a ≤ (⟨2, ![q + 1, 3072]⟩ : Shape).size a) :
    View.ld (Val := Elt Ideal) (S := ⟨2, ![q + 1, 3072]⟩) (e' := .f32) w (Rect.unit ![k, j] ![1, 1024] inb) = tap w k j := by
  funext i
  have h : k + 1 ≤ q + 1 := inb 0
  have h' : j + 1024 ≤ 3072 := inb 1
  have hi : (i 0).val < 1 := (i 0).isLt
  have hi' : (i 1).val < 1024 := (i 1).isLt
  refine View.ld_unit_apply_of (Val := Elt Ideal) (S := ⟨2, ![q + 1, 3072]⟩) (e := .f32) w _ _ inb i _ fun a => ?_
  match a with
  | ⟨0, _⟩ => show min k q = k + (i 0).val; omega
  | ⟨1, _⟩ => show min (j + (i 1).val) 3071 = j + (i 1).val; omega

/-- The same, of the block of weights the pipeline stages. -/
theorem load_weights (c : Dev nD) (t : Fin cfg0.N) (k j : Nat) (inb : ∀ a, (![k, j] : Fin 2 → Nat) a + (![1, 1024] : Fin 2 → Nat) a ≤ S3x3072.size a) :
    View.ld (iblk m c 3 t) (Rect.unit ![k, j] ![1, 1024] inb) = tap (n := 2) (iblk m c 3 t) k j :=
  load_tap (q := 2) (iblk m c 3 t) k j inb

/-- The same, of the block of the bias. -/
theorem load_bias (c : Dev nD) (t : Fin cfg0.N) (k j : Nat) (inb : ∀ a, (![k, j] : Fin 2 → Nat) a + (![1, 1024] : Fin 2 → Nat) a ≤ S1x3072.size a) :
    View.ld (iblk m c 4 t) (Rect.unit ![k, j] ![1, 1024] inb) = tap (n := 0) (iblk m c 4 t) k j :=
  load_tap (q := 0) (iblk m c 4 t) k j inb

/-- Thirty-two rows of the convolution, from row `r`, and their columns from `j`. -/
def conv (Z : FVec Ideal S272x3072 .f32) (w : FVec Ideal S3x3072 .f32) (b : FVec Ideal S1x3072 .f32) (j r : Nat) : FVec Ideal S32x1024 .f32 :=
  addf (addf (addf (mulf (rows Z (r + 7) j) (broadcastTo S32x1024 (tap (n := 2) w 0 j) broadcasts_S1x1024_S32x1024))
    (mulf (rows Z (r + 8) j) (broadcastTo S32x1024 (tap (n := 2) w 1 j) broadcasts_S1x1024_S32x1024)))
    (mulf (rows Z (r + 9) j) (broadcastTo S32x1024 (tap (n := 2) w 2 j) broadcasts_S1x1024_S32x1024)))
    (broadcastTo S32x1024 (shapeCast S1x1024 (tap (n := 0) b 0 j) shapeCasts_S1x1024_S1x1024) broadcasts_S1x1024_S32x1024)

/-- Thirty-two rows of the product of the last third of the convolution with the middle one. -/
def gate (Z : FVec Ideal S272x3072 .f32) (w : FVec Ideal S3x3072 .f32) (b : FVec Ideal S1x3072 .f32) (r : Nat) : FVec Ideal S32x1024 .f32 :=
  mulf (conv Z w b 2048 r) (conv Z w b 1024 r)

/-- A block of rows, thirty-two at a time. -/
def spread (f : Nat → FVec Ideal S32x1024 .f32) : FVec Ideal S256x1024 .f32 :=
  fun y => f (32 * ((y 0).val / 32)) (ix2 ⟨(y 0).val % 32, Nat.mod_lt _ (by decide)⟩ (y 1))

/-- Each piece of the block is thirty-two of its rows. -/
theorem chunk_spread (f : Nat → FVec Ideal S32x1024 .f32) (q : Nat)
    (inb : ∀ d, (![32 * q, 0] : Fin 2 → Nat) d + (![32, 1024] : Fin 2 → Nat) d ≤ S256x1024.size d) (x : S32x1024.Idx) :
    f (32 * q) x = spread f ((Rect.unit (s := S256x1024) ![32 * q, 0] ![32, 1024] inb).emb x) := by
  have hx : (x 0).val < 32 := (x 0).isLt
  have e0 : (((Rect.unit (s := S256x1024) ![32 * q, 0] ![32, 1024] inb).emb x) 0).val = 32 * q + (x 0).val := Rect.idx_unit_val (s := S256x1024) ![32 * q, 0] ![32, 1024] inb x 0
  have e1 : (((Rect.unit (s := S256x1024) ![32 * q, 0] ![32, 1024] inb).emb x) 1).val = 0 + (x 1).val := Rect.idx_unit_val (s := S256x1024) ![32 * q, 0] ![32, 1024] inb x 1
  unfold spread
  have h1 : 32 * ((((Rect.unit (s := S256x1024) ![32 * q, 0] ![32, 1024] inb).emb x) 0).val / 32) = 32 * q := by rw [e0]; omega
  rw [h1]
  refine congrArg _ (funext fun d => Fin.ext ?_)
  match d with
  | ⟨0, _⟩ => show (x 0).val = (((Rect.unit (s := S256x1024) ![32 * q, 0] ![32, 1024] inb).emb x) 0).val % 32; rw [e0]; omega
  | ⟨1, _⟩ => show (x 1).val = (((Rect.unit (s := S256x1024) ![32 * q, 0] ![32, 1024] inb).emb x) 1).val; rw [e1]; omega

/-- A row of the block lies in the piece of its thirty-two. -/
theorem mem_piece (q : Nat) (inb : ∀ d, (![32 * q, 0] : Fin 2 → Nat) d + (![32, 1024] : Fin 2 → Nat) d ≤ S256x1024.size d) (y : S256x1024.Idx)
    (h : (y 0).val / 32 = q) : y ∈ (Rect.unit (s := S256x1024) ![32 * q, 0] ![32, 1024] inb).set := by
  refine Rect.mem_set_unit.mpr fun d => ?_
  have h1 : (y 1).val < 1024 := (y 1).isLt
  match d with
  | ⟨0, _⟩ => exact ⟨show 32 * q ≤ (y 0).val by omega, show (y 0).val < 32 * q + 32 by omega⟩
  | ⟨1, _⟩ => exact ⟨Nat.zero_le _, show (y 1).val < 0 + 1024 by omega⟩

/-- The eight pieces, one after the other, are the block. -/
theorem gathered (f : Nat → FVec Ideal S32x1024 .f32) (P7 P6 P5 P4 P3 P2 P1 P0 : FVec Ideal S32x1024 .f32)
    (h7 : P7 = f (32 * 7)) (h6 : P6 = f (32 * 6)) (h5 : P5 = f (32 * 5)) (h4 : P4 = f (32 * 4)) (h3 : P3 = f (32 * 3)) (h2 : P2 = f (32 * 2)) (h1 : P1 = f (32 * 1)) (h0 : P0 = f (32 * 0)) :
    View.canon ([⟨Rect.unit ![224, 0] ![32, 1024] inb_S256x1024_S32x1024_224_0, P7⟩, ⟨Rect.unit ![192, 0] ![32, 1024] inb_S256x1024_S32x1024_192_0, P6⟩, ⟨Rect.unit ![160, 0] ![32, 1024] inb_S256x1024_S32x1024_160_0, P5⟩, ⟨Rect.unit ![128, 0] ![32, 1024] inb_S256x1024_S32x1024_128_0, P4⟩, ⟨Rect.unit ![96, 0] ![32, 1024] inb_S256x1024_S32x1024_96_0, P3⟩, ⟨Rect.unit ![64, 0] ![32, 1024] inb_S256x1024_S32x1024_64_0, P2⟩, ⟨Rect.unit ![32, 0] ![32, 1024] inb_S256x1024_S32x1024_32_0, P1⟩, ⟨Rect.unit ![0, 0] ![32, 1024] inb_S256x1024_S32x1024_0_0, P0⟩] : List (View.Piece (Elt Ideal) S256x1024 .f32)) = spread f := by
  funext y
  subst h7 h6 h5 h4 h3 h2 h1 h0
  refine View.canon_apply_of_pieces (Val := Elt Ideal) (S := S256x1024) (e := .f32) (spread f) _ (View.PiecesOf.mem ?_) y ?_
  · exact ⟨chunk_spread f 7 inb_S256x1024_S32x1024_224_0, chunk_spread f 6 inb_S256x1024_S32x1024_192_0, chunk_spread f 5 inb_S256x1024_S32x1024_160_0, chunk_spread f 4 inb_S256x1024_S32x1024_128_0, chunk_spread f 3 inb_S256x1024_S32x1024_96_0, chunk_spread f 2 inb_S256x1024_S32x1024_64_0, chunk_spread f 1 inb_S256x1024_S32x1024_32_0, chunk_spread f 0 inb_S256x1024_S32x1024_0_0, trivial⟩
  have hy : (y 0).val < 256 := (y 0).isLt
  obtain h | h | h | h | h | h | h | h : (y 0).val / 32 = 7 ∨ (y 0).val / 32 = 6 ∨ (y 0).val / 32 = 5 ∨ (y 0).val / 32 = 4
    ∨ (y 0).val / 32 = 3 ∨ (y 0).val / 32 = 2 ∨ (y 0).val / 32 = 1 ∨ (y 0).val / 32 = 0 := by omega
  · exact ⟨_, List.mem_cons_self, mem_piece 7 inb_S256x1024_S32x1024_224_0 y h⟩
  · exact ⟨_, List.mem_cons_of_mem _ (List.mem_cons_self), mem_piece 6 inb_S256x1024_S32x1024_192_0 y h⟩
  · exact ⟨_, List.mem_cons_of_mem _ (List.mem_cons_of_mem _ (List.mem_cons_self)), mem_piece 5 inb_S256x1024_S32x1024_160_0 y h⟩
  · exact ⟨_, List.mem_cons_of_mem _ (List.mem_cons_of_mem _ (List.mem_cons_of_mem _ (List.mem_cons_self))), mem_piece 4 inb_S256x1024_S32x1024_128_0 y h⟩
  · exact ⟨_, List.mem_cons_of_mem _ (List.mem_cons_of_mem _ (List.mem_cons_of_mem _ (List.mem_cons_of_mem _ (List.mem_cons_self)))), mem_piece 3 inb_S256x1024_S32x1024_96_0 y h⟩
  · exact ⟨_, List.mem_cons_of_mem _ (List.mem_cons_of_mem _ (List.mem_cons_of_mem _ (List.mem_cons_of_mem _ (List.mem_cons_of_mem _ (List.mem_cons_self))))), mem_piece 2 inb_S256x1024_S32x1024_64_0 y h⟩
  · exact ⟨_, List.mem_cons_of_mem _ (List.mem_cons_of_mem _ (List.mem_cons_of_mem _ (List.mem_cons_of_mem _ (List.mem_cons_of_mem _ (List.mem_cons_of_mem _ (List.mem_cons_self)))))), mem_piece 1 inb_S256x1024_S32x1024_32_0 y h⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece 0 inb_S256x1024_S32x1024_0_0 y h⟩

/-- The rows a block convolves: eight before it, its own, eight after it. -/
def padded (c : Dev nD) (t : Fin cfg0.N) : FVec Ideal S272x3072 .f32 :=
  View.canon ([⟨Rect.unit ![264, 0] ![8, 3072] inb_S272x3072_S8x3072_264_0, k0_pay4 (grid0.coords t) (iblk m c 2 t)⟩,
    ⟨Rect.unit ![8, 0] ![256, 3072] inb_S272x3072_S256x3072_8_0, k0_pay3 (iblk m c 1 t)⟩,
    ⟨Rect.unit ![0, 0] ![8, 3072] inb_S272x3072_S8x3072_0_0, k0_pay2 (grid0.coords t) (iblk m c 0 t)⟩] : List (View.Piece (Elt Ideal) S272x3072 .f32))

/-- A block of the first result, the product. -/
theorem block_product (c : Dev nD) (t : Fin cfg0.N) : (outsAt0 m c t).1 = spread (gate (padded m c t) (iblk m c 3 t) (iblk m c 4 t)) := by
  unfold outsAt0 padded
  frame_out
  simp only [load_rows, load_weights, load_bias]
  generalize View.canon (Val := Elt Ideal) [_, _, _] = Z
  refine gathered (gate Z (iblk m c 3 t) (iblk m c 4 t)) _ _ _ _ _ _ _ _ ?_ ?_ ?_ ?_ ?_ ?_ ?_ ?_
  all_goals generalize iblk m c 3 t = w; generalize iblk m c 4 t = b
  all_goals rfl

/-- A block of the second result, the first third of the convolution. -/
theorem block_first (c : Dev nD) (t : Fin cfg0.N) : (outsAt0 m c t).2 = spread (conv (padded m c t) (iblk m c 3 t) (iblk m c 4 t) 0) := by
  unfold outsAt0 padded
  frame_out
  simp only [load_rows, load_weights, load_bias]
  generalize View.canon (Val := Elt Ideal) [_, _, _] = Z
  refine gathered (conv Z (iblk m c 3 t) (iblk m c 4 t) 0) _ _ _ _ _ _ _ _ ?_ ?_ ?_ ?_ ?_ ?_ ?_ ?_
  all_goals generalize iblk m c 3 t = w; generalize iblk m c 4 t = b
  all_goals rfl

/-- An entry of the convolution. -/
theorem conv_apply (Z : FVec Ideal S272x3072 .f32) (w : FVec Ideal S3x3072 .f32) (b : FVec Ideal S1x3072 .f32) (j r : Nat) (i : Fin 32) (o : Fin 1024) :
    conv Z w b j r (ix2 i o) = rows Z (r + 7) j (ix2 i o) * tap (n := 2) w 0 j (ix2 0 o) + rows Z (r + 8) j (ix2 i o) * tap (n := 2) w 1 j (ix2 0 o)
      + rows Z (r + 9) j (ix2 i o) * tap (n := 2) w 2 j (ix2 0 o) + tap (n := 0) b 0 j (ix2 0 o) := by
  pointwise [conv]

/-- Every window's block index at every grid point. -/
theorem idx : ∀ t : Fin cfg0.N, win0_0.index t = ![t.val * 32 - 1, 0]
    ∧ win0_1.index t = ![t.val, 0]
    ∧ win0_2.index t = ![min ((t.val + 1) * 32) 1023, 0]
    ∧ win0_3.index t = ![0, 0]
    ∧ win0_4.index t = ![0, 0]
    ∧ win0_5.index t = ![t.val, 0]
    ∧ win0_6.index t = ![t.val, 0]
    ∧ t.val < 32 :=
  (by decide +kernel : ∀ t : Fin grid0.N, _)

/-- The place of a grid point's block in its sequence. -/
def place (i : grid0.Coords) : BitVec 32 :=
  have v1 : BitVec 32 := Scalar.select (Scalar.cmpi .eq 8#32 0#32) 1#32 8#32
  have v2 : BitVec 32 := Scalar.remsi (BitVec.ofNat 32 (i 0).val) v1
  Scalar.select (Scalar.andi (Scalar.xori (Scalar.cmpi .slt v2 0#32) (Scalar.cmpi .slt v1 0#32)) (Scalar.cmpi .ne v2 0#32)) (Scalar.addi v2 v1) v2

/-- A block has rows before it in its sequence unless it is the sequence's first, and after it unless it is the last. -/
theorem place_cmp : ∀ t : Fin cfg0.N, Scalar.cmpi .sgt (place (grid0.coords t)) 0#32 = (if t.val % 8 = 0 then 0#1 else 1#1)
    ∧ Scalar.cmpi .slt (place (grid0.coords t)) 7#32 = (if t.val % 8 = 7 then 0#1 else 1#1) :=
  (by decide +kernel : ∀ t : Fin grid0.N, _)

/-- The rows before the block, or zeros at the start of a sequence. -/
theorem before (t : Fin cfg0.N) (x : FVec Ideal S8x3072 .f32) (i : S8x3072.Idx) :
    k0_pay2 (F := Ideal) (grid0.coords t) x i = if t.val % 8 = 0 then (0 : EReal) else x i := by
  have e : k0_pay2 (F := Ideal) (grid0.coords t) x = shapeCast S8x3072 (Scalar.select (Scalar.cmpi .sgt (place (grid0.coords t)) 0#32) x (broadcast S8x3072 (Scalar.ofBits .f32 0x00000000#32)))
      shapeCasts_S8x3072_S8x3072 := rfl
  rw [e, shapeCast_self, (place_cmp t).1]
  by_cases h : t.val % 8 = 0
  · rw [if_pos h, if_pos h]; exact Ideal.ofBits_zero .f32
  · rw [if_neg h, if_neg h]; rfl

/-- The rows after the block, or zeros at the end of a sequence. -/
theorem after (t : Fin cfg0.N) (x : FVec Ideal S8x3072 .f32) (i : S8x3072.Idx) :
    k0_pay4 (F := Ideal) (grid0.coords t) x i = if t.val % 8 = 7 then (0 : EReal) else x i := by
  have e : k0_pay4 (F := Ideal) (grid0.coords t) x = shapeCast S8x3072 (Scalar.select (Scalar.cmpi .slt (place (grid0.coords t)) 7#32) x (broadcast S8x3072 (Scalar.ofBits .f32 0x00000000#32)))
      shapeCasts_S8x3072_S8x3072 := rfl
  rw [e, shapeCast_self, (place_cmp t).2]
  by_cases h : t.val % 8 = 7
  · rw [if_pos h, if_pos h]; exact Ideal.ofBits_zero .f32
  · rw [if_neg h, if_neg h]; rfl

/-- Eight, two hundred and fifty-six and eight rows, one after the other. -/
def stacked (a : FVec Ideal S8x3072 .f32) (b : FVec Ideal S256x3072 .f32) (d : FVec Ideal S8x3072 .f32) : FVec Ideal S272x3072 .f32 :=
  fun y => if h : (y 0).val < 8 then a (ix2 ⟨(y 0).val, h⟩ (y 1))
    else if h' : (y 0).val < 264 then b (ix2 ⟨(y 0).val - 8, by omega⟩ (y 1)) else d (ix2 ⟨(y 0).val - 264, by have h2 : (y 0).val < 272 := (y 0).isLt; omega⟩ (y 1))

/-- Three stores of eight, two hundred and fifty-six and eight rows, read at a row. -/
theorem three (a : FVec Ideal S8x3072 .f32) (b : FVec Ideal S256x3072 .f32) (d : FVec Ideal S8x3072 .f32) (n : Fin 272) (o : Fin 3072) :
    View.canon ([⟨Rect.unit ![264, 0] ![8, 3072] inb_S272x3072_S8x3072_264_0, d⟩, ⟨Rect.unit ![8, 0] ![256, 3072] inb_S272x3072_S256x3072_8_0, b⟩,
      ⟨Rect.unit ![0, 0] ![8, 3072] inb_S272x3072_S8x3072_0_0, a⟩] : List (View.Piece (Elt Ideal) S272x3072 .f32)) (ix2 n o)
      = if h : n.val < 8 then a (ix2 ⟨n.val, h⟩ o) else if h' : n.val < 264 then b (ix2 ⟨n.val - 8, by omega⟩ o) else d (ix2 ⟨n.val - 264, by omega⟩ o) := by
  refine View.canon_apply_of_pieces (Val := Elt Ideal) (S := S272x3072) (e := .f32) (stacked a b d) _ (View.PiecesOf.mem ?_) (ix2 n o) ?_
  · refine ⟨fun x => ?_, fun x => ?_, fun x => ?_, trivial⟩
    · have e0 : (((Rect.unit (s := S272x3072) ![264, 0] ![8, 3072] inb_S272x3072_S8x3072_264_0).emb x) 0).val = 264 + (x 0).val := Rect.idx_unit_val (s := S272x3072) ![264, 0] ![8, 3072] inb_S272x3072_S8x3072_264_0 x 0
      have e1 : (((Rect.unit (s := S272x3072) ![264, 0] ![8, 3072] inb_S272x3072_S8x3072_264_0).emb x) 1).val = 0 + (x 1).val := Rect.idx_unit_val (s := S272x3072) ![264, 0] ![8, 3072] inb_S272x3072_S8x3072_264_0 x 1
      have hx : (x 0).val < 8 := (x 0).isLt
      unfold stacked
      rw [dif_neg (by rw [e0]; omega), dif_neg (by rw [e0]; omega)]
      refine congrArg d (funext fun q => Fin.ext ?_)
      match q with
      | ⟨0, _⟩ => show (x 0).val = _ - 264; rw [e0]; omega
      | ⟨1, _⟩ => exact (e1.trans (Nat.zero_add _)).symm
    · have e0 : (((Rect.unit (s := S272x3072) ![8, 0] ![256, 3072] inb_S272x3072_S256x3072_8_0).emb x) 0).val = 8 + (x 0).val := Rect.idx_unit_val (s := S272x3072) ![8, 0] ![256, 3072] inb_S272x3072_S256x3072_8_0 x 0
      have e1 : (((Rect.unit (s := S272x3072) ![8, 0] ![256, 3072] inb_S272x3072_S256x3072_8_0).emb x) 1).val = 0 + (x 1).val := Rect.idx_unit_val (s := S272x3072) ![8, 0] ![256, 3072] inb_S272x3072_S256x3072_8_0 x 1
      have hx : (x 0).val < 256 := (x 0).isLt
      unfold stacked
      rw [dif_neg (by rw [e0]; omega), dif_pos (by rw [e0]; omega)]
      refine congrArg b (funext fun q => Fin.ext ?_)
      match q with
      | ⟨0, _⟩ => show (x 0).val = _ - 8; rw [e0]; omega
      | ⟨1, _⟩ => exact (e1.trans (Nat.zero_add _)).symm
    · have e0 : (((Rect.unit (s := S272x3072) ![0, 0] ![8, 3072] inb_S272x3072_S8x3072_0_0).emb x) 0).val = 0 + (x 0).val := Rect.idx_unit_val (s := S272x3072) ![0, 0] ![8, 3072] inb_S272x3072_S8x3072_0_0 x 0
      have e1 : (((Rect.unit (s := S272x3072) ![0, 0] ![8, 3072] inb_S272x3072_S8x3072_0_0).emb x) 1).val = 0 + (x 1).val := Rect.idx_unit_val (s := S272x3072) ![0, 0] ![8, 3072] inb_S272x3072_S8x3072_0_0 x 1
      have hx : (x 0).val < 8 := (x 0).isLt
      unfold stacked
      rw [dif_pos (by rw [e0]; omega)]
      refine congrArg a (funext fun q => Fin.ext ?_)
      match q with
      | ⟨0, _⟩ => exact (e0.trans (Nat.zero_add _)).symm
      | ⟨1, _⟩ => exact (e1.trans (Nat.zero_add _)).symm
  · have hn := n.isLt
    have ho := o.isLt
    by_cases h : n.val < 8
    · refine ⟨_, List.mem_cons_of_mem _ (List.mem_cons_of_mem _ List.mem_cons_self), (Rect.mem_set_unit (inb := inb_S272x3072_S8x3072_0_0)).mpr fun q => ?_⟩
      match q with
      | ⟨0, _⟩ => exact ⟨Nat.zero_le _, show n.val < 0 + 8 by omega⟩
      | ⟨1, _⟩ => exact ⟨Nat.zero_le _, show o.val < 0 + 3072 by omega⟩
    · by_cases h' : n.val < 264
      · refine ⟨_, List.mem_cons_of_mem _ List.mem_cons_self, (Rect.mem_set_unit (inb := inb_S272x3072_S256x3072_8_0)).mpr fun q => ?_⟩
        match q with
        | ⟨0, _⟩ => exact ⟨show 8 ≤ n.val by omega, show n.val < 8 + 256 by omega⟩
        | ⟨1, _⟩ => exact ⟨Nat.zero_le _, show o.val < 0 + 3072 by omega⟩
      · refine ⟨_, List.mem_cons_self, (Rect.mem_set_unit (inb := inb_S272x3072_S8x3072_264_0)).mpr fun q => ?_⟩
        match q with
        | ⟨0, _⟩ => exact ⟨show 264 ≤ n.val by omega, show n.val < 264 + 8 by omega⟩
        | ⟨1, _⟩ => exact ⟨Nat.zero_le _, show o.val < 0 + 3072 by omega⟩

/-- The rows a block convolves are the reference's padded rows. -/
theorem padded_eq (c : Dev nD) (t : Fin cfg0.N) (n : Fin 272) (o : Fin 3072) (s : Fin 4) (p : Fin 2050) (hs : s.val = t.val / 8)
    (hp : p.val + 7 = t.val % 8 * 256 + n.val) :
    padded m c t (ix2 n o) = val_main_v1 (F := Ideal) (m ((c : Thread nD τ).loc main_arg0) : FVec Ideal S8192x3072 .f32) (ix3 s p o) := by
  have ht : t.val < 32 := (idx t).2.2.2.2.2.2.2
  have hn := n.isLt
  unfold padded
  refine (three _ _ _ n o).trans ?_
  by_cases h : n.val < 8
  · rw [dif_pos h, before]
    by_cases h0 : t.val % 8 = 0
    · rw [if_pos h0, outside _ s p o (by omega)]
    · rw [if_neg h0, inside _ s p o ⟨t.val * 256 + n.val - 8, by omega⟩ (by omega) (by show t.val * 256 + n.val - 8 + 1 = _; omega) (by omega)]
      blk_ext [iblk, V, idx t]
  · rw [dif_neg h]
    by_cases h' : n.val < 264
    · rw [dif_pos h', inside _ s p o ⟨t.val * 256 + n.val - 8, by omega⟩ (by omega) (by show t.val * 256 + n.val - 8 + 1 = _; omega) (by omega)]
      unfold k0_pay3
      rw [shapeCast_self]
      blk_ext [iblk, V, idx t]
    · rw [dif_neg h', after]
      by_cases h0 : t.val % 8 = 7
      · rw [if_pos h0, outside _ s p o (by omega)]
      · rw [if_neg h0, inside _ s p o ⟨t.val * 256 + n.val - 8, by omega⟩ (by omega) (by show t.val * 256 + n.val - 8 + 1 = _; omega) (by omega)]
        blk_ext [iblk, V, idx t]

/-- The blocks of the weights and the bias, read at coordinates. -/
theorem blocks (c : Dev nD) (t : Fin cfg0.N) (q : Fin 3) (o : Fin 3072) :
    iblk m c 3 t (ix2 q o) = (m ((c : Thread nD τ).loc main_arg1) : FVec Ideal S3x3072 .f32) (ix2 q o)
    ∧ iblk m c 4 t (ix2 0 o) = (m ((c : Thread nD τ).loc main_arg2) : FVec Ideal S3072 .f32) (ix1 o) := by
  refine ⟨?_, ?_⟩
  · blk_ext [iblk, V, idx t]
  · simp only [iblk]
    entry_read
    have e : (win0_4.blk t).view.emb (ix2 0 o) = (ix2 0 o : S1x3072.Idx) := by
      blk_ext [idx t]
    show shapeCast S1x3072 (m ((c : Thread nD τ).loc main_arg2) : FVec Ideal S3072 .f32) shapeCasts_S3072_S1x3072 ((win0_4.blk t).view.emb (ix2 0 o)) = _
    rw [e]
    exact Cert.Arrays.row _ _ o

/-- An entry of thirty-two rows. -/
theorem rows_apply (Z : FVec Ideal S272x3072 .f32) (n j : Nat) (i : Fin 32) (o : Fin 1024) (N : Fin 272) (O : Fin 3072) (hN : N.val = n + i.val) (hO : O.val = j + o.val) :
    rows Z n j (ix2 i o) = Z (ix2 N O) := by
  have h := N.isLt
  have h' := O.isLt
  unfold rows
  refine congrArg Z (funext fun d => Fin.ext ?_)
  match d with
  | ⟨0, _⟩ => show min (n + i.val) 271 = N.val; omega
  | ⟨1, _⟩ => show min (j + o.val) 3071 = O.val; omega

/-- The rows a block convolves, loaded thirty-two at a time. -/
theorem rows_eq (c : Dev nD) (t : Fin cfg0.N) (i : Fin 32) (o : Fin 1024) (O : Fin 3072) (n j : Nat) (s : Fin 4) (p : Fin 2050) (hs : s.val = t.val / 8)
    (hn : n + i.val < 272) (hj : O.val = j + o.val) (hp : p.val + 7 = t.val % 8 * 256 + (n + i.val)) :
    rows (padded m c t) n j (ix2 i o) = val_main_v1 (F := Ideal) (m ((c : Thread nD τ).loc main_arg0) : FVec Ideal S8192x3072 .f32) (ix3 s p O) :=
  (rows_apply (padded m c t) n j i o ⟨n + i.val, hn⟩ O rfl hj).trans (padded_eq m c t ⟨n + i.val, hn⟩ O s p hs hp)

/-- A tap's weights, loaded from a column. -/
theorem weight_eq (c : Dev nD) (t : Fin cfg0.N) (o : Fin 1024) (O : Fin 3072) (j : Nat) (q : Fin 3) (hj : O.val = j + o.val) :
    tap (n := 2) (iblk m c 3 t) q.val j (ix2 0 o) = (m ((c : Thread nD τ).loc main_arg1) : FVec Ideal S3x3072 .f32) (ix2 q O) := by
  have hO := O.isLt
  have hq := q.isLt
  have e : (⟨min (j + o.val) 3071, by omega⟩ : Fin 3072) = O := Fin.ext (by show min (j + o.val) 3071 = O.val; omega)
  have e' : (⟨min q.val 2, by omega⟩ : Fin 3) = q := Fin.ext (by show min q.val 2 = q.val; omega)
  show iblk m c 3 t (ix2 ⟨min q.val 2, _⟩ ⟨min (j + o.val) 3071, _⟩) = _
  rw [e, e']
  exact (blocks m c t q O).1

/-- The bias, loaded from a column. -/
theorem bias_eq (c : Dev nD) (t : Fin cfg0.N) (o : Fin 1024) (O : Fin 3072) (j : Nat) (hj : O.val = j + o.val) :
    tap (n := 0) (iblk m c 4 t) 0 j (ix2 0 o) = (m ((c : Thread nD τ).loc main_arg2) : FVec Ideal S3072 .f32) (ix1 O) := by
  have hO := O.isLt
  have e : (⟨min (j + o.val) 3071, by omega⟩ : Fin 3072) = O := Fin.ext (by show min (j + o.val) 3071 = O.val; omega)
  show iblk m c 4 t (ix2 0 ⟨min (j + o.val) 3071, _⟩) = _
  rw [e]
  exact (blocks m c t 0 O).2

/-- An entry of a block's convolution is the reference's. -/
theorem conv_eq (c : Dev nD) (t : Fin cfg0.N) (r : Fin 256) (R : Fin 8192) (hR : R.val = t.val * 256 + r.val) (o : Fin 1024) (O : Fin 3072) (j : Nat) (hj : O.val = j + o.val) :
    conv (padded m c t) (iblk m c 3 t) (iblk m c 4 t) j (32 * (r.val / 32)) (ix2 ⟨r.val % 32, Nat.mod_lt _ (by decide)⟩ o)
      = val_main_v26 (F := Ideal) (m ((c : Thread nD τ).loc main_arg0) : FVec Ideal S8192x3072 .f32) (m ((c : Thread nD τ).loc main_arg1) : FVec Ideal S3x3072 .f32) (m ((c : Thread nD τ).loc main_arg2) : FVec Ideal S3072 .f32)
        (ix3 ⟨R.val / 2048, by omega⟩ ⟨R.val % 2048, by omega⟩ O) := by
  have ht : t.val < 32 := (idx t).2.2.2.2.2.2.2
  have hr := r.isLt
  refine (conv_apply _ _ _ _ _ _ _).trans (Eq.trans ?_ (taps _ _ _ _ _ O).symm)
  refine congrArg₂ (· + ·) (congrArg₂ (· + ·) (congrArg₂ (· + ·) (congrArg₂ (· * ·) ?_ (weight_eq m c t o O j 0 hj)) (congrArg₂ (· * ·) ?_ (weight_eq m c t o O j 1 hj)))
    (congrArg₂ (· * ·) ?_ (weight_eq m c t o O j 2 hj))) (bias_eq m c t o O j hj)
  · exact rows_eq m c t _ o O _ j _ _ (by show R.val / 2048 = t.val / 8; omega) (by show 32 * (r.val / 32) + 7 + r.val % 32 < 272; omega) hj
      (by show 0 + R.val % 2048 + 7 = t.val % 8 * 256 + (32 * (r.val / 32) + 7 + r.val % 32); omega)
  · exact rows_eq m c t _ o O _ j _ _ (by show R.val / 2048 = t.val / 8; omega) (by show 32 * (r.val / 32) + 8 + r.val % 32 < 272; omega) hj
      (by show 1 + R.val % 2048 + 7 = t.val % 8 * 256 + (32 * (r.val / 32) + 8 + r.val % 32); omega)
  · exact rows_eq m c t _ o O _ j _ _ (by show R.val / 2048 = t.val / 8; omega) (by show 32 * (r.val / 32) + 9 + r.val % 32 < 272; omega) hj
      (by show 2 + R.val % 2048 + 7 = t.val % 8 * 256 + (32 * (r.val / 32) + 9 + r.val % 32); omega)

/-- After the run the first output array is the reference's product. -/
theorem final_product (c : Dev nD) : (dats m 0 c).arrAt 5 (cfgs 0).N = val_main_v31 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5, block_product]
  have ht : t.val < 32 := (idx t).2.2.2.2.2.2.2
  idx_vars y
  rename' y0 => r, y1 => o
  have hE : (((cfg0.win 5).blk t).view.emb (ix2 r o)) = (ix2 ⟨t.val * 256 + r.val, by omega⟩ o : S8192x1024.Idx) := by blk_ext [idx t]
  rw [hE]
  refine Eq.trans ?_ (product _ _ _ _ o).symm
  exact congrArg₂ (· * ·) (conv_eq m c t r ⟨t.val * 256 + r.val, by omega⟩ rfl o ⟨2048 + o.val, by omega⟩ 2048 rfl) (conv_eq m c t r ⟨t.val * 256 + r.val, by omega⟩ rfl o ⟨1024 + o.val, by omega⟩ 1024 rfl)

/-- After the run the second output array is the first third of the reference's convolution. -/
theorem final_first (c : Dev nD) : (dats m 0 c).arrAt 6 (cfgs 0).N = val_main_v32 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6, block_first]
  have ht : t.val < 32 := (idx t).2.2.2.2.2.2.2
  idx_vars y
  rename' y0 => r, y1 => o
  have hE : (((cfg0.win 6).blk t).view.emb (ix2 r o)) = (ix2 ⟨t.val * 256 + r.val, by omega⟩ o : S8192x1024.Idx) := by blk_ext [idx t]
  rw [hE]
  refine Eq.trans ?_ (first _ _ _ _ o).symm
  exact conv_eq m c t r ⟨t.val * 256 + r.val, by omega⟩ rfl o ⟨o.val, by omega⟩ 0 (Nat.zero_add _).symm

end Cert.ShortKernelIdeal.Value

end
-- ==== Proof.FilterValue.lean ====
/- The value of the Hyena filter. -/
module

public import proofs.«01_k».proof.Proof.Gen.FilterKernelIdeal.Frame
public import proofs.«01_k».proof.Proof.Gen.FilterReferenceIdeal.Read
public import proofs.«01_k».proof.Proof.Arrays
public import Idealize.ShloMosaic.Lib.Pipeline.ValueKit
public import Idealize.ShloMosaic.Lib.Pipeline.ReadBack
public import Idealize.ShloMosaic.Lib.KernelVsHost
public import Idealize.ShloMosaic.Lib.StableHlo.ReadAt
public import Idealize.ShloMosaic.Lib.Claim

@[expose] public section

set_option maxRecDepth 16384
set_option maxHeartbeats 400000

noncomputable section

open Idealize.ShloMosaic Idealize.ShloMosaic.TcCoe Idealize.SL.Sem
open Idealize.ShloMosaic.Pipeline (Dat)

namespace Cert.FilterKernelIdeal.Value

open Cert.FilterKernelIdeal Cert.FilterKernelIdeal.Gen
open Cert.FilterReferenceIdeal.Read

variable (m : (ℓ : Loc nD τ sig) → Buf (Elt Ideal) ℓ)

/-- An array enlarged at its ends, read at a place of its own. -/
theorem grown_inside {a b A B p q : Nat} (x : FVec Ideal (⟨2, ![a, b]⟩ : Shape) .f32) (v : FVec Ideal S_ .f32) (H) (h) (i : Fin a) (j : Fin b) (I : Fin A) (J : Fin B)
    (hI : I.val = i.val) (hJ : J.val = j.val) : pad (⟨2, ![A, B]⟩ : Shape) ![0, 0] ![p, q] ![0, 0] x v H h (ix2 I J) = x (ix2 i j) := by
  refine pad_apply_of_inside _ _ _ _ _ _ _ _ (ix2 i j) fun d => ?_
  match d with
  | ⟨0, _⟩ => show I.val = 0 + i.val * (0 + 1); omega
  | ⟨1, _⟩ => show J.val = 0 + j.val * (0 + 1); omega

/-- The number the arrays are enlarged by is zero. -/
theorem zero_pad : FloatOps.sitofp (F := Ideal) .f32 (0#32) = (0 : EReal) := by
  show (((0#32 : BitVec 32).toInt : ℝ) : EReal) = 0
  simp

/-- An array lengthened by rows of zeros, read at one of them. -/
theorem grown_below {a b A B p q : Nat} (x : FVec Ideal (⟨2, ![a, b]⟩ : Shape) .f32) (H) (h) (I : Fin A) (J : Fin B)
    (hI : a ≤ I.val) : pad (⟨2, ![A, B]⟩ : Shape) ![0, 0] ![p, q] ![0, 0] x (sitofp (F := Ideal) .f32 (constantI S_ 32 0#32)) H h (ix2 I J) = (0 : EReal) := by
  refine (pad_apply_of_not_inside _ _ _ _ _ _ _ _ ⟨0, Nat.zero_lt_two⟩ ?_).trans ?_
  · show ¬(0 ≤ I.val ∧ (I.val - 0) % (0 + 1) = 0 ∧ (I.val - 0) / (0 + 1) < a)
    omega
  · exact zero_pad

/-- An array widened by columns of zeros, read at one of them. -/
theorem grown_beside {a b A B p q : Nat} (x : FVec Ideal (⟨2, ![a, b]⟩ : Shape) .f32) (H) (h) (I : Fin A) (J : Fin B)
    (hJ : b ≤ J.val) : pad (⟨2, ![A, B]⟩ : Shape) ![0, 0] ![p, q] ![0, 0] x (sitofp (F := Ideal) .f32 (constantI S_ 32 0#32)) H h (ix2 I J) = (0 : EReal) := by
  refine (pad_apply_of_not_inside _ _ _ _ _ _ _ _ ⟨1, Nat.one_lt_two⟩ ?_).trans ?_
  · show ¬(0 ≤ J.val ∧ (J.val - 0) % (0 + 1) = 0 ∧ (J.val - 0) / (0 + 1) < b)
    omega
  · exact zero_pad

/-- A sum whose terms vanish from the `n`th on is the sum of the first `n`. -/
theorem sum_lead (n d : Nat) (f : Fin (n + d) → EReal) (hz : ∀ i, n ≤ i.val → f i = 0) : ∑ i, f i = ∑ i : Fin n, f (Fin.castAdd d i) := by
  rw [Fin.sum_univ_add, Finset.sum_eq_zero (s := (Finset.univ : Finset (Fin d))) fun i _ => hz (Fin.natAdd n i) (Nat.le_add_right n i.val), add_zero]

/-- The position features the call receives, widened with zeros. -/
theorem host_0 (c : Dev nD) : V m c main_v0 = pad S2048x128 ![0, 0] ![0, 95] ![0, 0] (m ((c : Thread nD τ).loc main_arg0) : FVec Ideal S2048x33 .f32) (sitofp (F := Ideal) .f32 (constantI S_ 32 0#32)) pads_S2048x33_S2048x128_000_0950 h_S_ := by
  show StableHlo.after _ _ _ = _
  after_reads_simp
  rfl

/-- The first layer's weights the call receives, enlarged with zeros. -/
theorem host_1 (c : Dev nD) : V m c main_v1 = pad S128x128 ![0, 0] ![95, 64] ![0, 0] (m ((c : Thread nD τ).loc main_arg2) : FVec Ideal S33x64 .f32) (sitofp (F := Ideal) .f32 (constantI S_ 32 0#32)) pads_S33x64_S128x128_0950_0640 h_S_ := by
  show StableHlo.after _ _ _ = _
  after_reads_simp
  rfl

/-- The first layer's bias the call receives, as a row lengthened with zeros. -/
theorem host_3 (c : Dev nD) : V m c main_v3 = pad S1x128 ![0, 0] ![0, 64] ![0, 0] (shapeCast S1x64 (m ((c : Thread nD τ).loc main_arg3) : FVec Ideal S64 .f32) shapeCasts_S64_S1x64) (sitofp (F := Ideal) .f32 (constantI S_ 32 0#32)) pads_S1x64_S1x128_000_0640 h_S_ := by
  show StableHlo.after _ _ _ = _
  after_reads_simp
  rfl

/-- The first layer's frequencies the call receives, as a row lengthened with zeros. -/
theorem host_5 (c : Dev nD) : V m c main_v5 = pad S1x128 ![0, 0] ![0, 64] ![0, 0] (shapeCast S1x64 (m ((c : Thread nD τ).loc main_arg4) : FVec Ideal S64 .f32) shapeCasts_S64_S1x64) (sitofp (F := Ideal) .f32 (constantI S_ 32 0#32)) pads_S1x64_S1x128_000_0640 h_S_ := by
  show StableHlo.after _ _ _ = _
  after_reads_simp
  rfl

/-- The second layer's bias the call receives, as a row lengthened with zeros. -/
theorem host_8 (c : Dev nD) : V m c main_v8 = pad S1x128 ![0, 0] ![0, 64] ![0, 0] (shapeCast S1x64 (m ((c : Thread nD τ).loc main_arg6) : FVec Ideal S64 .f32) shapeCasts_S64_S1x64) (sitofp (F := Ideal) .f32 (constantI S_ 32 0#32)) pads_S1x64_S1x128_000_0640 h_S_ := by
  show StableHlo.after _ _ _ = _
  after_reads_simp
  rfl

/-- The second layer's frequencies the call receives, as a row lengthened with zeros. -/
theorem host_10 (c : Dev nD) : V m c main_v10 = pad S1x128 ![0, 0] ![0, 64] ![0, 0] (shapeCast S1x64 (m ((c : Thread nD τ).loc main_arg7) : FVec Ideal S64 .f32) shapeCasts_S64_S1x64) (sitofp (F := Ideal) .f32 (constantI S_ 32 0#32)) pads_S1x64_S1x128_000_0640 h_S_ := by
  show StableHlo.after _ _ _ = _
  after_reads_simp
  rfl

/-- The second layer's weights the call receives, enlarged with zeros. -/
theorem host_6 (c : Dev nD) : V m c main_v6 = pad S128x128 ![0, 0] ![64, 64] ![0, 0] (m ((c : Thread nD τ).loc main_arg5) : FVec Ideal S64x64 .f32) (sitofp (F := Ideal) .f32 (constantI S_ 32 0#32)) pads_S64x64_S128x128_0640_0640 h_S_ := by
  show StableHlo.after _ _ _ = _
  after_reads_simp
  rfl

/-- The last layer's weights the call receives, lengthened with zeros. -/
theorem host_11 (c : Dev nD) : V m c main_v11 = pad S128x2048 ![0, 0] ![64, 0] ![0, 0] (m ((c : Thread nD τ).loc main_arg8) : FVec Ideal S64x2048 .f32) (sitofp (F := Ideal) .f32 (constantI S_ 32 0#32)) pads_S64x2048_S128x2048_0640_000 h_S_ := by
  show StableHlo.after _ _ _ = _
  after_reads_simp
  rfl

/-- The taps the reference computes, of either sign: two sine layers and a linear one, times the decay. -/
def taps (x0 : FVec Ideal S2048x33 .f32) (x1 : FVec Ideal S2048x1024 .f32) (x2 : FVec Ideal S33x64 .f32) (x3 x4 : FVec Ideal S64 .f32) (x5 : FVec Ideal S64x64 .f32) (x6 x7 : FVec Ideal S64 .f32) (x8 : FVec Ideal S64x2048 .f32) (r : Fin 2048) (o : Fin 1024) (O : Fin 2048) : EReal :=
  (∑ k : Fin 64, Ideal.sin (x7 (ix1 k) * (∑ j : Fin 64, Ideal.sin (x4 (ix1 j) * (∑ i : Fin 33, x0 (ix2 r i) * x2 (ix2 i j) + x3 (ix1 j))) * x5 (ix2 j k) + x6 (ix1 k))) * x8 (ix2 k O)) * x1 (ix2 r o)

/-- A block's taps, over the enlarged arrays, are those over the arrays themselves. -/
theorem taps_eq (x0 : FVec Ideal S2048x33 .f32) (x1 : FVec Ideal S2048x1024 .f32) (x2 : FVec Ideal S33x64 .f32) (x3 x4 : FVec Ideal S64 .f32) (x5 : FVec Ideal S64x64 .f32) (x6 x7 : FVec Ideal S64 .f32) (x8 : FVec Ideal S64x2048 .f32) (v0 : FVec Ideal S1x128 .f32) (v2 : FVec Ideal S2048x128 .f32) (v4 : FVec Ideal S128x128 .f32) (v7 v14 : FVec Ideal S1x128 .f32) (v16 : FVec Ideal S128x128 .f32) (v19 : FVec Ideal S1x128 .f32) (v26 : FVec Ideal S2048x256 .f32) (v27 : FVec Ideal S128x256 .f32) (r : Fin 2048) (q : Fin 256) (o : Fin 1024) (O : Fin 2048)
    (hz : ∀ i : Fin 33, v2 (ix2 r (Fin.castAdd 95 i)) = x0 (ix2 r i)) (hz0 : ∀ i : Fin 128, 33 ≤ i.val → v2 (ix2 r i) = (0 : EReal))
    (h1 : ∀ (i : Fin 33) (j : Fin 64), v4 (ix2 (Fin.castAdd 95 i) (Fin.castAdd 64 j)) = x2 (ix2 i j))
    (hb1 : ∀ j : Fin 64, v7 (ix2 0 (Fin.castAdd 64 j)) = x3 (ix1 j)) (hf1 : ∀ j : Fin 64, v0 (ix2 0 (Fin.castAdd 64 j)) = x4 (ix1 j))
    (h2 : ∀ j k : Fin 64, v16 (ix2 (Fin.castAdd 64 j) (Fin.castAdd 64 k)) = x5 (ix2 j k)) (h20 : ∀ j k : Fin 128, 64 ≤ j.val → v16 (ix2 j k) = (0 : EReal))
    (hb2 : ∀ j : Fin 64, v19 (ix2 0 (Fin.castAdd 64 j)) = x6 (ix1 j)) (hf2 : ∀ j : Fin 64, v14 (ix2 0 (Fin.castAdd 64 j)) = x7 (ix1 j))
    (h3 : ∀ k : Fin 64, v27 (ix2 (Fin.castAdd 64 k) q) = x8 (ix2 k O)) (h30 : ∀ k : Fin 128, 64 ≤ k.val → v27 (ix2 k q) = (0 : EReal))
    (hd : v26 (ix2 r q) = x1 (ix2 r o)) :
    k0_pay6 (F := Ideal) v0 v2 v4 v7 v14 v16 v19 v26 v27 (ix2 r q) = taps x0 x1 x2 x3 x4 x5 x6 x7 x8 r o O := by
  pointwise [k0_pay6, k0_pay5]
  unfold taps
  rw [hd]
  refine congrArg (· * x1 (ix2 r o)) ?_
  refine (sum_lead 64 64 _ fun k hk => by rw [h30 k hk, mul_zero]).trans (Finset.sum_congr rfl fun k _ => ?_)
  rw [h3, hf2, hb2]
  refine congrArg (fun u : EReal => Ideal.sin (x7 (ix1 k) * (u + x6 (ix1 k))) * x8 (ix2 k O)) ?_
  refine (sum_lead 64 64 _ fun j hj => by rw [h20 j _ hj, mul_zero]).trans (Finset.sum_congr rfl fun j _ => ?_)
  rw [h2, hf1, hb1]
  refine congrArg (fun u : EReal => Ideal.sin (x4 (ix1 j) * (u + x3 (ix1 j))) * x5 (ix2 j k)) ?_
  refine (sum_lead 33 95 _ fun i hi => by rw [hz0 i hi, zero_mul]).trans (Finset.sum_congr rfl fun i _ => ?_)
  rw [hz, h1]

/-- The taps of either sign are computed alike. -/
theorem same_taps (v0 : FVec Ideal S1x128 .f32) (v2 : FVec Ideal S2048x128 .f32) (v4 : FVec Ideal S128x128 .f32) (v7 v14 : FVec Ideal S1x128 .f32) (v16 : FVec Ideal S128x128 .f32) (v19 : FVec Ideal S1x128 .f32) (v26 : FVec Ideal S2048x256 .f32) (v27 : FVec Ideal S128x256 .f32) : k0_pay7 (F := Ideal) v0 v2 v4 v7 v14 v16 v19 v26 v27 = k0_pay6 v0 v2 v4 v7 v14 v16 v19 v26 v27 := rfl

/-- The reference's taps of positive lag. -/
theorem forward_eq (x0 : FVec Ideal S2048x33 .f32) (x1 : FVec Ideal S2048x1024 .f32) (x2 : FVec Ideal S33x64 .f32) (x3 x4 : FVec Ideal S64 .f32) (x5 : FVec Ideal S64x64 .f32) (x6 x7 : FVec Ideal S64 .f32) (x8 : FVec Ideal S64x2048 .f32) (r : Fin 2048) (o : Fin 1024) :
    val_main_v22 (F := Ideal) x0 x1 x2 x3 x4 x5 x6 x7 x8 (ix2 r o) = taps x0 x1 x2 x3 x4 x5 x6 x7 x8 r o ⟨o.val, by omega⟩ := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rfl

/-- The reference's taps of negative lag: none at lag 0. -/
theorem backward_eq (x0 : FVec Ideal S2048x33 .f32) (x1 : FVec Ideal S2048x1024 .f32) (x2 : FVec Ideal S33x64 .f32) (x3 x4 : FVec Ideal S64 .f32) (x5 : FVec Ideal S64x64 .f32) (x6 x7 : FVec Ideal S64 .f32) (x8 : FVec Ideal S64x2048 .f32) (r : Fin 2048) (o : Fin 1024) :
    val_main_v26 (F := Ideal) x0 x1 x2 x3 x4 x5 x6 x7 x8 (ix2 r o) = if r.val = 0 then (0 : EReal) else taps x0 x1 x2 x3 x4 x5 x6 x7 x8 r o ⟨1024 + o.val, by omega⟩ := by
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  by_cases h : r.val = 0
  · rw [dif_pos (by omega), if_pos h]
  · rw [dif_neg (by omega), if_neg h]
    have e : (⟨1 + (r.val - 1), by omega⟩ : Fin 2048) = r := Fin.ext (by show 1 + (r.val - 1) = r.val; omega)
    rw [e]
    rfl

/-- The rows whose number is even, by the reference and by the kernel. -/
theorem sign : ∀ r : Fin 2048, val_main_v31 (F := Ideal) (ix1 r) = IntOp.cmpi .eq (IntOp.andi (BitVec.ofNat 32 r.val) 1#32) 0#32 := by
  decide +kernel

/-- Every window's block index at every grid point. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, t.val]
    ∧ win0_8.index t = ![0, 4 + t.val]
    ∧ win0_9.index t = ![0, t.val]
    ∧ win0_10.index t = ![0, t.val]
    ∧ win0_11.index t = ![0, t.val]
    ∧ win0_12.index t = ![0, t.val]
    ∧ t.val < 4 :=
  (by decide +kernel : ∀ t : Fin grid0.N, _)

/-- Every block of the position features is the whole enlarged array. -/
theorem block_0 (c : Dev nD) (t : Fin cfg0.N) (i : Fin 2048) (j : Fin 128) : iblk m c 0 t (ix2 i j) = (V m c main_v0 : FVec Ideal S2048x128 .f32) (ix2 i j) := by
  simp only [iblk]
  entry_read
  have e : (win0_0.blk t).view.emb (ix2 i j) = (ix2 i j : S2048x128.Idx) := by
    blk_ext [idx t]
  show (V m c main_v0 : FVec Ideal S2048x128 .f32) ((win0_0.blk t).view.emb (ix2 i j)) = _
  rw [e]

/-- Every block of the first layer's weights is the whole enlarged array. -/
theorem block_1 (c : Dev nD) (t : Fin cfg0.N) (i : Fin 128) (j : Fin 128) : iblk m c 1 t (ix2 i j) = (V m c main_v1 : FVec Ideal S128x128 .f32) (ix2 i j) := by
  simp only [iblk]
  entry_read
  have e : (win0_1.blk t).view.emb (ix2 i j) = (ix2 i j : S128x128.Idx) := by
    blk_ext [idx t]
  show (V m c main_v1 : FVec Ideal S128x128 .f32) ((win0_1.blk t).view.emb (ix2 i j)) = _
  rw [e]

/-- Every block of the first layer's bias is the whole enlarged array. -/
theorem block_2 (c : Dev nD) (t : Fin cfg0.N) (i : Fin 1) (j : Fin 128) : iblk m c 2 t (ix2 i j) = (V m c main_v3 : FVec Ideal S1x128 .f32) (ix2 i j) := by
  simp only [iblk]
  entry_read
  have e : (win0_2.blk t).view.emb (ix2 i j) = (ix2 i j : S1x128.Idx) := by
    blk_ext [idx t]
  show (V m c main_v3 : FVec Ideal S1x128 .f32) ((win0_2.blk t).view.emb (ix2 i j)) = _
  rw [e]

/-- Every block of the first layer's frequencies is the whole enlarged array. -/
theorem block_3 (c : Dev nD) (t : Fin cfg0.N) (i : Fin 1) (j : Fin 128) : iblk m c 3 t (ix2 i j) = (V m c main_v5 : FVec Ideal S1x128 .f32) (ix2 i j) := by
  simp only [iblk]
  entry_read
  have e : (win0_3.blk t).view.emb (ix2 i j) = (ix2 i j : S1x128.Idx) := by
    blk_ext [idx t]
  show (V m c main_v5 : FVec Ideal S1x128 .f32) ((win0_3.blk t).view.emb (ix2 i j)) = _
  rw [e]

/-- Every block of the second layer's weights is the whole enlarged array. -/
theorem block_4 (c : Dev nD) (t : Fin cfg0.N) (i : Fin 128) (j : Fin 128) : iblk m c 4 t (ix2 i j) = (V m c main_v6 : FVec Ideal S128x128 .f32) (ix2 i j) := by
  simp only [iblk]
  entry_read
  have e : (win0_4.blk t).view.emb (ix2 i j) = (ix2 i j : S128x128.Idx) := by
    blk_ext [idx t]
  show (V m c main_v6 : FVec Ideal S128x128 .f32) ((win0_4.blk t).view.emb (ix2 i j)) = _
  rw [e]

/-- Every block of the second layer's bias is the whole enlarged array. -/
theorem block_5 (c : Dev nD) (t : Fin cfg0.N) (i : Fin 1) (j : Fin 128) : iblk m c 5 t (ix2 i j) = (V m c main_v8 : FVec Ideal S1x128 .f32) (ix2 i j) := by
  simp only [iblk]
  entry_read
  have e : (win0_5.blk t).view.emb (ix2 i j) = (ix2 i j : S1x128.Idx) := by
    blk_ext [idx t]
  show (V m c main_v8 : FVec Ideal S1x128 .f32) ((win0_5.blk t).view.emb (ix2 i j)) = _
  rw [e]

/-- Every block of the second layer's frequencies is the whole enlarged array. -/
theorem block_6 (c : Dev nD) (t : Fin cfg0.N) (i : Fin 1) (j : Fin 128) : iblk m c 6 t (ix2 i j) = (V m c main_v10 : FVec Ideal S1x128 .f32) (ix2 i j) := by
  simp only [iblk]
  entry_read
  have e : (win0_6.blk t).view.emb (ix2 i j) = (ix2 i j : S1x128.Idx) := by
    blk_ext [idx t]
  show (V m c main_v10 : FVec Ideal S1x128 .f32) ((win0_6.blk t).view.emb (ix2 i j)) = _
  rw [e]

/-- A block of the last layer's weights, from their first half. -/
theorem block_7 (c : Dev nD) (t : Fin cfg0.N) (i : Fin 128) (q : Fin 256) (O : Fin 2048) (hO : O.val = t.val * 256 + q.val) :
    iblk m c 7 t (ix2 i q) = (V m c main_v11 : FVec Ideal S128x2048 .f32) (ix2 i O) := by
  simp only [iblk]
  entry_read
  have e : (win0_7.blk t).view.emb (ix2 i q) = (ix2 i O : S128x2048.Idx) := by
    blk_ext [idx t]
  show (V m c main_v11 : FVec Ideal S128x2048 .f32) ((win0_7.blk t).view.emb (ix2 i q)) = _
  rw [e]

/-- A block of the last layer's weights, from their second half. -/
theorem block_8 (c : Dev nD) (t : Fin cfg0.N) (i : Fin 128) (q : Fin 256) (O : Fin 2048) (hO : O.val = (4 + t.val) * 256 + q.val) :
    iblk m c 8 t (ix2 i q) = (V m c main_v11 : FVec Ideal S128x2048 .f32) (ix2 i O) := by
  simp only [iblk]
  entry_read
  have e : (win0_8.blk t).view.emb (ix2 i q) = (ix2 i O : S128x2048.Idx) := by
    blk_ext [idx t]
  show (V m c main_v11 : FVec Ideal S128x2048 .f32) ((win0_8.blk t).view.emb (ix2 i q)) = _
  rw [e]

/-- A block of the decay. -/
theorem block_9 (c : Dev nD) (t : Fin cfg0.N) (r : Fin 2048) (q : Fin 256) (o : Fin 1024) (ho : o.val = t.val * 256 + q.val) :
    iblk m c 9 t (ix2 r q) = (m ((c : Thread nD τ).loc main_arg1) : FVec Ideal S2048x1024 .f32) (ix2 r o) := by
  simp only [iblk]
  entry_read
  have e : (win0_9.blk t).view.emb (ix2 r q) = (ix2 r o : S2048x1024.Idx) := by
    blk_ext [idx t]
  show (V m c main_arg1 : FVec Ideal S2048x1024 .f32) ((win0_9.blk t).view.emb (ix2 r q)) = _
  rw [e, V_main_arg1]

/-- A block's taps of positive lag are those over the call's arguments. -/
theorem positive (c : Dev nD) (t : Fin cfg0.N) (r : Fin 2048) (q : Fin 256) (o : Fin 1024) (O : Fin 2048) (ho : o.val = t.val * 256 + q.val) (hO : O.val = t.val * 256 + q.val) :
    k0_pay6 (F := Ideal) (iblk m c 3 t) (iblk m c 0 t) (iblk m c 1 t) (iblk m c 2 t) (iblk m c 6 t) (iblk m c 4 t) (iblk m c 5 t) (iblk m c 9 t) (iblk m c 7 t) (ix2 r q) = taps (m ((c : Thread nD τ).loc main_arg0) : FVec Ideal S2048x33 .f32) (m ((c : Thread nD τ).loc main_arg1) : FVec Ideal S2048x1024 .f32) (m ((c : Thread nD τ).loc main_arg2) : FVec Ideal S33x64 .f32) (m ((c : Thread nD τ).loc main_arg3) : FVec Ideal S64 .f32) (m ((c : Thread nD τ).loc main_arg4) : FVec Ideal S64 .f32) (m ((c : Thread nD τ).loc main_arg5) : FVec Ideal S64x64 .f32) (m ((c : Thread nD τ).loc main_arg6) : FVec Ideal S64 .f32) (m ((c : Thread nD τ).loc main_arg7) : FVec Ideal S64 .f32) (m ((c : Thread nD τ).loc main_arg8) : FVec Ideal S64x2048 .f32) r o O := by
  refine taps_eq (m ((c : Thread nD τ).loc main_arg0) : FVec Ideal S2048x33 .f32) (m ((c : Thread nD τ).loc main_arg1) : FVec Ideal S2048x1024 .f32) (m ((c : Thread nD τ).loc main_arg2) : FVec Ideal S33x64 .f32) (m ((c : Thread nD τ).loc main_arg3) : FVec Ideal S64 .f32) (m ((c : Thread nD τ).loc main_arg4) : FVec Ideal S64 .f32) (m ((c : Thread nD τ).loc main_arg5) : FVec Ideal S64x64 .f32) (m ((c : Thread nD τ).loc main_arg6) : FVec Ideal S64 .f32) (m ((c : Thread nD τ).loc main_arg7) : FVec Ideal S64 .f32) (m ((c : Thread nD τ).loc main_arg8) : FVec Ideal S64x2048 .f32) _ _ _ _ _ _ _ _ _ r q o O ?_ ?_ ?_ ?_ ?_ ?_ ?_ ?_ ?_ ?_ ?_ ?_
  · intro i; rw [block_0, host_0]; exact grown_inside _ _ _ _ _ _ _ _ rfl rfl
  · intro i hi; rw [block_0, host_0]; exact grown_beside _ _ _ _ _ hi
  · intro i j; rw [block_1, host_1]; exact grown_inside _ _ _ _ _ _ _ _ rfl rfl
  · intro j; rw [block_2, host_3]; refine Eq.trans (grown_inside _ _ _ _ 0 j _ _ rfl rfl) ?_; exact Cert.Arrays.row _ _ j
  · intro j; rw [block_3, host_5]; refine Eq.trans (grown_inside _ _ _ _ 0 j _ _ rfl rfl) ?_; exact Cert.Arrays.row _ _ j
  · intro j k; rw [block_4, host_6]; exact grown_inside _ _ _ _ _ _ _ _ rfl rfl
  · intro j k hj; rw [block_4, host_6]; exact grown_below _ _ _ _ _ hj
  · intro j; rw [block_5, host_8]; refine Eq.trans (grown_inside _ _ _ _ 0 j _ _ rfl rfl) ?_; exact Cert.Arrays.row _ _ j
  · intro j; rw [block_6, host_10]; refine Eq.trans (grown_inside _ _ _ _ 0 j _ _ rfl rfl) ?_; exact Cert.Arrays.row _ _ j
  · intro k; rw [block_7 m c t _ q O hO, host_11]; exact grown_inside _ _ _ _ _ _ _ _ rfl rfl
  · intro k hk; rw [block_7 m c t _ q O hO, host_11]; exact grown_below _ _ _ _ _ hk
  · exact block_9 m c t r q o ho

/-- A block's taps of negative lag are those over the call's arguments. -/
theorem negative (c : Dev nD) (t : Fin cfg0.N) (r : Fin 2048) (q : Fin 256) (o : Fin 1024) (O : Fin 2048) (ho : o.val = t.val * 256 + q.val) (hO : O.val = (4 + t.val) * 256 + q.val) :
    k0_pay7 (F := Ideal) (iblk m c 3 t) (iblk m c 0 t) (iblk m c 1 t) (iblk m c 2 t) (iblk m c 6 t) (iblk m c 4 t) (iblk m c 5 t) (iblk m c 9 t) (iblk m c 8 t) (ix2 r q) = taps (m ((c : Thread nD τ).loc main_arg0) : FVec Ideal S2048x33 .f32) (m ((c : Thread nD τ).loc main_arg1) : FVec Ideal S2048x1024 .f32) (m ((c : Thread nD τ).loc main_arg2) : FVec Ideal S33x64 .f32) (m ((c : Thread nD τ).loc main_arg3) : FVec Ideal S64 .f32) (m ((c : Thread nD τ).loc main_arg4) : FVec Ideal S64 .f32) (m ((c : Thread nD τ).loc main_arg5) : FVec Ideal S64x64 .f32) (m ((c : Thread nD τ).loc main_arg6) : FVec Ideal S64 .f32) (m ((c : Thread nD τ).loc main_arg7) : FVec Ideal S64 .f32) (m ((c : Thread nD τ).loc main_arg8) : FVec Ideal S64x2048 .f32) r o O := by
  rw [same_taps]
  refine taps_eq (m ((c : Thread nD τ).loc main_arg0) : FVec Ideal S2048x33 .f32) (m ((c : Thread nD τ).loc main_arg1) : FVec Ideal S2048x1024 .f32) (m ((c : Thread nD τ).loc main_arg2) : FVec Ideal S33x64 .f32) (m ((c : Thread nD τ).loc main_arg3) : FVec Ideal S64 .f32) (m ((c : Thread nD τ).loc main_arg4) : FVec Ideal S64 .f32) (m ((c : Thread nD τ).loc main_arg5) : FVec Ideal S64x64 .f32) (m ((c : Thread nD τ).loc main_arg6) : FVec Ideal S64 .f32) (m ((c : Thread nD τ).loc main_arg7) : FVec Ideal S64 .f32) (m ((c : Thread nD τ).loc main_arg8) : FVec Ideal S64x2048 .f32) _ _ _ _ _ _ _ _ _ r q o O ?_ ?_ ?_ ?_ ?_ ?_ ?_ ?_ ?_ ?_ ?_ ?_
  · intro i; rw [block_0, host_0]; exact grown_inside _ _ _ _ _ _ _ _ rfl rfl
  · intro i hi; rw [block_0, host_0]; exact grown_beside _ _ _ _ _ hi
  · intro i j; rw [block_1, host_1]; exact grown_inside _ _ _ _ _ _ _ _ rfl rfl
  · intro j; rw [block_2, host_3]; refine Eq.trans (grown_inside _ _ _ _ 0 j _ _ rfl rfl) ?_; exact Cert.Arrays.row _ _ j
  · intro j; rw [block_3, host_5]; refine Eq.trans (grown_inside _ _ _ _ 0 j _ _ rfl rfl) ?_; exact Cert.Arrays.row _ _ j
  · intro j k; rw [block_4, host_6]; exact grown_inside _ _ _ _ _ _ _ _ rfl rfl
  · intro j k hj; rw [block_4, host_6]; exact grown_below _ _ _ _ _ hj
  · intro j; rw [block_5, host_8]; refine Eq.trans (grown_inside _ _ _ _ 0 j _ _ rfl rfl) ?_; exact Cert.Arrays.row _ _ j
  · intro j; rw [block_6, host_10]; refine Eq.trans (grown_inside _ _ _ _ 0 j _ _ rfl rfl) ?_; exact Cert.Arrays.row _ _ j
  · intro k; rw [block_8 m c t _ q O hO, host_11]; exact grown_inside _ _ _ _ _ _ _ _ rfl rfl
  · intro k hk; rw [block_8 m c t _ q O hO, host_11]; exact grown_below _ _ _ _ _ hk
  · exact block_9 m c t r q o ho

/-- The row of lag 0 is the first. -/
theorem first_row : ∀ r : Fin 2048, IntOp.cmpi .eq (BitVec.ofNat 32 r.val) 0#32 = if r.val = 0 then 1#1 else 0#1 := by
  decide +kernel

/-- The kernel's choice of zero at lag 0. -/
theorem choice (r : Fin 2048) (y : EReal) : Scalar.select (IntOp.cmpi .eq (BitVec.ofNat 32 r.val) 0#32) (0 : EReal) y = if r.val = 0 then (0 : EReal) else y := by
  rw [first_row r]
  by_cases h : r.val = 0
  · rw [if_pos h, if_pos h]; rfl
  · rw [if_neg h, if_neg h]; rfl

/-- The even part of a block is the reference's. -/
theorem core_even (x0 : FVec Ideal S2048x33 .f32) (x1 : FVec Ideal S2048x1024 .f32) (x2 : FVec Ideal S33x64 .f32) (x3 x4 : FVec Ideal S64 .f32) (x5 : FVec Ideal S64x64 .f32) (x6 x7 : FVec Ideal S64 .f32) (x8 : FVec Ideal S64x2048 .f32) (a b : FVec Ideal S2048x256 .f32) (r : Fin 2048) (q : Fin 256) (o : Fin 1024)
    (ha : a (ix2 r q) = taps x0 x1 x2 x3 x4 x5 x6 x7 x8 r o ⟨o.val, by omega⟩) (hb : b (ix2 r q) = taps x0 x1 x2 x3 x4 x5 x6 x7 x8 r o ⟨1024 + o.val, by omega⟩) :
    k0_pay2 (F := Ideal) a b (ix2 r q) = val_main_v27 (F := Ideal) x0 x1 x2 x3 x4 x5 x6 x7 x8 (ix2 r o) := by
  refine Eq.trans ?_ (congrArg₂ (· + ·) (forward_eq x0 x1 x2 x3 x4 x5 x6 x7 x8 r o) (backward_eq x0 x1 x2 x3 x4 x5 x6 x7 x8 r o)).symm
  pointwise [k0_pay2, k0_pay1]
  rw [choice, ha, hb]

/-- The odd part of a block is the reference's. -/
theorem core_odd (x0 : FVec Ideal S2048x33 .f32) (x1 : FVec Ideal S2048x1024 .f32) (x2 : FVec Ideal S33x64 .f32) (x3 x4 : FVec Ideal S64 .f32) (x5 : FVec Ideal S64x64 .f32) (x6 x7 : FVec Ideal S64 .f32) (x8 : FVec Ideal S64x2048 .f32) (a b : FVec Ideal S2048x256 .f32) (r : Fin 2048) (q : Fin 256) (o : Fin 1024)
    (ha : a (ix2 r q) = taps x0 x1 x2 x3 x4 x5 x6 x7 x8 r o ⟨o.val, by omega⟩) (hb : b (ix2 r q) = taps x0 x1 x2 x3 x4 x5 x6 x7 x8 r o ⟨1024 + o.val, by omega⟩) :
    k0_pay3 (F := Ideal) a b (ix2 r q) = val_main_v33 (F := Ideal) x0 x1 x2 x3 x4 x5 x6 x7 x8 (ix2 r o) := by
  refine Eq.trans ?_ (congrArg₂ (· - ·) (forward_eq x0 x1 x2 x3 x4 x5 x6 x7 x8 r o) (backward_eq x0 x1 x2 x3 x4 x5 x6 x7 x8 r o)).symm
  pointwise [k0_pay3, k0_pay1]
  rw [choice, ha, hb]

/-- The alternating sum of a block's even part is the reference's. -/
theorem core_wave (x0 : FVec Ideal S2048x33 .f32) (x1 : FVec Ideal S2048x1024 .f32) (x2 : FVec Ideal S33x64 .f32) (x3 x4 : FVec Ideal S64 .f32) (x5 : FVec Ideal S64x64 .f32) (x6 x7 : FVec Ideal S64 .f32) (x8 : FVec Ideal S64x2048 .f32) (a b : FVec Ideal S2048x256 .f32) (q : Fin 256) (o : Fin 1024)
    (h : ∀ r : Fin 2048, k0_pay2 (F := Ideal) a b (ix2 r q) = val_main_v27 (F := Ideal) x0 x1 x2 x3 x4 x5 x6 x7 x8 (ix2 r o)) :
    k0_pay4 (F := Ideal) a b (ix2 0 q) = val_main_v39 (F := Ideal) x0 x1 x2 x3 x4 x5 x6 x7 x8 (ix2 0 o) := by
  pointwise [k0_pay4, val_main_v39, val_main_v38, val_main_v37, val_main_cst_3]
  refine Finset.sum_congr rfl fun r _ => ?_
  rw [h, ← sign r]
  refine congrArg (val_main_v27 (F := Ideal) x0 x1 x2 x3 x4 x5 x6 x7 x8 (ix2 r o) * ·) ?_
  have e : idx_main_v34 (idx_main_v36 (ix2 r o)) = ix1 r := funext fun d => match d with
    | ⟨0, _⟩ => rfl
  rw [val_main_v36_apply, val_main_v35_apply, val_main_v34_apply, e]
  pointwise [val_main_v32, val_main_call1_v0, val_main_call1_v1, val_main_cst_1, val_main_cst_2]

/-- A block's taps of positive lag, from the blocks in the order the call takes them. -/
theorem lag_positive (b0 : FVec Ideal S2048x128 .f32) (b1 : FVec Ideal S128x128 .f32) (b2 b3 : FVec Ideal S1x128 .f32) (b4 : FVec Ideal S128x128 .f32) (b5 b6 : FVec Ideal S1x128 .f32) (b7 b8 : FVec Ideal S128x256 .f32) (b9 : FVec Ideal S2048x256 .f32) :
    k0_pay8 (F := Ideal) b0 b1 b2 b3 b4 b5 b6 b7 b8 b9 = k0_pay6 b3 b0 b1 b2 b6 b4 b5 b9 b7 := by
  unfold k0_pay8
  have z : (![0, 0] : Fin 2 → Nat) = fun _ => 0 := funext fun d => match d with
    | ⟨0, _⟩ => rfl
    | ⟨1, _⟩ => rfl
  have e0 : View.ld (Val := Elt Ideal) (S := S2048x128) (e' := .f32) b0 r0_1 = b0 := View.ld_unit_zero (S := S2048x128) z _ _
  have e1 : View.ld (Val := Elt Ideal) (S := S128x128) (e' := .f32) b1 r0_2 = b1 := View.ld_unit_zero (S := S128x128) z _ _
  have e2 : View.ld (Val := Elt Ideal) (S := S1x128) (e' := .f32) b2 r0_0 = b2 := View.ld_unit_zero (S := S1x128) z _ _
  have e3 : View.ld (Val := Elt Ideal) (S := S1x128) (e' := .f32) b3 r0_0 = b3 := View.ld_unit_zero (S := S1x128) z _ _
  have e4 : View.ld (Val := Elt Ideal) (S := S128x128) (e' := .f32) b4 r0_2 = b4 := View.ld_unit_zero (S := S128x128) z _ _
  have e5 : View.ld (Val := Elt Ideal) (S := S1x128) (e' := .f32) b5 r0_0 = b5 := View.ld_unit_zero (S := S1x128) z _ _
  have e6 : View.ld (Val := Elt Ideal) (S := S1x128) (e' := .f32) b6 r0_0 = b6 := View.ld_unit_zero (S := S1x128) z _ _
  have e9 : View.ld (Val := Elt Ideal) (S := S2048x256) (e' := .f32) b9 r0_3 = b9 := View.ld_unit_zero (S := S2048x256) z _ _
  have e7 : View.ld (Val := Elt Ideal) (S := S128x256) (e' := .f32) b7 r0_4 = b7 := View.ld_unit_zero (S := S128x256) z _ _
  rw [e0, e1, e2, e3, e4, e5, e6, e9, e7]

/-- A block's taps of negative lag, from the blocks in the order the call takes them. -/
theorem lag_negative (b0 : FVec Ideal S2048x128 .f32) (b1 : FVec Ideal S128x128 .f32) (b2 b3 : FVec Ideal S1x128 .f32) (b4 : FVec Ideal S128x128 .f32) (b5 b6 : FVec Ideal S1x128 .f32) (b7 b8 : FVec Ideal S128x256 .f32) (b9 : FVec Ideal S2048x256 .f32) :
    k0_pay9 (F := Ideal) b0 b1 b2 b3 b4 b5 b6 b7 b8 b9 = k0_pay7 b3 b0 b1 b2 b6 b4 b5 b9 b8 := by
  unfold k0_pay9
  have z : (![0, 0] : Fin 2 → Nat) = fun _ => 0 := funext fun d => match d with
    | ⟨0, _⟩ => rfl
    | ⟨1, _⟩ => rfl
  have e0 : View.ld (Val := Elt Ideal) (S := S2048x128) (e' := .f32) b0 r0_1 = b0 := View.ld_unit_zero (S := S2048x128) z _ _
  have e1 : View.ld (Val := Elt Ideal) (S := S128x128) (e' := .f32) b1 r0_2 = b1 := View.ld_unit_zero (S := S128x128) z _ _
  have e2 : View.ld (Val := Elt Ideal) (S := S1x128) (e' := .f32) b2 r0_0 = b2 := View.ld_unit_zero (S := S1x128) z _ _
  have e3 : View.ld (Val := Elt Ideal) (S := S1x128) (e' := .f32) b3 r0_0 = b3 := View.ld_unit_zero (S := S1x128) z _ _
  have e4 : View.ld (Val := Elt Ideal) (S := S128x128) (e' := .f32) b4 r0_2 = b4 := View.ld_unit_zero (S := S128x128) z _ _
  have e5 : View.ld (Val := Elt Ideal) (S := S1x128) (e' := .f32) b5 r0_0 = b5 := View.ld_unit_zero (S := S1x128) z _ _
  have e6 : View.ld (Val := Elt Ideal) (S := S1x128) (e' := .f32) b6 r0_0 = b6 := View.ld_unit_zero (S := S1x128) z _ _
  have e9 : View.ld (Val := Elt Ideal) (S := S2048x256) (e' := .f32) b9 r0_3 = b9 := View.ld_unit_zero (S := S2048x256) z _ _
  have e8 : View.ld (Val := Elt Ideal) (S := S128x256) (e' := .f32) b8 r0_4 = b8 := View.ld_unit_zero (S := S128x256) z _ _
  rw [e0, e1, e2, e3, e4, e5, e6, e9, e8]

/-- After the run the first output array is the reference's even part. -/
theorem final_even (c : Dev nD) : (dats m 0 c).arrAt 10 (cfgs 0).N = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp; rw [after0_10]; frame_out
  have ht : t.val < 4 := (idx t).2.2.2.2.2.2.2.2.2.2.2.2.2
  idx_vars y
  rename' y0 => r, y1 => q
  have hE : (((cfg0.win 10).blk t).view.emb (ix2 r q)) = (ix2 r ⟨t.val * 256 + q.val, by omega⟩ : S2048x1024.Idx) := by blk_ext [idx t]
  rw [hE, lag_positive, lag_negative]
  exact core_even (m ((c : Thread nD τ).loc main_arg0) : FVec Ideal S2048x33 .f32) (m ((c : Thread nD τ).loc main_arg1) : FVec Ideal S2048x1024 .f32) (m ((c : Thread nD τ).loc main_arg2) : FVec Ideal S33x64 .f32) (m ((c : Thread nD τ).loc main_arg3) : FVec Ideal S64 .f32) (m ((c : Thread nD τ).loc main_arg4) : FVec Ideal S64 .f32) (m ((c : Thread nD τ).loc main_arg5) : FVec Ideal S64x64 .f32) (m ((c : Thread nD τ).loc main_arg6) : FVec Ideal S64 .f32) (m ((c : Thread nD τ).loc main_arg7) : FVec Ideal S64 .f32) (m ((c : Thread nD τ).loc main_arg8) : FVec Ideal S64x2048 .f32) _ _ r q ⟨t.val * 256 + q.val, by omega⟩ (positive m c t r q ⟨t.val * 256 + q.val, by omega⟩ ⟨t.val * 256 + q.val, by omega⟩ rfl rfl) (negative m c t r q ⟨t.val * 256 + q.val, by omega⟩ ⟨1024 + (t.val * 256 + q.val), by omega⟩ rfl (by show 1024 + (t.val * 256 + q.val) = (4 + t.val) * 256 + q.val; omega))

/-- After the run the second output array is the reference's odd part. -/
theorem final_odd (c : Dev nD) : (dats m 0 c).arrAt 11 (cfgs 0).N = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  blk_simp; rw [after0_11]; frame_out
  have ht : t.val < 4 := (idx t).2.2.2.2.2.2.2.2.2.2.2.2.2
  idx_vars y
  rename' y0 => r, y1 => q
  have hE : (((cfg0.win 11).blk t).view.emb (ix2 r q)) = (ix2 r ⟨t.val * 256 + q.val, by omega⟩ : S2048x1024.Idx) := by blk_ext [idx t]
  rw [hE, lag_positive, lag_negative]
  exact core_odd (m ((c : Thread nD τ).loc main_arg0) : FVec Ideal S2048x33 .f32) (m ((c : Thread nD τ).loc main_arg1) : FVec Ideal S2048x1024 .f32) (m ((c : Thread nD τ).loc main_arg2) : FVec Ideal S33x64 .f32) (m ((c : Thread nD τ).loc main_arg3) : FVec Ideal S64 .f32) (m ((c : Thread nD τ).loc main_arg4) : FVec Ideal S64 .f32) (m ((c : Thread nD τ).loc main_arg5) : FVec Ideal S64x64 .f32) (m ((c : Thread nD τ).loc main_arg6) : FVec Ideal S64 .f32) (m ((c : Thread nD τ).loc main_arg7) : FVec Ideal S64 .f32) (m ((c : Thread nD τ).loc main_arg8) : FVec Ideal S64x2048 .f32) _ _ r q ⟨t.val * 256 + q.val, by omega⟩ (positive m c t r q ⟨t.val * 256 + q.val, by omega⟩ ⟨t.val * 256 + q.val, by omega⟩ rfl rfl) (negative m c t r q ⟨t.val * 256 + q.val, by omega⟩ ⟨1024 + (t.val * 256 + q.val), by omega⟩ rfl (by show 1024 + (t.val * 256 + q.val) = (4 + t.val) * 256 + q.val; omega))

/-- After the run the third output array is the reference's alternating sum. -/
theorem final_wave (c : Dev nD) : (dats m 0 c).arrAt 12 (cfgs 0).N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  blk_simp; rw [after0_12]; frame_out
  have ht : t.val < 4 := (idx t).2.2.2.2.2.2.2.2.2.2.2.2.2
  idx_vars y
  rename' y0 => z, y1 => q
  obtain rfl : z = 0 := Subsingleton.elim _ _
  have hE : (((cfg0.win 12).blk t).view.emb (ix2 0 q)) = (ix2 0 ⟨t.val * 256 + q.val, by omega⟩ : S1x1024.Idx) := by blk_ext [idx t]
  rw [hE, lag_positive, lag_negative]
  exact core_wave (m ((c : Thread nD τ).loc main_arg0) : FVec Ideal S2048x33 .f32) (m ((c : Thread nD τ).loc main_arg1) : FVec Ideal S2048x1024 .f32) (m ((c : Thread nD τ).loc main_arg2) : FVec Ideal S33x64 .f32) (m ((c : Thread nD τ).loc main_arg3) : FVec Ideal S64 .f32) (m ((c : Thread nD τ).loc main_arg4) : FVec Ideal S64 .f32) (m ((c : Thread nD τ).loc main_arg5) : FVec Ideal S64x64 .f32) (m ((c : Thread nD τ).loc main_arg6) : FVec Ideal S64 .f32) (m ((c : Thread nD τ).loc main_arg7) : FVec Ideal S64 .f32) (m ((c : Thread nD τ).loc main_arg8) : FVec Ideal S64x2048 .f32) _ _ q ⟨t.val * 256 + q.val, by omega⟩ fun r =>
    core_even (m ((c : Thread nD τ).loc main_arg0) : FVec Ideal S2048x33 .f32) (m ((c : Thread nD τ).loc main_arg1) : FVec Ideal S2048x1024 .f32) (m ((c : Thread nD τ).loc main_arg2) : FVec Ideal S33x64 .f32) (m ((c : Thread nD τ).loc main_arg3) : FVec Ideal S64 .f32) (m ((c : Thread nD τ).loc main_arg4) : FVec Ideal S64 .f32) (m ((c : Thread nD τ).loc main_arg5) : FVec Ideal S64x64 .f32) (m ((c : Thread nD τ).loc main_arg6) : FVec Ideal S64 .f32) (m ((c : Thread nD τ).loc main_arg7) : FVec Ideal S64 .f32) (m ((c : Thread nD τ).loc main_arg8) : FVec Ideal S64x2048 .f32) _ _ r q ⟨t.val * 256 + q.val, by omega⟩ (positive m c t r q ⟨t.val * 256 + q.val, by omega⟩ ⟨t.val * 256 + q.val, by omega⟩ rfl rfl) (negative m c t r q ⟨t.val * 256 + q.val, by omega⟩ ⟨1024 + (t.val * 256 + q.val), by omega⟩ rfl (by show 1024 + (t.val * 256 + q.val) = (4 + t.val) * 256 + q.val; omega))

/-- The run ends with the three output arrays as the pipeline leaves them and the arguments unchanged. -/
theorem run (g : Dev nD → PrngReg) : θ_run defs (onTc (τ := τ) (main (F := Ideal))) ⟨m, fun _ => 0, g⟩ (fun r => ∀ c : Dev nD,
      r.2.mem ((c : Thread nD τ).loc main_v12_0) = (dats m 0 c).arrAt 10 (cfgs 0).N
      ∧ r.2.mem ((c : Thread nD τ).loc main_v12_1) = (dats m 0 c).arrAt 11 (cfgs 0).N
      ∧ r.2.mem ((c : Thread nD τ).loc main_v12_2) = (dats m 0 c).arrAt 12 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun _ h c => ⟨(h.1 c).1 10, (h.1 c).1 11, (h.1 c).1 12, h.2 c⟩) (θ_run_and (run_main m g) (unchanged m g))

end Cert.FilterKernelIdeal.Value

end
-- ==== Proof.FilterReference.lean ====
/- What the run of the Hyena filter's reference leaves, by its stages. -/
module

public import proofs.«01_k».proof.Proof.Gen.FilterReferenceIdeal.Run
public import proofs.«01_k».proof.Proof.Gen.FilterReferenceIdeal.Read

@[expose] public section

set_option maxRecDepth 16384

noncomputable section

open Idealize.ShloMosaic Idealize.SL.Sem

namespace Cert.FilterReferenceIdeal.Stages

open Cert.FilterReferenceIdeal Cert.FilterReferenceIdeal.Read

/-- The reference's run ends with its three results at their stages of the arguments and the arguments unchanged. -/
theorem run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v27) = val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v33) = val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v39) = val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (val_main_v27_eq _ _ _ _ _ _ _ _ _), (h c).2.1.trans (val_main_v33_eq _ _ _ _ _ _ _ _ _),
    (h c).2.2.1.trans (val_main_v39_eq m c), (h c).2.2.2⟩) (Cert.FilterReferenceIdeal.Value.run m g)

end Cert.FilterReferenceIdeal.Stages

end
-- ==== Proof.HostFrame.lean ====
/- A program of host operations only declares no semaphore, so whatever its counters hold, they hold zero everywhere. -/
module

public import Idealize.ShloMosaic.Lib.Claim

@[expose] public section

namespace Cert.HostFrame

open Idealize.ShloMosaic

/-- A signature without semaphores of either sort has no counter to read: any two readings of the counters agree. -/
theorem no_counters {nD : Nat} {τ : Topo} {sig : RefSig} (hr : sig.nSem = 0) (hd : sig.nDmaSem = 0)
    (f : GSem nD τ sig → Int) : f = fun _ => 0 := by
  funext x
  obtain ⟨t, s⟩ := x
  cases s with
  | reg s => exact (hr ▸ s : Fin 0).elim0
  | dma s => exact (hd ▸ s : Fin 0).elim0

end Cert.HostFrame
-- ==== Proof.lean ====
module

public import proofs.«01_k».proof.Defs
public import Idealize.ShloMosaic.Lib.Claim
public import Idealize.ShloMosaic.Adequacy
public import Idealize.ShloMosaic.Init
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnReferenceIdeal
public import proofs.«01_k».proof.Proof.Gen.AttnReferenceIdeal.Run
public import proofs.«01_k».proof.Proof.Gen.AttnReferenceIdeal.Read
public import proofs.«01_k».proof.Proof.AttnValue
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.FfnValue
public import proofs.«01_k».proof.Proof.Gen.QkvKernel
public import proofs.«01_k».proof.Proof.Gen.QkvKernel.Skeleton
public import proofs.«01_k».proof.Proof.Gen.QkvKernel.Launch
public import proofs.«01_k».proof.Proof.Gen.QkvKernel.Points
public import proofs.«01_k».proof.Proof.Gen.QkvKernel.Frame
public import proofs.«01_k».proof.Proof.Gen.QkvKernelIdeal
public import proofs.«01_k».proof.Proof.Gen.QkvKernelIdeal.Skeleton
public import proofs.«01_k».proof.Proof.Gen.QkvKernelIdeal.Launch
public import proofs.«01_k».proof.Proof.Gen.QkvKernelIdeal.Points
public import proofs.«01_k».proof.Proof.Gen.QkvKernelIdeal.Frame
public import proofs.«01_k».proof.Proof.Gen.QkvReferenceIdeal
public import proofs.«01_k».proof.Proof.Gen.QkvReferenceIdeal.Run
public import proofs.«01_k».proof.Proof.Gen.QkvReferenceIdeal.Read
public import proofs.«01_k».proof.Proof.QkvValue
public import proofs.«01_k».proof.Proof.Gen.GluKernel
public import proofs.«01_k».proof.Proof.Gen.GluKernel.Skeleton
public import proofs.«01_k».proof.Proof.Gen.GluKernel.Launch
public import proofs.«01_k».proof.Proof.Gen.GluKernel.Points
public import proofs.«01_k».proof.Proof.Gen.GluKernel.Frame
public import proofs.«01_k».proof.Proof.Gen.GluKernelIdeal
public import proofs.«01_k».proof.Proof.Gen.GluKernelIdeal.Skeleton
public import proofs.«01_k».proof.Proof.Gen.GluKernelIdeal.Launch
public import proofs.«01_k».proof.Proof.Gen.GluKernelIdeal.Points
public import proofs.«01_k».proof.Proof.Gen.GluKernelIdeal.Frame
public import proofs.«01_k».proof.Proof.Gen.GluReferenceIdeal
public import proofs.«01_k».proof.Proof.Gen.GluReferenceIdeal.Run
public import proofs.«01_k».proof.Proof.Gen.GluReferenceIdeal.Read
public import proofs.«01_k».proof.Proof.GluValue
public import proofs.«01_k».proof.Proof.Gen.PlainKernel
public import proofs.«01_k».proof.Proof.Gen.PlainKernel.Skeleton
public import proofs.«01_k».proof.Proof.Gen.PlainKernel.Launch
public import proofs.«01_k».proof.Proof.Gen.PlainKernel.Points
public import proofs.«01_k».proof.Proof.Gen.PlainKernel.Frame
public import proofs.«01_k».proof.Proof.Gen.PlainKernelIdeal
public import proofs.«01_k».proof.Proof.Gen.PlainKernelIdeal.Skeleton
public import proofs.«01_k».proof.Proof.Gen.PlainKernelIdeal.Launch
public import proofs.«01_k».proof.Proof.Gen.PlainKernelIdeal.Points
public import proofs.«01_k».proof.Proof.Gen.PlainKernelIdeal.Frame
public import proofs.«01_k».proof.Proof.Gen.PlainReferenceIdeal
public import proofs.«01_k».proof.Proof.Gen.PlainReferenceIdeal.Run
public import proofs.«01_k».proof.Proof.Gen.PlainReferenceIdeal.Read
public import proofs.«01_k».proof.Proof.PlainValue
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.OutReferenceIdeal.Run
public import proofs.«01_k».proof.Proof.Gen.OutReferenceIdeal.Read
public import proofs.«01_k».proof.Proof.OutValue
public import proofs.«01_k».proof.Proof.Gen.RouterKernel
public import proofs.«01_k».proof.Proof.Gen.RouterKernel.Skeleton
public import proofs.«01_k».proof.Proof.Gen.RouterKernel.Launch
public import proofs.«01_k».proof.Proof.Gen.RouterKernel.Points
public import proofs.«01_k».proof.Proof.Gen.RouterKernel.Frame
public import proofs.«01_k».proof.Proof.Gen.RouterKernelIdeal
public import proofs.«01_k».proof.Proof.Gen.RouterKernelIdeal.Skeleton
public import proofs.«01_k».proof.Proof.Gen.RouterKernelIdeal.Launch
public import proofs.«01_k».proof.Proof.Gen.RouterKernelIdeal.Points
public import proofs.«01_k».proof.Proof.Gen.RouterKernelIdeal.Frame
public import proofs.«01_k».proof.Proof.Gen.RouterReferenceIdeal
public import proofs.«01_k».proof.Proof.Gen.RouterReferenceIdeal.Run
public import proofs.«01_k».proof.Proof.Gen.RouterReferenceIdeal.Read
public import proofs.«01_k».proof.Proof.RouterValue
public import proofs.«01_k».proof.Proof.Gen.PromptKernel
public import proofs.«01_k».proof.Proof.Gen.PromptKernel.Skeleton
public import proofs.«01_k».proof.Proof.Gen.PromptKernel.Launch
public import proofs.«01_k».proof.Proof.Gen.PromptKernel.Points
public import proofs.«01_k».proof.Proof.Gen.PromptKernel.Frame
public import proofs.«01_k».proof.Proof.Gen.PromptKernelIdeal
public import proofs.«01_k».proof.Proof.Gen.PromptKernelIdeal.Skeleton
public import proofs.«01_k».proof.Proof.Gen.PromptKernelIdeal.Launch
public import proofs.«01_k».proof.Proof.Gen.PromptKernelIdeal.Points
public import proofs.«01_k».proof.Proof.Gen.PromptKernelIdeal.Frame
public import proofs.«01_k».proof.Proof.Gen.PromptReferenceIdeal
public import proofs.«01_k».proof.Proof.Gen.PromptReferenceIdeal.Run
public import proofs.«01_k».proof.Proof.Gen.PromptReferenceIdeal.Read
public import proofs.«01_k».proof.Proof.PromptValue
public import proofs.«01_k».proof.Proof.Gen.SampleKernel
public import proofs.«01_k».proof.Proof.Gen.SampleKernel.Skeleton
public import proofs.«01_k».proof.Proof.Gen.SampleKernel.Launch
public import proofs.«01_k».proof.Proof.Gen.SampleKernel.Points
public import proofs.«01_k».proof.Proof.Gen.SampleKernel.Frame
public import proofs.«01_k».proof.Proof.Gen.SampleKernelIdeal
public import proofs.«01_k».proof.Proof.Gen.SampleKernelIdeal.Skeleton
public import proofs.«01_k».proof.Proof.Gen.SampleKernelIdeal.Launch
public import proofs.«01_k».proof.Proof.Gen.SampleKernelIdeal.Points
public import proofs.«01_k».proof.Proof.Gen.SampleKernelIdeal.Frame
public import proofs.«01_k».proof.Proof.Gen.SampleReferenceIdeal
public import proofs.«01_k».proof.Proof.Gen.SampleReferenceIdeal.Run
public import proofs.«01_k».proof.Proof.Gen.SampleReferenceIdeal.Read
public import proofs.«01_k».proof.Proof.SampleValue
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.ConvValue
public import proofs.«01_k».proof.Proof.Gen.ModKernel
public import proofs.«01_k».proof.Proof.Gen.ModKernel.Skeleton
public import proofs.«01_k».proof.Proof.Gen.ModKernel.Launch
public import proofs.«01_k».proof.Proof.Gen.ModKernel.Points
public import proofs.«01_k».proof.Proof.Gen.ModKernel.Frame
public import proofs.«01_k».proof.Proof.Gen.ModKernelIdeal
public import proofs.«01_k».proof.Proof.Gen.ModKernelIdeal.Skeleton
public import proofs.«01_k».proof.Proof.Gen.ModKernelIdeal.Launch
public import proofs.«01_k».proof.Proof.Gen.ModKernelIdeal.Points
public import proofs.«01_k».proof.Proof.Gen.ModKernelIdeal.Frame
public import proofs.«01_k».proof.Proof.Gen.ModReferenceIdeal
public import proofs.«01_k».proof.Proof.Gen.ModReferenceIdeal.Run
public import proofs.«01_k».proof.Proof.Gen.ModReferenceIdeal.Read
public import proofs.«01_k».proof.Proof.ModValue
public import proofs.«01_k».proof.Proof.Gen.ShortKernel
public import proofs.«01_k».proof.Proof.Gen.ShortKernel.Skeleton
public import proofs.«01_k».proof.Proof.Gen.ShortKernel.Launch
public import proofs.«01_k».proof.Proof.Gen.ShortKernel.Points
public import proofs.«01_k».proof.Proof.Gen.ShortKernel.Frame
public import proofs.«01_k».proof.Proof.Gen.ShortKernelIdeal
public import proofs.«01_k».proof.Proof.Gen.ShortKernelIdeal.Skeleton
public import proofs.«01_k».proof.Proof.Gen.ShortKernelIdeal.Launch
public import proofs.«01_k».proof.Proof.Gen.ShortKernelIdeal.Points
public import proofs.«01_k».proof.Proof.Gen.ShortKernelIdeal.Frame
public import proofs.«01_k».proof.Proof.Gen.ShortReferenceIdeal
public import proofs.«01_k».proof.Proof.Gen.ShortReferenceIdeal.Run
public import proofs.«01_k».proof.Proof.Gen.ShortReferenceIdeal.Read
public import proofs.«01_k».proof.Proof.ShortValue
public import proofs.«01_k».proof.Proof.Gen.FilterKernel
public import proofs.«01_k».proof.Proof.Gen.FilterKernel.Skeleton
public import proofs.«01_k».proof.Proof.Gen.FilterKernel.Launch
public import proofs.«01_k».proof.Proof.Gen.FilterKernel.Points
public import proofs.«01_k».proof.Proof.Gen.FilterKernel.Frame
public import proofs.«01_k».proof.Proof.Gen.FilterKernelIdeal
public import proofs.«01_k».proof.Proof.Gen.FilterKernelIdeal.Skeleton
public import proofs.«01_k».proof.Proof.Gen.FilterKernelIdeal.Launch
public import proofs.«01_k».proof.Proof.Gen.FilterKernelIdeal.Points
public import proofs.«01_k».proof.Proof.Gen.FilterKernelIdeal.Frame
public import proofs.«01_k».proof.Proof.Gen.FilterReferenceIdeal
public import proofs.«01_k».proof.Proof.Gen.FilterReferenceIdeal.Run
public import proofs.«01_k».proof.Proof.Gen.FilterReferenceIdeal.Read
public import proofs.«01_k».proof.Proof.FilterValue
public import proofs.«01_k».proof.Proof.FilterReference
public import proofs.«01_k».proof.Proof.Gen.Pre_scores_finite
public import proofs.«01_k».proof.Proof.HostFrame

@[expose] public section

noncomputable section

namespace Cert.Proof

open Idealize.ShloMosaic Idealize.SL.Sem Cert.FfnKernel

/-- The expert feed-forward kernel and its reference end in the same two arrays. -/
theorem ffn : Cert.algebraic_FfnKernelIdeal_FfnReferenceIdeal (hFfnKernelIdeal := Cert.FfnKernelIdeal.Gen.facts) (hFfnReferenceIdeal := Cert.FfnReferenceIdeal.Gen.facts) := by
  pair_intro
  · run_from Cert.FfnKernelIdeal.Gen.run_main m g
  · hlo_run
    · exact (Cert.FfnKernelIdeal.Value.final7 m c).symm
    · exact (Cert.FfnKernelIdeal.Value.final8 m c).symm

/-- The reference of the feed-forward ends, with every counter at zero and its arguments unchanged. -/
theorem ffn_reference_frame : Cert.quiescent_FfnReferenceIdeal (hFfnReferenceIdeal := Cert.FfnReferenceIdeal.Gen.facts) := by
  intro m g _
  hlo_run
  exacts [fun _ => by simp, Cert.HostFrame.no_counters (sig := Cert.FfnReferenceIdeal.sig) rfl rfl _]

set_option maxHeartbeats 1600000 in
/-- The reference of the attention ends, with every counter at zero and its arguments unchanged. -/
theorem attn_reference_frame : Cert.quiescent_AttnReferenceIdeal (hAttnReferenceIdeal := Cert.AttnReferenceIdeal.Gen.facts) := by
  intro m g _
  hlo_run
  exacts [fun _ => by simp, Cert.HostFrame.no_counters (sig := Cert.AttnReferenceIdeal.sig) rfl rfl _]

set_option maxHeartbeats 1600000 in
/-- Where the queries and the keys are finite, the attention kernel and its reference end in the same array. -/
theorem attn : Cert.algebraic_AttnKernelIdeal_AttnReferenceIdeal_pre_scores_finite (hAttnKernelIdeal := Cert.AttnKernelIdeal.Gen.facts)
    (hAttnReferenceIdeal := Cert.AttnReferenceIdeal.Gen.facts) (hPre_scores_finite := Cert.Pre_scores_finite.Gen.facts) := by
  pair_intro
  · run_from Cert.AttnKernelIdeal.Gen.run_main m g
  · run_from Cert.AttnReferenceIdeal.Value.run m' g'
    obtain ⟨hQ, hK, hC⟩ := Cert.AttnKernelIdeal.Value.finite_of_pre _ _ _ _ _ _ _ _ _ (congrFun (hpre c) default)
    rw [Cert.AttnReferenceIdeal.Read.val_main_v35_eq]
    simp only [hagree c]
    exact (Cert.AttnKernelIdeal.Value.final m c hQ hK hC).symm

set_option maxHeartbeats 1600000 in
/-- The query, key and value projection kernel and its reference end in the same three arrays. -/
theorem qkv : Cert.algebraic_QkvKernelIdeal_QkvReferenceIdeal (hQkvKernelIdeal := Cert.QkvKernelIdeal.Gen.facts) (hQkvReferenceIdeal := Cert.QkvReferenceIdeal.Gen.facts) := by
  pair_intro
  · run_from Cert.QkvKernelIdeal.Gen.run_main m g
    · exact Cert.QkvKernelIdeal.Gen.W_main_arg1 m (Cert.QkvKernelIdeal.Gen.dats m) c
    · exact Cert.QkvKernelIdeal.Gen.W_main_arg2 m (Cert.QkvKernelIdeal.Gen.dats m) c
    · exact Cert.QkvKernelIdeal.Gen.W_main_arg3 m (Cert.QkvKernelIdeal.Gen.dats m) c
    · exact Cert.QkvKernelIdeal.Gen.W_main_arg4 m (Cert.QkvKernelIdeal.Gen.dats m) c
    · exact Cert.QkvKernelIdeal.Gen.W_main_arg5 m (Cert.QkvKernelIdeal.Gen.dats m) c
  · hlo_run
    · exact (Cert.QkvKernelIdeal.Value.final_query m c).symm
    · exact (Cert.QkvKernelIdeal.Value.final_key m c).symm.trans (Cert.QkvKernelIdeal.Value.tail_key m c).symm
    · exact (Cert.QkvKernelIdeal.Value.final_value m c).symm.trans (Cert.QkvKernelIdeal.Value.tail_value m c).symm

/-- The reference of that call ends, with every counter at zero and its arguments unchanged. -/
theorem qkv_reference_frame : Cert.quiescent_QkvReferenceIdeal (hQkvReferenceIdeal := Cert.QkvReferenceIdeal.Gen.facts) := by
  intro m g _
  hlo_run
  exacts [fun _ => by simp, Cert.HostFrame.no_counters (sig := Cert.QkvReferenceIdeal.sig) rfl rfl _]

/-- The gated projection kernel and its reference end in the same array. -/
theorem glu : Cert.algebraic_GluKernelIdeal_GluReferenceIdeal (hGluKernelIdeal := Cert.GluKernelIdeal.Gen.facts) (hGluReferenceIdeal := Cert.GluReferenceIdeal.Gen.facts) := by
  pair_intro
  · run_from Cert.GluKernelIdeal.Gen.run_main m g
  · hlo_run
    exact (Cert.GluKernelIdeal.Value.final m c).symm

/-- The reference of that call ends, with every counter at zero and its arguments unchanged. -/
theorem glu_reference_frame : Cert.quiescent_GluReferenceIdeal (hGluReferenceIdeal := Cert.GluReferenceIdeal.Gen.facts) := by
  intro m g _
  hlo_run
  exacts [fun _ => by simp, Cert.HostFrame.no_counters (sig := Cert.GluReferenceIdeal.sig) rfl rfl _]

/-- The Hyena input projection kernel and its reference end in the same array. -/
theorem plain : Cert.algebraic_PlainKernelIdeal_PlainReferenceIdeal (hPlainKernelIdeal := Cert.PlainKernelIdeal.Gen.facts) (hPlainReferenceIdeal := Cert.PlainReferenceIdeal.Gen.facts) := by
  pair_intro
  · run_from Cert.PlainKernelIdeal.Gen.run_main m g
  · hlo_run
    exact (Cert.PlainKernelIdeal.Value.final m c).symm

/-- The reference of that call ends, with every counter at zero and its arguments unchanged. -/
theorem plain_reference_frame : Cert.quiescent_PlainReferenceIdeal (hPlainReferenceIdeal := Cert.PlainReferenceIdeal.Gen.facts) := by
  intro m g _
  hlo_run
  exacts [fun _ => by simp, Cert.HostFrame.no_counters (sig := Cert.PlainReferenceIdeal.sig) rfl rfl _]

/-- The Hyena output projection kernel and its reference end in the same array. -/
theorem out : Cert.algebraic_OutKernelIdeal_OutReferenceIdeal (hOutKernelIdeal := Cert.OutKernelIdeal.Gen.facts) (hOutReferenceIdeal := Cert.OutReferenceIdeal.Gen.facts) := by
  pair_intro
  · run_from Cert.OutKernelIdeal.Gen.run_main m g
  · hlo_run
    exact (Cert.OutKernelIdeal.Value.final m c).symm

/-- The reference of that call ends, with every counter at zero and its arguments unchanged. -/
theorem out_reference_frame : Cert.quiescent_OutReferenceIdeal (hOutReferenceIdeal := Cert.OutReferenceIdeal.Gen.facts) := by
  intro m g _
  hlo_run
  exacts [fun _ => by simp, Cert.HostFrame.no_counters (sig := Cert.OutReferenceIdeal.sig) rfl rfl _]

/-- The router kernel and its reference end in the same two arrays. -/
theorem router : Cert.algebraic_RouterKernelIdeal_RouterReferenceIdeal (hRouterKernelIdeal := Cert.RouterKernelIdeal.Gen.facts) (hRouterReferenceIdeal := Cert.RouterReferenceIdeal.Gen.facts) := by
  pair_intro
  · run_from Cert.RouterKernelIdeal.Gen.run_main m g
  · hlo_run
    · exact (Cert.RouterKernelIdeal.Value.final_normed m c).symm
    · exact (Cert.RouterKernelIdeal.Value.final_affinity m c).symm

/-- The reference of that call ends, with every counter at zero and its arguments unchanged. -/
theorem router_reference_frame : Cert.quiescent_RouterReferenceIdeal (hRouterReferenceIdeal := Cert.RouterReferenceIdeal.Gen.facts) := by
  intro m g _
  hlo_run
  exacts [fun _ => by simp, Cert.HostFrame.no_counters (sig := Cert.RouterReferenceIdeal.sig) rfl rfl _]

/-- The last call for the context tokens: its kernel and its reference end in the same array. -/
theorem prompt : Cert.algebraic_PromptKernelIdeal_PromptReferenceIdeal (hPromptKernelIdeal := Cert.PromptKernelIdeal.Gen.facts) (hPromptReferenceIdeal := Cert.PromptReferenceIdeal.Gen.facts) := by
  pair_intro
  · run_from Cert.PromptKernelIdeal.Gen.run_main m g
  · hlo_run
    exact (Cert.PromptKernelIdeal.Value.final m c).symm

/-- The reference of that call ends, with every counter at zero and its arguments unchanged. -/
theorem prompt_reference_frame : Cert.quiescent_PromptReferenceIdeal (hPromptReferenceIdeal := Cert.PromptReferenceIdeal.Gen.facts) := by
  intro m g _
  hlo_run
  exacts [fun _ => by simp, Cert.HostFrame.no_counters (sig := Cert.PromptReferenceIdeal.sig) rfl rfl _]

/-- The last call for the latent tokens: its kernel and its reference end in the same array. -/
theorem sample : Cert.algebraic_SampleKernelIdeal_SampleReferenceIdeal (hSampleKernelIdeal := Cert.SampleKernelIdeal.Gen.facts) (hSampleReferenceIdeal := Cert.SampleReferenceIdeal.Gen.facts) := by
  pair_intro
  · run_from Cert.SampleKernelIdeal.Gen.run_main m g
  · hlo_run
    exact (Cert.SampleKernelIdeal.Value.final m c).symm

/-- The reference of that call ends, with every counter at zero and its arguments unchanged. -/
theorem sample_reference_frame : Cert.quiescent_SampleReferenceIdeal (hSampleReferenceIdeal := Cert.SampleReferenceIdeal.Gen.facts) := by
  intro m g _
  hlo_run
  exacts [fun _ => by simp, Cert.HostFrame.no_counters (sig := Cert.SampleReferenceIdeal.sig) rfl rfl _]

set_option maxHeartbeats 8000000 in
/-- The convolution's tail kernel and its reference end in the same array. -/
theorem conv : Cert.algebraic_ConvKernelIdeal_ConvReferenceIdeal (hConvKernelIdeal := Cert.ConvKernelIdeal.Gen.facts) (hConvReferenceIdeal := Cert.ConvReferenceIdeal.Gen.facts) := by
  pair_intro
  · run_from Cert.ConvKernelIdeal.Gen.run_main m g
  · hlo_run
    exact (Cert.ConvKernelIdeal.Value.final m c).symm

set_option maxHeartbeats 8000000 in
/-- The reference of that call ends, with every counter at zero and its arguments unchanged. -/
theorem conv_reference_frame : Cert.quiescent_ConvReferenceIdeal (hConvReferenceIdeal := Cert.ConvReferenceIdeal.Gen.facts) := by
  intro m g _
  hlo_run
  exacts [fun _ => by simp, Cert.HostFrame.no_counters (sig := Cert.ConvReferenceIdeal.sig) rfl rfl _]

/-- The modulation vectors' kernel and its reference end in the same array. -/
theorem mod : Cert.algebraic_ModKernelIdeal_ModReferenceIdeal (hModKernelIdeal := Cert.ModKernelIdeal.Gen.facts) (hModReferenceIdeal := Cert.ModReferenceIdeal.Gen.facts) := by
  pair_intro
  · run_from Cert.ModKernelIdeal.Gen.run_main m g
  · hlo_run
    exact (Cert.ModKernelIdeal.Value.final m c).symm

/-- The reference of that call ends, with every counter at zero and its arguments unchanged. -/
theorem mod_reference_frame : Cert.quiescent_ModReferenceIdeal (hModReferenceIdeal := Cert.ModReferenceIdeal.Gen.facts) := by
  intro m g _
  hlo_run
  exacts [fun _ => by simp, Cert.HostFrame.no_counters (sig := Cert.ModReferenceIdeal.sig) rfl rfl _]

/-- The short convolution's kernel and its reference end in the same two arrays. -/
theorem short : Cert.algebraic_ShortKernelIdeal_ShortReferenceIdeal (hShortKernelIdeal := Cert.ShortKernelIdeal.Gen.facts) (hShortReferenceIdeal := Cert.ShortReferenceIdeal.Gen.facts) := by
  pair_intro
  · run_from Cert.ShortKernelIdeal.Gen.run_main m g
  · hlo_run
    · exact (Cert.ShortKernelIdeal.Value.final_product m c).symm
    · exact (Cert.ShortKernelIdeal.Value.final_first m c).symm

/-- The reference of that call ends, with every counter at zero and its arguments unchanged. -/
theorem short_reference_frame : Cert.quiescent_ShortReferenceIdeal (hShortReferenceIdeal := Cert.ShortReferenceIdeal.Gen.facts) := by
  intro m g _
  hlo_run
  exacts [fun _ => by simp, Cert.HostFrame.no_counters (sig := Cert.ShortReferenceIdeal.sig) rfl rfl _]

/-- The Hyena filter's kernel and its reference end in the same three arrays. -/
theorem filter : Cert.algebraic_FilterKernelIdeal_FilterReferenceIdeal (hFilterKernelIdeal := Cert.FilterKernelIdeal.Gen.facts) (hFilterReferenceIdeal := Cert.FilterReferenceIdeal.Gen.facts) := by
  pair_intro
  · run_from Cert.FilterKernelIdeal.Value.run m g
  · run_from Cert.FilterReferenceIdeal.Stages.run m' g'
    · exact (Cert.FilterKernelIdeal.Value.final_even m c).symm
    · exact (Cert.FilterKernelIdeal.Value.final_odd m c).symm
    · exact (Cert.FilterKernelIdeal.Value.final_wave m c).symm

/-- The reference of that call ends, with every counter at zero and its arguments unchanged. -/
theorem filter_reference_frame : Cert.quiescent_FilterReferenceIdeal (hFilterReferenceIdeal := Cert.FilterReferenceIdeal.Gen.facts) := by
  intro m g _
  hlo_run
  exacts [fun _ => by simp, Cert.HostFrame.no_counters (sig := Cert.FilterReferenceIdeal.sig) rfl rfl _]

/-- Every claim of the certificate. -/
theorem claim : Cert.Claim :=
  ⟨Cert.AttnKernel.Gen.facts, Cert.AttnKernelIdeal.Gen.facts, Cert.AttnReferenceIdeal.Gen.facts, Cert.FfnKernel.Gen.facts,
    Cert.FfnKernelIdeal.Gen.facts, Cert.FfnReferenceIdeal.Gen.facts, Cert.QkvKernel.Gen.facts, Cert.QkvKernelIdeal.Gen.facts,
    Cert.QkvReferenceIdeal.Gen.facts, Cert.GluKernel.Gen.facts, Cert.GluKernelIdeal.Gen.facts, Cert.GluReferenceIdeal.Gen.facts,
    Cert.PlainKernel.Gen.facts, Cert.PlainKernelIdeal.Gen.facts, Cert.PlainReferenceIdeal.Gen.facts, Cert.OutKernel.Gen.facts,
    Cert.OutKernelIdeal.Gen.facts, Cert.OutReferenceIdeal.Gen.facts, Cert.RouterKernel.Gen.facts, Cert.RouterKernelIdeal.Gen.facts,
    Cert.RouterReferenceIdeal.Gen.facts, Cert.PromptKernel.Gen.facts, Cert.PromptKernelIdeal.Gen.facts, Cert.PromptReferenceIdeal.Gen.facts,
    Cert.SampleKernel.Gen.facts, Cert.SampleKernelIdeal.Gen.facts, Cert.SampleReferenceIdeal.Gen.facts, Cert.ConvKernel.Gen.facts,
    Cert.ConvKernelIdeal.Gen.facts, Cert.ConvReferenceIdeal.Gen.facts, Cert.ModKernel.Gen.facts, Cert.ModKernelIdeal.Gen.facts,
    Cert.ModReferenceIdeal.Gen.facts, Cert.ShortKernel.Gen.facts, Cert.ShortKernelIdeal.Gen.facts, Cert.ShortReferenceIdeal.Gen.facts,
    Cert.FilterKernel.Gen.facts, Cert.FilterKernelIdeal.Gen.facts, Cert.FilterReferenceIdeal.Gen.facts, Cert.Pre_scores_finite.Gen.facts,
    fun m ρ _ => Cert.AttnKernel.Gen.frame m ρ, fun m ρ _ => Cert.AttnKernelIdeal.Gen.frame m ρ, fun m ρ _ => Cert.AttnKernelIdeal.Gen.frame m ρ,
    attn_reference_frame, fun m ρ _ => attn_reference_frame m ρ trivial, fun m ρ _ => Cert.FfnKernel.Gen.frame m ρ,
    fun m ρ _ => Cert.FfnKernelIdeal.Gen.frame m ρ, ffn_reference_frame, fun m ρ _ => Cert.QkvKernel.Gen.frame m ρ,
    fun m ρ _ => Cert.QkvKernelIdeal.Gen.frame m ρ, qkv_reference_frame, fun m ρ _ => Cert.GluKernel.Gen.frame m ρ,
    fun m ρ _ => Cert.GluKernelIdeal.Gen.frame m ρ, glu_reference_frame, fun m ρ _ => Cert.PlainKernel.Gen.frame m ρ,
    fun m ρ _ => Cert.PlainKernelIdeal.Gen.frame m ρ, plain_reference_frame, fun m ρ _ => Cert.OutKernel.Gen.frame m ρ,
    fun m ρ _ => Cert.OutKernelIdeal.Gen.frame m ρ, out_reference_frame, fun m ρ _ => Cert.RouterKernel.Gen.frame m ρ,
    fun m ρ _ => Cert.RouterKernelIdeal.Gen.frame m ρ, router_reference_frame, fun m ρ _ => Cert.PromptKernel.Gen.frame m ρ,
    fun m ρ _ => Cert.PromptKernelIdeal.Gen.frame m ρ, prompt_reference_frame, fun m ρ _ => Cert.SampleKernel.Gen.frame m ρ,
    fun m ρ _ => Cert.SampleKernelIdeal.Gen.frame m ρ, sample_reference_frame, fun m ρ _ => Cert.ConvKernel.Gen.frame m ρ,
    fun m ρ _ => Cert.ConvKernelIdeal.Gen.frame m ρ, conv_reference_frame, fun m ρ _ => Cert.ModKernel.Gen.frame m ρ,
    fun m ρ _ => Cert.ModKernelIdeal.Gen.frame m ρ, mod_reference_frame, fun m ρ _ => Cert.ShortKernel.Gen.frame m ρ,
    fun m ρ _ => Cert.ShortKernelIdeal.Gen.frame m ρ, short_reference_frame, fun m ρ _ => Cert.FilterKernel.Gen.frame m ρ,
    fun m ρ _ => Cert.FilterKernelIdeal.Gen.frame m ρ, filter_reference_frame,
    trivial, attn, trivial, ffn, trivial, qkv, trivial, glu, trivial, plain, trivial, out, trivial, router, trivial, prompt, trivial, sample, trivial, conv, trivial, mod, trivial, short, trivial, filter⟩

end Cert.Proof

end
